-- ==== Defs.lean ====
def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_finite [hPre_finite : Cert.Pre_finite.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_finite.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4))) = (fun _ => 1#1)

def Pre_AttnSampleRefIdeal (m : (ℓ : Loc Cert.AttnSampleRefIdeal.nD Cert.AttnSampleRefIdeal.τ Cert.AttnSampleRefIdeal.sig) → Buf (Elt Ideal) ℓ) : Prop :=
  True

def Pre_AttnSampleRefIdeal_finite [hPre_finite : Cert.Pre_finite.Facts] (m : (ℓ : Loc Cert.AttnSampleRefIdeal.nD Cert.AttnSampleRefIdeal.τ Cert.AttnSampleRefIdeal.sig) → Buf (Elt Ideal) ℓ) : Prop :=
  ∀ c : Dev Cert.AttnSampleRefIdeal.nD,
    (Cert.Pre_finite.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3)) (m ((c.tc : Thread Cert.AttnSampleRefIdeal.nD Cert.AttnSampleRefIdeal.τ).loc Cert.AttnSampleRefIdeal.main_arg4))) = (fun _ => 1#1)

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def Pre_MixPrompt (m : (ℓ : Loc Cert.MixPrompt.nD Cert.MixPrompt.τ Cert.MixPrompt.sig) → Buf (Elt Bits) ℓ) : Prop :=
  True

def Pre_MixPromptIdeal (m : (ℓ : Loc Cert.MixPromptIdeal.nD Cert.MixPromptIdeal.τ Cert.MixPromptIdeal.sig) → Buf (Elt Ideal) ℓ) : Prop :=
  True

def Pre_MixPromptRefIdeal (m : (ℓ : Loc Cert.MixPromptRefIdeal.nD Cert.MixPromptRefIdeal.τ Cert.MixPromptRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4))
      ∧ r.2.sem = fun _ => 0)

def quiescent_AttnSampleIdeal_pre_finite [hAttnSampleIdeal : Cert.AttnSampleIdeal.Facts] [hPre_finite : Cert.Pre_finite.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_finite m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4))
      ∧ r.2.sem = fun _ => 0)

def quiescent_AttnSampleRefIdeal_pre_finite [hAttnSampleRefIdeal : Cert.AttnSampleRefIdeal.Facts] [hPre_finite : Cert.Pre_finite.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal_finite m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2))
      ∧ r.2.sem = fun _ => 0)

def quiescent_MixPrompt [hMixPrompt : Cert.MixPrompt.Facts] : Prop :=
  ∀ (m : (ℓ : Loc Cert.MixPrompt.nD Cert.MixPrompt.τ Cert.MixPrompt.sig) → Buf (Elt Bits) ℓ) (g : Dev Cert.MixPrompt.nD → PrngReg), Pre_MixPrompt m →
    θ_run (Cert.MixPrompt.defs (F := Bits)) (onTc (τ := Cert.MixPrompt.τ) (Cert.MixPrompt.main (F := Bits))) ⟨m, fun _ => 0, g⟩ (fun r => (∀ c : Dev Cert.MixPrompt.nD,
      r.2.mem ((c.tc : Thread Cert.MixPrompt.nD Cert.MixPrompt.τ).loc Cert.MixPrompt.main_arg0) = m ((c.tc : Thread Cert.MixPrompt.nD Cert.MixPrompt.τ).loc Cert.MixPrompt.main_arg0)
      ∧ r.2.mem ((c.tc : Thread Cert.MixPrompt.nD Cert.MixPrompt.τ).loc Cert.MixPrompt.main_arg1) = m ((c.tc : Thread Cert.MixPrompt.nD Cert.MixPrompt.τ).loc Cert.MixPrompt.main_arg1)
      ∧ r.2.mem ((c.tc : Thread Cert.MixPrompt.nD Cert.MixPrompt.τ).loc Cert.MixPrompt.main_arg2) = m ((c.tc : Thread Cert.MixPrompt.nD Cert.MixPrompt.τ).loc Cert.MixPrompt.main_arg2))
      ∧ r.2.sem = fun _ => 0)

def quiescent_MixPromptIdeal [hMixPromptIdeal : Cert.MixPromptIdeal.Facts] : Prop :=
  ∀ (m : (ℓ : Loc Cert.MixPromptIdeal.nD Cert.MixPromptIdeal.τ Cert.MixPromptIdeal.sig) → Buf (Elt Ideal) ℓ) (g : Dev Cert.MixPromptIdeal.nD → PrngReg), Pre_MixPromptIdeal m →
    θ_run (Cert.MixPromptIdeal.defs (F := Ideal)) (onTc (τ := Cert.MixPromptIdeal.τ) (Cert.MixPromptIdeal.main (F := Ideal))) ⟨m, fun _ => 0, g⟩ (fun r => (∀ c : Dev Cert.MixPromptIdeal.nD,
      r.2.mem ((c.tc : Thread Cert.MixPromptIdeal.nD Cert.MixPromptIdeal.τ).loc Cert.MixPromptIdeal.main_arg0) = m ((c.tc : Thread Cert.MixPromptIdeal.nD Cert.MixPromptIdeal.τ).loc Cert.MixPromptIdeal.main_arg0)
      ∧ r.2.mem ((c.tc : Thread Cert.MixPromptIdeal.nD Cert.MixPromptIdeal.τ).loc Cert.MixPromptIdeal.main_arg1) = m ((c.tc : Thread Cert.MixPromptIdeal.nD Cert.MixPromptIdeal.τ).loc Cert.MixPromptIdeal.main_arg1)
      ∧ r.2.mem ((c.tc : Thread Cert.MixPromptIdeal.nD Cert.MixPromptIdeal.τ).loc Cert.MixPromptIdeal.main_arg2) = m ((c.tc : Thread Cert.MixPromptIdeal.nD Cert.MixPromptIdeal.τ).loc Cert.MixPromptIdeal.main_arg2))
      ∧ r.2.sem = fun _ => 0)

def quiescent_MixPromptRefIdeal [hMixPromptRefIdeal : Cert.MixPromptRefIdeal.Facts] : Prop :=
  ∀ (m : (ℓ : Loc Cert.MixPromptRefIdeal.nD Cert.MixPromptRefIdeal.τ Cert.MixPromptRefIdeal.sig) → Buf (Elt Ideal) ℓ) (g : Dev Cert.MixPromptRefIdeal.nD → PrngReg), Pre_MixPromptRefIdeal m →
    θ_run (Cert.MixPromptRefIdeal.defs (F := Ideal)) (onTc (τ := Cert.MixPromptRefIdeal.τ) (Cert.MixPromptRefIdeal.main (F := Ideal))) ⟨m, fun _ => 0, g⟩ (fun r => (∀ c : Dev Cert.MixPromptRefIdeal.nD,
      r.2.mem ((c.tc : Thread Cert.MixPromptRefIdeal.nD Cert.MixPromptRefIdeal.τ).loc Cert.MixPromptRefIdeal.main_arg0) = m ((c.tc : Thread Cert.MixPromptRefIdeal.nD Cert.MixPromptRefIdeal.τ).loc Cert.MixPromptRefIdeal.main_arg0)
      ∧ r.2.mem ((c.tc : Thread Cert.MixPromptRefIdeal.nD Cert.MixPromptRefIdeal.τ).loc Cert.MixPromptRefIdeal.main_arg1) = m ((c.tc : Thread Cert.MixPromptRefIdeal.nD Cert.MixPromptRefIdeal.τ).loc Cert.MixPromptRefIdeal.main_arg1)
      ∧ r.2.mem ((c.tc : Thread Cert.MixPromptRefIdeal.nD Cert.MixPromptRefIdeal.τ).loc Cert.MixPromptRefIdeal.main_arg2) = m ((c.tc : Thread Cert.MixPromptRefIdeal.nD Cert.MixPromptRefIdeal.τ).loc Cert.MixPromptRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1)
      ∧ r.2.mem ((c.tc : Thread Cert.FinalSample.nD Cert.FinalSample.τ).loc Cert.FinalSample.main_arg2) = m ((c.tc : Thread Cert.FinalSample.nD Cert.FinalSample.τ).loc Cert.FinalSample.main_arg2)
      ∧ r.2.mem ((c.tc : Thread Cert.FinalSample.nD Cert.FinalSample.τ).loc Cert.FinalSample.main_arg3) = m ((c.tc : Thread Cert.FinalSample.nD Cert.FinalSample.τ).loc Cert.FinalSample.main_arg3))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
      ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1)
      ∧ r.2.mem ((c.tc : Thread Cert.FinalSampleRefIdeal.nD Cert.FinalSampleRefIdeal.τ).loc Cert.FinalSampleRefIdeal.main_arg2) = m ((c.tc : Thread Cert.FinalSampleRefIdeal.nD Cert.FinalSampleRefIdeal.τ).loc Cert.FinalSampleRefIdeal.main_arg2)
      ∧ r.2.mem ((c.tc : Thread Cert.FinalSampleRefIdeal.nD Cert.FinalSampleRefIdeal.τ).loc Cert.FinalSampleRefIdeal.main_arg3) = m ((c.tc : Thread Cert.FinalSampleRefIdeal.nD Cert.FinalSampleRefIdeal.τ).loc Cert.FinalSampleRefIdeal.main_arg3))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8)
      ∧ r.2.mem ((c.tc : Thread Cert.Ssm.nD Cert.Ssm.τ).loc Cert.Ssm.main_arg9) = m ((c.tc : Thread Cert.Ssm.nD Cert.Ssm.τ).loc Cert.Ssm.main_arg9)
      ∧ r.2.mem ((c.tc : Thread Cert.Ssm.nD Cert.Ssm.τ).loc Cert.Ssm.main_arg10) = m ((c.tc : Thread Cert.Ssm.nD Cert.Ssm.τ).loc Cert.Ssm.main_arg10)
      ∧ r.2.mem ((c.tc : Thread Cert.Ssm.nD Cert.Ssm.τ).loc Cert.Ssm.main_arg11) = m ((c.tc : Thread Cert.Ssm.nD Cert.Ssm.τ).loc Cert.Ssm.main_arg11))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
      ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
      ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10)
      ∧ r.2.mem ((c.tc : Thread Cert.SsmIdeal.nD Cert.SsmIdeal.τ).loc Cert.SsmIdeal.main_arg11) = m ((c.tc : Thread Cert.SsmIdeal.nD Cert.SsmIdeal.τ).loc Cert.SsmIdeal.main_arg11))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8)
      ∧ r.2.mem ((c.tc : Thread Cert.SsmRefIdeal.nD Cert.SsmRefIdeal.τ).loc Cert.SsmRefIdeal.main_arg9) = m ((c.tc : Thread Cert.SsmRefIdeal.nD Cert.SsmRefIdeal.τ).loc Cert.SsmRefIdeal.main_arg9)
      ∧ r.2.mem ((c.tc : Thread Cert.SsmRefIdeal.nD Cert.SsmRefIdeal.τ).loc Cert.SsmRefIdeal.main_arg10) = m ((c.tc : Thread Cert.SsmRefIdeal.nD Cert.SsmRefIdeal.τ).loc Cert.SsmRefIdeal.main_arg10)
      ∧ r.2.mem ((c.tc : Thread Cert.SsmRefIdeal.nD Cert.SsmRefIdeal.τ).loc Cert.SsmRefIdeal.main_arg11) = m ((c.tc : Thread Cert.SsmRefIdeal.nD Cert.SsmRefIdeal.τ).loc Cert.SsmRefIdeal.main_arg11))
      ∧ r.2.sem = fun _ => 0)

def preserves_AttnSample_AttnSampleIdeal : Prop :=
  True

def algebraic_AttnSampleIdeal_AttnSampleRefIdeal_pre_finite [hAttnSampleIdeal : Cert.AttnSampleIdeal.Facts] [hAttnSampleRefIdeal : Cert.AttnSampleRefIdeal.Facts] [hPre_finite : Cert.Pre_finite.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal_finite m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)
      ∧ m' ((c.tc : Thread Cert.AttnSampleRefIdeal.nD Cert.AttnSampleRefIdeal.τ).loc Cert.AttnSampleRefIdeal.main_arg3) = m ((c.tc : Thread Cert.AttnSampleIdeal.nD Cert.AttnSampleIdeal.τ).loc Cert.AttnSampleIdeal.main_arg3)
      ∧ m' ((c.tc : Thread Cert.AttnSampleRefIdeal.nD Cert.AttnSampleRefIdeal.τ).loc Cert.AttnSampleRefIdeal.main_arg4) = m ((c.tc : Thread Cert.AttnSampleIdeal.nD Cert.AttnSampleIdeal.τ).loc Cert.AttnSampleIdeal.main_arg4)) →
    ∃ (v0 : (c : Dev Cert.AttnSampleIdeal.nD) → Buf (Elt Ideal) ((c.tc : Thread Cert.AttnSampleIdeal.nD Cert.AttnSampleIdeal.τ).loc Cert.AttnSampleIdeal.main_v6)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v6) = v0 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
          ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v166) = v0 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2)
          ∧ r.2.mem ((c.tc : Thread Cert.AttnSampleRefIdeal.nD Cert.AttnSampleRefIdeal.τ).loc Cert.AttnSampleRefIdeal.main_arg3) = m' ((c.tc : Thread Cert.AttnSampleRefIdeal.nD Cert.AttnSampleRefIdeal.τ).loc Cert.AttnSampleRefIdeal.main_arg3)
          ∧ r.2.mem ((c.tc : Thread Cert.AttnSampleRefIdeal.nD Cert.AttnSampleRefIdeal.τ).loc Cert.AttnSampleRefIdeal.main_arg4) = m' ((c.tc : Thread Cert.AttnSampleRefIdeal.nD Cert.AttnSampleRefIdeal.τ).loc Cert.AttnSampleRefIdeal.main_arg4))

def preserves_MixSample_MixSampleIdeal : Prop :=
  True

def algebraic_MixSampleIdeal_MixSampleRefIdeal [hMixSampleIdeal : Cert.MixSampleIdeal.Facts] [hMixSampleRefIdeal : Cert.MixSampleRefIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleRefIdeal.nD Cert.MixSampleRefIdeal.τ Cert.MixSampleRefIdeal.sig) → Buf (Elt Ideal) ℓ) (g' : Dev Cert.MixSampleRefIdeal.nD → PrngReg), Pre_MixSampleIdeal m →
    (∀ c : Dev Cert.MixSampleIdeal.nD,
      m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)) →
    ∃ (v0 : (c : Dev Cert.MixSampleIdeal.nD) → Buf (Elt Ideal) ((c.tc : Thread Cert.MixSampleIdeal.nD Cert.MixSampleIdeal.τ).loc Cert.MixSampleIdeal.main_v22)) (v1 : (c : Dev Cert.MixSampleIdeal.nD) → Buf (Elt Ideal) ((c.tc : Thread Cert.MixSampleIdeal.nD Cert.MixSampleIdeal.τ).loc Cert.MixSampleIdeal.main_v23)) (v2 : (c : Dev Cert.MixSampleIdeal.nD) → Buf (Elt Ideal) ((c.tc : Thread Cert.MixSampleIdeal.nD Cert.MixSampleIdeal.τ).loc Cert.MixSampleIdeal.main_v26)) (v3 : (c : Dev Cert.MixSampleIdeal.nD) → Buf (Elt Ideal) ((c.tc : Thread Cert.MixSampleIdeal.nD Cert.MixSampleIdeal.τ).loc Cert.MixSampleIdeal.main_v27)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v22) = v0 c
          ∧ r.2.mem ((c.tc : Thread Cert.MixSampleIdeal.nD Cert.MixSampleIdeal.τ).loc Cert.MixSampleIdeal.main_v23) = v1 c
          ∧ r.2.mem ((c.tc : Thread Cert.MixSampleIdeal.nD Cert.MixSampleIdeal.τ).loc Cert.MixSampleIdeal.main_v26) = v2 c
          ∧ r.2.mem ((c.tc : Thread Cert.MixSampleIdeal.nD Cert.MixSampleIdeal.τ).loc Cert.MixSampleIdeal.main_v27) = v3 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2))
      ∧ θ_run (Cert.MixSampleRefIdeal.defs (F := Ideal)) (onTc (τ := Cert.MixSampleRefIdeal.τ) (Cert.MixSampleRefIdeal.main (F := Ideal))) ⟨m', fun _ => 0, g'⟩ (fun r => ∀ c : Dev Cert.MixSampleRefIdeal.nD,
          r.2.mem ((c.tc : Thread Cert.MixSampleRefIdeal.nD Cert.MixSampleRefIdeal.τ).loc Cert.MixSampleRefIdeal.main_v81) = v0 c
          ∧ r.2.mem ((c.tc : Thread Cert.MixSampleRefIdeal.nD Cert.MixSampleRefIdeal.τ).loc Cert.MixSampleRefIdeal.main_v82) = v1 c
          ∧ r.2.mem ((c.tc : Thread Cert.MixSampleRefIdeal.nD Cert.MixSampleRefIdeal.τ).loc Cert.MixSampleRefIdeal.main_v83) = v2 c
          ∧ r.2.mem ((c.tc : Thread Cert.MixSampleRefIdeal.nD Cert.MixSampleRefIdeal.τ).loc Cert.MixSampleRefIdeal.main_v84) = v3 c
          ∧ r.2.mem ((c.tc : Thread Cert.MixSampleRefIdeal.nD Cert.MixSampleRefIdeal.τ).loc Cert.MixSampleRefIdeal.main_arg0) = m' ((c.tc : Thread Cert.MixSampleRefIdeal.nD Cert.MixSampleRefIdeal.τ).loc Cert.MixSampleRefIdeal.main_arg0)
          ∧ r.2.mem ((c.tc : Thread Cert.MixSampleRefIdeal.nD Cert.MixSampleRefIdeal.τ).loc Cert.MixSampleRefIdeal.main_arg1) = m' ((c.tc : Thread Cert.MixSampleRefIdeal.nD Cert.MixSampleRefIdeal.τ).loc Cert.MixSampleRefIdeal.main_arg1)
          ∧ r.2.mem ((c.tc : Thread Cert.MixSampleRefIdeal.nD Cert.MixSampleRefIdeal.τ).loc Cert.MixSampleRefIdeal.main_arg2) = m' ((c.tc : Thread Cert.MixSampleRefIdeal.nD Cert.MixSampleRefIdeal.τ).loc Cert.MixSampleRefIdeal.main_arg2))

def preserves_MixPrompt_MixPromptIdeal : Prop :=
  True

def algebraic_MixPromptIdeal_MixPromptRefIdeal [hMixPromptIdeal : Cert.MixPromptIdeal.Facts] [hMixPromptRefIdeal : Cert.MixPromptRefIdeal.Facts] : Prop :=
  ∀ (m : (ℓ : Loc Cert.MixPromptIdeal.nD Cert.MixPromptIdeal.τ Cert.MixPromptIdeal.sig) → Buf (Elt Ideal) ℓ) (g : Dev Cert.MixPromptIdeal.nD → PrngReg)
    (m' : (ℓ : Loc Cert.MixPromptRefIdeal.nD Cert.MixPromptRefIdeal.τ Cert.MixPromptRefIdeal.sig) → Buf (Elt Ideal) ℓ) (g' : Dev Cert.MixPromptRefIdeal.nD → PrngReg), Pre_MixPromptIdeal m →
    (∀ c : Dev Cert.MixPromptIdeal.nD,
      m' ((c.tc : Thread Cert.MixPromptRefIdeal.nD Cert.MixPromptRefIdeal.τ).loc Cert.MixPromptRefIdeal.main_arg0) = m ((c.tc : Thread Cert.MixPromptIdeal.nD Cert.MixPromptIdeal.τ).loc Cert.MixPromptIdeal.main_arg0)
      ∧ m' ((c.tc : Thread Cert.MixPromptRefIdeal.nD Cert.MixPromptRefIdeal.τ).loc Cert.MixPromptRefIdeal.main_arg1) = m ((c.tc : Thread Cert.MixPromptIdeal.nD Cert.MixPromptIdeal.τ).loc Cert.MixPromptIdeal.main_arg1)
      ∧ m' ((c.tc : Thread Cert.MixPromptRefIdeal.nD Cert.MixPromptRefIdeal.τ).loc Cert.MixPromptRefIdeal.main_arg2) = m ((c.tc : Thread Cert.MixPromptIdeal.nD Cert.MixPromptIdeal.τ).loc Cert.MixPromptIdeal.main_arg2)) →
    ∃ (v0 : (c : Dev Cert.MixPromptIdeal.nD) → Buf (Elt Ideal) ((c.tc : Thread Cert.MixPromptIdeal.nD Cert.MixPromptIdeal.τ).loc Cert.MixPromptIdeal.main_v22_0)) (v1 : (c : Dev Cert.MixPromptIdeal.nD) → Buf (Elt Ideal) ((c.tc : Thread Cert.MixPromptIdeal.nD Cert.MixPromptIdeal.τ).loc Cert.MixPromptIdeal.main_v22_1)) (v2 : (c : Dev Cert.MixPromptIdeal.nD) → Buf (Elt Ideal) ((c.tc : Thread Cert.MixPromptIdeal.nD Cert.MixPromptIdeal.τ).loc Cert.MixPromptIdeal.main_v23)) (v3 : (c : Dev Cert.MixPromptIdeal.nD) → Buf (Elt Ideal) ((c.tc : Thread Cert.MixPromptIdeal.nD Cert.MixPromptIdeal.τ).loc Cert.MixPromptIdeal.main_v24)),
      θ_run (Cert.MixPromptIdeal.defs (F := Ideal)) (onTc (τ := Cert.MixPromptIdeal.τ) (Cert.MixPromptIdeal.main (F := Ideal))) ⟨m, fun _ => 0, g⟩ (fun r => ∀ c : Dev Cert.MixPromptIdeal.nD,
          r.2.mem ((c.tc : Thread Cert.MixPromptIdeal.nD Cert.MixPromptIdeal.τ).loc Cert.MixPromptIdeal.main_v22_0) = v0 c
          ∧ r.2.mem ((c.tc : Thread Cert.MixPromptIdeal.nD Cert.MixPromptIdeal.τ).loc Cert.MixPromptIdeal.main_v22_1) = v1 c
          ∧ r.2.mem ((c.tc : Thread Cert.MixPromptIdeal.nD Cert.MixPromptIdeal.τ).loc Cert.MixPromptIdeal.main_v23) = v2 c
          ∧ r.2.mem ((c.tc : Thread Cert.MixPromptIdeal.nD Cert.MixPromptIdeal.τ).loc Cert.MixPromptIdeal.main_v24) = v3 c
          ∧ r.2.mem ((c.tc : Thread Cert.MixPromptIdeal.nD Cert.MixPromptIdeal.τ).loc Cert.MixPromptIdeal.main_arg0) = m ((c.tc : Thread Cert.MixPromptIdeal.nD Cert.MixPromptIdeal.τ).loc Cert.MixPromptIdeal.main_arg0)
          ∧ r.2.mem ((c.tc : Thread Cert.MixPromptIdeal.nD Cert.MixPromptIdeal.τ).loc Cert.MixPromptIdeal.main_arg1) = m ((c.tc : Thread Cert.MixPromptIdeal.nD Cert.MixPromptIdeal.τ).loc Cert.MixPromptIdeal.main_arg1)
          ∧ r.2.mem ((c.tc : Thread Cert.MixPromptIdeal.nD Cert.MixPromptIdeal.τ).loc Cert.MixPromptIdeal.main_arg2) = m ((c.tc : Thread Cert.MixPromptIdeal.nD Cert.MixPromptIdeal.τ).loc Cert.MixPromptIdeal.main_arg2))
      ∧ θ_run (Cert.MixPromptRefIdeal.defs (F := Ideal)) (onTc (τ := Cert.MixPromptRefIdeal.τ) (Cert.MixPromptRefIdeal.main (F := Ideal))) ⟨m', fun _ => 0, g'⟩ (fun r => ∀ c : Dev Cert.MixPromptRefIdeal.nD,
          r.2.mem ((c.tc : Thread Cert.MixPromptRefIdeal.nD Cert.MixPromptRefIdeal.τ).loc Cert.MixPromptRefIdeal.main_v84) = v0 c
          ∧ r.2.mem ((c.tc : Thread Cert.MixPromptRefIdeal.nD Cert.MixPromptRefIdeal.τ).loc Cert.MixPromptRefIdeal.main_v86) = v1 c
          ∧ r.2.mem ((c.tc : Thread Cert.MixPromptRefIdeal.nD Cert.MixPromptRefIdeal.τ).loc Cert.MixPromptRefIdeal.main_v88) = v2 c
          ∧ r.2.mem ((c.tc : Thread Cert.MixPromptRefIdeal.nD Cert.MixPromptRefIdeal.τ).loc Cert.MixPromptRefIdeal.main_v90) = v3 c
          ∧ r.2.mem ((c.tc : Thread Cert.MixPromptRefIdeal.nD Cert.MixPromptRefIdeal.τ).loc Cert.MixPromptRefIdeal.main_arg0) = m' ((c.tc : Thread Cert.MixPromptRefIdeal.nD Cert.MixPromptRefIdeal.τ).loc Cert.MixPromptRefIdeal.main_arg0)
          ∧ r.2.mem ((c.tc : Thread Cert.MixPromptRefIdeal.nD Cert.MixPromptRefIdeal.τ).loc Cert.MixPromptRefIdeal.main_arg1) = m' ((c.tc : Thread Cert.MixPromptRefIdeal.nD Cert.MixPromptRefIdeal.τ).loc Cert.MixPromptRefIdeal.main_arg1)
          ∧ r.2.mem ((c.tc : Thread Cert.MixPromptRefIdeal.nD Cert.MixPromptRefIdeal.τ).loc Cert.MixPromptRefIdeal.main_arg2) = m' ((c.tc : Thread Cert.MixPromptRefIdeal.nD Cert.MixPromptRefIdeal.τ).loc Cert.MixPromptRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)) →
    ∃ (v0 : (c : Dev Cert.MixOutIdeal.nD) → Buf (Elt Ideal) ((c.tc : Thread Cert.MixOutIdeal.nD Cert.MixOutIdeal.τ).loc Cert.MixOutIdeal.main_v23_0)) (v1 : (c : Dev Cert.MixOutIdeal.nD) → Buf (Elt Ideal) ((c.tc : Thread Cert.MixOutIdeal.nD Cert.MixOutIdeal.τ).loc Cert.MixOutIdeal.main_v23_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v23_0) = v0 c
          ∧ r.2.mem ((c.tc : Thread Cert.MixOutIdeal.nD Cert.MixOutIdeal.τ).loc Cert.MixOutIdeal.main_v23_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v71) = v0 c
          ∧ r.2.mem ((c.tc : Thread Cert.MixOutRefIdeal.nD Cert.MixOutRefIdeal.τ).loc Cert.MixOutRefIdeal.main_v73) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v25) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)
      ∧ m' ((c.tc : Thread Cert.FinalSampleRefIdeal.nD Cert.FinalSampleRefIdeal.τ).loc Cert.FinalSampleRefIdeal.main_arg2) = m ((c.tc : Thread Cert.FinalSampleIdeal.nD Cert.FinalSampleIdeal.τ).loc Cert.FinalSampleIdeal.main_arg2)
      ∧ m' ((c.tc : Thread Cert.FinalSampleRefIdeal.nD Cert.FinalSampleRefIdeal.τ).loc Cert.FinalSampleRefIdeal.main_arg3) = m ((c.tc : Thread Cert.FinalSampleIdeal.nD Cert.FinalSampleIdeal.τ).loc Cert.FinalSampleIdeal.main_arg3)) →
    ∃ (v0 : (c : Dev Cert.FinalSampleIdeal.nD) → Buf (Elt Ideal) ((c.tc : Thread Cert.FinalSampleIdeal.nD Cert.FinalSampleIdeal.τ).loc Cert.FinalSampleIdeal.main_v2)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v2) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
          ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
          ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v25) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1)
          ∧ r.2.mem ((c.tc : Thread Cert.FinalSampleRefIdeal.nD Cert.FinalSampleRefIdeal.τ).loc Cert.FinalSampleRefIdeal.main_arg2) = m' ((c.tc : Thread Cert.FinalSampleRefIdeal.nD Cert.FinalSampleRefIdeal.τ).loc Cert.FinalSampleRefIdeal.main_arg2)
          ∧ r.2.mem ((c.tc : Thread Cert.FinalSampleRefIdeal.nD Cert.FinalSampleRefIdeal.τ).loc Cert.FinalSampleRefIdeal.main_arg3) = m' ((c.tc : Thread Cert.FinalSampleRefIdeal.nD Cert.FinalSampleRefIdeal.τ).loc Cert.FinalSampleRefIdeal.main_arg3))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)
      ∧ m' ((c.tc : Thread Cert.SsmRefIdeal.nD Cert.SsmRefIdeal.τ).loc Cert.SsmRefIdeal.main_arg9) = m ((c.tc : Thread Cert.SsmIdeal.nD Cert.SsmIdeal.τ).loc Cert.SsmIdeal.main_arg9)
      ∧ m' ((c.tc : Thread Cert.SsmRefIdeal.nD Cert.SsmRefIdeal.τ).loc Cert.SsmRefIdeal.main_arg10) = m ((c.tc : Thread Cert.SsmIdeal.nD Cert.SsmIdeal.τ).loc Cert.SsmIdeal.main_arg10)
      ∧ m' ((c.tc : Thread Cert.SsmRefIdeal.nD Cert.SsmRefIdeal.τ).loc Cert.SsmRefIdeal.main_arg11) = m ((c.tc : Thread Cert.SsmIdeal.nD Cert.SsmIdeal.τ).loc Cert.SsmIdeal.main_arg11)) →
    ∃ (v0 : (c : Dev Cert.SsmIdeal.nD) → Buf (Elt Ideal) ((c.tc : Thread Cert.SsmIdeal.nD Cert.SsmIdeal.τ).loc Cert.SsmIdeal.main_v40)) (v1 : (c : Dev Cert.SsmIdeal.nD) → Buf (Elt Ideal) ((c.tc : Thread Cert.SsmIdeal.nD Cert.SsmIdeal.τ).loc Cert.SsmIdeal.main_v42)) (v2 : (c : Dev Cert.SsmIdeal.nD) → Buf (Elt Ideal) ((c.tc : Thread Cert.SsmIdeal.nD Cert.SsmIdeal.τ).loc Cert.SsmIdeal.main_v44)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v40) = v0 c
          ∧ r.2.mem ((c.tc : Thread Cert.SsmIdeal.nD Cert.SsmIdeal.τ).loc Cert.SsmIdeal.main_v42) = v1 c
          ∧ r.2.mem ((c.tc : Thread Cert.SsmIdeal.nD Cert.SsmIdeal.τ).loc Cert.SsmIdeal.main_v44) = v2 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
          ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
          ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10)
          ∧ r.2.mem ((c.tc : Thread Cert.SsmIdeal.nD Cert.SsmIdeal.τ).loc Cert.SsmIdeal.main_arg11) = m ((c.tc : Thread Cert.SsmIdeal.nD Cert.SsmIdeal.τ).loc Cert.SsmIdeal.main_arg11))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v90) = v0 c
          ∧ r.2.mem ((c.tc : Thread Cert.SsmRefIdeal.nD Cert.SsmRefIdeal.τ).loc Cert.SsmRefIdeal.main_v92) = v1 c
          ∧ r.2.mem ((c.tc : Thread Cert.SsmRefIdeal.nD Cert.SsmRefIdeal.τ).loc Cert.SsmRefIdeal.main_v94) = v2 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8)
          ∧ r.2.mem ((c.tc : Thread Cert.SsmRefIdeal.nD Cert.SsmRefIdeal.τ).loc Cert.SsmRefIdeal.main_arg9) = m' ((c.tc : Thread Cert.SsmRefIdeal.nD Cert.SsmRefIdeal.τ).loc Cert.SsmRefIdeal.main_arg9)
          ∧ r.2.mem ((c.tc : Thread Cert.SsmRefIdeal.nD Cert.SsmRefIdeal.τ).loc Cert.SsmRefIdeal.main_arg10) = m' ((c.tc : Thread Cert.SsmRefIdeal.nD Cert.SsmRefIdeal.τ).loc Cert.SsmRefIdeal.main_arg10)
          ∧ r.2.mem ((c.tc : Thread Cert.SsmRefIdeal.nD Cert.SsmRefIdeal.τ).loc Cert.SsmRefIdeal.main_arg11) = m' ((c.tc : Thread Cert.SsmRefIdeal.nD Cert.SsmRefIdeal.τ).loc Cert.SsmRefIdeal.main_arg11))

def Claim : Prop :=
  ∃ (hAttnSample : Cert.AttnSample.Facts) (hAttnSampleIdeal : Cert.AttnSampleIdeal.Facts) (hAttnSampleRefIdeal : Cert.AttnSampleRefIdeal.Facts) (hMixSample : Cert.MixSample.Facts) (hMixSampleIdeal : Cert.MixSampleIdeal.Facts) (hMixSampleRefIdeal : Cert.MixSampleRefIdeal.Facts) (hMixPrompt : Cert.MixPrompt.Facts) (hMixPromptIdeal : Cert.MixPromptIdeal.Facts) (hMixPromptRefIdeal : Cert.MixPromptRefIdeal.Facts) (hMixOut : Cert.MixOut.Facts) (hMixOutIdeal : Cert.MixOutIdeal.Facts) (hMixOutRefIdeal : Cert.MixOutRefIdeal.Facts) (hFinal : Cert.Final.Facts) (hFinalIdeal : Cert.FinalIdeal.Facts) (hFinalRefIdeal : Cert.FinalRefIdeal.Facts) (hFinalSample : Cert.FinalSample.Facts) (hFinalSampleIdeal : Cert.FinalSampleIdeal.Facts) (hFinalSampleRefIdeal : Cert.FinalSampleRefIdeal.Facts) (hSsm : Cert.Ssm.Facts) (hSsmIdeal : Cert.SsmIdeal.Facts) (hSsmRefIdeal : Cert.SsmRefIdeal.Facts) (hPre_finite : Cert.Pre_finite.Facts),
    quiescent_AttnSample (hAttnSample := hAttnSample)
    ∧ quiescent_AttnSampleIdeal (hAttnSampleIdeal := hAttnSampleIdeal)
    ∧ quiescent_AttnSampleIdeal_pre_finite (hAttnSampleIdeal := hAttnSampleIdeal) (hPre_finite := hPre_finite)
    ∧ quiescent_AttnSampleRefIdeal (hAttnSampleRefIdeal := hAttnSampleRefIdeal)
    ∧ quiescent_AttnSampleRefIdeal_pre_finite (hAttnSampleRefIdeal := hAttnSampleRefIdeal) (hPre_finite := hPre_finite)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ quiescent_MixPrompt (hMixPrompt := hMixPrompt)
    ∧ quiescent_MixPromptIdeal (hMixPromptIdeal := hMixPromptIdeal)
    ∧ quiescent_MixPromptRefIdeal (hMixPromptRefIdeal := hMixPromptRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ quiescent_Ssm (hSsm := hSsm)
    ∧ quiescent_SsmIdeal (hSsmIdeal := hSsmIdeal)
    ∧ quiescent_SsmRefIdeal (hSsmRefIdeal := hSsmRefIdeal)
    ∧ preserves_AttnSample_AttnSampleIdeal
    ∧ algebraic_AttnSampleIdeal_AttnSampleRefIdeal_pre_finite (hAttnSampleIdeal := hAttnSampleIdeal) (hAttnSampleRefIdeal := hAttnSampleRefIdeal) (hPre_finite := hPre_finite)
    ∧ preserves_MixSample_MixSampleIdeal
    ∧ algebraic_MixSampleIdeal_MixSampleRefIdeal (hMixSampleIdeal := hMixSampleIdeal) (hMixSampleRefIdeal := hMixSampleRefIdeal)
    ∧ preserves_MixPrompt_MixPromptIdeal
    ∧ algebraic_MixPromptIdeal_MixPromptRefIdeal (hMixPromptIdeal := hMixPromptIdeal) (hMixPromptRefIdeal := hMixPromptRefIdeal)
    ∧ preserves_MixOut_MixOutIdeal
    ∧ algebraic_MixOutIdeal_MixOutRefIdeal (hMixOutIdeal := hMixOutIdeal) (hMixOutRefIdeal := hMixOutRefIdeal)
    ∧ preserves_Final_FinalIdeal
    ∧ algebraic_FinalIdeal_FinalRefIdeal (hFinalIdeal := hFinalIdeal) (hFinalRefIdeal := hFinalRefIdeal)
    ∧ preserves_FinalSample_FinalSampleIdeal
    ∧ algebraic_FinalSampleIdeal_FinalSampleRefIdeal (hFinalSampleIdeal := hFinalSampleIdeal) (hFinalSampleRefIdeal := hFinalSampleRefIdeal)
    ∧ preserves_Ssm_SsmIdeal
    ∧ algebraic_SsmIdeal_SsmRefIdeal (hSsmIdeal := hSsmIdeal) (hSsmRefIdeal := hSsmRefIdeal)
-- ==== Pre_finite.lean ====
abbrev S32x8x128 : Shape := ⟨3, ![32, 8, 128]⟩
abbrev S32x2048x8x128 : Shape := ⟨4, ![32, 2048, 8, 128]⟩
abbrev S_ : Shape := ⟨0, ![]⟩

class Facts : Prop where
  bcast_S_S32x8x128 : S_.BroadcastsInDim S32x8x128 (![] : Fin 0 → Fin S32x8x128.rank)
  reducesTo_S32x8x128_S_d0_1_2 : S32x8x128.ReducesTo [0, 1, 2] S_
  h_S_ : 0 < S_.numel
  bcast_S_S32x2048x8x128 : S_.BroadcastsInDim S32x2048x8x128 (![] : Fin 0 → Fin S32x2048x8x128.rank)
  reducesTo_S32x2048x8x128_S_d0_1_2_3 : S32x2048x8x128.ReducesTo [0, 1, 2, 3] S_

variable [Facts]

def fn {F : FTy → Type} [FloatOps F] (main_arg0 : FVec F S32x8x128 .f32) (main_arg1 : FVec F S32x8x128 .f32) (main_arg2 : FVec F S32x8x128 .f32) (main_arg3 : FVec F S32x2048x8x128 .f32) (main_arg4 : FVec F S32x2048x8x128 .f32) : IVec S_ 1 :=
  let main_v0 : FVec F S32x8x128 .f32 := Host.absf main_arg0
  let main_cst : FVec F S_ .f32 := constant S_ .f32 0x7F800000#32
  let main_v1 : FVec F S32x8x128 .f32 := broadcastInDim S32x8x128 ![] bcast_S_S32x8x128 main_cst
  let main_v2 : IVec S32x8x128 1 := cmpf .olt main_v0 main_v1
  let main_c : IVec S_ 1 := constantI S_ 1 1#1
  let main_v3 : IVec S_ 1 := (fun x v => Host.reduce IntOp.andi x v reducesTo_S32x8x128_S_d0_1_2 h_S_) main_v2 main_c
  let main_v4 : FVec F S32x8x128 .f32 := Host.absf main_arg1
  let main_cst_0 : FVec F S_ .f32 := constant S_ .f32 0x7F800000#32
  let main_v5 : FVec F S32x8x128 .f32 := broadcastInDim S32x8x128 ![] bcast_S_S32x8x128 main_cst_0
  let main_v6 : IVec S32x8x128 1 := cmpf .olt main_v4 main_v5
  let main_c_1 : IVec S_ 1 := constantI S_ 1 1#1
  let main_v7 : IVec S_ 1 := (fun x v => Host.reduce IntOp.andi x v reducesTo_S32x8x128_S_d0_1_2 h_S_) main_v6 main_c_1
  let main_v8 : IVec S_ 1 := andi main_v3 main_v7
  let main_v9 : FVec F S32x2048x8x128 .f32 := Host.absf main_arg3
  let main_cst_2 : FVec F S_ .f32 := constant S_ .f32 0x7F800000#32
  let main_v10 : FVec F S32x2048x8x128 .f32 := broadcastInDim S32x2048x8x128 ![] bcast_S_S32x2048x8x128 main_cst_2
  let main_v11 : IVec S32x2048x8x128 1 := cmpf .olt main_v9 main_v10
  let main_c_3 : IVec S_ 1 := constantI S_ 1 1#1
  let main_v12 : IVec S_ 1 := (fun x v => Host.reduce IntOp.andi x v reducesTo_S32x2048x8x128_S_d0_1_2_3 h_S_) main_v11 main_c_3
  let main_v13 : IVec S_ 1 := andi main_v8 main_v12
  main_v13
-- ==== AttnSample.lean ====
abbrev S32x8x128 : Shape := ⟨3, ![32, 8, 128]⟩
abbrev S32x2048x8x128 : Shape := ⟨4, ![32, 2048, 8, 128]⟩
abbrev S32x2048x1x8x128 : Shape := ⟨5, ![32, 2048, 1, 8, 128]⟩
abbrev S32x512x4x8x128 : Shape := ⟨5, ![32, 512, 4, 8, 128]⟩
abbrev S32x128x16x8x128 : Shape := ⟨5, ![32, 128, 16, 8, 128]⟩
abbrev S4x8x128 : Shape := ⟨3, ![4, 8, 128]⟩
abbrev S4x128x1x8x128 : Shape := ⟨5, ![4, 128, 1, 8, 128]⟩
abbrev S1x8x128 : Shape := ⟨3, ![1, 8, 128]⟩
abbrev S8x128 : Shape := ⟨2, ![8, 128]⟩
abbrev S8 : Shape := ⟨1, ![8]⟩
abbrev S8x1 : Shape := ⟨2, ![8, 1]⟩
abbrev S1x128x1x8x128 : Shape := ⟨5, ![1, 128, 1, 8, 128]⟩
abbrev S128x8x128 : Shape := ⟨3, ![128, 8, 128]⟩
abbrev S128x8 : Shape := ⟨2, ![128, 8]⟩
abbrev S128x8x1 : Shape := ⟨3, ![128, 8, 1]⟩
abbrev S1x8x1 : Shape := ⟨3, ![1, 8, 1]⟩

abbrev nBuf : Space → Nat
  | .hbm => 12
  | .vmem => 20
  | .smem => 0
  | _ => 0

abbrev bufTy : (tb : Table) → Fin (tcTables nBuf tb) → BufTy
  | .hbm, ⟨0, _⟩ => ⟨S32x8x128, .f32⟩
  | .hbm, ⟨1, _⟩ => ⟨S32x8x128, .f32⟩
  | .hbm, ⟨2, _⟩ => ⟨S32x8x128, .f32⟩
  | .hbm, ⟨3, _⟩ => ⟨S32x2048x8x128, .f32⟩
  | .hbm, ⟨4, _⟩ => ⟨S32x2048x8x128, .f32⟩
  | .hbm, ⟨5, _⟩ => ⟨S32x2048x1x8x128, .f32⟩
  | .hbm, ⟨6, _⟩ => ⟨S32x512x4x8x128, .f32⟩
  | .hbm, ⟨7, _⟩ => ⟨S32x128x16x8x128, .f32⟩
  | .hbm, ⟨8, _⟩ => ⟨S32x2048x1x8x128, .f32⟩
  | .hbm, ⟨9, _⟩ => ⟨S32x512x4x8x128, .f32⟩
  | .hbm, ⟨10, _⟩ => ⟨S32x128x16x8x128, .f32⟩
  | .hbm, ⟨11, _⟩ => ⟨S32x8x128, .f32⟩
  | .local _ .vmem, ⟨0, _⟩ => ⟨S4x8x128, .f32⟩
  | .local _ .vmem, ⟨1, _⟩ => ⟨S4x8x128, .f32⟩
  | .local _ .vmem, ⟨2, _⟩ => ⟨S4x8x128, .f32⟩
  | .local _ .vmem, ⟨3, _⟩ => ⟨S4x8x128, .f32⟩
  | .local _ .vmem, ⟨4, _⟩ => ⟨S4x8x128, .f32⟩
  | .local _ .vmem, ⟨5, _⟩ => ⟨S4x8x128, .f32⟩
  | .local _ .vmem, ⟨6, _⟩ => ⟨S4x128x1x8x128, .f32⟩
  | .local _ .vmem, ⟨7, _⟩ => ⟨S4x128x1x8x128, .f32⟩
  | .local _ .vmem, ⟨8, _⟩ => ⟨S4x128x1x8x128, .f32⟩
  | .local _ .vmem, ⟨9, _⟩ => ⟨S4x128x1x8x128, .f32⟩
  | .local _ .vmem, ⟨10, _⟩ => ⟨S4x128x1x8x128, .f32⟩
  | .local _ .vmem, ⟨11, _⟩ => ⟨S4x128x1x8x128, .f32⟩
  | .local _ .vmem, ⟨12, _⟩ => ⟨S4x128x1x8x128, .f32⟩
  | .local _ .vmem, ⟨13, _⟩ => ⟨S4x128x1x8x128, .f32⟩
  | .local _ .vmem, ⟨14, _⟩ => ⟨S4x128x1x8x128, .f32⟩
  | .local _ .vmem, ⟨15, _⟩ => ⟨S4x128x1x8x128, .f32⟩
  | .local _ .vmem, ⟨16, _⟩ => ⟨S4x128x1x8x128, .f32⟩
  | .local _ .vmem, ⟨17, _⟩ => ⟨S4x128x1x8x128, .f32⟩
  | .local _ .vmem, ⟨18, _⟩ => ⟨S4x8x128, .f32⟩
  | .local _ .vmem, ⟨19, _⟩ => ⟨S4x8x128, .f32⟩
  | _, _ => ⟨S32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  let c0_i32_2 : BitVec 32 := 0#32
  ![arg0.toNat, c15_i32.toNat, c0_i32.toNat, c0_i32_0.toNat, c0_i32_1.toNat]

def cc0_transform_4 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![arg0.toNat, c3_i32.toNat, c0_i32.toNat, c0_i32_0.toNat, c0_i32_1.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 5 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  let c0_i32_2 : BitVec 32 := 0#32
  ![arg0.toNat, c15_i32.toNat, c0_i32.toNat, c0_i32_0.toNat, c0_i32_1.toNat]

def cc0_transform_7 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![arg0.toNat, c3_i32.toNat, c0_i32.toNat, c0_i32_0.toNat, c0_i32_1.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnSampleRefIdeal.lean ====
abbrev S32x8x128 : Shape := ⟨3, ![32, 8, 128]⟩
abbrev S32x2048x8x128 : Shape := ⟨4, ![32, 2048, 8, 128]⟩
abbrev S32x1x8x128 : Shape := ⟨4, ![32, 1, 8, 128]⟩
abbrev S32x2049x8x128 : Shape := ⟨4, ![32, 2049, 8, 128]⟩
abbrev S1 : Shape := ⟨1, ![1]⟩
abbrev S_ : Shape := ⟨0, ![]⟩
abbrev S1x1 : Shape := ⟨2, ![1, 1]⟩
abbrev S129 : Shape := ⟨1, ![129]⟩
abbrev S1x129 : Shape := ⟨2, ![1, 129]⟩
abbrev S1x129x1 : Shape := ⟨3, ![1, 129, 1]⟩
abbrev S32x1x129x8x128 : Shape := ⟨5, ![32, 1, 129, 8, 128]⟩
abbrev S32x1x8x129 : Shape := ⟨4, ![32, 1, 8, 129]⟩
abbrev S1x1x1x129 : Shape := ⟨4, ![1, 1, 1, 129]⟩
abbrev S32x1x8 : Shape := ⟨3, ![32, 1, 8]⟩
abbrev S32x1x8x1 : Shape := ⟨4, ![32, 1, 8, 1]⟩
abbrev S1x32x1x8 : Shape := ⟨4, ![1, 32, 1, 8]⟩
abbrev S3x32x1x8 : Shape := ⟨4, ![3, 32, 1, 8]⟩
abbrev S3x32x1x8x1 : Shape := ⟨5, ![3, 32, 1, 8, 1]⟩
abbrev S1x32x1x8x128 : Shape := ⟨5, ![1, 32, 1, 8, 128]⟩
abbrev S3x32x1x8x128 : Shape := ⟨5, ![3, 32, 1, 8, 128]⟩

abbrev nBuf : Space → Nat
  | .hbm => 221
  | .vmem => 0
  | .smem => 0
  | _ => 0

abbrev hbmTy0_0 (i : Nat) : BufTy := match i % 128 with
  | 0 => ⟨S32x8x128, .f32⟩
  | 1 => ⟨S32x8x128, .f32⟩
  | 2 => ⟨S32x8x128, .f32⟩
  | 3 => ⟨S32x2048x8x128, .f32⟩
  | 4 => ⟨S32x2048x8x128, .f32⟩
  | 5 => ⟨S32x1x8x128, .f32⟩
  | 6 => ⟨S32x1x8x128, .f32⟩
  | 7 => ⟨S32x1x8x128, .f32⟩
  | 8 => ⟨S32x2049x8x128, .f32⟩
  | 9 => ⟨S32x2049x8x128, .f32⟩
  | 10 => ⟨S1, .i32⟩
  | 11 => ⟨S_, .i32⟩
  | 12 => ⟨S1, .i32⟩
  | 13 => ⟨S1, .i32⟩
  | 14 => ⟨S1x1, .i32⟩
  | 15 => ⟨S129, .i32⟩
  | 16 => ⟨S1x129, .i32⟩
  | 17 => ⟨S_, .i32⟩
  | 18 => ⟨S1x129, .i32⟩
  | 19 => ⟨S1x129, .i32⟩
  | 20 => ⟨S1x129, .i32⟩
  | 21 => ⟨S1x129, .i32⟩
  | 22 => ⟨S_, .i32⟩
  | 23 => ⟨S1x129, .i32⟩
  | 24 => ⟨S1x129, .i1⟩
  | 25 => ⟨S_, .i32⟩
  | 26 => ⟨S1x129, .i32⟩
  | 27 => ⟨S1x129, .i32⟩
  | 28 => ⟨S_, .i32⟩
  | 29 => ⟨S1x129, .i32⟩
  | 30 => ⟨S1x129, .i1⟩
  | 31 => ⟨S_, .i32⟩
  | 32 => ⟨S1x129, .i32⟩
  | 33 => ⟨S1x129, .i32⟩
  | 34 => ⟨S1x129, .i32⟩
  | 35 => ⟨S1x129x1, .i32⟩
  | 36 => ⟨S32x1x129x8x128, .f32⟩
  | 37 => ⟨S_, .i32⟩
  | 38 => ⟨S1x129, .i32⟩
  | 39 => ⟨S1x129, .i1⟩
  | 40 => ⟨S_, .i32⟩
  | 41 => ⟨S1x129, .i32⟩
  | 42 => ⟨S1x129, .i32⟩
  | 43 => ⟨S1x129, .i32⟩
  | 44 => ⟨S1x129x1, .i32⟩
  | 45 => ⟨S32x1x129x8x128, .f32⟩
  | 46 => ⟨S32x1x8x129, .f32⟩
  | 47 => ⟨S_, .f32⟩
  | 48 => ⟨S32x1x8x129, .f32⟩
  | 49 => ⟨S32x1x8x129, .f32⟩
  | 50 => ⟨S1x1x1x129, .i1⟩
  | 51 => ⟨S_, .f32⟩
  | 52 => ⟨S_, .f32⟩
  | 53 => ⟨S32x1x8x129, .i1⟩
  | 54 => ⟨S32x1x8x129, .f32⟩
  | 55 => ⟨S32x1x8x129, .f32⟩
  | 56 => ⟨S_, .f32⟩
  | 57 => ⟨S32x1x8, .f32⟩
  | 58 => ⟨S32x1x8x1, .f32⟩
  | 59 => ⟨S32x1x8x129, .f32⟩
  | 60 => ⟨S32x1x8x129, .f32⟩
  | 61 => ⟨S32x1x8x129, .f32⟩
  | 62 => ⟨S_, .f32⟩
  | 63 => ⟨S32x1x8, .f32⟩
  | 64 => ⟨S32x1x8x1, .f32⟩
  | 65 => ⟨S32x1x8x129, .f32⟩
  | 66 => ⟨S32x1x8x129, .f32⟩
  | 67 => ⟨S32x1x8x128, .f32⟩
  | 68 => ⟨S32x1x8x1, .f32⟩
  | 69 => ⟨S32x1x8x1, .f32⟩
  | 70 => ⟨S32x1x8, .f32⟩
  | 71 => ⟨S1, .i32⟩
  | 72 => ⟨S_, .i32⟩
  | 73 => ⟨S1, .i32⟩
  | 74 => ⟨S1, .i32⟩
  | 75 => ⟨S1x1, .i32⟩
  | 76 => ⟨S129, .i32⟩
  | 77 => ⟨S1x129, .i32⟩
  | 78 => ⟨S_, .i32⟩
  | 79 => ⟨S1x129, .i32⟩
  | 80 => ⟨S1x129, .i32⟩
  | 81 => ⟨S1x129, .i32⟩
  | 82 => ⟨S1x129, .i32⟩
  | 83 => ⟨S_, .i32⟩
  | 84 => ⟨S1x129, .i32⟩
  | 85 => ⟨S1x129, .i1⟩
  | 86 => ⟨S_, .i32⟩
  | 87 => ⟨S1x129, .i32⟩
  | 88 => ⟨S1x129, .i32⟩
  | 89 => ⟨S_, .i32⟩
  | 90 => ⟨S1x129, .i32⟩
  | 91 => ⟨S1x129, .i1⟩
  | 92 => ⟨S_, .i32⟩
  | 93 => ⟨S1x129, .i32⟩
  | 94 => ⟨S1x129, .i32⟩
  | 95 => ⟨S1x129, .i32⟩
  | 96 => ⟨S1x129x1, .i32⟩
  | 97 => ⟨S32x1x129x8x128, .f32⟩
  | 98 => ⟨S_, .i32⟩
  | 99 => ⟨S1x129, .i32⟩
  | 100 => ⟨S1x129, .i1⟩
  | 101 => ⟨S_, .i32⟩
  | 102 => ⟨S1x129, .i32⟩
  | 103 => ⟨S1x129, .i32⟩
  | 104 => ⟨S1x129, .i32⟩
  | 105 => ⟨S1x129x1, .i32⟩
  | 106 => ⟨S32x1x129x8x128, .f32⟩
  | 107 => ⟨S32x1x8x129, .f32⟩
  | 108 => ⟨S_, .f32⟩
  | 109 => ⟨S32x1x8x129, .f32⟩
  | 110 => ⟨S32x1x8x129, .f32⟩
  | 111 => ⟨S1x1x1x129, .i1⟩
  | 112 => ⟨S_, .f32⟩
  | 113 => ⟨S_, .f32⟩
  | 114 => ⟨S32x1x8x129, .i1⟩
  | 115 => ⟨S32x1x8x129, .f32⟩
  | 116 => ⟨S32x1x8x129, .f32⟩
  | 117 => ⟨S_, .f32⟩
  | 118 => ⟨S32x1x8, .f32⟩
  | 119 => ⟨S32x1x8x1, .f32⟩
  | 120 => ⟨S32x1x8x129, .f32⟩
  | 121 => ⟨S32x1x8x129, .f32⟩
  | 122 => ⟨S32x1x8x129, .f32⟩
  | 123 => ⟨S_, .f32⟩
  | 124 => ⟨S32x1x8, .f32⟩
  | 125 => ⟨S32x1x8x1, .f32⟩
  | 126 => ⟨S32x1x8x129, .f32⟩
  | 127 => ⟨S32x1x8x129, .f32⟩
  | _ => ⟨S32x8x128, .f32⟩

abbrev hbmTy0_1 (i : Nat) : BufTy := match i % 128 with
  | 0 => ⟨S32x1x8x128, .f32⟩
  | 1 => ⟨S32x1x8x1, .f32⟩
  | 2 => ⟨S32x1x8x1, .f32⟩
  | 3 => ⟨S32x1x8, .f32⟩
  | 4 => ⟨S1, .i32⟩
  | 5 => ⟨S_, .i32⟩
  | 6 => ⟨S1, .i32⟩
  | 7 => ⟨S1, .i32⟩
  | 8 => ⟨S1x1, .i32⟩
  | 9 => ⟨S129, .i32⟩
  | 10 => ⟨S1x129, .i32⟩
  | 11 => ⟨S_, .i32⟩
  | 12 => ⟨S1x129, .i32⟩
  | 13 => ⟨S1x129, .i32⟩
  | 14 => ⟨S1x129, .i32⟩
  | 15 => ⟨S1x129, .i32⟩
  | 16 => ⟨S_, .i32⟩
  | 17 => ⟨S1x129, .i32⟩
  | 18 => ⟨S1x129, .i1⟩
  | 19 => ⟨S_, .i32⟩
  | 20 => ⟨S1x129, .i32⟩
  | 21 => ⟨S1x129, .i32⟩
  | 22 => ⟨S_, .i32⟩
  | 23 => ⟨S1x129, .i32⟩
  | 24 => ⟨S1x129, .i1⟩
  | 25 => ⟨S_, .i32⟩
  | 26 => ⟨S1x129, .i32⟩
  | 27 => ⟨S1x129, .i32⟩
  | 28 => ⟨S1x129, .i32⟩
  | 29 => ⟨S1x129x1, .i32⟩
  | 30 => ⟨S32x1x129x8x128, .f32⟩
  | 31 => ⟨S_, .i32⟩
  | 32 => ⟨S1x129, .i32⟩
  | 33 => ⟨S1x129, .i1⟩
  | 34 => ⟨S_, .i32⟩
  | 35 => ⟨S1x129, .i32⟩
  | 36 => ⟨S1x129, .i32⟩
  | 37 => ⟨S1x129, .i32⟩
  | 38 => ⟨S1x129x1, .i32⟩
  | 39 => ⟨S32x1x129x8x128, .f32⟩
  | 40 => ⟨S32x1x8x129, .f32⟩
  | 41 => ⟨S_, .f32⟩
  | 42 => ⟨S32x1x8x129, .f32⟩
  | 43 => ⟨S32x1x8x129, .f32⟩
  | 44 => ⟨S1x1x1x129, .i1⟩
  | 45 => ⟨S_, .f32⟩
  | 46 => ⟨S_, .f32⟩
  | 47 => ⟨S32x1x8x129, .i1⟩
  | 48 => ⟨S32x1x8x129, .f32⟩
  | 49 => ⟨S32x1x8x129, .f32⟩
  | 50 => ⟨S_, .f32⟩
  | 51 => ⟨S32x1x8, .f32⟩
  | 52 => ⟨S32x1x8x1, .f32⟩
  | 53 => ⟨S32x1x8x129, .f32⟩
  | 54 => ⟨S32x1x8x129, .f32⟩
  | 55 => ⟨S32x1x8x129, .f32⟩
  | 56 => ⟨S_, .f32⟩
  | 57 => ⟨S32x1x8, .f32⟩
  | 58 => ⟨S32x1x8x1, .f32⟩
  | 59 => ⟨S32x1x8x129, .f32⟩
  | 60 => ⟨S32x1x8x129, .f32⟩
  | 61 => ⟨S32x1x8x128, .f32⟩
  | 62 => ⟨S32x1x8x1, .f32⟩
  | 63 => ⟨S32x1x8x1, .f32⟩
  | 64 => ⟨S32x1x8, .f32⟩
  | 65 => ⟨S1x32x1x8, .f32⟩
  | 66 => ⟨S1x32x1x8, .f32⟩
  | 67 => ⟨S1x32x1x8, .f32⟩
  | 68 => ⟨S3x32x1x8, .f32⟩
  | 69 => ⟨S_, .f32⟩
  | 70 => ⟨S32x1x8, .f32⟩
  | 71 => ⟨S_, .f32⟩
  | 72 => ⟨S32x1x8, .f32⟩
  | 73 => ⟨S32x1x8, .f32⟩
  | 74 => ⟨S1x32x1x8, .f32⟩
  | 75 => ⟨S3x32x1x8, .f32⟩
  | 76 => ⟨S3x32x1x8, .f32⟩
  | 77 => ⟨S3x32x1x8, .f32⟩
  | 78 => ⟨S_, .f32⟩
  | 79 => ⟨S32x1x8, .f32⟩
  | 80 => ⟨S1x32x1x8, .f32⟩
  | 81 => ⟨S3x32x1x8, .f32⟩
  | 82 => ⟨S3x32x1x8, .f32⟩
  | 83 => ⟨S3x32x1x8x1, .f32⟩
  | 84 => ⟨S1x32x1x8x128, .f32⟩
  | 85 => ⟨S1x32x1x8x128, .f32⟩
  | 86 => ⟨S1x32x1x8x128, .f32⟩
  | 87 => ⟨S3x32x1x8x128, .f32⟩
  | 88 => ⟨S3x32x1x8x128, .f32⟩
  | 89 => ⟨S3x32x1x8x128, .f32⟩
  | 90 => ⟨S_, .f32⟩
  | 91 => ⟨S32x1x8x128, .f32⟩
  | 92 => ⟨S32x8x128, .f32⟩
  | _ => ⟨S32x8x128, .f32⟩

abbrev hbmTy (i : Nat) : BufTy := match i / 128 with
  | 0 => hbmTy0_0 i
  | 1 => hbmTy0_1 i
  | _ => ⟨S32x8x128, .f32⟩

abbrev bufTy : (tb : Table) → Fin (tcTables nBuf tb) → BufTy
  | .hbm, ⟨i, _⟩ => hbmTy i
  | _, _ => ⟨S32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v83 : Ref sig .tc := ⟨.hbm, 116, rfl⟩
abbrev main_cst_20 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_21 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_22 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_23 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_24 : Ref sig .tc := ⟨.hbm, 144, rfl⟩
abbrev main_v107 : Ref sig .tc := ⟨.hbm, 145, rfl⟩
abbrev main_v108 : Ref sig .tc := ⟨.hbm, 146, rfl⟩
abbrev main_c_25 : Ref sig .tc := ⟨.hbm, 147, rfl⟩
abbrev main_v109 : Ref sig .tc := ⟨.hbm, 148, rfl⟩
abbrev main_v110 : Ref sig .tc := ⟨.hbm, 149, rfl⟩
abbrev main_c_26 : Ref sig .tc := ⟨.hbm, 150, rfl⟩
abbrev main_v111 : Ref sig .tc := ⟨.hbm, 151, rfl⟩
abbrev main_v112 : Ref sig .tc := ⟨.hbm, 152, rfl⟩
abbrev main_c_27 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_28 : Ref sig .tc := ⟨.hbm, 159, rfl⟩
abbrev main_v118 : Ref sig .tc := ⟨.hbm, 160, rfl⟩
abbrev main_v119 : Ref sig .tc := ⟨.hbm, 161, rfl⟩
abbrev main_c_29 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_30 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_31 : Ref sig .tc := ⟨.hbm, 173, rfl⟩
abbrev main_call2_v0 : Ref sig .tc := ⟨.hbm, 174, rfl⟩
abbrev main_call2_v1 : Ref sig .tc := ⟨.hbm, 175, rfl⟩
abbrev main_call2_v2 : Ref sig .tc := ⟨.hbm, 176, rfl⟩
abbrev main_v129 : Ref sig .tc := ⟨.hbm, 177, rfl⟩
abbrev main_cst_32 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_33 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_34 : Ref sig .tc := ⟨.hbm, 197, rfl⟩
abbrev main_v147 : Ref sig .tc := ⟨.hbm, 198, rfl⟩
abbrev main_cst_35 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_36 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_cst_37 : Ref sig .tc := ⟨.hbm, 218, rfl⟩
abbrev main_v165 : Ref sig .tc := ⟨.hbm, 219, rfl⟩
abbrev main_v166 : Ref sig .tc := ⟨.hbm, 220, rfl⟩

abbrev nD : Nat := 1
abbrev τ : Topo := Topo.v7x

variable {F : FTy → Type} [FloatOps F]
-- ==== MixSample.lean ====
abbrev S32x1x2048 : Shape := ⟨3, ![32, 1, 2048]⟩
abbrev S1x2048 : Shape := ⟨2, ![1, 2048]⟩
abbrev S1x2048x4096 : Shape := ⟨3, ![1, 2048, 4096]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S32x2048 : Shape := ⟨2, ![32, 2048]⟩
abbrev S2048 : Shape := ⟨1, ![2048]⟩
abbrev S2048x4096 : Shape := ⟨2, ![2048, 4096]⟩
abbrev S32x4096 : Shape := ⟨2, ![32, 4096]⟩
abbrev S2048x1024 : Shape := ⟨2, ![2048, 1024]⟩
abbrev S32x1024 : Shape := ⟨2, ![32, 1024]⟩
abbrev S1x32x1x8x128 : Shape := ⟨5, ![1, 32, 1, 8, 128]⟩

abbrev nBuf : Space → Nat
  | .hbm => 34
  | .vmem => 9
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x4096, .f32⟩
  | .hbm, ⟨3, _⟩ => ⟨S_, .f32⟩
  | .hbm, ⟨4, _⟩ => ⟨S32, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S32x1, .f32⟩
  | .hbm, ⟨14, _⟩ => ⟨S1x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x128, .f32⟩
  | .hbm, ⟨21, _⟩ => ⟨S32x64, .f32⟩
  | .hbm, ⟨22, _⟩ => ⟨S32x128, .f32⟩
  | .hbm, ⟨23, _⟩ => ⟨S32x2048, .f32⟩
  | .hbm, ⟨24, _⟩ => ⟨S2048, .f32⟩
  | .hbm, ⟨25, _⟩ => ⟨S1x2048, .f32⟩
  | .hbm, ⟨26, _⟩ => ⟨S2048x4096, .f32⟩
  | .hbm, ⟨27, _⟩ => ⟨S32x4096, .f32⟩
  | .hbm, ⟨28, _⟩ => ⟨S32x1024, .f32⟩
  | .hbm, ⟨29, _⟩ => ⟨S32x1024, .f32⟩
  | .hbm, ⟨30, _⟩ => ⟨S32x1024, .f32⟩
  | .hbm, ⟨31, _⟩ => ⟨S32x1024, .f32⟩
  | .hbm, ⟨32, _⟩ => ⟨S1x32x1x8x128, .f32⟩
  | .hbm, ⟨33, _⟩ => ⟨S1x32x1x8x128, .f32⟩
  | .local _ .vmem, ⟨0, _⟩ => ⟨S32x2048, .f32⟩
  | .local _ .vmem, ⟨1, _⟩ => ⟨S32x128, .f32⟩
  | .local _ .vmem, ⟨2, _⟩ => ⟨S32x128, .f32⟩
  | .local _ .vmem, ⟨3, _⟩ => ⟨S1x2048, .f32⟩
  | .local _ .vmem, ⟨4, _⟩ => ⟨S2048x1024, .f32⟩
  | .local _ .vmem, ⟨5, _⟩ => ⟨S2048x1024, .f32⟩
  | .local _ .vmem, ⟨6, _⟩ => ⟨S32x1024, .f32⟩
  | .local _ .vmem, ⟨7, _⟩ => ⟨S32x1024, .f32⟩
  | .local _ .vmem, ⟨8, _⟩ => ⟨S32x2048, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixSampleRefIdeal.lean ====
abbrev S32x1x2048 : Shape := ⟨3, ![32, 1, 2048]⟩
abbrev S1x2048 : Shape := ⟨2, ![1, 2048]⟩
abbrev S1x2048x4096 : Shape := ⟨3, ![1, 2048, 4096]⟩
abbrev S1 : Shape := ⟨1, ![1]⟩
abbrev S_ : Shape := ⟨0, ![]⟩
abbrev S2048 : Shape := ⟨1, ![2048]⟩
abbrev S2048x4096 : Shape := ⟨2, ![2048, 4096]⟩
abbrev S32x1 : Shape := ⟨2, ![32, 1]⟩
abbrev S32x1x1 : Shape := ⟨3, ![32, 1, 1]⟩
abbrev S1x1x2048 : Shape := ⟨3, ![1, 1, 2048]⟩
abbrev S32x1x4096 : Shape := ⟨3, ![32, 1, 4096]⟩
abbrev S32x1x1024 : Shape := ⟨3, ![32, 1, 1024]⟩
abbrev S32x1x64x16 : Shape := ⟨4, ![32, 1, 64, 16]⟩
abbrev S32x1x8x128 : Shape := ⟨4, ![32, 1, 8, 128]⟩
abbrev S64 : Shape := ⟨1, ![64]⟩
abbrev S1x1 : Shape := ⟨2, ![1, 1]⟩
abbrev S1x64 : Shape := ⟨2, ![1, 64]⟩
abbrev S1x1x1x64 : Shape := ⟨4, ![1, 1, 1, 64]⟩
abbrev S32x1x8x64 : Shape := ⟨4, ![32, 1, 8, 64]⟩
abbrev S32x1024 : Shape := ⟨2, ![32, 1024]⟩
abbrev S1x32x1x8x128 : Shape := ⟨5, ![1, 32, 1, 8, 128]⟩

abbrev nBuf : Space → Nat
  | .hbm => 96
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x4096, .f32⟩
  | .hbm, ⟨3, _⟩ => ⟨S1, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S2048, .f32⟩
  | .hbm, ⟨8, _⟩ => ⟨S2048x4096, .f32⟩
  | .hbm, ⟨9, _⟩ => ⟨S32x1x2048, .f32⟩
  | .hbm, ⟨10, _⟩ => ⟨S_, .f32⟩
  | .hbm, ⟨11, _⟩ => ⟨S32x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S_, .f32⟩
  | .hbm, ⟨17, _⟩ => ⟨S32x1x1, .f32⟩
  | .hbm, ⟨18, _⟩ => ⟨S32x1x1, .f32⟩
  | .hbm, ⟨19, _⟩ => ⟨S32x1x1, .f32⟩
  | .hbm, ⟨20, _⟩ => ⟨S32x1x2048, .f32⟩
  | .hbm, ⟨21, _⟩ => ⟨S32x1x2048, .f32⟩
  | .hbm, ⟨22, _⟩ => ⟨S1x1x2048, .f32⟩
  | .hbm, ⟨23, _⟩ => ⟨S32x1x2048, .f32⟩
  | .hbm, ⟨24, _⟩ => ⟨S32x1x2048, .f32⟩
  | .hbm, ⟨25, _⟩ => ⟨S32x1x4096, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x64x16, .f32⟩
  | .hbm, ⟨31, _⟩ => ⟨S32x1x8x128, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S1x1, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x1x1x64, .f32⟩
  | .hbm, ⟨46, _⟩ => ⟨S1x64, .f32⟩
  | .hbm, ⟨47, _⟩ => ⟨S1x1x1x64, .f32⟩
  | .hbm, ⟨48, _⟩ => ⟨S32x1x8x64, .f32⟩
  | .hbm, ⟨49, _⟩ => ⟨S32x1x8x64, .f32⟩
  | .hbm, ⟨50, _⟩ => ⟨S32x1x8x64, .f32⟩
  | .hbm, ⟨51, _⟩ => ⟨S32x1x8x64, .f32⟩
  | .hbm, ⟨52, _⟩ => ⟨S32x1x8x64, .f32⟩
  | .hbm, ⟨53, _⟩ => ⟨S32x1x8x64, .f32⟩
  | .hbm, ⟨54, _⟩ => ⟨S32x1x8x64, .f32⟩
  | .hbm, ⟨55, _⟩ => ⟨S32x1x8x64, .f32⟩
  | .hbm, ⟨56, _⟩ => ⟨S32x1x8x64, .f32⟩
  | .hbm, ⟨57, _⟩ => ⟨S32x1x8x64, .f32⟩
  | .hbm, ⟨58, _⟩ => ⟨S32x1x8x64, .f32⟩
  | .hbm, ⟨59, _⟩ => ⟨S32x1x8x64, .f32⟩
  | .hbm, ⟨60, _⟩ => ⟨S32x1x8x128, .f32⟩
  | .hbm, ⟨61, _⟩ => ⟨S32x1x8x128, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S1x1, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x1x1x64, .f32⟩
  | .hbm, ⟨76, _⟩ => ⟨S1x64, .f32⟩
  | .hbm, ⟨77, _⟩ => ⟨S1x1x1x64, .f32⟩
  | .hbm, ⟨78, _⟩ => ⟨S32x1x8x64, .f32⟩
  | .hbm, ⟨79, _⟩ => ⟨S32x1x8x64, .f32⟩
  | .hbm, ⟨80, _⟩ => ⟨S32x1x8x64, .f32⟩
  | .hbm, ⟨81, _⟩ => ⟨S32x1x8x64, .f32⟩
  | .hbm, ⟨82, _⟩ => ⟨S32x1x8x64, .f32⟩
  | .hbm, ⟨83, _⟩ => ⟨S32x1x8x64, .f32⟩
  | .hbm, ⟨84, _⟩ => ⟨S32x1x8x64, .f32⟩
  | .hbm, ⟨85, _⟩ => ⟨S32x1x8x64, .f32⟩
  | .hbm, ⟨86, _⟩ => ⟨S32x1x8x64, .f32⟩
  | .hbm, ⟨87, _⟩ => ⟨S32x1x8x64, .f32⟩
  | .hbm, ⟨88, _⟩ => ⟨S32x1x8x64, .f32⟩
  | .hbm, ⟨89, _⟩ => ⟨S32x1x8x64, .f32⟩
  | .hbm, ⟨90, _⟩ => ⟨S32x1x8x128, .f32⟩
  | .hbm, ⟨91, _⟩ => ⟨S32x1x8x128, .f32⟩
  | .hbm, ⟨92, _⟩ => ⟨S32x1024, .f32⟩
  | .hbm, ⟨93, _⟩ => ⟨S32x1024, .f32⟩
  | .hbm, ⟨94, _⟩ => ⟨S1x32x1x8x128, .f32⟩
  | .hbm, ⟨95, _⟩ => ⟨S1x32x1x8x128, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩

abbrev nD : Nat := 1
abbrev τ : Topo := Topo.v7x

variable {F : FTy → Type} [FloatOps F]
-- ==== MixPrompt.lean ====
abbrev S2x4096x2048 : Shape := ⟨3, ![2, 4096, 2048]⟩
abbrev S1x2048 : Shape := ⟨2, ![1, 2048]⟩
abbrev S1x2048x4096 : Shape := ⟨3, ![1, 2048, 4096]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x2048 : Shape := ⟨2, ![8192, 2048]⟩
abbrev S2048 : Shape := ⟨1, ![2048]⟩
abbrev S2048x4096 : Shape := ⟨2, ![2048, 4096]⟩
abbrev S8192x3072 : Shape := ⟨2, ![8192, 3072]⟩
abbrev S1024x8192 : Shape := ⟨2, ![1024, 8192]⟩
abbrev S32768x128 : Shape := ⟨2, ![32768, 128]⟩
abbrev S512x2048 : Shape := ⟨2, ![512, 2048]⟩
abbrev S512x128 : Shape := ⟨2, ![512, 128]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S2048x1024 : Shape := ⟨2, ![2048, 1024]⟩
abbrev S1x2x2048x8x128 : Shape := ⟨5, ![1, 2, 2048, 8, 128]⟩

abbrev nBuf : Space → Nat
  | .hbm => 33
  | .vmem => 17
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x4096, .f32⟩
  | .hbm, ⟨3, _⟩ => ⟨S4096, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S4096x1, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x128, .f32⟩
  | .hbm, ⟨20, _⟩ => ⟨S4096x64, .f32⟩
  | .hbm, ⟨21, _⟩ => ⟨S4096x128, .f32⟩
  | .hbm, ⟨22, _⟩ => ⟨S8192x2048, .f32⟩
  | .hbm, ⟨23, _⟩ => ⟨S2048, .f32⟩
  | .hbm, ⟨24, _⟩ => ⟨S1x2048, .f32⟩
  | .hbm, ⟨25, _⟩ => ⟨S2048x4096, .f32⟩
  | .hbm, ⟨26, _⟩ => ⟨S2048x4096, .bf16⟩
  | .hbm, ⟨27, _⟩ => ⟨S8192x3072, .f32⟩
  | .hbm, ⟨28, _⟩ => ⟨S1024x8192, .f32⟩
  | .hbm, ⟨29, _⟩ => ⟨S32768x128, .f32⟩
  | .hbm, ⟨30, _⟩ => ⟨S32768x128, .f32⟩
  | .hbm, ⟨31, _⟩ => ⟨S1x2x2048x8x128, .f32⟩
  | .hbm, ⟨32, _⟩ => ⟨S1x2x2048x8x128, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x2048, .f32⟩
  | .local _ .vmem, ⟨7, _⟩ => ⟨S2048x4096, .bf16⟩
  | .local _ .vmem, ⟨8, _⟩ => ⟨S512x1024, .f32⟩
  | .local _ .vmem, ⟨9, _⟩ => ⟨S512x1024, .f32⟩
  | .local _ .vmem, ⟨10, _⟩ => ⟨S1024x512, .f32⟩
  | .local _ .vmem, ⟨11, _⟩ => ⟨S1024x512, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev main_v22_3 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond6 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond5 (i : grid0.Coords) : BitVec 1 :=
  let arg0 : BitVec 32 := BitVec.ofNat 32 (i 0).val
  let c8_i32 : BitVec 32 := 8#32
  let v99 : BitVec 32 := Scalar.remsi arg0 c8_i32
  let c4_i32 : BitVec 32 := 4#32
  let v100 : BitVec 1 := Scalar.cmpi .sge v99 c4_i32
  let v101 : BitVec 32 := Scalar.extui v100
  let c0_i32_56 : BitVec 32 := 0#32
  let v102 : BitVec 1 := Scalar.cmpi .ne v101 c0_i32_56
  v102

def k0_cond7 (i : grid0.Coords) : BitVec 1 :=
  let arg0 : BitVec 32 := BitVec.ofNat 32 (i 0).val
  let c8_i32 : BitVec 32 := 8#32
  let v35 : BitVec 32 := Scalar.remsi arg0 c8_i32
  let c4_i32 : BitVec 32 := 4#32
  let v36 : BitVec 1 := Scalar.cmpi .sge v35 c4_i32
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let c8_i32_4 : BitVec 32 := 8#32
  let v18 : BitVec 32 := Scalar.remsi arg0 c8_i32_4
  let c4_i32_5 : BitVec 32 := 4#32
  let v19 : BitVec 32 := Scalar.subi v18 c4_i32_5
  let c0_i32_6 : BitVec 32 := 0#32
  let v20 : BitVec 32 := Scalar.maxsi v19 c0_i32_6
  let v21 : BitVec 32 := Scalar.addi v17 v20
  let c0_i32_7 : BitVec 32 := 0#32
  let c0_i32_8 : BitVec 32 := 0#32
  ![v21.toNat, c0_i32_7.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let c8_i32_4 : BitVec 32 := 8#32
  let v18 : BitVec 32 := Scalar.remsi arg0 c8_i32_4
  let c4_i32_5 : BitVec 32 := 4#32
  let v19 : BitVec 32 := Scalar.subi v18 c4_i32_5
  let c0_i32_6 : BitVec 32 := 0#32
  let v20 : BitVec 32 := Scalar.maxsi v19 c0_i32_6
  let v21 : BitVec 32 := Scalar.addi v17 v20
  let c0_i32_7 : BitVec 32 := 0#32
  let c0_i32_8 : BitVec 32 := 0#32
  ![v21.toNat, c0_i32_7.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MixPromptRefIdeal.lean ====
abbrev S2x4096x2048 : Shape := ⟨3, ![2, 4096, 2048]⟩
abbrev S1x2048 : Shape := ⟨2, ![1, 2048]⟩
abbrev S1x2048x4096 : Shape := ⟨3, ![1, 2048, 4096]⟩
abbrev S4096 : Shape := ⟨1, ![4096]⟩
abbrev S2048 : Shape := ⟨1, ![2048]⟩
abbrev S2048x4096 : Shape := ⟨2, ![2048, 4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x4096 : Shape := ⟨3, ![2, 4096, 4096]⟩
abbrev S2x4096x1024 : Shape := ⟨3, ![2, 4096, 1024]⟩
abbrev S2x4096x64x16 : Shape := ⟨4, ![2, 4096, 64, 16]⟩
abbrev S2x4096x8x128 : Shape := ⟨4, ![2, 4096, 8, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S8192x1024 : Shape := ⟨2, ![8192, 1024]⟩
abbrev S8192x3072 : Shape := ⟨2, ![8192, 3072]⟩
abbrev S1024x8192 : Shape := ⟨2, ![1024, 8192]⟩
abbrev S2x2048x8x128 : Shape := ⟨4, ![2, 2048, 8, 128]⟩
abbrev S1x2x2048x8x128 : Shape := ⟨5, ![1, 2, 2048, 8, 128]⟩

abbrev nBuf : Space → Nat
  | .hbm => 101
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x4096, .f32⟩
  | .hbm, ⟨3, _⟩ => ⟨S4096, .f32⟩
  | .hbm, ⟨4, _⟩ => ⟨S2048, .f32⟩
  | .hbm, ⟨5, _⟩ => ⟨S2048x4096, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x4096, .f32⟩
  | .hbm, ⟨23, _⟩ => ⟨S2x4096x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S2x4096x64x16, .f32⟩
  | .hbm, ⟨28, _⟩ => ⟨S2x4096x8x128, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S4096x1, .f32⟩
  | .hbm, ⟨38, _⟩ => ⟨S1x64, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S1x4096x1x64, .f32⟩
  | .hbm, ⟨44, _⟩ => ⟨S4096x64, .f32⟩
  | .hbm, ⟨45, _⟩ => ⟨S1x4096x1x64, .f32⟩
  | .hbm, ⟨46, _⟩ => ⟨S2x4096x8x64, .f32⟩
  | .hbm, ⟨47, _⟩ => ⟨S2x4096x8x64, .f32⟩
  | .hbm, ⟨48, _⟩ => ⟨S2x4096x8x64, .f32⟩
  | .hbm, ⟨49, _⟩ => ⟨S2x4096x8x64, .f32⟩
  | .hbm, ⟨50, _⟩ => ⟨S2x4096x8x64, .f32⟩
  | .hbm, ⟨51, _⟩ => ⟨S2x4096x8x64, .f32⟩
  | .hbm, ⟨52, _⟩ => ⟨S2x4096x8x64, .f32⟩
  | .hbm, ⟨53, _⟩ => ⟨S2x4096x8x64, .f32⟩
  | .hbm, ⟨54, _⟩ => ⟨S2x4096x8x64, .f32⟩
  | .hbm, ⟨55, _⟩ => ⟨S2x4096x8x64, .f32⟩
  | .hbm, ⟨56, _⟩ => ⟨S2x4096x8x64, .f32⟩
  | .hbm, ⟨57, _⟩ => ⟨S2x4096x8x64, .f32⟩
  | .hbm, ⟨58, _⟩ => ⟨S2x4096x8x128, .f32⟩
  | .hbm, ⟨59, _⟩ => ⟨S2x4096x8x128, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S4096x1, .f32⟩
  | .hbm, ⟨69, _⟩ => ⟨S1x64, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S1x4096x1x64, .f32⟩
  | .hbm, ⟨75, _⟩ => ⟨S4096x64, .f32⟩
  | .hbm, ⟨76, _⟩ => ⟨S1x4096x1x64, .f32⟩
  | .hbm, ⟨77, _⟩ => ⟨S2x4096x8x64, .f32⟩
  | .hbm, ⟨78, _⟩ => ⟨S2x4096x8x64, .f32⟩
  | .hbm, ⟨79, _⟩ => ⟨S2x4096x8x64, .f32⟩
  | .hbm, ⟨80, _⟩ => ⟨S2x4096x8x64, .f32⟩
  | .hbm, ⟨81, _⟩ => ⟨S2x4096x8x64, .f32⟩
  | .hbm, ⟨82, _⟩ => ⟨S2x4096x8x64, .f32⟩
  | .hbm, ⟨83, _⟩ => ⟨S2x4096x8x64, .f32⟩
  | .hbm, ⟨84, _⟩ => ⟨S2x4096x8x64, .f32⟩
  | .hbm, ⟨85, _⟩ => ⟨S2x4096x8x64, .f32⟩
  | .hbm, ⟨86, _⟩ => ⟨S2x4096x8x64, .f32⟩
  | .hbm, ⟨87, _⟩ => ⟨S2x4096x8x64, .f32⟩
  | .hbm, ⟨88, _⟩ => ⟨S2x4096x8x64, .f32⟩
  | .hbm, ⟨89, _⟩ => ⟨S2x4096x8x128, .f32⟩
  | .hbm, ⟨90, _⟩ => ⟨S2x4096x8x128, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x3072, .f32⟩
  | .hbm, ⟨95, _⟩ => ⟨S8192x1024, .f32⟩
  | .hbm, ⟨96, _⟩ => ⟨S1024x8192, .f32⟩
  | .hbm, ⟨97, _⟩ => ⟨S2x2048x8x128, .f32⟩
  | .hbm, ⟨98, _⟩ => ⟨S1x2x2048x8x128, .f32⟩
  | .hbm, ⟨99, _⟩ => ⟨S2x2048x8x128, .f32⟩
  | .hbm, ⟨100, _⟩ => ⟨S1x2x2048x8x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩

abbrev nD : Nat := 1
abbrev τ : Topo := Topo.v7x

variable {F : FTy → Type} [FloatOps F]
-- ==== MixOut.lean ====
abbrev S8192x1024 : Shape := ⟨2, ![8192, 1024]⟩
abbrev S2x4096x2048 : Shape := ⟨3, ![2, 4096, 2048]⟩
abbrev S1x1024 : Shape := ⟨2, ![1, 1024]⟩
abbrev S1x2048 : Shape := ⟨2, ![1, 2048]⟩
abbrev S1x1024x1024 : Shape := ⟨3, ![1, 1024, 1024]⟩
abbrev S1x2048x2048 : Shape := ⟨3, ![1, 2048, 2048]⟩
abbrev S1x2048x4 : Shape := ⟨3, ![1, 2048, 4]⟩
abbrev S1x4 : Shape := ⟨2, ![1, 4]⟩
abbrev S1x2048x4x8 : Shape := ⟨4, ![1, 2048, 4, 8]⟩
abbrev S1x4x8 : Shape := ⟨3, ![1, 4, 8]⟩
abbrev S2048x4 : Shape := ⟨2, ![2048, 4]⟩
abbrev S2048x4x8 : Shape := ⟨3, ![2048, 4, 8]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S4 : Shape := ⟨1, ![4]⟩
abbrev S4x8 : Shape := ⟨2, ![4, 8]⟩
abbrev S32 : Shape := ⟨1, ![32]⟩
abbrev S36 : Shape := ⟨1, ![36]⟩
abbrev S128 : Shape := ⟨1, ![128]⟩
abbrev S1x128 : Shape := ⟨2, ![1, 128]⟩
abbrev S1024 : Shape := ⟨1, ![1024]⟩
abbrev S2048 : Shape := ⟨1, ![2048]⟩
abbrev S8192x2048 : Shape := ⟨2, ![8192, 2048]⟩
abbrev S1024x1024 : Shape := ⟨2, ![1024, 1024]⟩
abbrev S2048x2048 : Shape := ⟨2, ![2048, 2048]⟩
abbrev S8224x2048 : Shape := ⟨2, ![8224, 2048]⟩
abbrev S8192x128 : Shape := ⟨2, ![8192, 128]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1024x2048 : Shape := ⟨2, ![1024, 2048]⟩

abbrev nBuf : Space → Nat
  | .hbm => 42
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x4096x2048, .f32⟩
  | .hbm, ⟨3, _⟩ => ⟨S1x1024, .f32⟩
  | .hbm, ⟨4, _⟩ => ⟨S1x1024, .f32⟩
  | .hbm, ⟨5, _⟩ => ⟨S1x2048, .f32⟩
  | .hbm, ⟨6, _⟩ => ⟨S1x1024x1024, .f32⟩
  | .hbm, ⟨7, _⟩ => ⟨S1x2048x2048, .f32⟩
  | .hbm, ⟨8, _⟩ => ⟨S1x2048x4, .f32⟩
  | .hbm, ⟨9, _⟩ => ⟨S1x4, .f32⟩
  | .hbm, ⟨10, _⟩ => ⟨S1x2048x4x8, .f32⟩
  | .hbm, ⟨11, _⟩ => ⟨S1x4x8, .f32⟩
  | .hbm, ⟨12, _⟩ => ⟨S2048x4, .f32⟩
  | .hbm, ⟨13, _⟩ => ⟨S2048x4x8, .f32⟩
  | .hbm, ⟨14, _⟩ => ⟨S2048x32, .f32⟩
  | .hbm, ⟨15, _⟩ => ⟨S2048x36, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S4, .f32⟩
  | .hbm, ⟨20, _⟩ => ⟨S4x8, .f32⟩
  | .hbm, ⟨21, _⟩ => ⟨S32, .f32⟩
  | .hbm, ⟨22, _⟩ => ⟨S36, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S1024x1024, .f32⟩
  | .hbm, ⟨35, _⟩ => ⟨S1024x1024, .bf16⟩
  | .hbm, ⟨36, _⟩ => ⟨S2048x2048, .f32⟩
  | .hbm, ⟨37, _⟩ => ⟨S2048x2048, .bf16⟩
  | .hbm, ⟨38, _⟩ => ⟨S2048x128, .bf16⟩
  | .hbm, ⟨39, _⟩ => ⟨S8192x2048, .f32⟩
  | .hbm, ⟨40, _⟩ => ⟨S8224x2048, .f32⟩
  | .hbm, ⟨41, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1x1024, .f32⟩
  | .local _ .vmem, ⟨7, _⟩ => ⟨S1x1024, .f32⟩
  | .local _ .vmem, ⟨8, _⟩ => ⟨S1x2048, .f32⟩
  | .local _ .vmem, ⟨9, _⟩ => ⟨S1024x1024, .bf16⟩
  | .local _ .vmem, ⟨10, _⟩ => ⟨S2048x2048, .bf16⟩
  | .local _ .vmem, ⟨11, _⟩ => ⟨S2048x128, .bf16⟩
  | .local _ .vmem, ⟨12, _⟩ => ⟨S1x128, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x128, .f32⟩
  | .local _ .vmem, ⟨18, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixOutRefIdeal.lean ====
abbrev S8192x1024 : Shape := ⟨2, ![8192, 1024]⟩
abbrev S2x4096x2048 : Shape := ⟨3, ![2, 4096, 2048]⟩
abbrev S1x1024 : Shape := ⟨2, ![1, 1024]⟩
abbrev S1x2048 : Shape := ⟨2, ![1, 2048]⟩
abbrev S1x1024x1024 : Shape := ⟨3, ![1, 1024, 1024]⟩
abbrev S1x2048x2048 : Shape := ⟨3, ![1, 2048, 2048]⟩
abbrev S1x2048x4 : Shape := ⟨3, ![1, 2048, 4]⟩
abbrev S1x4 : Shape := ⟨2, ![1, 4]⟩
abbrev S1x2048x4x8 : Shape := ⟨4, ![1, 2048, 4, 8]⟩
abbrev S1x4x8 : Shape := ⟨3, ![1, 4, 8]⟩
abbrev S2x4096x1024 : Shape := ⟨3, ![2, 4096, 1024]⟩
abbrev S_ : Shape := ⟨0, ![]⟩
abbrev S1024x1024 : Shape := ⟨2, ![1024, 1024]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩
abbrev S2048x2048 : Shape := ⟨2, ![2048, 2048]⟩
abbrev S2048 : Shape := ⟨1, ![2048]⟩
abbrev S1x1x2048 : Shape := ⟨3, ![1, 1, 2048]⟩
abbrev S8192x2048 : Shape := ⟨2, ![8192, 2048]⟩
abbrev S32x2048 : Shape := ⟨2, ![32, 2048]⟩
abbrev S8224x2048 : Shape := ⟨2, ![8224, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x4096x2048, .f32⟩
  | .hbm, ⟨3, _⟩ => ⟨S1x1024, .f32⟩
  | .hbm, ⟨4, _⟩ => ⟨S1x1024, .f32⟩
  | .hbm, ⟨5, _⟩ => ⟨S1x2048, .f32⟩
  | .hbm, ⟨6, _⟩ => ⟨S1x1024x1024, .f32⟩
  | .hbm, ⟨7, _⟩ => ⟨S1x2048x2048, .f32⟩
  | .hbm, ⟨8, _⟩ => ⟨S1x2048x4, .f32⟩
  | .hbm, ⟨9, _⟩ => ⟨S1x4, .f32⟩
  | .hbm, ⟨10, _⟩ => ⟨S1x2048x4x8, .f32⟩
  | .hbm, ⟨11, _⟩ => ⟨S1x4x8, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S_, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096x1024, .f32⟩
  | .hbm, ⟨25, _⟩ => ⟨S2x4096x1024, .f32⟩
  | .hbm, ⟨26, _⟩ => ⟨S_, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S1024x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S_, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S1024, .f32⟩
  | .hbm, ⟨42, _⟩ => ⟨S2x4096x1024, .f32⟩
  | .hbm, ⟨43, _⟩ => ⟨S_, .f32⟩
  | .hbm, ⟨44, _⟩ => ⟨S2x4096, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S2x4096x1, .f32⟩
  | .hbm, ⟨53, _⟩ => ⟨S2x4096x1024, .f32⟩
  | .hbm, ⟨54, _⟩ => ⟨S2x4096x1024, .f32⟩
  | .hbm, ⟨55, _⟩ => ⟨S1x1x1024, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S1024, .f32⟩
  | .hbm, ⟨60, _⟩ => ⟨S2x4096x1024, .f32⟩
  | .hbm, ⟨61, _⟩ => ⟨S_, .f32⟩
  | .hbm, ⟨62, _⟩ => ⟨S2x4096, .f32⟩
  | .hbm, ⟨63, _⟩ => ⟨S2x4096x1, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S_, .f32⟩
  | .hbm, ⟨68, _⟩ => ⟨S2x4096x1, .f32⟩
  | .hbm, ⟨69, _⟩ => ⟨S2x4096x1, .f32⟩
  | .hbm, ⟨70, _⟩ => ⟨S2x4096x1, .f32⟩
  | .hbm, ⟨71, _⟩ => ⟨S2x4096x1024, .f32⟩
  | .hbm, ⟨72, _⟩ => ⟨S2x4096x1024, .f32⟩
  | .hbm, ⟨73, _⟩ => ⟨S1x1x1024, .f32⟩
  | .hbm, ⟨74, _⟩ => ⟨S2x4096x1024, .f32⟩
  | .hbm, ⟨75, _⟩ => ⟨S2x4096x1024, .f32⟩
  | .hbm, ⟨76, _⟩ => ⟨S2x4096x2048, .f32⟩
  | .hbm, ⟨77, _⟩ => ⟨S2048x2048, .f32⟩
  | .hbm, ⟨78, _⟩ => ⟨S2x4096x2048, .f32⟩
  | .hbm, ⟨79, _⟩ => ⟨S2x4096x2048, .f32⟩
  | .hbm, ⟨80, _⟩ => ⟨S2048, .f32⟩
  | .hbm, ⟨81, _⟩ => ⟨S2x4096x2048, .f32⟩
  | .hbm, ⟨82, _⟩ => ⟨S_, .f32⟩
  | .hbm, ⟨83, _⟩ => ⟨S2x4096, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S_, .f32⟩
  | .hbm, ⟨89, _⟩ => ⟨S2x4096x1, .f32⟩
  | .hbm, ⟨90, _⟩ => ⟨S2x4096x1, .f32⟩
  | .hbm, ⟨91, _⟩ => ⟨S2x4096x1, .f32⟩
  | .hbm, ⟨92, _⟩ => ⟨S2x4096x2048, .f32⟩
  | .hbm, ⟨93, _⟩ => ⟨S2x4096x2048, .f32⟩
  | .hbm, ⟨94, _⟩ => ⟨S1x1x2048, .f32⟩
  | .hbm, ⟨95, _⟩ => ⟨S2x4096x2048, .f32⟩
  | .hbm, ⟨96, _⟩ => ⟨S2x4096x2048, .f32⟩
  | .hbm, ⟨97, _⟩ => ⟨S8192x2048, .f32⟩
  | .hbm, ⟨98, _⟩ => ⟨S8192x2048, .f32⟩
  | .hbm, ⟨99, _⟩ => ⟨S_, .f32⟩
  | .hbm, ⟨100, _⟩ => ⟨S32x2048, .f32⟩
  | .hbm, ⟨101, _⟩ => ⟨S8224x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Final.lean ====
abbrev S8192x2048 : Shape := ⟨2, ![8192, 2048]⟩
abbrev S8192x128 : Shape := ⟨2, ![8192, 128]⟩
abbrev S16896x2048 : Shape := ⟨2, ![16896, 2048]⟩
abbrev S2048 : Shape := ⟨1, ![2048]⟩
abbrev S1x2048 : Shape := ⟨2, ![1, 2048]⟩
abbrev S256x2048 : Shape := ⟨2, ![256, 2048]⟩
abbrev S256x128 : Shape := ⟨2, ![256, 128]⟩
abbrev S256x1 : Shape := ⟨2, ![256, 1]⟩
abbrev S256 : Shape := ⟨1, ![256]⟩
abbrev S2x4096x2048 : Shape := ⟨3, ![2, 4096, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S16896x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S2x4096x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FinalRefIdeal.lean ====
abbrev S8192x2048 : Shape := ⟨2, ![8192, 2048]⟩
abbrev S8192x128 : Shape := ⟨2, ![8192, 128]⟩
abbrev S16896x2048 : Shape := ⟨2, ![16896, 2048]⟩
abbrev S2048 : Shape := ⟨1, ![2048]⟩
abbrev S8192x2 : Shape := ⟨2, ![8192, 2]⟩
abbrev S8192x1x2048 : Shape := ⟨3, ![8192, 1, 2048]⟩
abbrev S8192x2x2048 : Shape := ⟨3, ![8192, 2, 2048]⟩
abbrev S8192x2x1 : Shape := ⟨3, ![8192, 2, 1]⟩
abbrev S_ : Shape := ⟨0, ![]⟩
abbrev S2x4096x2048 : Shape := ⟨3, ![2, 4096, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S16896x2048, .f32⟩
  | .hbm, ⟨3, _⟩ => ⟨S2048, .f32⟩
  | .hbm, ⟨4, _⟩ => ⟨S8192x2, .f32⟩
  | .hbm, ⟨5, _⟩ => ⟨S8192x2048, .f32⟩
  | .hbm, ⟨6, _⟩ => ⟨S8192x2048, .f32⟩
  | .hbm, ⟨7, _⟩ => ⟨S8192x1x2048, .f32⟩
  | .hbm, ⟨8, _⟩ => ⟨S8192x1x2048, .f32⟩
  | .hbm, ⟨9, _⟩ => ⟨S8192x2x2048, .f32⟩
  | .hbm, ⟨10, _⟩ => ⟨S8192x2x1, .f32⟩
  | .hbm, ⟨11, _⟩ => ⟨S8192x2x2048, .f32⟩
  | .hbm, ⟨12, _⟩ => ⟨S8192x2x2048, .f32⟩
  | .hbm, ⟨13, _⟩ => ⟨S_, .f32⟩
  | .hbm, ⟨14, _⟩ => ⟨S8192x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x2048, .f32⟩
  | .hbm, ⟨30, _⟩ => ⟨S2x4096x2048, .f32⟩
  | .hbm, ⟨31, _⟩ => ⟨S1x1x2048, .f32⟩
  | .hbm, ⟨32, _⟩ => ⟨S2x4096x2048, .f32⟩
  | .hbm, ⟨33, _⟩ => ⟨S2x4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== FinalSample.lean ====
abbrev S32x2048 : Shape := ⟨2, ![32, 2048]⟩
abbrev S32x128 : Shape := ⟨2, ![32, 128]⟩
abbrev S16896x2048 : Shape := ⟨2, ![16896, 2048]⟩
abbrev S2048 : Shape := ⟨1, ![2048]⟩
abbrev S1x2048 : Shape := ⟨2, ![1, 2048]⟩
abbrev S32x1 : Shape := ⟨2, ![32, 1]⟩
abbrev S32 : Shape := ⟨1, ![32]⟩
abbrev S32x1x2048 : Shape := ⟨3, ![32, 1, 2048]⟩

abbrev nBuf : Space → Nat
  | .hbm => 7
  | .vmem => 6
  | .smem => 0
  | _ => 0

abbrev bufTy : (tb : Table) → Fin (tcTables nBuf tb) → BufTy
  | .hbm, ⟨0, _⟩ => ⟨S32x2048, .f32⟩
  | .hbm, ⟨1, _⟩ => ⟨S32x128, .f32⟩
  | .hbm, ⟨2, _⟩ => ⟨S16896x2048, .f32⟩
  | .hbm, ⟨3, _⟩ => ⟨S2048, .f32⟩
  | .hbm, ⟨4, _⟩ => ⟨S1x2048, .f32⟩
  | .hbm, ⟨5, _⟩ => ⟨S32x2048, .f32⟩
  | .hbm, ⟨6, _⟩ => ⟨S32x1x2048, .f32⟩
  | .local _ .vmem, ⟨0, _⟩ => ⟨S32x2048, .f32⟩
  | .local _ .vmem, ⟨1, _⟩ => ⟨S32x128, .f32⟩
  | .local _ .vmem, ⟨2, _⟩ => ⟨S1x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c520_i32 : BitVec 32 := 520#32
  let v0 : BitVec 32 := Scalar.addi c520_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FinalSampleRefIdeal.lean ====
abbrev S32x2048 : Shape := ⟨2, ![32, 2048]⟩
abbrev S32x128 : Shape := ⟨2, ![32, 128]⟩
abbrev S16896x2048 : Shape := ⟨2, ![16896, 2048]⟩
abbrev S2048 : Shape := ⟨1, ![2048]⟩
abbrev S32x2 : Shape := ⟨2, ![32, 2]⟩
abbrev S32x1x2048 : Shape := ⟨3, ![32, 1, 2048]⟩
abbrev S32x2x2048 : Shape := ⟨3, ![32, 2, 2048]⟩
abbrev S32x2x1 : Shape := ⟨3, ![32, 2, 1]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x128, .f32⟩
  | .hbm, ⟨2, _⟩ => ⟨S16896x2048, .f32⟩
  | .hbm, ⟨3, _⟩ => ⟨S2048, .f32⟩
  | .hbm, ⟨4, _⟩ => ⟨S32x2, .f32⟩
  | .hbm, ⟨5, _⟩ => ⟨S32x2048, .f32⟩
  | .hbm, ⟨6, _⟩ => ⟨S32x2048, .f32⟩
  | .hbm, ⟨7, _⟩ => ⟨S32x1x2048, .f32⟩
  | .hbm, ⟨8, _⟩ => ⟨S32x1x2048, .f32⟩
  | .hbm, ⟨9, _⟩ => ⟨S32x2x2048, .f32⟩
  | .hbm, ⟨10, _⟩ => ⟨S32x2x1, .f32⟩
  | .hbm, ⟨11, _⟩ => ⟨S32x2x2048, .f32⟩
  | .hbm, ⟨12, _⟩ => ⟨S32x2x2048, .f32⟩
  | .hbm, ⟨13, _⟩ => ⟨S_, .f32⟩
  | .hbm, ⟨14, _⟩ => ⟨S32x2048, .f32⟩
  | .hbm, ⟨15, _⟩ => ⟨S32x1x2048, .f32⟩
  | .hbm, ⟨16, _⟩ => ⟨S32x1x2048, .f32⟩
  | .hbm, ⟨17, _⟩ => ⟨S32x1x2048, .f32⟩
  | .hbm, ⟨18, _⟩ => ⟨S32x1x2048, .f32⟩
  | .hbm, ⟨19, _⟩ => ⟨S_, .f32⟩
  | .hbm, ⟨20, _⟩ => ⟨S32x1, .f32⟩
  | .hbm, ⟨21, _⟩ => ⟨S32x1x1, .f32⟩
  | .hbm, ⟨22, _⟩ => ⟨S_, .f32⟩
  | .hbm, ⟨23, _⟩ => ⟨S32x1x1, .f32⟩
  | .hbm, ⟨24, _⟩ => ⟨S32x1x1, .f32⟩
  | .hbm, ⟨25, _⟩ => ⟨S_, .f32⟩
  | .hbm, ⟨26, _⟩ => ⟨S32x1x1, .f32⟩
  | .hbm, ⟨27, _⟩ => ⟨S32x1x1, .f32⟩
  | .hbm, ⟨28, _⟩ => ⟨S32x1x1, .f32⟩
  | .hbm, ⟨29, _⟩ => ⟨S32x1x2048, .f32⟩
  | .hbm, ⟨30, _⟩ => ⟨S32x1x2048, .f32⟩
  | .hbm, ⟨31, _⟩ => ⟨S1x1x2048, .f32⟩
  | .hbm, ⟨32, _⟩ => ⟨S32x1x2048, .f32⟩
  | .hbm, ⟨33, _⟩ => ⟨S32x1x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Ssm.lean ====
abbrev S1024x8192 : Shape := ⟨2, ![1024, 8192]⟩
abbrev S32x1024 : Shape := ⟨2, ![32, 1024]⟩
abbrev S1x32x64x64 : Shape := ⟨4, ![1, 32, 64, 64]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S64 : Shape := ⟨1, ![64]⟩
abbrev S64x1 : Shape := ⟨2, ![64, 1]⟩
abbrev S64x64 : Shape := ⟨2, ![64, 64]⟩
abbrev S64x64x1 : Shape := ⟨3, ![64, 64, 1]⟩
abbrev S64x64x128 : Shape := ⟨3, ![64, 64, 128]⟩
abbrev S64x1x64x128 : Shape := ⟨4, ![64, 1, 64, 128]⟩
abbrev S64x3x64x128 : Shape := ⟨4, ![64, 3, 64, 128]⟩
abbrev S64x1x64 : Shape := ⟨3, ![64, 1, 64]⟩
abbrev S64x3x64 : Shape := ⟨3, ![64, 3, 64]⟩
abbrev S64x3x1x64 : Shape := ⟨4, ![64, 3, 1, 64]⟩
abbrev S1024x64x128 : Shape := ⟨3, ![1024, 64, 128]⟩
abbrev S32x64x16 : Shape := ⟨3, ![32, 64, 16]⟩
abbrev S64x32x16 : Shape := ⟨3, ![64, 32, 16]⟩
abbrev S32x64x64 : Shape := ⟨3, ![32, 64, 64]⟩
abbrev S64x32x64 : Shape := ⟨3, ![64, 32, 64]⟩
abbrev S64x16 : Shape := ⟨2, ![64, 16]⟩
abbrev S64x16x1 : Shape := ⟨3, ![64, 16, 1]⟩
abbrev S64x16x128 : Shape := ⟨3, ![64, 16, 128]⟩
abbrev S64x64x16 : Shape := ⟨3, ![64, 64, 16]⟩
abbrev S64x16x64 : Shape := ⟨3, ![64, 16, 64]⟩
abbrev S64x1x16 : Shape := ⟨3, ![64, 1, 16]⟩
abbrev S64x2x128 : Shape := ⟨3, ![64, 2, 128]⟩
abbrev S1x3x64x128 : Shape := ⟨4, ![1, 3, 64, 128]⟩
abbrev S1x3x1x64 : Shape := ⟨4, ![1, 3, 1, 64]⟩
abbrev S1x16x64 : Shape := ⟨3, ![1, 16, 64]⟩
abbrev S1x16x128 : Shape := ⟨3, ![1, 16, 128]⟩
abbrev S1x1x16 : Shape := ⟨3, ![1, 1, 16]⟩
abbrev S16x64x128 : Shape := ⟨3, ![16, 64, 128]⟩
abbrev S1x32x16 : Shape := ⟨3, ![1, 32, 16]⟩
abbrev S1x32x64 : Shape := ⟨3, ![1, 32, 64]⟩
abbrev S1x2x128 : Shape := ⟨3, ![1, 2, 128]⟩
abbrev S1024x1024 : Shape := ⟨2, ![1024, 1024]⟩
abbrev S1x1x64x128 : Shape := ⟨4, ![1, 1, 64, 128]⟩
abbrev S64x128 : Shape := ⟨2, ![64, 128]⟩
abbrev S16x1024 : Shape := ⟨2, ![16, 1024]⟩
abbrev S64x1024 : Shape := ⟨2, ![64, 1024]⟩
abbrev S16x64 : Shape := ⟨2, ![16, 64]⟩
abbrev S1x1x1x64 : Shape := ⟨4, ![1, 1, 1, 64]⟩
abbrev S1x1024 : Shape := ⟨2, ![1, 1024]⟩
abbrev S1x64x128 : Shape := ⟨3, ![1, 64, 128]⟩
abbrev S128x1024 : Shape := ⟨2, ![128, 1024]⟩
abbrev S128x128 : Shape := ⟨2, ![128, 128]⟩
abbrev S1x128 : Shape := ⟨2, ![1, 128]⟩
abbrev S1x1x128 : Shape := ⟨3, ![1, 1, 128]⟩
abbrev S32x16 : Shape := ⟨2, ![32, 16]⟩
abbrev S32x64 : Shape := ⟨2, ![32, 64]⟩
abbrev S1x16 : Shape := ⟨2, ![1, 16]⟩

abbrev nBuf : Space → Nat
  | .hbm => 61
  | .vmem => 35
  | .smem => 0
  | _ => 0

abbrev bufTy : (tb : Table) → Fin (tcTables nBuf tb) → BufTy
  | .hbm, ⟨0, _⟩ => ⟨S1024x8192, .f32⟩
  | .hbm, ⟨1, _⟩ => ⟨S32x1024, .f32⟩
  | .hbm, ⟨2, _⟩ => ⟨S1x32x64x64, .f32⟩
  | .hbm, ⟨3, _⟩ => ⟨S1x32x64x64, .f32⟩
  | .hbm, ⟨4, _⟩ => ⟨S1x64x64, .f32⟩
  | .hbm, ⟨5, _⟩ => ⟨S1x64x64, .f32⟩
  | .hbm, ⟨6, _⟩ => ⟨S1x64, .f32⟩
  | .hbm, ⟨7, _⟩ => ⟨S1x64x64x16, .f32⟩
  | .hbm, ⟨8, _⟩ => ⟨S1x64x64x16, .f32⟩
  | .hbm, ⟨9, _⟩ => ⟨S1x64x16x64, .f32⟩
  | .hbm, ⟨10, _⟩ => ⟨S1x64x16x64, .f32⟩
  | .hbm, ⟨11, _⟩ => ⟨S1x64x16, .f32⟩
  | .hbm, ⟨12, _⟩ => ⟨S64, .f32⟩
  | .hbm, ⟨13, _⟩ => ⟨S64x1, .f32⟩
  | .hbm, ⟨14, _⟩ => ⟨S64x64, .f32⟩
  | .hbm, ⟨15, _⟩ => ⟨S64x64, .f32⟩
  | .hbm, ⟨16, _⟩ => ⟨S64x64x1, .f32⟩
  | .hbm, ⟨17, _⟩ => ⟨S64x64x128, .f32⟩
  | .hbm, ⟨18, _⟩ => ⟨S64x64, .f32⟩
  | .hbm, ⟨19, _⟩ => ⟨S64x64x1, .f32⟩
  | .hbm, ⟨20, _⟩ => ⟨S64x64x128, .f32⟩
  | .hbm, ⟨21, _⟩ => ⟨S64x64x1, .f32⟩
  | .hbm, ⟨22, _⟩ => ⟨S64x64x128, .f32⟩
  | .hbm, ⟨23, _⟩ => ⟨S64x1x64x128, .f32⟩
  | .hbm, ⟨24, _⟩ => ⟨S64x1x64x128, .f32⟩
  | .hbm, ⟨25, _⟩ => ⟨S64x1x64x128, .f32⟩
  | .hbm, ⟨26, _⟩ => ⟨S64x3x64x128, .f32⟩
  | .hbm, ⟨27, _⟩ => ⟨S64x64, .f32⟩
  | .hbm, ⟨28, _⟩ => ⟨S64x64, .f32⟩
  | .hbm, ⟨29, _⟩ => ⟨S64x1x64, .f32⟩
  | .hbm, ⟨30, _⟩ => ⟨S64x1x64, .f32⟩
  | .hbm, ⟨31, _⟩ => ⟨S64x1x64, .f32⟩
  | .hbm, ⟨32, _⟩ => ⟨S64x3x64, .f32⟩
  | .hbm, ⟨33, _⟩ => ⟨S64x3x1x64, .f32⟩
  | .hbm, ⟨34, _⟩ => ⟨S1024x64x128, .f32⟩
  | .hbm, ⟨35, _⟩ => ⟨S32x64x16, .f32⟩
  | .hbm, ⟨36, _⟩ => ⟨S64x32x16, .f32⟩
  | .hbm, ⟨37, _⟩ => ⟨S32x64x64, .f32⟩
  | .hbm, ⟨38, _⟩ => ⟨S64x32x64, .f32⟩
  | .hbm, ⟨39, _⟩ => ⟨S32x64x64, .f32⟩
  | .hbm, ⟨40, _⟩ => ⟨S64x32x64, .f32⟩
  | .hbm, ⟨41, _⟩ => ⟨S64x16, .f32⟩
  | .hbm, ⟨42, _⟩ => ⟨S64x16x1, .f32⟩
  | .hbm, ⟨43, _⟩ => ⟨S64x16x128, .f32⟩
  | .hbm, ⟨44, _⟩ => ⟨S64x64x16, .f32⟩
  | .hbm, ⟨45, _⟩ => ⟨S64x64x16, .f32⟩
  | .hbm, ⟨46, _⟩ => ⟨S64x16x64, .f32⟩
  | .hbm, ⟨47, _⟩ => ⟨S64x16x64, .f32⟩
  | .hbm, ⟨48, _⟩ => ⟨S64x16, .f32⟩
  | .hbm, ⟨49, _⟩ => ⟨S64x1x16, .f32⟩
  | .hbm, ⟨50, _⟩ => ⟨S1024x64x128, .f32⟩
  | .hbm, ⟨51, _⟩ => ⟨S64x2x128, .f32⟩
  | .hbm, ⟨52, _⟩ => ⟨S64x32x16, .f32⟩
  | .hbm, ⟨53, _⟩ => ⟨S64x32x64, .f32⟩
  | .hbm, ⟨54, _⟩ => ⟨S64x32x64, .f32⟩
  | .hbm, ⟨55, _⟩ => ⟨S32x64x16, .f32⟩
  | .hbm, ⟨56, _⟩ => ⟨S32x1024, .f32⟩
  | .hbm, ⟨57, _⟩ => ⟨S32x64x64, .f32⟩
  | .hbm, ⟨58, _⟩ => ⟨S1x32x64x64, .f32⟩
  | .hbm, ⟨59, _⟩ => ⟨S32x64x64, .f32⟩
  | .hbm, ⟨60, _⟩ => ⟨S1x32x64x64, .f32⟩
  | .local _ .vmem, ⟨0, _⟩ => ⟨S1x3x64x128, .f32⟩
  | .local _ .vmem, ⟨1, _⟩ => ⟨S1x3x64x128, .f32⟩
  | .local _ .vmem, ⟨2, _⟩ => ⟨S1x3x1x64, .f32⟩
  | .local _ .vmem, ⟨3, _⟩ => ⟨S1x3x1x64, .f32⟩
  | .local _ .vmem, ⟨4, _⟩ => ⟨S1x64x16, .f32⟩
  | .local _ .vmem, ⟨5, _⟩ => ⟨S1x64x16, .f32⟩
  | .local _ .vmem, ⟨6, _⟩ => ⟨S1x64x16, .f32⟩
  | .local _ .vmem, ⟨7, _⟩ => ⟨S1x64x16, .f32⟩
  | .local _ .vmem, ⟨8, _⟩ => ⟨S1x16x64, .f32⟩
  | .local _ .vmem, ⟨9, _⟩ => ⟨S1x16x64, .f32⟩
  | .local _ .vmem, ⟨10, _⟩ => ⟨S1x16x64, .f32⟩
  | .local _ .vmem, ⟨11, _⟩ => ⟨S1x16x64, .f32⟩
  | .local _ .vmem, ⟨12, _⟩ => ⟨S1x16x128, .f32⟩
  | .local _ .vmem, ⟨13, _⟩ => ⟨S1x16x128, .f32⟩
  | .local _ .vmem, ⟨14, _⟩ => ⟨S1x1x16, .f32⟩
  | .local _ .vmem, ⟨15, _⟩ => ⟨S1x1x16, .f32⟩
  | .local _ .vmem, ⟨16, _⟩ => ⟨S16x64x128, .f32⟩
  | .local _ .vmem, ⟨17, _⟩ => ⟨S16x64x128, .f32⟩
  | .local _ .vmem, ⟨18, _⟩ => ⟨S1x32x16, .f32⟩
  | .local _ .vmem, ⟨19, _⟩ => ⟨S1x32x16, .f32⟩
  | .local _ .vmem, ⟨20, _⟩ => ⟨S1x32x64, .f32⟩
  | .local _ .vmem, ⟨21, _⟩ => ⟨S1x32x64, .f32⟩
  | .local _ .vmem, ⟨22, _⟩ => ⟨S1x32x64, .f32⟩
  | .local _ .vmem, ⟨23, _⟩ => ⟨S1x32x64, .f32⟩
  | .local _ .vmem, ⟨24, _⟩ => ⟨S16x64x128, .f32⟩
  | .local _ .vmem, ⟨25, _⟩ => ⟨S16x64x128, .f32⟩
  | .local _ .vmem, ⟨26, _⟩ => ⟨S1x2x128, .f32⟩
  | .local _ .vmem, ⟨27, _⟩ => ⟨S1x2x128, .f32⟩
  | .local _ .vmem, ⟨28, _⟩ => ⟨S1x32x16, .f32⟩
  | .local _ .vmem, ⟨29, _⟩ => ⟨S1x32x16, .f32⟩
  | .local _ .vmem, ⟨30, _⟩ => ⟨S1x32x64, .f32⟩
  | .local _ .vmem, ⟨31, _⟩ => ⟨S1x32x64, .f32⟩
  | .local _ .vmem, ⟨32, _⟩ => ⟨S1x32x64, .f32⟩
  | .local _ .vmem, ⟨33, _⟩ => ⟨S1x32x64, .f32⟩
  | .local _ .vmem, ⟨34, _⟩ => ⟨S1024x1024, .bf16⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev main_v38_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== SsmRefIdeal.lean ====
abbrev S1024x8192 : Shape := ⟨2, ![1024, 8192]⟩
abbrev S32x1024 : Shape := ⟨2, ![32, 1024]⟩
abbrev S1x32x64x64 : Shape := ⟨4, ![1, 32, 64, 64]⟩
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S1x64x16 : Shape := ⟨3, ![1, 64, 16]⟩
abbrev S32x1x64x16 : Shape := ⟨4, ![32, 1, 64, 16]⟩
abbrev S64x64 : Shape := ⟨2, ![64, 64]⟩
abbrev S64x64x16 : Shape := ⟨3, ![64, 64, 16]⟩
abbrev S64x16x64 : Shape := ⟨3, ![64, 16, 64]⟩
abbrev S32x64x64 : Shape := ⟨3, ![32, 64, 64]⟩
abbrev S64 : Shape := ⟨1, ![64]⟩
abbrev S64x1 : Shape := ⟨2, ![64, 1]⟩
abbrev S_ : Shape := ⟨0, ![]⟩
abbrev S64x64x1 : Shape := ⟨3, ![64, 64, 1]⟩
abbrev S64x64x32x1 : Shape := ⟨4, ![64, 64, 32, 1]⟩
abbrev S32x1x64x64 : Shape := ⟨4, ![32, 1, 64, 64]⟩
abbrev S64x32x1x16 : Shape := ⟨4, ![64, 32, 1, 16]⟩
abbrev S64x16 : Shape := ⟨2, ![64, 16]⟩
abbrev S1x1x64x16 : Shape := ⟨4, ![1, 1, 64, 16]⟩

abbrev nBuf : Space → Nat
  | .hbm => 109
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S32x1024, .f32⟩
  | .hbm, ⟨2, _⟩ => ⟨S1x32x64x64, .f32⟩
  | .hbm, ⟨3, _⟩ => ⟨S1x32x64x64, .f32⟩
  | .hbm, ⟨4, _⟩ => ⟨S1x64x64, .f32⟩
  | .hbm, ⟨5, _⟩ => ⟨S1x64x64, .f32⟩
  | .hbm, ⟨6, _⟩ => ⟨S1x64, .f32⟩
  | .hbm, ⟨7, _⟩ => ⟨S1x64x64x16, .f32⟩
  | .hbm, ⟨8, _⟩ => ⟨S1x64x64x16, .f32⟩
  | .hbm, ⟨9, _⟩ => ⟨S1x64x16x64, .f32⟩
  | .hbm, ⟨10, _⟩ => ⟨S1x64x16x64, .f32⟩
  | .hbm, ⟨11, _⟩ => ⟨S1x64x16, .f32⟩
  | .hbm, ⟨12, _⟩ => ⟨S32x1x64x16, .f32⟩
  | .hbm, ⟨13, _⟩ => ⟨S64x64, .f32⟩
  | .hbm, ⟨14, _⟩ => ⟨S64x64, .f32⟩
  | .hbm, ⟨15, _⟩ => ⟨S64x64x16, .f32⟩
  | .hbm, ⟨16, _⟩ => ⟨S64x64x16, .f32⟩
  | .hbm, ⟨17, _⟩ => ⟨S64x16x64, .f32⟩
  | .hbm, ⟨18, _⟩ => ⟨S64x16x64, .f32⟩
  | .hbm, ⟨19, _⟩ => ⟨S32x64x64, .f32⟩
  | .hbm, ⟨20, _⟩ => ⟨S32x64x64, .f32⟩
  | .hbm, ⟨21, _⟩ => ⟨S64, .f32⟩
  | .hbm, ⟨22, _⟩ => ⟨S64, .f32⟩
  | .hbm, ⟨23, _⟩ => ⟨S64x1, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S_, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64x1, .f32⟩
  | .hbm, ⟨59, _⟩ => ⟨S64x64x16, .f32⟩
  | .hbm, ⟨60, _⟩ => ⟨S64x64x16, .f32⟩
  | .hbm, ⟨61, _⟩ => ⟨S64x64x1, .f32⟩
  | .hbm, ⟨62, _⟩ => ⟨S64x64x16, .f32⟩
  | .hbm, ⟨63, _⟩ => ⟨S64x64x16, .f32⟩
  | .hbm, ⟨64, _⟩ => ⟨S64x64x16, .f32⟩
  | .hbm, ⟨65, _⟩ => ⟨S64x64x1, .f32⟩
  | .hbm, ⟨66, _⟩ => ⟨S64x64x16, .f32⟩
  | .hbm, ⟨67, _⟩ => ⟨S64x64x16, .f32⟩
  | .hbm, ⟨68, _⟩ => ⟨S64x64x1, .f32⟩
  | .hbm, ⟨69, _⟩ => ⟨S64x64x16, .f32⟩
  | .hbm, ⟨70, _⟩ => ⟨S64x64x16, .f32⟩
  | .hbm, ⟨71, _⟩ => ⟨S64x64x16, .f32⟩
  | .hbm, ⟨72, _⟩ => ⟨S64x64x32x1, .f32⟩
  | .hbm, ⟨73, _⟩ => ⟨S32x1x64x64, .f32⟩
  | .hbm, ⟨74, _⟩ => ⟨S64x64x32x1, .f32⟩
  | .hbm, ⟨75, _⟩ => ⟨S32x1x64x64, .f32⟩
  | .hbm, ⟨76, _⟩ => ⟨S1x64x64, .f32⟩
  | .hbm, ⟨77, _⟩ => ⟨S32x64x64, .f32⟩
  | .hbm, ⟨78, _⟩ => ⟨S32x64x64, .f32⟩
  | .hbm, ⟨79, _⟩ => ⟨S1x64x64, .f32⟩
  | .hbm, ⟨80, _⟩ => ⟨S32x64x64, .f32⟩
  | .hbm, ⟨81, _⟩ => ⟨S32x64x64, .f32⟩
  | .hbm, ⟨82, _⟩ => ⟨S32x64x64, .f32⟩
  | .hbm, ⟨83, _⟩ => ⟨S32x1x64x64, .f32⟩
  | .hbm, ⟨84, _⟩ => ⟨S32x1x64x64, .f32⟩
  | .hbm, ⟨85, _⟩ => ⟨S1x64x64, .f32⟩
  | .hbm, ⟨86, _⟩ => ⟨S32x64x64, .f32⟩
  | .hbm, ⟨87, _⟩ => ⟨S32x64x64, .f32⟩
  | .hbm, ⟨88, _⟩ => ⟨S1x64x64, .f32⟩
  | .hbm, ⟨89, _⟩ => ⟨S32x64x64, .f32⟩
  | .hbm, ⟨90, _⟩ => ⟨S32x64x64, .f32⟩
  | .hbm, ⟨91, _⟩ => ⟨S32x64x64, .f32⟩
  | .hbm, ⟨92, _⟩ => ⟨S32x1x64x64, .f32⟩
  | .hbm, ⟨93, _⟩ => ⟨S32x1x64x64, .f32⟩
  | .hbm, ⟨94, _⟩ => ⟨S64x32x1x16, .f32⟩
  | .hbm, ⟨95, _⟩ => ⟨S32x1x64x16, .f32⟩
  | .hbm, ⟨96, _⟩ => ⟨S64x32x1x16, .f32⟩
  | .hbm, ⟨97, _⟩ => ⟨S32x1x64x16, .f32⟩
  | .hbm, ⟨98, _⟩ => ⟨S32x1x64x16, .f32⟩
  | .hbm, ⟨99, _⟩ => ⟨S64x16, .f32⟩
  | .hbm, ⟨100, _⟩ => ⟨S1x1x64x16, .f32⟩
  | .hbm, ⟨101, _⟩ => ⟨S32x1x64x16, .f32⟩
  | .hbm, ⟨102, _⟩ => ⟨S32x1x64x16, .f32⟩
  | .hbm, ⟨103, _⟩ => ⟨S32x1x64x16, .f32⟩
  | .hbm, ⟨104, _⟩ => ⟨S32x1024, .f32⟩
  | .hbm, ⟨105, _⟩ => ⟨S32x64x64, .f32⟩
  | .hbm, ⟨106, _⟩ => ⟨S1x32x64x64, .f32⟩
  | .hbm, ⟨107, _⟩ => ⟨S32x64x64, .f32⟩
  | .hbm, ⟨108, _⟩ => ⟨S1x32x64x64, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩

abbrev nD : Nat := 1
abbrev τ : Topo := Topo.v7x

variable {F : FTy → Type} [FloatOps F]
-- ==== Proof.AttnSample.Math.lean ====
/- The softmax algebra of the decode attention on extended reals: the kernel's branch (the cached keys folded first, the new key added, one
   division at the end) against the reference's branch (all keys together, each weight divided by the sum), and the merge of the branches. -/
module

public import Idealize.ShloMosaic.PureOps.Ideal
public import Idealize.ShloMosaic.PureOps.Ideal.Laws

@[expose] public section

noncomputable section

namespace Cert.AttnMath

open Idealize.ShloMosaic

/-! ## The two forms of a branch and of the merge -/

/-- The greatest of the cached scores `s` and the new score `sn`. -/
def kM (s : Fin 128 → EReal) (sn : EReal) : EReal := max ((Finset.univ : Finset (Fin 128)).fold max ⊥ s) sn
/-- The sum of the weights. -/
def kL (s : Fin 128 → EReal) (sn : EReal) : EReal := (∑ r, Ideal.exp (s r - kM s sn)) + Ideal.exp (sn - kM s sn)
/-- The branch's output from the cached values `v` and the new value `vn`. -/
def kO (s : Fin 128 → EReal) (sn : EReal) (v : Fin 128 → EReal) (vn : EReal) : EReal :=
  Ideal.div ((∑ r, Ideal.exp (s r - kM s sn) * v r) + Ideal.exp (sn - kM s sn) * vn) (kL s sn)
/-- The logarithm of the branch's denominator. -/
def kLse (s : Fin 128 → EReal) (sn : EReal) : EReal := kM s sn + Ideal.log (kL s sn)
/-- The kernel's merge of three branches. -/
def kMerge (l1 l2 l3 o1 o2 o3 : EReal) : EReal :=
  Ideal.div (Ideal.exp (l1 - max (max l1 l2) l3) * o1 + Ideal.exp (l2 - max (max l1 l2) l3) * o2 + Ideal.exp (l3 - max (max l1 l2) l3) * o3)
    (Ideal.exp (l1 - max (max l1 l2) l3) + Ideal.exp (l2 - max (max l1 l2) l3) + Ideal.exp (l3 - max (max l1 l2) l3))

/-- The reference's greatest score over all 129 keys. -/
def rM (s : Fin 129 → EReal) : EReal := (Finset.univ : Finset (Fin 129)).fold max ⊥ s
/-- The reference's sum of weights. -/
def rL (s : Fin 129 → EReal) : EReal := ∑ j, Ideal.exp (s j - rM s)
/-- The reference's output: the normalised weights against the values. -/
def rO (s v : Fin 129 → EReal) : EReal := ∑ j, Ideal.div (Ideal.exp (s j - rM s)) (rL s) * v j
/-- The reference's log-sum. -/
def rLse (s : Fin 129 → EReal) : EReal := rM s + Ideal.log (rL s)
/-- The reference's merge: a softmax over the three branches. -/
def rMerge (l o : Fin 3 → EReal) : EReal :=
  ∑ i, Ideal.div (Ideal.exp (l i - (Finset.univ : Finset (Fin 3)).fold max ⊥ l))
    (∑ i', Ideal.exp (l i' - (Finset.univ : Finset (Fin 3)).fold max ⊥ l)) * o i

/-! ## Lists of the 129 keys: the new key first, then the cached ones from the last back -/

/-- Key `j` of the reference: the new one at 0, cached row `128 - j` after it. -/
def join (s : Fin 128 → EReal) (sn : EReal) : Fin 129 → EReal := Fin.cons sn fun j : Fin 128 => s j.rev

/-- A sum over all keys is the sum over the cached ones and the term of the new one. -/
theorem sum_join (s : Fin 128 → EReal) (sn : EReal) (f : EReal → EReal) :
    ∑ j, f (join s sn j) = (∑ r, f (s r)) + f sn := by
  rw [Fin.sum_univ_succ, add_comm]
  congr 1
  simp only [join, Fin.cons_succ]
  exact Fintype.sum_equiv Fin.revPerm _ _ fun _ => rfl

/-- The same for sums of two families at once. -/
theorem sum_join2 (s v : Fin 128 → EReal) (sn vn : EReal) (f : EReal → EReal → EReal) :
    ∑ j, f (join s sn j) (join v vn j) = (∑ r, f (s r) (v r)) + f sn vn := by
  rw [Fin.sum_univ_succ, add_comm]
  congr 1
  simp only [join, Fin.cons_succ]
  exact Fintype.sum_equiv Fin.revPerm _ _ fun _ => rfl

/-- Folding with the maximum from the bottom is the supremum. -/
theorem fold_max_eq_sup {n : Nat} (s : Fin n → EReal) : (Finset.univ : Finset (Fin n)).fold max ⊥ s = Finset.univ.sup s := rfl

/-- The two forms of the largest score agree. -/
theorem rM_join (s : Fin 128 → EReal) (sn : EReal) : rM (join s sn) = kM s sn := by
  unfold rM kM
  rw [fold_max_eq_sup, fold_max_eq_sup]
  apply le_antisymm
  · refine Finset.sup_le fun j _ => ?_
    refine Fin.cases ?_ (fun j => ?_) j
    · exact le_max_right _ _
    · exact (Finset.le_sup (f := s) (Finset.mem_univ j.rev)).trans (le_max_left _ _)
  · refine max_le (Finset.sup_le fun r _ => ?_) ?_
    · have : s r = join s sn r.rev.succ := by simp [join]
      rw [this]; exact Finset.le_sup (f := join s sn) (Finset.mem_univ _)
    · exact Finset.le_sup (f := join s sn) (Finset.mem_univ (0 : Fin 129))

/-- The two forms of the sum of weights agree. -/
theorem rL_join (s : Fin 128 → EReal) (sn : EReal) : rL (join s sn) = kL s sn := by
  unfold rL kL; rw [rM_join]; exact sum_join s sn fun x => Ideal.exp (x - kM s sn)

/-- The two forms of the logarithm of the sum agree. -/
theorem rLse_join (s : Fin 128 → EReal) (sn : EReal) : rLse (join s sn) = kLse s sn := by
  unfold rLse kLse; rw [rM_join, rL_join]

/-! ## Multiplying through by a positive real -/

/-- A finite sum times a real number that is not negative is the sum of the products, whatever the terms. -/
theorem sum_mul_real {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a u ha ih =>
    rw [Finset.sum_insert ha, Finset.sum_insert ha, ← ih]
    exact EReal.right_distrib_of_nonneg_of_ne_top (by exact_mod_cast hc) (EReal.coe_ne_top c) _ _

/-! ## Real scores -/

/-- A maximum of real scores, over a list that is not empty, is real. -/
theorem kM_real (s : Fin 128 → ℝ) (sn : ℝ) : ∃ M : ℝ, kM (fun r => (s r : EReal)) sn = M := by
  unfold kM
  rw [fold_max_eq_sup]
  have h : ∀ t : Finset (Fin 128), ∃ M : ℝ, max (t.sup fun r => (s r : EReal)) (sn : EReal) = M := by
    intro t
    induction t using Finset.induction_on with
    | empty => exact ⟨sn, by simp⟩
    | insert a u ha ih =>
      obtain ⟨M, hM⟩ := ih
      refine ⟨max (s a) M, ?_⟩
      rw [Finset.sup_insert]
      show max (max _ _) _ = _
      rw [max_assoc, hM]; exact (EReal.coe_strictMono.monotone.map_max).symm
  exact h _

/-- The sum of weights of finite scores is a positive real number. -/
theorem kL_real (s : Fin 128 → ℝ) (sn : ℝ) : ∃ L : ℝ, 0 < L ∧ kL (fun r => (s r : EReal)) sn = L := by
  obtain ⟨M, hM⟩ := kM_real s sn
  refine ⟨(∑ r, Real.exp (s r - M)) + Real.exp (sn - M), ?_, ?_⟩
  · have : 0 ≤ ∑ r, Real.exp (s r - M) := Finset.sum_nonneg fun r _ => (Real.exp_pos _).le
    have := Real.exp_pos (sn - M); linarith
  · unfold kL
    rw [hM]
    simp only [← EReal.coe_sub, Ideal.exp_coe]
    push_cast
    rfl

/-- Division by a positive real is multiplication by its inverse. -/
theorem div_real (x : EReal) {L : ℝ} (hL : 0 < L) : Ideal.div x (L : EReal) = x * ((1 / L : ℝ) : EReal) := Ideal.div_coe hL.ne' x

/-- THE BRANCH: on real scores the reference's output over the 129 keys is the kernel's; the values may be anything. -/
theorem rO_join (s : Fin 128 → ℝ) (sn : ℝ) (v : Fin 128 → EReal) (vn : EReal) :
    rO (join (fun r => (s r : EReal)) sn) (join v vn) = kO (fun r => (s r : EReal)) sn v vn := by
  obtain ⟨L, hL, eL⟩ := kL_real s sn
  have hc : (0 : ℝ) ≤ 1 / L := by positivity
  unfold rO kO
  rw [rM_join, rL_join, eL, div_real _ hL]
  simp only [div_real _ hL]
  rw [sum_join2 _ _ _ _ fun x y => Ideal.exp (x - kM (fun r => (s r : EReal)) sn) * ((1 / L : ℝ) : EReal) * y]
  rw [EReal.right_distrib_of_nonneg_of_ne_top (by exact_mod_cast hc) (EReal.coe_ne_top _), sum_mul_real _ _ hc]
  refine congrArg₂ (· + ·) (Finset.sum_congr rfl fun r _ => ?_) ?_ <;> exact mul_right_comm _ _ _

/-- The logarithm of the sum for finite scores is a real number. -/
theorem kLse_real (s : Fin 128 → ℝ) (sn : ℝ) : ∃ l : ℝ, kLse (fun r => (s r : EReal)) sn = l := by
  obtain ⟨M, hM⟩ := kM_real s sn
  obtain ⟨L, hL, eL⟩ := kL_real s sn
  refine ⟨M + Real.log L, ?_⟩
  unfold kLse
  rw [hM, eL, Ideal.log_coe, if_neg (not_le.2 hL), EReal.coe_add]

/-- THE MERGE: on real log-sums the softmax over the branches against their outputs is the kernel's weighted mean. -/
theorem rMerge_eq (l1 l2 l3 : ℝ) (o1 o2 o3 : EReal) :
    rMerge ![(l1 : EReal), l2, l3] ![o1, o2, o3] = kMerge l1 l2 l3 o1 o2 o3 := by
  have hm : (Finset.univ : Finset (Fin 3)).fold max ⊥ ![(l1 : EReal), l2, l3] = ((max (max l1 l2) l3 : ℝ) : EReal) := by
    rw [fold_max_eq_sup]
    rw [EReal.coe_strictMono.monotone.map_max, EReal.coe_strictMono.monotone.map_max]
    apply le_antisymm
    · refine Finset.sup_le fun j _ => ?_
      fin_cases j
      · exact (le_max_left _ _).trans (le_max_left _ _)
      · exact (le_max_right _ _).trans (le_max_left _ _)
      · exact le_max_right _ _
    · refine max_le (max_le ?_ ?_) ?_
      · exact Finset.le_sup (f := ![(l1 : EReal), l2, l3]) (Finset.mem_univ 0)
      · exact Finset.le_sup (f := ![(l1 : EReal), l2, l3]) (Finset.mem_univ 1)
      · exact Finset.le_sup (f := ![(l1 : EReal), l2, l3]) (Finset.mem_univ 2)
  have hk : max (max (l1 : EReal) l2) l3 = ((max (max l1 l2) l3 : ℝ) : EReal) := by
    rw [EReal.coe_strictMono.monotone.map_max, EReal.coe_strictMono.monotone.map_max]
  unfold rMerge kMerge
  rw [hm, hk]
  generalize max (max l1 l2) l3 = m
  simp only [Fin.sum_univ_three, Matrix.cons_val_zero, Matrix.cons_val_one, Matrix.cons_val_two, Matrix.head_cons, Matrix.tail_cons,
    ← EReal.coe_sub, Ideal.exp_coe, Matrix.cons_val]
  simp only [← EReal.coe_add]
  have hL : 0 < Real.exp (l1 - m) + Real.exp (l2 - m) + Real.exp (l3 - m) := by positivity
  generalize Real.exp (l1 - m) + Real.exp (l2 - m) + Real.exp (l3 - m) = L at hL
  have hc : (0 : ℝ) ≤ 1 / L := by positivity
  rw [div_real _ hL, div_real _ hL, div_real _ hL, div_real _ hL]
  have hc' : (0 : EReal) ≤ ((1 / L : ℝ) : EReal) := by exact_mod_cast hc
  rw [EReal.right_distrib_of_nonneg_of_ne_top hc' (EReal.coe_ne_top _), EReal.right_distrib_of_nonneg_of_ne_top hc' (EReal.coe_ne_top _)]
  rw [mul_right_comm _ o1, mul_right_comm _ o2, mul_right_comm _ o3]

end Cert.AttnMath

end
-- ==== Proof.AttnSample.Row.lean ====
/- One sequence of the decode attention as the kernel computes it: the vector expression that each of the four stores of a grid point
   writes, and its value at a head and a channel. -/
module

public import proofs.«01_k».proof.Proof.Gen.AttnSampleIdeal.Frame
public import proofs.«01_k».proof.Proof.AttnSample.Math
public import Idealize.ShloMosaic.Lib.Pointwise

@[expose] public section

set_option maxRecDepth 16384

noncomputable section

namespace Cert.AttnSampleIdeal.Row

open Cert.AttnSampleIdeal Cert.AttnSampleIdeal.Gen Idealize.ShloMosaic Cert.AttnMath

variable {F : FTy → Type} [FloatOps F]

/-- The scale `128 ^ (-1/2)` as the programs print it. -/
abbrev scale : EReal := Ideal.ofBits .f32 0x3DB504F3#32

/-- One sequence's result from its query, new key and new value rows and its three key blocks and three value blocks (dilations 1, 4 and
    16): each branch's attention output and log-sum, merged by the branches' weights. -/
def row (q kn vn : Vec F S1x8x128 .f32) (k1 k4 k16 v1 v4 v16 : Vec F S1x128x1x8x128 .f32) : FVec F S1x8x128 .f32 :=
  let l1 := k0_pay19 (k0_pay2 q) (k0_pay4 q kn) k1
  let l4 := k0_pay19 (k0_pay2 q) (k0_pay4 q kn) k4
  let l16 := k0_pay19 (k0_pay2 q) (k0_pay4 q kn) k16
  let o1 := k0_pay18 (k0_pay2 q) (k0_pay3 vn) (k0_pay4 q kn) k1 v1
  let o4 := k0_pay18 (k0_pay2 q) (k0_pay3 vn) (k0_pay4 q kn) k4 v4
  let o16 := k0_pay18 (k0_pay2 q) (k0_pay3 vn) (k0_pay4 q kn) k16 v16
  let mx := maximumf (maximumf l1 l4) l16
  let w1 := exp (subf l1 mx)
  let w4 := exp (subf l4 mx)
  let w16 := exp (subf l16 mx)
  shapeCast S1x8x128 (divf
    (addf (addf (mulf (broadcastTo S8x128 w1 broadcasts_S8x1_S8x128) o1) (mulf (broadcastTo S8x128 w4 broadcasts_S8x1_S8x128) o4))
      (mulf (broadcastTo S8x128 w16 broadcasts_S8x1_S8x128) o16))
    (broadcastTo S8x128 (addf (addf w1 w4) w16) broadcasts_S8x1_S8x128)) shapeCasts_S8x128_S1x8x128

/-- Sequence `b` of a block of four rows of heads. -/
abbrev seqRow (x : Vec F S4x8x128 .f32) (b : Fin 4) : Vec F S1x8x128 .f32 := fun i => x (ix3 b (i 1) (i 2))

/-- Sequence `b` of a block of four strips of 128 cached rows. -/
abbrev seqBlk (x : Vec F S4x128x1x8x128 .f32) (b : Fin 4) : Vec F S1x128x1x8x128 .f32 := fun i => x (ix5 b (i 1) (i 2) (i 3) (i 4))

/-- A load of row `o` of a block of four rows of heads. -/
theorem ld_row (x : Vec F S4x8x128 .f32) (o : Nat) (ho : o < 4) (inb) :
    View.ld (Val := Elt F) x (Rect.unit (s := S4x8x128) ![o, 0, 0] S1x8x128.size inb) = seqRow x ⟨o, ho⟩ := by
  funext i
  idx_vars i
  pointwise
  congr 2

/-- A load of strip `o` of a block of four strips. -/
theorem ld_blk (x : Vec F S4x128x1x8x128 .f32) (o : Nat) (ho : o < 4) (inb) :
    View.ld (Val := Elt F) x (Rect.unit (s := S4x128x1x8x128) ![o, 0, 0, 0, 0] S1x128x1x8x128.size inb) = seqBlk x ⟨o, ho⟩ := by
  funext i
  idx_vars i
  pointwise
  congr 2
  have := i0.isLt
  omega

/-- The four rows of a grid point's result. -/
def rows (x0 x1 x2 : Vec F S4x8x128 .f32) (x3 x4 x5 x6 x7 x8 : Vec F S4x128x1x8x128 .f32) : Vec F S4x8x128 .f32 := fun y =>
  row (seqRow x0 (y 0)) (seqRow x1 (y 0)) (seqRow x2 (y 0)) (seqBlk x3 (y 0)) (seqBlk x4 (y 0)) (seqBlk x5 (y 0)) (seqBlk x6 (y 0))
    (seqBlk x7 (y 0)) (seqBlk x8 (y 0)) (ix3 0 (y 1) (y 2))

/-- A piece of the result: what the kernel stores into row `o` is row `o` of `rows`. -/
theorem piece (x0 x1 x2 : Vec F S4x8x128 .f32) (x3 x4 x5 x6 x7 x8 : Vec F S4x128x1x8x128 .f32) (o : Nat) (ho : o < 4) (inb inb')
    (x : S1x8x128.Idx) :
    row (View.ld (Val := Elt F) x0 (Rect.unit (s := S4x8x128) ![o, 0, 0] S1x8x128.size inb))
      (View.ld (Val := Elt F) x1 (Rect.unit (s := S4x8x128) ![o, 0, 0] S1x8x128.size inb))
      (View.ld (Val := Elt F) x2 (Rect.unit (s := S4x8x128) ![o, 0, 0] S1x8x128.size inb))
      (View.ld (Val := Elt F) x3 (Rect.unit (s := S4x128x1x8x128) ![o, 0, 0, 0, 0] S1x128x1x8x128.size inb'))
      (View.ld (Val := Elt F) x4 (Rect.unit (s := S4x128x1x8x128) ![o, 0, 0, 0, 0] S1x128x1x8x128.size inb'))
      (View.ld (Val := Elt F) x5 (Rect.unit (s := S4x128x1x8x128) ![o, 0, 0, 0, 0] S1x128x1x8x128.size inb'))
      (View.ld (Val := Elt F) x6 (Rect.unit (s := S4x128x1x8x128) ![o, 0, 0, 0, 0] S1x128x1x8x128.size inb'))
      (View.ld (Val := Elt F) x7 (Rect.unit (s := S4x128x1x8x128) ![o, 0, 0, 0, 0] S1x128x1x8x128.size inb'))
      (View.ld (Val := Elt F) x8 (Rect.unit (s := S4x128x1x8x128) ![o, 0, 0, 0, 0] S1x128x1x8x128.size inb')) x
    = rows x0 x1 x2 x3 x4 x5 x6 x7 x8 ((Rect.unit (s := S4x8x128) ![o, 0, 0] S1x8x128.size inb).emb x) := by
  simp only [ld_row _ o ho, ld_blk _ o ho]
  idx_vars x
  have hy : (Rect.unit (s := S4x8x128) ![o, 0, 0] S1x8x128.size inb).emb (ix3 x0 x1 x2) = ix3 ⟨o, ho⟩ x1 x2 := by
    funext a
    apply Fin.ext
    rw [Rect.emb_apply]
    match a with
    | ⟨0, _⟩ => show o + 1 * x0.val = o; omega
    | ⟨1, _⟩ => show 0 + 1 * x1.val = x1.val; omega
    | ⟨2, _⟩ => show 0 + 1 * x2.val = x2.val; omega
  rw [hy]
  obtain rfl : x0 = 0 := Subsingleton.elim _ _
  rfl

/-- THE BODY'S RESULT is `rows` of its blocks. -/
theorem out_eq (x0 x1 x2 : Vec F S4x8x128 .f32) (x3 x4 x5 x6 x7 x8 : Vec F S4x128x1x8x128 .f32) :
    out0_9 x0 x1 x2 x3 x4 x5 x6 x7 x8 = rows x0 x1 x2 x3 x4 x5 x6 x7 x8 := by
  unfold_out out0_9
  funext y
  refine View.canon_apply_of_pieces (rows x0 x1 x2 x3 x4 x5 x6 x7 x8) _ ?_ y (cover0_9 _ _ _ _ y)
  intro p hp x
  simp only [List.mem_cons, List.not_mem_nil, or_false] at hp
  rcases hp with rfl | rfl | rfl | rfl
  · exact piece x0 x1 x2 x3 x4 x5 x6 x7 x8 3 (by decide) _ _ x
  · exact piece x0 x1 x2 x3 x4 x5 x6 x7 x8 2 (by decide) _ _ x
  · exact piece x0 x1 x2 x3 x4 x5 x6 x7 x8 1 (by decide) _ _ x
  · exact piece x0 x1 x2 x3 x4 x5 x6 x7 x8 0 (by decide) _ _ x

/-! ## The row read at a head and a channel, on extended reals -/

/-- The score of cached row `r` of a strip at head `h`. -/
def score (q : Vec Ideal S1x8x128 .f32) (k : Vec Ideal S1x128x1x8x128 .f32) (h : Fin 8) (r : Fin 128) : EReal :=
  (∑ x : Fin 128, k (ix5 0 r 0 h x) * q (ix3 0 h x)) * scale

/-- The score of the new key at head `h`. -/
def scoreNew (q kn : Vec Ideal S1x8x128 .f32) (h : Fin 8) : EReal := (∑ x : Fin 128, q (ix3 0 h x) * kn (ix3 0 h x)) * scale

/-- The score of the new key. -/
theorem pay4_apply (q kn : Vec Ideal S1x8x128 .f32) (h : Fin 8) : k0_pay4 (F := Ideal) q kn (ix2 h 0) = scoreNew q kn h := by
  unfold scoreNew
  pointwise [k0_pay4, k0_pay2]

/-- The scores of the cached keys of a branch. -/
theorem pay13_apply (q : Vec Ideal S1x8x128 .f32) (k : Vec Ideal S1x128x1x8x128 .f32) (h : Fin 8) (r : Fin 128) :
    k0_pay13 (F := Ideal) (k0_pay2 q) k (ix3 r h 0) = score q k h r := by
  unfold score
  pointwise [k0_pay13, k0_pay2]

/-- The pattern of minus infinity is the least extended real. -/
theorem negInf : Ideal.ofBits .f32 0xFF800000#32 = ⊥ := by simp [Ideal.ofBits, Ideal.ieee]

/-- The largest score of a branch. -/
theorem pay14_apply (q kn : Vec Ideal S1x8x128 .f32) (k : Vec Ideal S1x128x1x8x128 .f32) (h : Fin 8) :
    k0_pay14 (F := Ideal) (k0_pay2 q) (k0_pay4 q kn) k (ix2 h 0) = kM (score q k h) (scoreNew q kn h) := by
  unfold kM
  pointwise [k0_pay14]
  simp only [pay13_apply, pay4_apply, negInf]

/-- The weights of the cached keys. -/
theorem pay15_apply (q kn : Vec Ideal S1x8x128 .f32) (k : Vec Ideal S1x128x1x8x128 .f32) (h : Fin 8) (r : Fin 128) :
    k0_pay15 (F := Ideal) (k0_pay2 q) (k0_pay4 q kn) k (ix3 r h 0)
      = Ideal.exp (score q k h r - kM (score q k h) (scoreNew q kn h)) := by
  pointwise [k0_pay15]
  rw [pay13_apply, pay14_apply]

/-- The weight of the new key. -/
theorem pay16_apply (q kn : Vec Ideal S1x8x128 .f32) (k : Vec Ideal S1x128x1x8x128 .f32) (h : Fin 8) :
    k0_pay16 (F := Ideal) (k0_pay2 q) (k0_pay4 q kn) k (ix2 h 0)
      = Ideal.exp (scoreNew q kn h - kM (score q k h) (scoreNew q kn h)) := by
  pointwise [k0_pay16]
  rw [pay4_apply, pay14_apply]

/-- The sum of the weights. -/
theorem pay17_apply (q kn : Vec Ideal S1x8x128 .f32) (k : Vec Ideal S1x128x1x8x128 .f32) (h : Fin 8) :
    k0_pay17 (F := Ideal) (k0_pay2 q) (k0_pay4 q kn) k (ix2 h 0) = kL (score q k h) (scoreNew q kn h) := by
  unfold kL
  pointwise [k0_pay17]
  simp only [pay15_apply, pay16_apply]

/-- A branch's output at a head and a channel. -/
theorem pay18_apply (q kn vn : Vec Ideal S1x8x128 .f32) (k v : Vec Ideal S1x128x1x8x128 .f32) (h : Fin 8) (c : Fin 128) :
    k0_pay18 (F := Ideal) (k0_pay2 q) (k0_pay3 vn) (k0_pay4 q kn) k v (ix2 h c)
      = kO (score q k h) (scoreNew q kn h) (fun r => v (ix5 0 r 0 h c)) (vn (ix3 0 h c)) := by
  unfold kO
  pointwise [k0_pay18, k0_pay3]
  simp only [pay15_apply, pay16_apply, pay17_apply]

/-- A branch's log-sum at a head. -/
theorem pay19_apply (q kn : Vec Ideal S1x8x128 .f32) (k : Vec Ideal S1x128x1x8x128 .f32) (h : Fin 8) :
    k0_pay19 (F := Ideal) (k0_pay2 q) (k0_pay4 q kn) k (ix2 h 0) = kLse (score q k h) (scoreNew q kn h) := by
  unfold kLse
  pointwise [k0_pay19]
  rw [pay14_apply, pay17_apply]

/-- THE ROW at head `h` and channel `c`. -/
theorem row_apply (q kn vn : Vec Ideal S1x8x128 .f32) (k1 k4 k16 v1 v4 v16 : Vec Ideal S1x128x1x8x128 .f32) (h : Fin 8) (c : Fin 128) :
    row (F := Ideal) q kn vn k1 k4 k16 v1 v4 v16 (ix3 0 h c)
      = kMerge (kLse (score q k1 h) (scoreNew q kn h)) (kLse (score q k4 h) (scoreNew q kn h)) (kLse (score q k16 h) (scoreNew q kn h))
          (kO (score q k1 h) (scoreNew q kn h) (fun r => v1 (ix5 0 r 0 h c)) (vn (ix3 0 h c)))
          (kO (score q k4 h) (scoreNew q kn h) (fun r => v4 (ix5 0 r 0 h c)) (vn (ix3 0 h c)))
          (kO (score q k16 h) (scoreNew q kn h) (fun r => v16 (ix5 0 r 0 h c)) (vn (ix3 0 h c))) := by
  unfold kMerge
  pointwise [row]
  simp only [pay18_apply, pay19_apply]

end Cert.AttnSampleIdeal.Row

end
-- ==== Proof.AttnSample.Kernel.lean ====
/- The decode attention's result array after the kernel's run: at a sequence, a head and a channel it is the merge of the three
   branches over the argument arrays. -/
module

public import proofs.«01_k».proof.Proof.Gen.AttnSampleIdeal.Value
public import proofs.«01_k».proof.Proof.AttnSample.Row
public import Idealize.ShloMosaic.Lib.Pipeline.ValueKit

@[expose] public section

set_option maxRecDepth 16384

noncomputable section

namespace Cert.AttnSampleIdeal.Row

open Cert.AttnSampleIdeal Cert.AttnSampleIdeal.Gen Idealize.ShloMosaic Idealize.ShloMosaic.TcCoe Idealize.SL.Sem Cert.AttnMath

/-- The cached position that strip row `r` of the undilated branch holds. -/
abbrev pos1 (r : Fin 128) : Fin 2048 := ⟨1920 + r.val, by omega⟩
/-- The cached position that strip row `r` of the branch of dilation 4 holds. -/
abbrev pos4 (r : Fin 128) : Fin 2048 := ⟨1536 + 4 * r.val, by omega⟩
/-- The cached position that strip row `r` of the branch of dilation 16 holds. -/
abbrev pos16 (r : Fin 128) : Fin 2048 := ⟨16 * r.val, by omega⟩

/-- The scaled score of sequence `b` and head `h` against the cached position `p`. -/
def scoreAt (q : Vec Ideal S32x8x128 .f32) (ck : Vec Ideal S32x2048x8x128 .f32) (b : Fin 32) (h : Fin 8) (p : Fin 2048) : EReal :=
  (∑ x : Fin 128, ck (ix4 b p h x) * q (ix3 b h x)) * scale

/-- The scaled score of sequence `b` and head `h` against its own new key. -/
def scoreOwn (q kn : Vec Ideal S32x8x128 .f32) (b : Fin 32) (h : Fin 8) : EReal :=
  (∑ x : Fin 128, q (ix3 b h x) * kn (ix3 b h x)) * scale

/-- The log-sum of the branch whose strip rows are the positions `p`. -/
def lseAt (q kn : Vec Ideal S32x8x128 .f32) (ck : Vec Ideal S32x2048x8x128 .f32) (b : Fin 32) (h : Fin 8) (p : Fin 128 → Fin 2048) :
    EReal :=
  kLse (fun r => scoreAt q ck b h (p r)) (scoreOwn q kn b h)

/-- The attention output of the branch whose strip rows are the positions `p`. -/
def outAt (q kn vn : Vec Ideal S32x8x128 .f32) (ck cv : Vec Ideal S32x2048x8x128 .f32) (b : Fin 32) (h : Fin 8) (c : Fin 128)
    (p : Fin 128 → Fin 2048) : EReal :=
  kO (fun r => scoreAt q ck b h (p r)) (scoreOwn q kn b h) (fun r => cv (ix4 b (p r) h c)) (vn (ix3 b h c))

/-- The decode attention over the argument arrays. -/
def attn (q kn vn : Vec Ideal S32x8x128 .f32) (ck cv : Vec Ideal S32x2048x8x128 .f32) : Vec Ideal S32x8x128 .f32 := fun i =>
  kMerge (lseAt q kn ck (i 0) (i 1) pos1) (lseAt q kn ck (i 0) (i 1) pos4) (lseAt q kn ck (i 0) (i 1) pos16)
    (outAt q kn vn ck cv (i 0) (i 1) (i 2) pos1) (outAt q kn vn ck cv (i 0) (i 1) (i 2) pos4) (outAt q kn vn ck cv (i 0) (i 1) (i 2) pos16)

/-- The decode attention at a sequence, a head and a channel. -/
theorem attn_apply (q kn vn : Vec Ideal S32x8x128 .f32) (ck cv : Vec Ideal S32x2048x8x128 .f32) (b : Fin 32) (h : Fin 8) (c : Fin 128) :
    attn q kn vn ck cv (ix3 b h c)
      = kMerge (lseAt q kn ck b h pos1) (lseAt q kn ck b h pos4) (lseAt q kn ck b h pos16)
          (outAt q kn vn ck cv b h c pos1) (outAt q kn vn ck cv b h c pos4) (outAt q kn vn ck cv b h c pos16) := rfl

variable (m : (ℓ : Loc nD τ sig) → Buf (Elt Ideal) ℓ) (c : Dev nD)

/-- At step `t` every window shows batch row `t`. -/
theorem idx : ∀ t : Fin cfg0.N, win0_0.index t = ![t.val, 0, 0] ∧ win0_1.index t = ![t.val, 0, 0] ∧ win0_2.index t = ![t.val, 0, 0]
    ∧ win0_3.index t = ![t.val, 15, 0, 0, 0] ∧ win0_4.index t = ![t.val, 3, 0, 0, 0] ∧ win0_5.index t = ![t.val, 0, 0, 0, 0]
    ∧ win0_6.index t = ![t.val, 15, 0, 0, 0] ∧ win0_7.index t = ![t.val, 3, 0, 0, 0] ∧ win0_8.index t = ![t.val, 0, 0, 0, 0]
    ∧ win0_9.index t = ![t.val, 0, 0] :=
  (by decide +kernel : ∀ t : Fin grid0.N, _)

/-- The sequence that row `b` of grid point `t` is. -/
abbrev seqOf (t : Fin cfg0.N) (b : Fin 4) : Fin 32 := ⟨4 * t.val + b.val, by have : t.val < 8 := t.isLt; omega⟩

/-- Row `b` of the block of argument 0 at point `t` is that argument at sequence `4 * t + b`. -/
theorem read0 (t : Fin cfg0.N) (b : Fin 4) (h : Fin 8) (x : Fin 128) :
    iblk m c 0 t (ix3 b h x) = m ((c : Thread nD τ).loc main_arg0) (ix3 (seqOf t b) h x) := by
  blk_ext [iblk, V, idx t]

/-- Row `b` of the block of argument 1 at point `t` is that argument at sequence `4 * t + b`. -/
theorem read1 (t : Fin cfg0.N) (b : Fin 4) (h : Fin 8) (x : Fin 128) :
    iblk m c 1 t (ix3 b h x) = m ((c : Thread nD τ).loc main_arg1) (ix3 (seqOf t b) h x) := by
  blk_ext [iblk, V, idx t]

/-- Row `b` of the block of argument 2 at point `t` is that argument at sequence `4 * t + b`. -/
theorem read2 (t : Fin cfg0.N) (b : Fin 4) (h : Fin 8) (x : Fin 128) :
    iblk m c 2 t (ix3 b h x) = m ((c : Thread nD τ).loc main_arg2) (ix3 (seqOf t b) h x) := by
  blk_ext [iblk, V, idx t]

/-- Strip row `r` of window 3's block is its cached position of argument 3. -/
theorem read3 (t : Fin cfg0.N) (b : Fin 4) (r : Fin 128) (h : Fin 8) (x : Fin 128) :
    iblk m c 3 t (ix5 b r 0 h x) = m ((c : Thread nD τ).loc main_arg3) (ix4 (seqOf t b) (pos1 r) h x) := by
  blk_ext! [iblk, V, idx t]

/-- Strip row `r` of window 4's block is its cached position of argument 3. -/
theorem read4 (t : Fin cfg0.N) (b : Fin 4) (r : Fin 128) (h : Fin 8) (x : Fin 128) :
    iblk m c 4 t (ix5 b r 0 h x) = m ((c : Thread nD τ).loc main_arg3) (ix4 (seqOf t b) (pos4 r) h x) := by
  blk_ext! [iblk, V, idx t]

/-- Strip row `r` of window 5's block is its cached position of argument 3. -/
theorem read5 (t : Fin cfg0.N) (b : Fin 4) (r : Fin 128) (h : Fin 8) (x : Fin 128) :
    iblk m c 5 t (ix5 b r 0 h x) = m ((c : Thread nD τ).loc main_arg3) (ix4 (seqOf t b) (pos16 r) h x) := by
  blk_ext! [iblk, V, idx t]

/-- Strip row `r` of window 6's block is its cached position of argument 4. -/
theorem read6 (t : Fin cfg0.N) (b : Fin 4) (r : Fin 128) (h : Fin 8) (x : Fin 128) :
    iblk m c 6 t (ix5 b r 0 h x) = m ((c : Thread nD τ).loc main_arg4) (ix4 (seqOf t b) (pos1 r) h x) := by
  blk_ext! [iblk, V, idx t]

/-- Strip row `r` of window 7's block is its cached position of argument 4. -/
theorem read7 (t : Fin cfg0.N) (b : Fin 4) (r : Fin 128) (h : Fin 8) (x : Fin 128) :
    iblk m c 7 t (ix5 b r 0 h x) = m ((c : Thread nD τ).loc main_arg4) (ix4 (seqOf t b) (pos4 r) h x) := by
  blk_ext! [iblk, V, idx t]

/-- Strip row `r` of window 8's block is its cached position of argument 4. -/
theorem read8 (t : Fin cfg0.N) (b : Fin 4) (r : Fin 128) (h : Fin 8) (x : Fin 128) :
    iblk m c 8 t (ix5 b r 0 h x) = m ((c : Thread nD τ).loc main_arg4) (ix4 (seqOf t b) (pos16 r) h x) := by
  blk_ext! [iblk, V, idx t]

/-- A grid point's rows at a row, a head and a channel. -/
theorem rows_apply (x0 x1 x2 : Vec Ideal S4x8x128 .f32) (x3 x4 x5 x6 x7 x8 : Vec Ideal S4x128x1x8x128 .f32) (b : Fin 4) (h : Fin 8)
    (x : Fin 128) :
    rows (F := Ideal) x0 x1 x2 x3 x4 x5 x6 x7 x8 (ix3 b h x)
      = row (F := Ideal) (seqRow x0 b) (seqRow x1 b) (seqRow x2 b) (seqBlk x3 b) (seqBlk x4 b) (seqBlk x5 b) (seqBlk x6 b) (seqBlk x7 b)
          (seqBlk x8 b) (ix3 0 h x) := rfl

/-- A grid point's rows where its blocks read the arrays at sequence `B`: the decode attention of that sequence. -/
theorem rows_eq {x0 x1 x2 : Vec Ideal S4x8x128 .f32} {x3 x4 x5 x6 x7 x8 : Vec Ideal S4x128x1x8x128 .f32}
    {q kn vn : Vec Ideal S32x8x128 .f32} {ck cv : Vec Ideal S32x2048x8x128 .f32} {b : Fin 4} {B : Fin 32}
    (h0 : ∀ h x, x0 (ix3 b h x) = q (ix3 B h x)) (h1 : ∀ h x, x1 (ix3 b h x) = kn (ix3 B h x))
    (h2 : ∀ h x, x2 (ix3 b h x) = vn (ix3 B h x))
    (h3 : ∀ r h x, x3 (ix5 b r 0 h x) = ck (ix4 B (pos1 r) h x)) (h4 : ∀ r h x, x4 (ix5 b r 0 h x) = ck (ix4 B (pos4 r) h x))
    (h5 : ∀ r h x, x5 (ix5 b r 0 h x) = ck (ix4 B (pos16 r) h x)) (h6 : ∀ r h x, x6 (ix5 b r 0 h x) = cv (ix4 B (pos1 r) h x))
    (h7 : ∀ r h x, x7 (ix5 b r 0 h x) = cv (ix4 B (pos4 r) h x)) (h8 : ∀ r h x, x8 (ix5 b r 0 h x) = cv (ix4 B (pos16 r) h x))
    (h : Fin 8) (x : Fin 128) :
    rows (F := Ideal) x0 x1 x2 x3 x4 x5 x6 x7 x8 (ix3 b h x) = attn q kn vn ck cv (ix3 B h x) := by
  rw [rows_apply, row_apply, attn_apply]
  unfold lseAt outAt
  have e1 : score (seqRow x0 b) (seqBlk x3 b) h = fun r => scoreAt q ck B h (pos1 r) := by
    funext r
    exact congrArg (· * scale) (Finset.sum_congr rfl fun x _ => congrArg₂ (· * ·) (h3 r h x) (h0 h x))
  have e4 : score (seqRow x0 b) (seqBlk x4 b) h = fun r => scoreAt q ck B h (pos4 r) := by
    funext r
    exact congrArg (· * scale) (Finset.sum_congr rfl fun x _ => congrArg₂ (· * ·) (h4 r h x) (h0 h x))
  have e16 : score (seqRow x0 b) (seqBlk x5 b) h = fun r => scoreAt q ck B h (pos16 r) := by
    funext r
    exact congrArg (· * scale) (Finset.sum_congr rfl fun x _ => congrArg₂ (· * ·) (h5 r h x) (h0 h x))
  have en : scoreNew (seqRow x0 b) (seqRow x1 b) h = scoreOwn q kn B h :=
    congrArg (· * scale) (Finset.sum_congr rfl fun x _ => congrArg₂ (· * ·) (h0 h x) (h1 h x))
  have v1 : (fun r => seqBlk x6 b (ix5 0 r 0 h x)) = fun r => cv (ix4 B (pos1 r) h x) := funext fun r => h6 r h x
  have v4 : (fun r => seqBlk x7 b (ix5 0 r 0 h x)) = fun r => cv (ix4 B (pos4 r) h x) := funext fun r => h7 r h x
  have v16 : (fun r => seqBlk x8 b (ix5 0 r 0 h x)) = fun r => cv (ix4 B (pos16 r) h x) := funext fun r => h8 r h x
  have vn : seqRow x2 b (ix3 0 h x) = vn (ix3 B h x) := h2 h x
  rw [e1, e4, e16, en, v1, v4, v16, vn]

/-- What grid point `t` writes back at an index of its block is the decode attention where the block lies. -/
theorem point (t : Fin cfg0.N) (y : S4x8x128.Idx) :
    rows (F := Ideal) (iblk m c 0 t) (iblk m c 1 t) (iblk m c 2 t) (iblk m c 3 t) (iblk m c 4 t) (iblk m c 5 t) (iblk m c 6 t) (iblk m c 7 t) (iblk m c 8 t) y
      = attn (m ((c : Thread nD τ).loc main_arg0)) (m ((c : Thread nD τ).loc main_arg1)) (m ((c : Thread nD τ).loc main_arg2))
        (m ((c : Thread nD τ).loc main_arg3)) (m ((c : Thread nD τ).loc main_arg4)) ((win0_9.blk t).view.emb y) := by
  idx_vars y
  have hy : (win0_9.blk t).view.emb (ix3 y0 y1 y2) = ix3 (seqOf t y0) y1 y2 := by
    blk_ext [idx t]
  exact (rows_eq (read0 m c t y0) (read1 m c t y0) (read2 m c t y0) (read3 m c t y0) (read4 m c t y0) (read5 m c t y0) (read6 m c t y0)
    (read7 m c t y0) (read8 m c t y0) y1 y2).trans (congrArg _ hy.symm)

/-- THE RESULT ARRAY after the kernel's run is the decode attention over the argument arrays. -/
theorem final : (dats m 0 c).arrAt 9 cfg0.N
    = attn (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t hf y => ?_
  blk_simp
  rw [after0_9, out_eq]
  exact point m c t y

end Cert.AttnSampleIdeal.Row

end
-- ==== Proof.AttnSample.Ref.lean ====
/- One branch of the reference's decode attention as a function of the gathered positions, read at an index. -/
module

public import proofs.«01_k».proof.Proof.Gen.AttnSampleRefIdeal.Read
public import proofs.«01_k».proof.Proof.AttnSample.Math
public import Idealize.ShloMosaic.Lib.Pointwise
public import Idealize.ShloMosaic.Lib.KernelVsHost

@[expose] public section

set_option maxRecDepth 16384

noncomputable section

namespace Cert.AttnSampleRefIdeal.Branch

open Cert.AttnSampleRefIdeal Cert.AttnSampleRefIdeal.Gen Idealize.ShloMosaic Idealize.ShloMosaic.TcCoe Idealize.SL.Sem Cert.AttnMath

/-- The scale `128 ^ (-1/2)` as the program prints it. -/
abbrev scale : EReal := Ideal.ofBits .f32 0x3DB504F3#32

/-- The pattern of minus infinity is the least extended real. -/
theorem negInf : Ideal.ofBits .f32 0xFF800000#32 = ⊥ := by simp [Ideal.ofBits, Ideal.ieee]

/-- The start-index word of result position `(t, j)`. -/
abbrev startAt (j : Fin 129) : S1x129x1.Idx := ix3 0 j 0

/-- The gather's dimension numbers. -/
abbrev dims := gather_S32x2049x8x128_S1x129x1_S32x1x129x8x128_034_1_n_n_1_2_3218128

/-- The gather of rows at start-index words, read at an index: the row whose number is the word, clamped. -/
theorem gather_apply {α : Type} (x : S32x2049x8x128.Idx → α) (st : IVec S1x129x1 32) (b : Fin 32) (j : Fin 129) (h : Fin 8) (c : Fin 128)
    (p : Fin 2049) (hp : st (startAt j) = BitVec.ofNat 32 p.val) :
    Host.gather dims x st (ix5 b 0 j h c) = x (ix4 b p h c) := by
  unfold Host.gather
  congr 1
  funext a
  refine Fin.ext ?_
  match a with
  | ⟨0, _⟩ =>
    show dims.start (ix5 b 0 j h c) st 0 + dims.batchCoord (ix5 b 0 j h c) 0 + dims.offCoord (ix5 b 0 j h c) 0 = b.val
    rw [GatherDims.batchCoord_eq_zero _ _ _ List.not_mem_nil]
    unfold GatherDims.start
    rw [dif_neg (show (0 : Fin 4) ∉ dims.startIndexMap from (by decide : (0 : Fin 4) ∉ [(1 : Fin 4)]))]
    show 0 + 0 + dims.offCoord (ix5 b 0 j h c) 0 = b.val
    rw [Nat.zero_add]
    rfl
  | ⟨1, _⟩ =>
    show dims.start (ix5 b 0 j h c) st 1 + dims.batchCoord (ix5 b 0 j h c) 1 + dims.offCoord (ix5 b 0 j h c) 1 = p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ dims.startIndexMap from List.mem_singleton.mpr rfl)]
    have hsi : dims.siIdx (ix5 b 0 j h c) ⟨List.idxOf (1 : Fin 4) dims.startIndexMap,
        List.idxOf_lt_length_iff.2 (List.mem_singleton.mpr rfl)⟩ = startAt j := by
      funext d
      refine Fin.ext ?_
      match d with
      | ⟨0, _⟩ => rfl
      | ⟨1, _⟩ => rfl
      | ⟨2, _⟩ => rfl
    rw [hsi, hp]
    have := p.isLt
    have e : (BitVec.ofNat 32 p.val).toInt = p.val := by
      rw [BitVec.toInt_eq_toNat_of_lt (by simp; omega)]; simp; omega
    rw [e]
    show min ((p.val : Int)).toNat 2048 = p.val
    omega
  | ⟨2, _⟩ =>
    show dims.start (ix5 b 0 j h c) st 2 + dims.batchCoord (ix5 b 0 j h c) 2 + dims.offCoord (ix5 b 0 j h c) 2 = h.val
    rw [GatherDims.batchCoord_eq_zero _ _ _ List.not_mem_nil]
    unfold GatherDims.start
    rw [dif_neg (show (2 : Fin 4) ∉ dims.startIndexMap from (by decide : (2 : Fin 4) ∉ [(1 : Fin 4)]))]
    show 0 + 0 + dims.offCoord (ix5 b 0 j h c) 2 = h.val
    rw [Nat.zero_add]
    rfl
  | ⟨3, _⟩ =>
    show dims.start (ix5 b 0 j h c) st 3 + dims.batchCoord (ix5 b 0 j h c) 3 + dims.offCoord (ix5 b 0 j h c) 3 = c.val
    rw [GatherDims.batchCoord_eq_zero _ _ _ List.not_mem_nil]
    unfold GatherDims.start
    rw [dif_neg (show (3 : Fin 4) ∉ dims.startIndexMap from (by decide : (3 : Fin 4) ∉ [(1 : Fin 4)]))]
    show 0 + 0 + dims.offCoord (ix5 b 0 j h c) 3 = c.val
    rw [Nat.zero_add]
    rfl

/-- The masked, scaled scores of a branch. -/
def scores (q : FVec Ideal S32x1x8x128 .f32) (ka : FVec Ideal S32x2049x8x128 .f32) (st : IVec S1x129x1 32) (va : IVec S1x129 1) :
    FVec Ideal S32x1x8x129 .f32 :=
  select (broadcastInDim S32x1x8x129 ![0, 1, 2, 3] bcast_S1x1x1x129_S32x1x8x129_0_1_2_3
      (broadcastInDim S1x1x1x129 ![1, 3] bcast_S1x129_S1x1x1x129_1_3 va))
    (mulf (Host.dotGeneral dot_S32x1x8x128_S32x1x129x8x128_S32x1x8x129_3_4_n_2_012_013 none q
        (Host.gather dims ka st))
      (broadcastInDim S32x1x8x129 ![] bcast_S_S32x1x8x129 (constant S_ .f32 0x3DB504F3#32)))
    (broadcastInDim S32x1x8x129 ![] bcast_S_S32x1x8x129 (constant S_ .f32 0xFF800000#32))

/-- The greatest score of each row. -/
def top (s : FVec Ideal S32x1x8x129 .f32) : FVec Ideal S32x1x8x1 .f32 :=
  broadcastInDim S32x1x8x1 ![0, 1, 2] bcast_S32x1x8_S32x1x8x1_0_1_2
    (Host.reduce FloatOps.maximumf s (constant S_ .f32 0xFF800000#32) reducesTo_S32x1x8x129_S32x1x8_d3 h_S_)

/-- The exponentials of the scores less the greatest. -/
def weights (s : FVec Ideal S32x1x8x129 .f32) : FVec Ideal S32x1x8x129 .f32 :=
  Host.exp (subf s (broadcastInDim S32x1x8x129 ![0, 1, 2, 3] bcast_S32x1x8x1_S32x1x8x129_0_1_2_3 (top s)))

/-- The sums of the weights. -/
def denom (s : FVec Ideal S32x1x8x129 .f32) : FVec Ideal S32x1x8x1 .f32 :=
  broadcastInDim S32x1x8x1 ![0, 1, 2] bcast_S32x1x8_S32x1x8x1_0_1_2
    (Host.reduceAdd (weights s) (constant S_ .f32 0x00000000#32) reducesTo_S32x1x8x129_S32x1x8_d3 h_S_)

/-- The branch's output: the normalised weights against the gathered values. -/
def out (s : FVec Ideal S32x1x8x129 .f32) (va : FVec Ideal S32x2049x8x128 .f32) (st : IVec S1x129x1 32) : FVec Ideal S32x1x8x128 .f32 :=
  Host.dotGeneral dot_S32x1x8x129_S32x1x129x8x128_S32x1x8x128_3_2_n_4_012_013 none
    (Host.divf (weights s) (broadcastInDim S32x1x8x129 ![0, 1, 2, 3] bcast_S32x1x8x1_S32x1x8x129_0_1_2_3 (denom s)))
    (Host.gather dims va st)

/-- The branch's log-sum. -/
def lse (s : FVec Ideal S32x1x8x129 .f32) : FVec Ideal S32x1x8 .f32 :=
  shapeCast _ (addf (top s) (Host.log (denom s))) shapeCasts_S32x1x8x1_S32x1x8

/-- The largest score of a row of one branch. -/
theorem top_apply (s : FVec Ideal S32x1x8x129 .f32) (b : Fin 32) (h : Fin 8) :
    top s (ix4 b 0 h 0) = rM fun j => s (ix4 b 0 h j) := by
  unfold top rM
  have e := hostReduce_maximumf_eq_multiReduction s 0xFF800000#32 reducesTo_S32x1x8x129_S32x1x8_d3 h_S_ (by decide) (Or.inl rfl) rfl
  rw [e]
  pointwise
  rw [negInf]

/-- A weight of one branch: the exponential of the score less the largest one. -/
theorem weights_apply (s : FVec Ideal S32x1x8x129 .f32) (b : Fin 32) (h : Fin 8) (j : Fin 129) :
    weights s (ix4 b 0 h j) = Ideal.exp (s (ix4 b 0 h j) - rM fun j => s (ix4 b 0 h j)) := by
  pointwise [weights]
  simp only [top_apply]

/-- The sum of the weights of a row. -/
theorem denom_apply (s : FVec Ideal S32x1x8x129 .f32) (b : Fin 32) (h : Fin 8) :
    denom s (ix4 b 0 h 0) = rL fun j => s (ix4 b 0 h j) := by
  unfold rL
  pointwise [denom]
  simp only [weights_apply]

/-- One branch's output: the weighted mean of the values its keys select. -/
theorem out_apply (s : FVec Ideal S32x1x8x129 .f32) (va : FVec Ideal S32x2049x8x128 .f32) (st : IVec S1x129x1 32) (p : Fin 129 → Fin 2049)
    (hp : ∀ j, st (startAt j) = BitVec.ofNat 32 (p j).val) (b : Fin 32) (h : Fin 8) (c : Fin 128) :
    out s va st (ix4 b 0 h c) = rO (fun j => s (ix4 b 0 h j)) fun j => va (ix4 b (p j) h c) := by
  unfold rO
  pointwise [out]
  simp only [weights_apply, denom_apply, fun j => gather_apply va st b j h c (p j) (hp j)]

/-- One branch's logarithm of the sum of exponentials. -/
theorem lse_apply (s : FVec Ideal S32x1x8x129 .f32) (b : Fin 32) (h : Fin 8) :
    lse s (ix3 b 0 h) = rLse fun j => s (ix4 b 0 h j) := by
  unfold rLse
  pointwise [lse]
  simp only [top_apply, denom_apply]

/-- One score: the scaled product of the query with the key its start selects. -/
theorem scores_apply (q : FVec Ideal S32x1x8x128 .f32) (ka : FVec Ideal S32x2049x8x128 .f32) (st : IVec S1x129x1 32) (va : IVec S1x129 1)
    (p : Fin 129 → Fin 2049) (hp : ∀ j, st (startAt j) = BitVec.ofNat 32 (p j).val) (hv : ∀ j : Fin 129, va (ix2 0 j) = 1#1)
    (b : Fin 32) (h : Fin 8) (j : Fin 129) :
    scores q ka st va (ix4 b 0 h j) = (∑ x : Fin 128, q (ix4 b 0 h x) * ka (ix4 b (p j) h x)) * scale := by
  pointwise [scores]
  simp only [hv, fun x => gather_apply ka st b j h x (p j) (hp j)]
  rfl

end Cert.AttnSampleRefIdeal.Branch

end
-- ==== Proof.AttnSample.RefValue.lean ====
/- The reference's decode attention: its three branches are the one branch function at three lists of start indices, and its result at a
   sequence, a head and a channel. -/
module

public import proofs.«01_k».proof.Proof.AttnSample.Ref

@[expose] public section

set_option maxRecDepth 16384

noncomputable section

namespace Cert.AttnSampleRefIdeal.Branch

open Cert.AttnSampleRefIdeal Cert.AttnSampleRefIdeal.Gen Cert.AttnSampleRefIdeal.Read Idealize.ShloMosaic Idealize.ShloMosaic.TcCoe
open Idealize.SL.Sem Cert.AttnMath

/-- The row of key `j` of the undilated branch: the new key's row 2048, then the cached ones back. -/
abbrev key1 (j : Fin 129) : Fin 2049 := ⟨2048 - j.val, by omega⟩
/-- The row of key `j` of the branch of dilation 4. -/
abbrev key4 (j : Fin 129) : Fin 2049 := ⟨2048 - 4 * j.val, by omega⟩
/-- The row of key `j` of the branch of dilation 16. -/
abbrev key16 (j : Fin 129) : Fin 2049 := ⟨2048 - 16 * j.val, by omega⟩

/-- The gathered rows of the keys of the branch of dilation 1. -/
theorem start24 : ∀ j : Fin 129, val_main_v24 (F := Ideal) (startAt j) = BitVec.ofNat 32 (key1 j).val := by decide +kernel
/-- The gathered rows of the values of the branch of dilation 1. -/
theorem start31 : ∀ j : Fin 129, val_main_v31 (F := Ideal) (startAt j) = BitVec.ofNat 32 (key1 j).val := by decide +kernel
/-- The gathered rows of the keys of the branch of dilation 4. -/
theorem start70 : ∀ j : Fin 129, val_main_v70 (F := Ideal) (startAt j) = BitVec.ofNat 32 (key4 j).val := by decide +kernel
/-- The gathered rows of the values of the branch of dilation 4. -/
theorem start77 : ∀ j : Fin 129, val_main_v77 (F := Ideal) (startAt j) = BitVec.ofNat 32 (key4 j).val := by decide +kernel
/-- The gathered rows of the keys of the branch of dilation 16. -/
theorem start116 : ∀ j : Fin 129, val_main_v116 (F := Ideal) (startAt j) = BitVec.ofNat 32 (key16 j).val := by decide +kernel
/-- The gathered rows of the values of the branch of dilation 16. -/
theorem start123 : ∀ j : Fin 129, val_main_v123 (F := Ideal) (startAt j) = BitVec.ofNat 32 (key16 j).val := by decide +kernel
/-- No key of the branch of dilation 1 falls before the start of the cache. -/
theorem valid16 : ∀ j : Fin 129, val_main_v16 (F := Ideal) (ix2 0 j) = 1#1 := by decide +kernel
/-- No key of the branch of dilation 4 falls before the start of the cache. -/
theorem valid62 : ∀ j : Fin 129, val_main_v62 (F := Ideal) (ix2 0 j) = 1#1 := by decide +kernel
/-- No key of the branch of dilation 16 falls before the start of the cache. -/
theorem valid108 : ∀ j : Fin 129, val_main_v108 (F := Ideal) (ix2 0 j) = 1#1 := by decide +kernel

variable (q kn vn : FVec Ideal S32x8x128 .f32) (ck cv : FVec Ideal S32x2048x8x128 .f32)

/-- The scores of the three branches. -/
abbrev s1 := scores (val_main_v0 (F := Ideal) q) (val_main_v3 (F := Ideal) kn ck) (val_main_v24 (F := Ideal)) (val_main_v16 (F := Ideal))
/-- The scores of the branch of dilation 4. -/
abbrev s4 := scores (val_main_v0 (F := Ideal) q) (val_main_v3 (F := Ideal) kn ck) (val_main_v70 (F := Ideal)) (val_main_v62 (F := Ideal))
/-- The scores of the branch of dilation 16. -/
abbrev s16 := scores (val_main_v0 (F := Ideal) q) (val_main_v3 (F := Ideal) kn ck) (val_main_v116 (F := Ideal)) (val_main_v108 (F := Ideal))

/-- The output of the branch of dilation 1 is the common form of a branch. -/
theorem out47 : val_main_v47 (F := Ideal) q kn vn ck cv = out (s1 q kn ck) (val_main_v4 (F := Ideal) vn cv) (val_main_v31 (F := Ideal)) := rfl
/-- The output of the branch of dilation 4 is the common form of a branch. -/
theorem out93 : val_main_v93 (F := Ideal) q kn vn ck cv = out (s4 q kn ck) (val_main_v4 (F := Ideal) vn cv) (val_main_v77 (F := Ideal)) := rfl
/-- The output of the branch of dilation 16 is the common form of a branch. -/
theorem out139 : val_main_v139 (F := Ideal) q kn vn ck cv = out (s16 q kn ck) (val_main_v4 (F := Ideal) vn cv) (val_main_v123 (F := Ideal)) := rfl
/-- The logarithm of the sum for dilation 1 is the common form of a branch. -/
theorem lse50 : val_main_v50 (F := Ideal) q kn ck = lse (s1 q kn ck) := rfl
/-- The logarithm of the sum for dilation 4 is the common form of a branch. -/
theorem lse96 : val_main_v96 (F := Ideal) q kn ck = lse (s4 q kn ck) := rfl
/-- The logarithm of the sum for dilation 16 is the common form of a branch. -/
theorem lse142 : val_main_v142 (F := Ideal) q kn ck = lse (s16 q kn ck) := rfl

/-- The cached rows followed by the new row, read at an index. -/
theorem rows_apply (x : FVec Ideal S32x8x128 .f32) (cx : FVec Ideal S32x2048x8x128 .f32) (b : Fin 32) (p : Fin 2049) (h : Fin 8)
    (c : Fin 128) :
    val_main_v3 (F := Ideal) x cx (ix4 b p h c) = if hp : p.val < 2048 then cx (ix4 b ⟨p.val, hp⟩ h c) else x (ix3 b h c) := by
  pointwise [val_main_v3, val_main_v1]

/-- The query at a head and a column. -/
theorem query_apply (b : Fin 32) (h : Fin 8) (c : Fin 128) : val_main_v0 (F := Ideal) q (ix4 b 0 h c) = q (ix3 b h c) := by
  pointwise [val_main_v0]

/-- The stacked log-sums at a branch. -/
theorem lses_apply (i : Fin 3) (b : Fin 32) (h : Fin 8) :
    val_main_v146 (F := Ideal) q kn ck (ix4 i b 0 h) = ![rLse fun j => s1 q kn ck (ix4 b 0 h j), rLse fun j => s4 q kn ck (ix4 b 0 h j), rLse fun j => s16 q kn ck (ix4 b 0 h j)] i := by
  simp only [← lse_apply, ← lse50, ← lse96, ← lse142]
  pointwise [val_main_v146, val_main_v143, val_main_v144, val_main_v145]
  fin_cases i <;> rfl

/-- The stacked outputs at a branch. -/
theorem outs_apply (i : Fin 3) (b : Fin 32) (h : Fin 8) (c : Fin 128) :
    val_main_v162 (F := Ideal) q kn vn ck cv (ix5 i b 0 h c) = ![out (s1 q kn ck) (val_main_v4 (F := Ideal) vn cv) (val_main_v31 (F := Ideal)) (ix4 b 0 h c),
          out (s4 q kn ck) (val_main_v4 (F := Ideal) vn cv) (val_main_v77 (F := Ideal)) (ix4 b 0 h c),
          out (s16 q kn ck) (val_main_v4 (F := Ideal) vn cv) (val_main_v123 (F := Ideal)) (ix4 b 0 h c)] i := by
  simp only [← out47, ← out93, ← out139]
  pointwise [val_main_v162, val_main_v159, val_main_v160, val_main_v161]
  fin_cases i <;> rfl

/-- The greatest log-sum. -/
theorem lmax_apply (b : Fin 32) (h : Fin 8) :
    val_main_v149 (F := Ideal) q kn ck (ix3 b 0 h) = Finset.univ.fold max ⊥ ![rLse fun j => s1 q kn ck (ix4 b 0 h j), rLse fun j => s4 q kn ck (ix4 b 0 h j), rLse fun j => s16 q kn ck (ix4 b 0 h j)] := by
  have e := hostReduce_maximumf_eq_multiReduction (F := Ideal) (φ := .f32) (val_main_v146 (F := Ideal) q kn ck) 0xFF800000#32 reducesTo_S3x32x1x8_S32x1x8_d0 h_S_
      (by decide) (Or.inl rfl) rfl
  have e' : val_main_v147 (F := Ideal) q kn ck = _ := e
  pointwise [val_main_v149, val_main_v148, val_main_cst_35]
  rw [e']
  pointwise
  simp only [lses_apply, negInf]
  exact max_eq_right bot_le

/-- THE RESULT at an index: the merge of the three branches. -/
theorem result_apply (b : Fin 32) (h : Fin 8) (c : Fin 128) :
    val_main_v166 (F := Ideal) q kn vn ck cv (ix3 b h c)
      = rMerge ![rLse fun j => s1 q kn ck (ix4 b 0 h j), rLse fun j => s4 q kn ck (ix4 b 0 h j), rLse fun j => s16 q kn ck (ix4 b 0 h j)]
          ![out (s1 q kn ck) (val_main_v4 (F := Ideal) vn cv) (val_main_v31 (F := Ideal)) (ix4 b 0 h c),
            out (s4 q kn ck) (val_main_v4 (F := Ideal) vn cv) (val_main_v77 (F := Ideal)) (ix4 b 0 h c),
            out (s16 q kn ck) (val_main_v4 (F := Ideal) vn cv) (val_main_v123 (F := Ideal)) (ix4 b 0 h c)] := by
  unfold rMerge
  pointwise [val_main_v166, val_main_v165, val_main_v164, val_main_v163, val_main_v158, val_main_v157, val_main_v156, val_main_v155,
    val_main_v154, val_main_v153, val_main_v152, val_main_v151, val_main_v150, val_main_cst_36, val_main_cst_37]
  simp only [lses_apply, outs_apply, lmax_apply]

/-! ## The keys as the new key before the cached ones -/

/-- The cached position that strip row `r` of the branch of dilation 1 holds. -/
abbrev pos1 (r : Fin 128) : Fin 2048 := ⟨1920 + r.val, by omega⟩
/-- The cached position that strip row `r` of the branch of dilation 4 holds. -/
abbrev pos4 (r : Fin 128) : Fin 2048 := ⟨1536 + 4 * r.val, by omega⟩
/-- The cached position that strip row `r` of the branch of dilation 16 holds. -/
abbrev pos16 (r : Fin 128) : Fin 2048 := ⟨16 * r.val, by omega⟩

/-- The scaled score against a cached position. -/
def scoreAt (b : Fin 32) (h : Fin 8) (p : Fin 2048) : EReal := (∑ x : Fin 128, ck (ix4 b p h x) * q (ix3 b h x)) * scale

/-- The scaled score against the new key. -/
def scoreOwn (b : Fin 32) (h : Fin 8) : EReal := (∑ x : Fin 128, q (ix3 b h x) * kn (ix3 b h x)) * scale

/-- Values read along keys that run from the new one back through cached positions are the cached ones joined to the new one. -/
theorem rows_join (x : FVec Ideal S32x8x128 .f32) (cx : FVec Ideal S32x2048x8x128 .f32) (key : Fin 129 → Fin 2049)
    (pos : Fin 128 → Fin 2048) (h0 : (key 0).val = 2048) (hs : ∀ j : Fin 128, (key j.succ).val = (pos j.rev).val) (b : Fin 32) (h : Fin 8)
    (c : Fin 128) :
    (fun j => val_main_v3 (F := Ideal) x cx (ix4 b (key j) h c)) = join (fun r => cx (ix4 b (pos r) h c)) (x (ix3 b h c)) := by
  funext j
  rw [rows_apply]
  refine Fin.cases ?_ (fun j => ?_) j
  · rw [dif_neg (by omega)]
    rfl
  · rw [dif_pos (by rw [hs]; exact (pos j.rev).isLt)]
    show cx _ = cx _
    congr 2
    exact Fin.ext (hs j)

/-- The scores along such keys are the cached scores joined to the new one. -/
theorem scores_join (st : IVec S1x129x1 32) (va : IVec S1x129 1) (key : Fin 129 → Fin 2049) (pos : Fin 128 → Fin 2048)
    (hp : ∀ j, st (startAt j) = BitVec.ofNat 32 (key j).val) (hv : ∀ j : Fin 129, va (ix2 0 j) = 1#1)
    (h0 : (key 0).val = 2048) (hs : ∀ j : Fin 128, (key j.succ).val = (pos j.rev).val) (b : Fin 32) (h : Fin 8) :
    (fun j => scores (val_main_v0 (F := Ideal) q) (val_main_v3 (F := Ideal) kn ck) st va (ix4 b 0 h j))
      = join (fun r => scoreAt q ck b h (pos r)) (scoreOwn q kn b h) := by
  funext j
  rw [scores_apply _ _ _ _ key hp hv]
  have e : ∀ x, val_main_v3 (F := Ideal) kn ck (ix4 b (key j) h x) = join (fun r => ck (ix4 b (pos r) h x)) (kn (ix3 b h x)) j :=
    fun x => congrFun (rows_join kn ck key pos h0 hs b h x) j
  simp only [e, query_apply]
  refine Fin.cases ?_ (fun j => ?_) j
  · rfl
  · simp only [join, Fin.cons_succ, scoreAt, mul_comm]

/-- Keys past the first run back through the cached rows of dilation 1. -/
theorem key1_succ (j : Fin 128) : (key1 j.succ).val = (pos1 j.rev).val := by simp only [Fin.val_succ, Fin.val_rev]; omega
/-- Keys past the first run back through the cached rows of dilation 4. -/
theorem key4_succ (j : Fin 128) : (key4 j.succ).val = (pos4 j.rev).val := by simp only [Fin.val_succ, Fin.val_rev]; omega
/-- Keys past the first run back through the cached rows of dilation 16. -/
theorem key16_succ (j : Fin 128) : (key16 j.succ).val = (pos16 j.rev).val := by simp only [Fin.val_succ, Fin.val_rev]; omega

/-- THE RESULT in terms of the argument arrays. -/
theorem result_join (b : Fin 32) (h : Fin 8) (c : Fin 128) :
    val_main_v166 (F := Ideal) q kn vn ck cv (ix3 b h c)
      = rMerge
          ![rLse (join (fun r => scoreAt q ck b h (pos1 r)) (scoreOwn q kn b h)), rLse (join (fun r => scoreAt q ck b h (pos4 r)) (scoreOwn q kn b h)),
            rLse (join (fun r => scoreAt q ck b h (pos16 r)) (scoreOwn q kn b h))]
          ![rO (join (fun r => scoreAt q ck b h (pos1 r)) (scoreOwn q kn b h)) (join (fun r => cv (ix4 b (pos1 r) h c)) (vn (ix3 b h c))),
            rO (join (fun r => scoreAt q ck b h (pos4 r)) (scoreOwn q kn b h)) (join (fun r => cv (ix4 b (pos4 r) h c)) (vn (ix3 b h c))),
            rO (join (fun r => scoreAt q ck b h (pos16 r)) (scoreOwn q kn b h)) (join (fun r => cv (ix4 b (pos16 r) h c)) (vn (ix3 b h c)))] := by
  have v4 : val_main_v4 (F := Ideal) vn cv = val_main_v3 (F := Ideal) vn cv := rfl
  rw [result_apply, out_apply _ _ _ _ start31, out_apply _ _ _ _ start77, out_apply _ _ _ _ start123, v4]
  rw [rows_join vn cv key1 pos1 rfl key1_succ, rows_join vn cv key4 pos4 rfl key4_succ, rows_join vn cv key16 pos16 rfl key16_succ]
  rw [scores_join q kn ck _ _ key1 pos1 start24 valid16 rfl key1_succ, scores_join q kn ck _ _ key4 pos4 start70 valid62 rfl key4_succ,
    scores_join q kn ck _ _ key16 pos16 start116 valid108 rfl key16_succ]

end Cert.AttnSampleRefIdeal.Branch

end
-- ==== Proof.AttnSample.Pre.lean ====
/- The precondition of the decode attention: the queries, the new keys and the cached keys hold real numbers. -/
module

public import proofs.«01_k».proof.Proof.Gen.Pre_finite
public import Idealize.ShloMosaic.Lib.ReduceAll
public import Idealize.ShloMosaic.PureOps.Ideal

@[expose] public section

set_option maxRecDepth 16384

noncomputable section

namespace Cert.Pre_finite

open Cert.Pre_finite.Gen Idealize.ShloMosaic

/-- An extended real whose absolute value compares below plus infinity is a real number. -/
theorem real_of_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- The empty shape has one index. -/
instance : Subsingleton S_.Idx := ⟨fun a b => funext fun x => x.elim0⟩

/-- The precondition read: the queries, the new keys and the cached keys are real everywhere. -/
theorem real (q kn vn : FVec Ideal S32x8x128 .f32) (ck cv : FVec Ideal S32x2048x8x128 .f32)
    (h : fn (F := Ideal) q kn vn ck cv = fun _ => 1#1) :
    (∀ i, ∃ r : ℝ, q i = (r : EReal)) ∧ (∀ i, ∃ r : ℝ, kn i = (r : EReal)) ∧ ∀ i, ∃ r : ℝ, ck i = (r : EReal) := by
  have h0 := congrFun h (fun a => a.elim0)
  obtain ⟨h1, h2⟩ := IntOp.andi_eq_one.1 h0
  obtain ⟨h3, h4⟩ := IntOp.andi_eq_one.1 h1
  exact ⟨fun i => real_of_lt _ (Host.reduce_andi_all _ _ _ _ _ h3 i), fun i => real_of_lt _ (Host.reduce_andi_all _ _ _ _ _ h4 i),
    fun i => real_of_lt _ (Host.reduce_andi_all _ _ _ _ _ h2 i)⟩

end Cert.Pre_finite

end
-- ==== Proof.AttnSample.Result.lean ====
/- The decode attention: on real queries and keys the kernel's result and the reference's are equal. -/
module

public import proofs.«01_k».proof.Proof.AttnSample.Kernel
public import proofs.«01_k».proof.Proof.AttnSample.RefValue
public import proofs.«01_k».proof.Proof.AttnSample.Pre

@[expose] public section

set_option maxRecDepth 16384

noncomputable section

namespace Cert.AttnSampleTie

open Idealize.ShloMosaic Cert.AttnMath
open Cert.AttnSampleIdeal (S32x8x128 S32x2048x8x128)

/-- The scale is a real number. -/
theorem scale_real : ∃ r : ℝ, Ideal.ofBits .f32 0x3DB504F3#32 = (r : EReal) := ⟨_, by simp [Ideal.ofBits, Ideal.ieee, -EReal.coe_mul]; rfl⟩

/-- A sum of reals, read among the extended reals. -/
theorem coe_sum {ι : Type} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- A scaled inner product of real vectors is real. -/
theorem dot_real (a b : Fin 128 → EReal) (ha : ∀ x, ∃ r : ℝ, a x = r) (hb : ∀ x, ∃ r : ℝ, b x = r) :
    ∃ r : ℝ, (∑ x, a x * b x) * Ideal.ofBits .f32 0x3DB504F3#32 = (r : EReal) := by
  choose f hf using ha
  choose g hg using hb
  obtain ⟨s, hs⟩ := scale_real
  refine ⟨(∑ x, f x * g x) * s, ?_⟩
  simp only [hf, hg, hs, EReal.coe_mul, coe_sum]

/-- THE EQUALITY at an index. -/
theorem result_eq (q kn vn : FVec Ideal S32x8x128 .f32) (ck cv : FVec Ideal S32x2048x8x128 .f32)
    (hq : ∀ i, ∃ r : ℝ, q i = (r : EReal)) (hk : ∀ i, ∃ r : ℝ, kn i = (r : EReal)) (hc : ∀ i, ∃ r : ℝ, ck i = (r : EReal)) :
    Cert.AttnSampleRefIdeal.Read.val_main_v166 (F := Ideal) q kn vn ck cv = Cert.AttnSampleIdeal.Row.attn q kn vn ck cv := by
  funext i
  idx_vars i
  have hs : ∀ p : Fin 2048, ∃ r : ℝ, Cert.AttnSampleRefIdeal.Branch.scoreAt q ck i0 i1 p = (r : EReal) := fun p =>
    dot_real _ _ (fun _ => hc _) fun _ => hq _
  have hn : ∃ r : ℝ, Cert.AttnSampleRefIdeal.Branch.scoreOwn q kn i0 i1 = (r : EReal) := dot_real _ _ (fun _ => hq _) fun _ => hk _
  choose s hs using hs
  obtain ⟨sn, hn⟩ := hn
  have hs' : ∀ p, Cert.AttnSampleIdeal.Row.scoreAt q ck i0 i1 p = (s p : EReal) := hs
  have hn' : Cert.AttnSampleIdeal.Row.scoreOwn q kn i0 i1 = (sn : EReal) := hn
  rw [Cert.AttnSampleRefIdeal.Branch.result_join, Cert.AttnSampleIdeal.Row.attn_apply]
  simp only [hs, hn, rLse_join, rO_join, Cert.AttnSampleIdeal.Row.lseAt, Cert.AttnSampleIdeal.Row.outAt, hs', hn']
  obtain ⟨l1, e1⟩ := kLse_real (fun r => s (Cert.AttnSampleIdeal.Row.pos1 r)) sn
  obtain ⟨l4, e4⟩ := kLse_real (fun r => s (Cert.AttnSampleIdeal.Row.pos4 r)) sn
  obtain ⟨l16, e16⟩ := kLse_real (fun r => s (Cert.AttnSampleIdeal.Row.pos16 r)) sn
  rw [e1, e4, e16]
  exact rMerge_eq l1 l4 l16 _ _ _

end Cert.AttnSampleTie

end
-- ==== Proof.Mix.Math.lean ====
/- The layer's input projection on extended reals, one row at a time: the normalised row, its product with a column of the weights, and the
   rotary turn of a head. Both programs are read into these functions. -/
module

public import Idealize.ShloMosaic.Lib.Pointwise

@[expose] public section

noncomputable section

namespace Cert.MixMath

open Idealize.ShloMosaic

/-- Entry `d` of the row `x` divided by its root mean square (with the small constant added) and scaled by `g`. -/
def normed (x g : Fin 2048 → EReal) (d : Fin 2048) : EReal :=
  x d * Ideal.rsqrt (Ideal.div (∑ e : Fin 2048, x e * x e) (Ideal.ofBits .f32 0x45000000#32) + Ideal.ofBits .f32 0x358637BD#32) * g d

/-- The normalised row times a column of the weights. -/
def proj (x g w : Fin 2048 → EReal) : EReal := ∑ d : Fin 2048, normed x g d * w d

/-- The rotary angle of frequency `d` at the position `p`. -/
def angle (p : EReal) (d : Fin 64) : EReal :=
  p * Ideal.pow (Ideal.ofBits .f32 0x461C4000#32)
    (Ideal.div (-FloatOps.sitofp (F := Ideal) .f32 (BitVec.ofNat 32 d.val)) (Ideal.ofBits .f32 0x42800000#32))

/-- The cosine table over a whole head: its half twice. -/
def cosTab (p : EReal) (e : Fin 128) : EReal :=
  if h : e.val < 64 then Ideal.cos (angle p ⟨e.val, h⟩) else Ideal.cos (angle p ⟨e.val - 64, by omega⟩)

/-- The sine table over a whole head: its half negated, then its half. -/
def sinTab (p : EReal) (e : Fin 128) : EReal :=
  if h : e.val < 64 then -Ideal.sin (angle p ⟨e.val, h⟩) else Ideal.sin (angle p ⟨e.val - 64, by omega⟩)

/-- A head turned with tables over the whole head: the head times one table plus the head moved by half its width times the other. -/
def turn (f cs sn : Fin 128 → EReal) (e : Fin 128) : EReal := f e * cs e + f ⟨(e.val + 128 - 64) % 128, by omega⟩ * sn e

/-- A head turned half by half. -/
def rope (f : Fin 128 → EReal) (p : EReal) (e : Fin 128) : EReal :=
  if h : e.val < 64 then
    f e * Ideal.cos (angle p ⟨e.val, h⟩) - f ⟨64 + e.val, by omega⟩ * Ideal.sin (angle p ⟨e.val, h⟩)
  else
    f e * Ideal.cos (angle p ⟨e.val - 64, by omega⟩) + f ⟨e.val - 64, by omega⟩ * Ideal.sin (angle p ⟨e.val - 64, by omega⟩)

/-- Turning with the whole tables is turning half by half. -/
theorem turn_eq (f : Fin 128 → EReal) (p : EReal) (e : Fin 128) : turn f (cosTab p) (sinTab p) e = rope f p e := by
  unfold turn rope cosTab sinTab
  by_cases h : e.val < 64
  · simp only [dif_pos h]
    have hm : (⟨(e.val + 128 - 64) % 128, by omega⟩ : Fin 128) = ⟨64 + e.val, by omega⟩ := Fin.ext (by show (e.val + 128 - 64) % 128 = 64 + e.val; omega)
    rw [hm, mul_neg, sub_eq_add_neg]
  · simp only [dif_neg h]
    have hm : (⟨(e.val + 128 - 64) % 128, by omega⟩ : Fin 128) = ⟨e.val - 64, by omega⟩ :=
      Fin.ext (by show (e.val + 128 - 64) % 128 = e.val - 64; omega)
    rw [hm]

/-- Column `e` of head `h` of section `s` of the projection. -/
abbrev col (s : Fin 4) (h : Fin 8) (e : Fin 128) : Fin 4096 := ⟨1024 * s.val + 128 * h.val + e.val, by omega⟩

/-- Column `e` of head `h` of a section of 1024 columns. -/
abbrev hcol (h : Fin 8) (e : Fin 128) : Fin 1024 := ⟨128 * h.val + e.val, by omega⟩

/-- Entry `e` of head `h` of the turned section `s` (the queries or the keys) of the row `x` at position `p`. -/
def turned (x g : Fin 2048 → EReal) (w : Fin 2048 → Fin 4096 → EReal) (p : EReal) (s : Fin 4) (h : Fin 8) (e : Fin 128) : EReal :=
  rope (fun e' => proj x g fun d => w d (col s h e')) p e

/-- Entry `e` of head `h` of section `s` as it comes out of the product (the state input or the values). -/
def plain (x g : Fin 2048 → EReal) (w : Fin 2048 → Fin 4096 → EReal) (s : Fin 4) (h : Fin 8) (e : Fin 128) : EReal :=
  proj x g fun d => w d (col s h e)

/-- Entry `e` of head `h` of section `s`: the second and the third section turned, the first and the last not. -/
def entry (x g : Fin 2048 → EReal) (w : Fin 2048 → Fin 4096 → EReal) (p : EReal) (s : Fin 4) (h : Fin 8) (e : Fin 128) : EReal :=
  if s = 1 ∨ s = 2 then turned x g w p s h e else plain x g w s h e

/-- The head of a column of a section. -/
abbrev headOf (n : Fin 1024) : Fin 8 := ⟨n.val / 128, by omega⟩
/-- The place of a column within its head. -/
abbrev chanOf (n : Fin 1024) : Fin 128 := ⟨n.val % 128, by omega⟩

/-- A block of 1024 columns of the product of a block of rows with the weights. -/
def plainBlk {R : Nat} (h : Fin R → Fin 2048 → EReal) (w : Fin 2048 → Fin 1024 → EReal) (b : Fin R) (n : Fin 1024) : EReal :=
  ∑ d : Fin 2048, h b d * w d n

/-- The same with every head turned with the two tables' rows. -/
def turnBlk {R : Nat} (h : Fin R → Fin 2048 → EReal) (w : Fin 2048 → Fin 1024 → EReal) (cs sn : Fin R → Fin 128 → EReal) (b : Fin R)
    (n : Fin 1024) : EReal :=
  turn (fun e => plainBlk h w b (hcol (headOf n) e)) (cs b) (sn b) (chanOf n)

end Cert.MixMath

end
-- ==== Proof.Mix.Heads.lean ====
/- Eight stores side by side, one per head, read back as one function of the block's index. -/
module

public import proofs.«01_k».proof.Proof.Mix.Math
public import Idealize.ShloMosaic.Lib.Pipeline.ValueKit

@[expose] public section

set_option maxRecDepth 16384

noncomputable section

namespace Cert.MixMath

open Idealize.ShloMosaic

/-- A block of `R` rows and 1024 columns. -/
abbrev wide (R : Nat) : Shape := ⟨2, ![R, 1024]⟩
/-- One head's part of it. -/
abbrev narrow (R : Nat) : Shape := ⟨2, ![R, 128]⟩

/-- Where an index of a head's part lies in the whole block. -/
theorem emb_head (R : Nat) (o : Nat) (k : Fin 8) (ho : o = 128 * k.val) (inb : ∀ d, ![0, o] d + (narrow R).size d ≤ (wide R).size d)
    (b : Fin R) (e : Fin 128) :
    (Rect.unit (s := wide R) ![0, o] (narrow R).size inb).emb (ix2 b e) = ix2 b (hcol k e) := by
  subst ho
  funext a
  apply Fin.ext
  rw [Rect.emb_apply]
  match a with
  | ⟨0, _⟩ => show 0 + 1 * b.val = b.val; omega
  | ⟨1, _⟩ => show 128 * k.val + 1 * e.val = 128 * k.val + e.val; omega

/-- Every index of the block lies in the part of its column's head. -/
theorem mem_head (R : Nat) (o : Nat) (inb : ∀ d, ![0, o] d + (narrow R).size d ≤ (wide R).size d) (y : (wide R).Idx)
    (hy : (y 1).val / 128 * 128 = o) : y ∈ (Rect.unit (s := wide R) ![0, o] (narrow R).size inb).set := by
  have h0 : (y 0).val < R := (y 0).isLt
  rw [Rect.mem_set_unit]
  intro a
  match a with
  | ⟨0, _⟩ => exact ⟨Nat.zero_le _, by show (y 0).val < 0 + R; omega⟩
  | ⟨1, _⟩ => exact ⟨by show o ≤ (y 1).val; omega, by show (y 1).val < o + 128; omega⟩

/-- EIGHT STORES, one per head: the block holds at each index what its head's store put there. -/
theorem canon_heads {R : Nat} (f : Fin 8 → (narrow R).Idx → EReal) (G : (wide R).Idx → EReal)
    (hf : ∀ k b e, f k (ix2 b e) = G (ix2 b (hcol k e)))
    (h0 : ∀ d, ![0, 0] d + (narrow R).size d ≤ (wide R).size d)
    (h1 : ∀ d, ![0, 128] d + (narrow R).size d ≤ (wide R).size d)
    (h2 : ∀ d, ![0, 256] d + (narrow R).size d ≤ (wide R).size d)
    (h3 : ∀ d, ![0, 384] d + (narrow R).size d ≤ (wide R).size d)
    (h4 : ∀ d, ![0, 512] d + (narrow R).size d ≤ (wide R).size d)
    (h5 : ∀ d, ![0, 640] d + (narrow R).size d ≤ (wide R).size d)
    (h6 : ∀ d, ![0, 768] d + (narrow R).size d ≤ (wide R).size d)
    (h7 : ∀ d, ![0, 896] d + (narrow R).size d ≤ (wide R).size d) (y : (wide R).Idx) :
    View.canon (Val := Elt Ideal) (e := .f32)
      [⟨Rect.unit (s := wide R) ![0, 896] (narrow R).size h7, f 7⟩,
      ⟨Rect.unit (s := wide R) ![0, 768] (narrow R).size h6, f 6⟩,
      ⟨Rect.unit (s := wide R) ![0, 640] (narrow R).size h5, f 5⟩,
      ⟨Rect.unit (s := wide R) ![0, 512] (narrow R).size h4, f 4⟩,
      ⟨Rect.unit (s := wide R) ![0, 384] (narrow R).size h3, f 3⟩,
      ⟨Rect.unit (s := wide R) ![0, 256] (narrow R).size h2, f 2⟩,
      ⟨Rect.unit (s := wide R) ![0, 128] (narrow R).size h1, f 1⟩,
      ⟨Rect.unit (s := wide R) ![0, 0] (narrow R).size h0, f 0⟩] y = G y := by
  refine View.canon_apply_of_pieces (Val := Elt Ideal) (e := .f32) G _ ?_ y ?_
  · intro p hp x
    simp only [List.mem_cons, List.not_mem_nil, or_false] at hp
    have key : ∀ (k : Fin 8) (o : Nat) (ho : o = 128 * k.val) (inb) (x : (narrow R).Idx),
        f k x = G ((Rect.unit (s := wide R) ![0, o] (narrow R).size inb).emb x) := by
      intro k o ho inb x
      have hx : x = ix2 (x 0 : Fin R) (x 1 : Fin 128) := by
        funext a
        match a with
        | ⟨0, _⟩ => rfl
        | ⟨1, _⟩ => rfl
      have := emb_head R o k ho inb (x 0 : Fin R) (x 1 : Fin 128)
      rw [hx]
      exact (hf k (x 0) (x 1)).trans (congrArg G this.symm)
    rcases hp with rfl | rfl | rfl | rfl | rfl | rfl | rfl | rfl
    · exact key 7 896 rfl h7 x
    · exact key 6 768 rfl h6 x
    · exact key 5 640 rfl h5 x
    · exact key 4 512 rfl h4 x
    · exact key 3 384 rfl h3 x
    · exact key 2 256 rfl h2 x
    · exact key 1 128 rfl h1 x
    · exact key 0 0 rfl h0 x
  · have hlt : (y 1).val < 1024 := (y 1).isLt
    have h8 : (y 1).val / 128 < 8 := by omega
    interval_cases hq : (y 1).val / 128
    · exact ⟨_, .tail _ (.tail _ (.tail _ (.tail _ (.tail _ (.tail _ (.tail _ (.head _))))))), mem_head R 0 h0 y (by omega)⟩
    · exact ⟨_, .tail _ (.tail _ (.tail _ (.tail _ (.tail _ (.tail _ (.head _)))))), mem_head R 128 h1 y (by omega)⟩
    · exact ⟨_, .tail _ (.tail _ (.tail _ (.tail _ (.tail _ (.head _))))), mem_head R 256 h2 y (by omega)⟩
    · exact ⟨_, .tail _ (.tail _ (.tail _ (.tail _ (.head _)))), mem_head R 384 h3 y (by omega)⟩
    · exact ⟨_, .tail _ (.tail _ (.tail _ (.head _))), mem_head R 512 h4 y (by omega)⟩
    · exact ⟨_, .tail _ (.tail _ (.head _)), mem_head R 640 h5 y (by omega)⟩
    · exact ⟨_, .tail _ (.head _), mem_head R 768 h6 y (by omega)⟩
    · exact ⟨_, .head _, mem_head R 896 h7 y (by omega)⟩

/-- A block of `8 * R` rows of one head each. -/
abbrev tall (R : Nat) : Shape := ⟨2, ![8 * R, 128]⟩

end Cert.MixMath

end
-- ==== Proof.MixSample.Kernel.lean ====
/- The decoding step's input projection: what each grid point leaves in its block and in the carried rows, and the result array. -/
module

public import proofs.«01_k».proof.Proof.Gen.MixSampleIdeal.Frame
public import proofs.«01_k».proof.Proof.Mix.Heads
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MixSampleIdeal.Row

open Cert.MixSampleIdeal Cert.MixSampleIdeal.Gen Idealize.ShloMosaic Idealize.ShloMosaic.TcCoe Idealize.SL.Sem Cert.MixMath

variable (m : (ℓ : Loc nD τ sig) → Buf (Elt Ideal) ℓ) (c : Dev nD)

/-- The normalised rows from the row block and the scale row. -/
theorem pay1_apply (x : Vec Ideal S32x2048 .f32) (g : Vec Ideal S1x2048 .f32) (b : Fin 32) (d : Fin 2048) :
    k0_pay1 (F := Ideal) x g (ix2 b d) = normed (fun d => x (ix2 b d)) (fun d => g (ix2 0 d)) d := by
  unfold normed
  pointwise [k0_pay1]

/-- The product block of two arrays. -/
def plainOf (w : Vec Ideal S2048x1024 .f32) (h : Vec Ideal S32x2048 .f32) : Vec Ideal S32x1024 .f32 := fun y =>
  plainBlk (fun b d => h (ix2 b d)) (fun d n => w (ix2 d n)) (y 0) (y 1)

/-- The product block of two arrays with its heads turned. -/
def turnOf (w : Vec Ideal S2048x1024 .f32) (h : Vec Ideal S32x2048 .f32) (cs sn : Vec Ideal S32x128 .f32) : Vec Ideal S32x1024 .f32 := fun y =>
  turnBlk (fun b d => h (ix2 b d)) (fun d n => w (ix2 d n)) (fun b e => cs (ix2 b e)) (fun b e => sn (ix2 b e)) (y 0) (y 1)

/-- The product block at a column of a head. -/
theorem plainOf_apply (w : Vec Ideal S2048x1024 .f32) (h : Vec Ideal S32x2048 .f32) (b : Fin 32) (k : Fin 8) (e : Fin 128) :
    plainOf w h (ix2 b (hcol k e)) = ∑ d : Fin 2048, h (ix2 b d) * w (ix2 d (hcol k e)) := rfl

/-- The turned product block at a column of a head. -/
theorem turnOf_apply (w : Vec Ideal S2048x1024 .f32) (h : Vec Ideal S32x2048 .f32) (cs sn : Vec Ideal S32x128 .f32) (b : Fin 32) (k : Fin 8)
    (e : Fin 128) :
    turnOf w h cs sn (ix2 b (hcol k e))
      = turn (fun e' => ∑ d : Fin 2048, h (ix2 b d) * w (ix2 d (hcol k e'))) (fun e' => cs (ix2 b e')) (fun e' => sn (ix2 b e')) e := by
  have h1 : headOf (hcol k e) = k := Fin.ext (by show (128 * k.val + e.val) / 128 = k.val; omega)
  have h2 : chanOf (hcol k e) = e := Fin.ext (by show (128 * k.val + e.val) % 128 = e.val; omega)
  show turn (fun e' => ∑ d : Fin 2048, h (ix2 b d) * w (ix2 d (hcol (headOf (hcol k e)) e'))) (fun e' => cs (ix2 b e'))
    (fun e' => sn (ix2 b e')) (chanOf (hcol k e)) = _
  rw [h1, h2]

/-- The eight stores of the first section. -/
def st0 (w : Vec Ideal S2048x1024 .f32) (h : Vec Ideal S32x2048 .f32) : Fin 8 → FVec Ideal S32x128 .f32 :=
  ![k0_pay3 w h, k0_pay4 w h, k0_pay5 w h, k0_pay6 w h, k0_pay7 w h, k0_pay8 w h, k0_pay9 w h, k0_pay10 w h]

/-- The eight stores of the second section. -/
def st1 (w : Vec Ideal S2048x1024 .f32) (h : Vec Ideal S32x2048 .f32) (cs sn : Vec Ideal S32x128 .f32) : Fin 8 → FVec Ideal S32x128 .f32 :=
  ![k0_pay25 w h cs sn, k0_pay26 w h cs sn, k0_pay27 w h cs sn, k0_pay28 (k0_pay24 w h) cs sn, k0_pay29 (k0_pay24 w h) cs sn,
    k0_pay30 (k0_pay24 w h) cs sn, k0_pay11 (k0_pay31 (k0_pay24 w h)) cs sn, k0_pay12 (k0_pay24 w h) cs sn]

/-- The eight stores of the third section. -/
def st2 (w : Vec Ideal S2048x1024 .f32) (h : Vec Ideal S32x2048 .f32) (cs sn : Vec Ideal S32x128 .f32) : Fin 8 → FVec Ideal S32x128 .f32 :=
  ![k0_pay33 w h cs sn, k0_pay34 w h cs sn, k0_pay35 w h cs sn, k0_pay36 (k0_pay32 w h) cs sn, k0_pay37 (k0_pay32 w h) cs sn,
    k0_pay38 (k0_pay32 w h) cs sn, k0_pay13 (k0_pay39 (k0_pay32 w h)) cs sn, k0_pay14 (k0_pay32 w h) cs sn]

/-- The eight stores of the last section. -/
def st3 (w : Vec Ideal S2048x1024 .f32) (h : Vec Ideal S32x2048 .f32) : Fin 8 → FVec Ideal S32x128 .f32 :=
  ![k0_pay16 w h, k0_pay17 w h, k0_pay18 w h, k0_pay19 w h, k0_pay20 w h, k0_pay21 w h, k0_pay22 w h, k0_pay23 w h]

/-- A store of the first section holds its head's columns of the product. -/
theorem st0_apply (w : Vec Ideal S2048x1024 .f32) (h : Vec Ideal S32x2048 .f32) (k : Fin 8) (b : Fin 32) (e : Fin 128) :
    st0 w h k (ix2 b e) = plainOf w h (ix2 b (hcol k e)) := by
  rw [plainOf_apply]
  fin_cases k
  · show k0_pay3 (F := Ideal) w h (ix2 b e) = _
    pointwise [k0_pay3, k0_pay2]
    simp [hcol]
  · show k0_pay4 (F := Ideal) w h (ix2 b e) = _
    pointwise [k0_pay4, k0_pay2]
    rfl
  · show k0_pay5 (F := Ideal) w h (ix2 b e) = _
    pointwise [k0_pay5, k0_pay2]
    rfl
  · show k0_pay6 (F := Ideal) w h (ix2 b e) = _
    pointwise [k0_pay6, k0_pay2]
    rfl
  · show k0_pay7 (F := Ideal) w h (ix2 b e) = _
    pointwise [k0_pay7, k0_pay2]
    rfl
  · show k0_pay8 (F := Ideal) w h (ix2 b e) = _
    pointwise [k0_pay8, k0_pay2]
    rfl
  · show k0_pay9 (F := Ideal) w h (ix2 b e) = _
    pointwise [k0_pay9, k0_pay2]
    rfl
  · show k0_pay10 (F := Ideal) w h (ix2 b e) = _
    pointwise [k0_pay10, k0_pay2]
    rfl

/-- A store of the second section holds its head's columns of the product, turned. -/
theorem st1_apply (w : Vec Ideal S2048x1024 .f32) (h : Vec Ideal S32x2048 .f32) (cs sn : Vec Ideal S32x128 .f32) (k : Fin 8) (b : Fin 32)
    (e : Fin 128) : st1 w h cs sn k (ix2 b e) = turnOf w h cs sn (ix2 b (hcol k e)) := by
  rw [turnOf_apply]
  fin_cases k
  · show k0_pay25 (F := Ideal) w h cs sn (ix2 b e) = _
    pointwise [k0_pay25, k0_pay24]
    simp [turn, hcol]
  · show k0_pay26 (F := Ideal) w h cs sn (ix2 b e) = _
    pointwise [k0_pay26, k0_pay24]
    rfl
  · show k0_pay27 (F := Ideal) w h cs sn (ix2 b e) = _
    pointwise [k0_pay27, k0_pay24]
    rfl
  · show k0_pay28 (F := Ideal) (k0_pay24 w h) cs sn (ix2 b e) = _
    pointwise [k0_pay28, k0_pay24]
    rfl
  · show k0_pay29 (F := Ideal) (k0_pay24 w h) cs sn (ix2 b e) = _
    pointwise [k0_pay29, k0_pay24]
    rfl
  · show k0_pay30 (F := Ideal) (k0_pay24 w h) cs sn (ix2 b e) = _
    pointwise [k0_pay30, k0_pay24]
    rfl
  · show k0_pay11 (F := Ideal) (k0_pay31 (k0_pay24 w h)) cs sn (ix2 b e) = _
    pointwise [k0_pay11, k0_pay31, k0_pay24]
    rfl
  · show k0_pay12 (F := Ideal) (k0_pay24 w h) cs sn (ix2 b e) = _
    pointwise [k0_pay12, k0_pay24]
    rfl

/-- A store of the third section holds its head's columns of the product, turned. -/
theorem st2_apply (w : Vec Ideal S2048x1024 .f32) (h : Vec Ideal S32x2048 .f32) (cs sn : Vec Ideal S32x128 .f32) (k : Fin 8) (b : Fin 32)
    (e : Fin 128) : st2 w h cs sn k (ix2 b e) = turnOf w h cs sn (ix2 b (hcol k e)) := by
  rw [turnOf_apply]
  fin_cases k
  · show k0_pay33 (F := Ideal) w h cs sn (ix2 b e) = _
    pointwise [k0_pay33, k0_pay32]
    simp [turn, hcol]
  · show k0_pay34 (F := Ideal) w h cs sn (ix2 b e) = _
    pointwise [k0_pay34, k0_pay32]
    rfl
  · show k0_pay35 (F := Ideal) w h cs sn (ix2 b e) = _
    pointwise [k0_pay35, k0_pay32]
    rfl
  · show k0_pay36 (F := Ideal) (k0_pay32 w h) cs sn (ix2 b e) = _
    pointwise [k0_pay36, k0_pay32]
    rfl
  · show k0_pay37 (F := Ideal) (k0_pay32 w h) cs sn (ix2 b e) = _
    pointwise [k0_pay37, k0_pay32]
    rfl
  · show k0_pay38 (F := Ideal) (k0_pay32 w h) cs sn (ix2 b e) = _
    pointwise [k0_pay38, k0_pay32]
    rfl
  · show k0_pay13 (F := Ideal) (k0_pay39 (k0_pay32 w h)) cs sn (ix2 b e) = _
    pointwise [k0_pay13, k0_pay39, k0_pay32]
    rfl
  · show k0_pay14 (F := Ideal) (k0_pay32 w h) cs sn (ix2 b e) = _
    pointwise [k0_pay14, k0_pay32]
    rfl

/-- A store of the last section holds its head's columns of the product. -/
theorem st3_apply (w : Vec Ideal S2048x1024 .f32) (h : Vec Ideal S32x2048 .f32) (k : Fin 8) (b : Fin 32) (e : Fin 128) :
    st3 w h k (ix2 b e) = plainOf w h (ix2 b (hcol k e)) := by
  rw [plainOf_apply]
  fin_cases k
  · show k0_pay16 (F := Ideal) w h (ix2 b e) = _
    pointwise [k0_pay16, k0_pay15]
    simp [hcol]
  · show k0_pay17 (F := Ideal) w h (ix2 b e) = _
    pointwise [k0_pay17, k0_pay15]
    rfl
  · show k0_pay18 (F := Ideal) w h (ix2 b e) = _
    pointwise [k0_pay18, k0_pay15]
    rfl
  · show k0_pay19 (F := Ideal) w h (ix2 b e) = _
    pointwise [k0_pay19, k0_pay15]
    rfl
  · show k0_pay20 (F := Ideal) w h (ix2 b e) = _
    pointwise [k0_pay20, k0_pay15]
    rfl
  · show k0_pay21 (F := Ideal) w h (ix2 b e) = _
    pointwise [k0_pay21, k0_pay15]
    rfl
  · show k0_pay22 (F := Ideal) w h (ix2 b e) = _
    pointwise [k0_pay22, k0_pay15]
    rfl
  · show k0_pay23 (F := Ideal) w h (ix2 b e) = _
    pointwise [k0_pay23, k0_pay15]
    rfl

/-- The rows that grid point `t` finds in the carried buffer. -/
abbrev carried (t : Fin cfg0.N) : Vec Ideal S32x2048 .f32 := (outsAt0 m c (t.val - 1) (Nat.lt_of_le_of_lt (Nat.sub_le _ _) t.isLt)).2

/-- The first point leaves the normalised rows in the carried buffer. -/
theorem scr_A (t : Fin cfg0.N) (h0 : t.val % 4 = 0) :
    (outsAt0 m c t.val t.isLt).2 = k0_pay1 (F := Ideal) (iblk m c 0 t) (iblk m c 3 t) := by
  rw [outsAt0_A m c t h0 h0 (by omega) (by omega) (by omega)]
  frame_out

/-- A later point leaves the carried buffer as it finds it. -/
theorem scr_later (t : Fin cfg0.N) (h0 : ¬t.val % 4 = 0) : (outsAt0 m c t.val t.isLt).2 = carried m c t := by
  have hN : t.val < 4 := lt_of_lt_of_eq t.isLt (show cfg0.N = 4 from N_0)
  by_cases h1 : t.val % 4 = 1
  · rw [outsAt0_B m c t (by omega) (by omega) h1 (by omega) (by omega)]
    rfl
  by_cases h2 : t.val % 4 = 2
  · rw [outsAt0_C m c t (by omega) (by omega) (by omega) h2 (by omega)]
    rfl
  · rw [outsAt0_D m c t (by omega) (by omega) (by omega) (by omega) (by omega)]
    rfl

/-- The first point's block: the state input. -/
theorem out_A (t : Fin cfg0.N) (h0 : t.val % 4 = 0) :
    (outsAt0 m c t.val t.isLt).1 = plainOf (iblk m c 4 t) (k0_pay1 (F := Ideal) (iblk m c 0 t) (iblk m c 3 t)) := by
  rw [outsAt0_A m c t h0 h0 (by omega) (by omega) (by omega)]
  frame_out
  funext y
  exact canon_heads (st0 (iblk m c 4 t) (k0_pay1 (F := Ideal) (iblk m c 0 t) (iblk m c 3 t))) _ (st0_apply _ _) _ _ _ _ _ _ _ _ y

/-- The second point's block: the queries. -/
theorem out_B (t : Fin cfg0.N) (h0 : t.val % 4 = 1) :
    (outsAt0 m c t.val t.isLt).1 = turnOf (iblk m c 4 t) (carried m c t) (iblk m c 1 t) (iblk m c 2 t) := by
  rw [outsAt0_B m c t (by omega) (by omega) h0 (by omega) (by omega)]
  frame_out
  simp only [read_unread_whole]
  funext y
  exact canon_heads (st1 (iblk m c 4 t) (carried m c t) (iblk m c 1 t) (iblk m c 2 t)) _ (st1_apply _ _ _ _) _ _ _ _ _ _ _ _ y

/-- The third point's block: the keys. -/
theorem out_C (t : Fin cfg0.N) (h0 : t.val % 4 = 2) :
    (outsAt0 m c t.val t.isLt).1 = turnOf (iblk m c 4 t) (carried m c t) (iblk m c 1 t) (iblk m c 2 t) := by
  rw [outsAt0_C m c t (by omega) (by omega) (by omega) h0 (by omega)]
  frame_out
  simp only [read_unread_whole]
  funext y
  exact canon_heads (st2 (iblk m c 4 t) (carried m c t) (iblk m c 1 t) (iblk m c 2 t)) _ (st2_apply _ _ _ _) _ _ _ _ _ _ _ _ y

/-- The last point's block: the values. -/
theorem out_D (t : Fin cfg0.N) (h0 : t.val % 4 = 3) :
    (outsAt0 m c t.val t.isLt).1 = plainOf (iblk m c 4 t) (carried m c t) := by
  rw [outsAt0_D m c t (by omega) (by omega) (by omega) (by omega) h0]
  frame_out
  simp only [read_unread_whole]
  funext y
  exact canon_heads (st3 (iblk m c 4 t) (carried m c t)) _ (st3_apply _ _) _ _ _ _ _ _ _ _ y

/-- Where the windows stand at grid point `t`. -/
theorem idx : ∀ t : Fin cfg0.N, win0_0.index t = ![0, 0] ∧ win0_1.index t = ![0, 0] ∧ win0_2.index t = ![0, 0]
    ∧ win0_3.index t = ![0, 0] ∧ win0_4.index t = ![0, t.val] ∧ win0_5.index t = ![0, t.val] :=
  (by decide +kernel : ∀ t : Fin grid0.N, _)

/-- The row array before the region is the first argument. -/
theorem entry17 (b : Fin 32) (d : Fin 2048) : V m c main_v17 (ix2 b d) = m ((c : Thread nD τ).loc main_arg0) (ix3 b 0 d) := by
  unfold V
  after_reads_at

/-- The scale array before the region is the second argument. -/
theorem entry19 (d : Fin 2048) : V m c main_v19 (ix2 0 d) = m ((c : Thread nD τ).loc main_arg1) (ix2 0 d) := by
  unfold V
  after_reads_at

/-- The weight array before the region is the third argument. -/
theorem entry20 (d : Fin 2048) (n : Fin 4096) : V m c main_v20 (ix2 d n) = m ((c : Thread nD τ).loc main_arg2) (ix3 0 d n) := by
  unfold V
  after_reads_at

/-- The cosine array before the region is the cosine table. -/
theorem entry14 (b : Fin 32) (e : Fin 128) : V m c main_v14 (ix2 b e) = cosTab (Ideal.ofBits .f32 0x46000000#32) e := by
  unfold V
  after_reads_at
  rfl

/-- The sine array before the region is the sine table. -/
theorem entry16 (b : Fin 32) (e : Fin 128) : V m c main_v16 (ix2 b e) = sinTab (Ideal.ofBits .f32 0x46000000#32) e := by
  unfold V
  after_reads_at
  rfl

/-- The row block is the first argument. -/
theorem read0 (t : Fin cfg0.N) (b : Fin 32) (d : Fin 2048) :
    iblk m c 0 t (ix2 b d) = m ((c : Thread nD τ).loc main_arg0) (ix3 b 0 d) := by
  have h : (win0_0.blk t).view.emb (ix2 b d) = ix2 b d := by
    blk_ext [idx t]
  exact (congrArg (V m c main_v17) h).trans (entry17 m c b d)

/-- The scale row is the second argument. -/
theorem read3 (t : Fin cfg0.N) (d : Fin 2048) : iblk m c 3 t (ix2 0 d) = m ((c : Thread nD τ).loc main_arg1) (ix2 0 d) := by
  have h : (win0_3.blk t).view.emb (ix2 0 d) = ix2 0 d := by
    blk_ext [idx t]
  exact (congrArg (V m c main_v19) h).trans (entry19 m c d)

/-- Column `n` of the weight block at point `t` is column `1024 * t + n` of the third argument. -/
theorem read4 (t : Fin cfg0.N) (d : Fin 2048) (n : Fin 1024) :
    iblk m c 4 t (ix2 d n)
      = m ((c : Thread nD τ).loc main_arg2) (ix3 0 d ⟨1024 * t.val + n.val, by have : t.val < 4 := t.isLt; omega⟩) := by
  have h : (win0_4.blk t).view.emb (ix2 d n) = ix2 d ⟨1024 * t.val + n.val, by have : t.val < 4 := t.isLt; omega⟩ := by
    blk_ext [idx t]
  exact (congrArg (V m c main_v20) h).trans (entry20 m c d _)

/-- The cosine block is the cosine table at position 8192. -/
theorem read1 (t : Fin cfg0.N) (b : Fin 32) (e : Fin 128) : iblk m c 1 t (ix2 b e) = cosTab (Ideal.ofBits .f32 0x46000000#32) e := by
  have h : (win0_1.blk t).view.emb (ix2 b e) = ix2 b e := by
    blk_ext [idx t]
  exact (congrArg (V m c main_v14) h).trans (entry14 m c b e)

/-- The sine block is the sine table at position 8192. -/
theorem read2 (t : Fin cfg0.N) (b : Fin 32) (e : Fin 128) : iblk m c 2 t (ix2 b e) = sinTab (Ideal.ofBits .f32 0x46000000#32) e := by
  have h : (win0_2.blk t).view.emb (ix2 b e) = ix2 b e := by
    blk_ext [idx t]
  exact (congrArg (V m c main_v16) h).trans (entry16 m c b e)

/-- The position of the decoding step. -/
abbrev stepPos : EReal := Ideal.ofBits .f32 0x46000000#32

/-- The projection of the argument arrays: all four sections, the queries and the keys turned to the step's position. -/
def projected (x : Vec Ideal S32x1x2048 .f32) (g : Vec Ideal S1x2048 .f32) (w : Vec Ideal S1x2048x4096 .f32) : Vec Ideal S32x4096 .f32 := fun i =>
  entry (fun d => x (ix3 (i 0) 0 d)) (fun d => g (ix2 0 d)) (fun d n => w (ix3 0 d n)) stepPos
    ⟨(i 1).val / 1024, by have : (i 1).val < 4096 := (i 1).isLt; omega⟩
    ⟨(i 1).val % 1024 / 128, by omega⟩ ⟨(i 1).val % 128, by omega⟩

/-- The projection at a column of a section. -/
theorem projected_apply (x : Vec Ideal S32x1x2048 .f32) (g : Vec Ideal S1x2048 .f32) (w : Vec Ideal S1x2048x4096 .f32) (b : Fin 32)
    (s : Fin 4) (n : Fin 1024) :
    projected x g w (ix2 b ⟨1024 * s.val + n.val, by omega⟩)
      = entry (fun d => x (ix3 b 0 d)) (fun d => g (ix2 0 d)) (fun d n => w (ix3 0 d n)) stepPos s (headOf n) (chanOf n) := by
  have h1 : (⟨(1024 * s.val + n.val) / 1024, by omega⟩ : Fin 4) = s := Fin.ext (by show (1024 * s.val + n.val) / 1024 = s.val; omega)
  have h2 : (⟨(1024 * s.val + n.val) % 1024 / 128, by omega⟩ : Fin 8) = headOf n :=
    Fin.ext (by show (1024 * s.val + n.val) % 1024 / 128 = n.val / 128; omega)
  have h3 : (⟨(1024 * s.val + n.val) % 128, by omega⟩ : Fin 128) = chanOf n :=
    Fin.ext (by show (1024 * s.val + n.val) % 128 = n.val % 128; omega)
  show entry (fun d => x (ix3 b 0 d)) _ _ stepPos ⟨(1024 * s.val + n.val) / 1024, _⟩ ⟨(1024 * s.val + n.val) % 1024 / 128, _⟩
    ⟨(1024 * s.val + n.val) % 128, _⟩ = _
  rw [h1, h2, h3]

/-- Row `b` of the first argument. -/
abbrev xrow (b : Fin 32) (d : Fin 2048) : EReal := m ((c : Thread nD τ).loc main_arg0) (ix3 b 0 d)
/-- The second argument's row. -/
abbrev grow (d : Fin 2048) : EReal := m ((c : Thread nD τ).loc main_arg1) (ix2 0 d)
/-- The third argument's matrix. -/
abbrev wmat (d : Fin 2048) (n : Fin 4096) : EReal := m ((c : Thread nD τ).loc main_arg2) (ix3 0 d n)

/-- The first point's normalised rows are those of the arguments. -/
theorem rows_first (t : Fin cfg0.N) (b : Fin 32) (d : Fin 2048) :
    k0_pay1 (F := Ideal) (iblk m c 0 t) (iblk m c 3 t) (ix2 b d) = normed (xrow m c b) (grow m c) d := by
  rw [pay1_apply]
  exact congrArg₂ (fun x g => normed x g d) (funext fun d => read0 m c t b d) (funext fun d => read3 m c t d)

/-- After every point the carried buffer holds the normalised rows. -/
theorem scr_eq : ∀ (n : Nat) (hn : n < cfg0.N) (b : Fin 32) (d : Fin 2048),
    (outsAt0 m c n hn).2 (ix2 b d) = normed (xrow m c b) (grow m c) d := by
  intro n
  induction n with
  | zero =>
    intro hn b d
    have h := scr_A m c ⟨0, hn⟩ rfl
    rw [show (outsAt0 m c 0 hn).2 = _ from h]
    exact rows_first m c ⟨0, hn⟩ b d
  | succ n ih =>
    intro hn b d
    by_cases h0 : (n + 1) % 4 = 0
    · rw [show (outsAt0 m c (n + 1) hn).2 = _ from scr_A m c ⟨n + 1, hn⟩ h0]
      exact rows_first m c ⟨n + 1, hn⟩ b d
    · rw [show (outsAt0 m c (n + 1) hn).2 = _ from scr_later m c ⟨n + 1, hn⟩ h0]
      exact ih (Nat.lt_of_succ_lt hn) b d

/-- A product block whose rows are the normalised ones. -/
theorem plain_eq (t : Fin cfg0.N) (s : Fin 4) (hs : s.val = t.val) {H : Vec Ideal S32x2048 .f32}
    (hH : ∀ b d, H (ix2 b d) = normed (xrow m c b) (grow m c) d) (b : Fin 32) (k : Fin 8) (e : Fin 128) :
    plainOf (iblk m c 4 t) H (ix2 b (hcol k e)) = plain (xrow m c b) (grow m c) (wmat m c) s k e := by
  rw [plainOf_apply]
  unfold plain proj
  refine Finset.sum_congr rfl fun d _ => congrArg₂ (· * ·) (hH b d) ((read4 m c t d (hcol k e)).trans ?_)
  exact congrArg (wmat m c d) (Fin.ext (by show 1024 * t.val + (128 * k.val + e.val) = 1024 * s.val + 128 * k.val + e.val; omega))

/-- A turned product block whose rows are the normalised ones. -/
theorem turn_block_eq (t : Fin cfg0.N) (s : Fin 4) (hs : s.val = t.val) {H : Vec Ideal S32x2048 .f32}
    (hH : ∀ b d, H (ix2 b d) = normed (xrow m c b) (grow m c) d) (b : Fin 32) (k : Fin 8) (e : Fin 128) :
    turnOf (iblk m c 4 t) H (iblk m c 1 t) (iblk m c 2 t) (ix2 b (hcol k e))
      = turned (xrow m c b) (grow m c) (wmat m c) stepPos s k e := by
  rw [turnOf_apply]
  have h1 : (fun e' => ∑ d : Fin 2048, H (ix2 b d) * iblk m c 4 t (ix2 d (hcol k e')))
      = fun e' => proj (xrow m c b) (grow m c) fun d => wmat m c d (col s k e') := funext fun e' => plain_eq m c t s hs hH b k e'
  have h2 : (fun e' => iblk m c 1 t (ix2 b e')) = cosTab stepPos := funext fun e' => read1 m c t b e'
  have h3 : (fun e' => iblk m c 2 t (ix2 b e')) = sinTab stepPos := funext fun e' => read2 m c t b e'
  exact (congrArg₂ (fun f q => turn f (Prod.fst q) (Prod.snd q) e) h1 (congrArg₂ Prod.mk h2 h3)).trans (turn_eq _ _ _)

/-- What grid point `t` leaves in its block, at a column of a head, is the projection's section `t` there. -/
theorem point (t : Fin cfg0.N) (b : Fin 32) (k : Fin 8) (e : Fin 128) :
    (outsAt0 m c t.val t.isLt).1 (ix2 b (hcol k e))
      = entry (xrow m c b) (grow m c) (wmat m c) stepPos ⟨t.val, t.isLt⟩ k e := by
  have hN : t.val < 4 := lt_of_lt_of_eq t.isLt (show cfg0.N = 4 from N_0)
  have hc : ∀ b d, carried m c t (ix2 b d) = normed (xrow m c b) (grow m c) d := scr_eq m c _ _
  have fin : ∀ j : Fin 4, (⟨t.val, t.isLt⟩ : Fin 4) = j ↔ t.val = j.val := fun j => Fin.ext_iff
  unfold entry
  by_cases h0 : t.val = 0
  · rw [out_A m c t (by omega), if_neg (by rw [fin 1, fin 2, h0]; decide)]
    exact plain_eq m c t _ rfl (rows_first m c t) b k e
  by_cases h1 : t.val = 1
  · rw [out_B m c t (by omega), if_pos (by rw [fin 1, fin 2, h1]; decide)]
    exact turn_block_eq m c t _ rfl hc b k e
  by_cases h2 : t.val = 2
  · rw [out_C m c t (by omega), if_pos (by rw [fin 1, fin 2, h2]; decide)]
    exact turn_block_eq m c t _ rfl hc b k e
  · have h3 : t.val = 3 := by omega
    rw [out_D m c t (by omega), if_neg (by rw [fin 1, fin 2, h3]; decide)]
    exact plain_eq m c t _ rfl hc b k e

/-- What grid point `t` writes back is the projection where its block lies. -/
theorem point_at (t : Fin cfg0.N) (y : S32x1024.Idx) :
    (outsAt0 m c t.val t.isLt).1 y
      = projected (m ((c : Thread nD τ).loc main_arg0)) (m ((c : Thread nD τ).loc main_arg1)) (m ((c : Thread nD τ).loc main_arg2))
          ((win0_5.blk t).view.emb y) := by
  idx_vars y
  have hN : t.val < 4 := lt_of_lt_of_eq t.isLt (show cfg0.N = 4 from N_0)
  have hy : (win0_5.blk t).view.emb (ix2 y0 y1) = ix2 y0 ⟨1024 * t.val + y1.val, by omega⟩ := by
    blk_ext [idx t]
  have hh : y1 = hcol (headOf y1) (chanOf y1) := Fin.ext (by show y1.val = 128 * (y1.val / 128) + y1.val % 128; omega)
  refine Eq.trans ?_ ((projected_apply _ _ _ y0 ⟨t.val, t.isLt⟩ y1).symm.trans (congrArg _ hy.symm))
  exact (congrArg (fun n => (outsAt0 m c t.val t.isLt).1 (ix2 y0 n)) hh).trans (point m c t y0 (headOf y1) (chanOf y1))

/-- THE PROJECTION ARRAY after the kernel's run. -/
theorem final : (dats m 0 c).arrAt 5 cfg0.N
    = projected (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  exact point_at m c t y

end Cert.MixSampleIdeal.Row

end
-- ==== Proof.MixSample.Ref.lean ====
/- The reference's input projection of the decoding step, read at an index. -/
module

public import proofs.«01_k».proof.Proof.Gen.MixSampleRefIdeal.Read
public import proofs.«01_k».proof.Proof.Mix.Math

@[expose] public section

set_option maxRecDepth 16384

noncomputable section

namespace Cert.MixSampleRefIdeal.Row

open Cert.MixSampleRefIdeal Cert.MixSampleRefIdeal.Gen Cert.MixSampleRefIdeal.Read Idealize.ShloMosaic Cert.MixMath

variable (x : (⟨S32x1x2048, .f32⟩ : BufTy).Contents (Elt Ideal)) (g : (⟨S1x2048, .f32⟩ : BufTy).Contents (Elt Ideal))
  (w : (⟨S1x2048x4096, .f32⟩ : BufTy).Contents (Elt Ideal))

/-- The normalised rows. -/
theorem v17_apply (b : Fin 32) (d : Fin 2048) :
    val_main_v17 (F := Ideal) x g (ix3 b 0 d) = normed (fun d => x (ix3 b 0 d)) (fun d => g (ix2 0 d)) d := by
  unfold normed
  pointwise [val_main_v17, val_main_v16, val_main_v15, val_main_v14, val_main_v13, val_main_v12, val_main_v11, val_main_v10, val_main_v9,
    val_main_v8, val_main_v7, val_main_v6, val_main_v5, val_main_v3, val_main_cst_0, val_main_cst_1, val_main_cst_2]

/-- The product with the weights. -/
theorem v18_apply (b : Fin 32) (n : Fin 4096) :
    val_main_v18 (F := Ideal) x g w (ix3 b 0 n) = proj (fun d => x (ix3 b 0 d)) (fun d => g (ix2 0 d)) (fun d => w (ix3 0 d n)) := by
  unfold proj
  simp only [← v17_apply]
  pointwise [val_main_v18, val_main_v4]

/-- Equal columns of the product have equal entries. -/
theorem v18_col (b : Fin 32) (i j : Fin 4096) (h : i.val = j.val) :
    val_main_v18 (F := Ideal) x g w (ix3 b 0 i) = val_main_v18 (F := Ideal) x g w (ix3 b 0 j) := by
  rw [Fin.ext h]

/-- The angles of the queries. -/
theorem v34_apply (d : Fin 64) : val_main_v34 (F := Ideal) (ix2 0 d) = angle (Ideal.ofBits .f32 0x46000000#32) d := by
  unfold angle
  pointwise [val_main_v34, val_main_v33, val_main_v32, val_main_v31, val_main_v30, val_main_v29, val_main_v28, val_main_v27, val_main_v26,
    val_main_v25, val_main_v2, val_main_v1, val_main_v0, val_main_cst, val_main_cst_3, val_main_cst_4]
  have h0 : (FloatOps.sitofp (F := Ideal) .f32 (0#32 : BitVec 32) : EReal) = 0 := by
    show (((0#32 : BitVec 32).toInt : ℝ) : EReal) = 0
    simp
  exact congrArg (· * _) ((congrArg (Ideal.ofBits .f32 0x46000000#32 + ·) h0).trans (add_zero _))

/-- The angles of the keys. -/
theorem v62_apply (d : Fin 64) : val_main_v62 (F := Ideal) (ix2 0 d) = angle (Ideal.ofBits .f32 0x46000000#32) d := v34_apply d

/-- The state input at a column. -/
theorem v81_apply (b : Fin 32) (n : Fin 1024) :
    val_main_v81 (F := Ideal) x g w (ix2 b n)
      = plain (fun d => x (ix3 b 0 d)) (fun d => g (ix2 0 d)) (fun d n => w (ix3 0 d n)) 0 (headOf n) (chanOf n) := by
  unfold plain
  simp only [← v18_apply]
  pointwise [val_main_v81, val_main_v23, val_main_v19]
  exact v18_col x g w b _ _ (by show n.val = 1024 * 0 + 128 * (n.val / 128) + n.val % 128; omega)

/-- The queries at a column. -/
theorem v82_apply (b : Fin 32) (n : Fin 1024) :
    val_main_v82 (F := Ideal) x g w (ix2 b n)
      = turned (fun d => x (ix3 b 0 d)) (fun d => g (ix2 0 d)) (fun d n => w (ix3 0 d n)) (Ideal.ofBits .f32 0x46000000#32) 1 (headOf n)
          (chanOf n) := by
  unfold turned rope
  simp only [← v18_apply, ← v34_apply]
  pointwise [val_main_v82, val_main_v51, val_main_v50, val_main_v47, val_main_v49, val_main_v45, val_main_v48, val_main_v46, val_main_v44,
    val_main_v43, val_main_v42, val_main_v41, val_main_v40, val_main_v39, val_main_v38, val_main_v37, val_main_v36, val_main_v35,
    val_main_v24, val_main_v20]
  by_cases hl : n.val % 128 < 64
  · simp only [dif_pos hl]
    exact congrArg₂ (· - ·) (congrArg (· * _) (v18_col x g w b _ _ (by show 1024 + n.val = 1024 * 1 + 128 * (n.val / 128) + n.val % 128; omega)))
      (congrArg (· * _) (v18_col x g w b _ _ (by show 1024 + (n.val / 128 * 128 + (64 + n.val % 128)) = 1024 * 1 + 128 * (n.val / 128) + (64 + n.val % 128); omega)))
  · simp only [dif_neg hl]
    exact congrArg₂ (· + ·) (congrArg (· * _) (v18_col x g w b _ _ (by show 1024 + (n.val / 128 * 128 + (64 + (n.val % 128 - 64))) = 1024 * 1 + 128 * (n.val / 128) + n.val % 128; omega)))
      (congrArg (· * _) (v18_col x g w b _ _ (by show 1024 + (n.val / 128 * 128 + (n.val % 128 - 64)) = 1024 * 1 + 128 * (n.val / 128) + (n.val % 128 - 64); omega)))

/-- The keys at a head and a channel. -/
theorem v83_apply (b : Fin 32) (k : Fin 8) (e : Fin 128) :
    val_main_v83 (F := Ideal) x g w (ix5 0 b 0 k e)
      = turned (fun d => x (ix3 b 0 d)) (fun d => g (ix2 0 d)) (fun d n => w (ix3 0 d n)) (Ideal.ofBits .f32 0x46000000#32) 2 k e := by
  unfold turned rope
  simp only [← v18_apply, ← v62_apply]
  pointwise [val_main_v83, val_main_v79, val_main_v78, val_main_v77, val_main_v76, val_main_v75, val_main_v74, val_main_v73, val_main_v72,
    val_main_v71, val_main_v70, val_main_v69, val_main_v68, val_main_v67, val_main_v66, val_main_v65, val_main_v64, val_main_v63,
    val_main_v52, val_main_v21]
  by_cases hl : e.val < 64
  · simp only [dif_pos hl]
    exact congrArg₂ (· - ·) (congrArg (· * _) (v18_col x g w b _ _ (by show 2048 + (k.val * 128 + e.val) = 1024 * 2 + 128 * k.val + e.val; omega)))
      (congrArg (· * _) (v18_col x g w b _ _ (by show 2048 + (k.val * 128 + (64 + e.val)) = 1024 * 2 + 128 * k.val + (64 + e.val); omega)))
  · simp only [dif_neg hl]
    exact congrArg₂ (· + ·) (congrArg (· * _) (v18_col x g w b _ _ (by show 2048 + (k.val * 128 + (64 + (e.val - 64))) = 1024 * 2 + 128 * k.val + e.val; omega)))
      (congrArg (· * _) (v18_col x g w b _ _ (by show 2048 + (k.val * 128 + (e.val - 64)) = 1024 * 2 + 128 * k.val + (e.val - 64); omega)))

/-- The values at a head and a channel. -/
theorem v84_apply (b : Fin 32) (k : Fin 8) (e : Fin 128) :
    val_main_v84 (F := Ideal) x g w (ix5 0 b 0 k e)
      = plain (fun d => x (ix3 b 0 d)) (fun d => g (ix2 0 d)) (fun d n => w (ix3 0 d n)) 3 k e := by
  unfold plain
  simp only [← v18_apply]
  pointwise [val_main_v84, val_main_v80, val_main_v22]
  exact v18_col x g w b _ _ (by show 3072 + (k.val * 128 + e.val) = 1024 * 3 + 128 * k.val + e.val; omega)

end Cert.MixSampleRefIdeal.Row

end
-- ==== Proof.MixSample.Result.lean ====
/- The decoding step's input projection: the kernel's four results are the reference's. -/
module

public import proofs.«01_k».proof.Proof.Gen.MixSampleIdeal
public import proofs.«01_k».proof.Proof.Gen.MixSampleRefIdeal
public import proofs.«01_k».proof.Proof.MixSample.Kernel
public import proofs.«01_k».proof.Proof.MixSample.Ref
public import Idealize.ShloMosaic.Lib.Claim
public import Idealize.ShloMosaic.Lib.StableHlo.ReadAt
public import Idealize.ShloMosaic.Lib.Pointwise

@[expose] public section

set_option maxRecDepth 16384

noncomputable section

namespace Cert.MixSampleResult

open Idealize.ShloMosaic Idealize.ShloMosaic.TcCoe Idealize.SL.Sem Cert.MixMath

open Cert.MixSampleIdeal Cert.MixSampleIdeal.Gen

variable (m : (ℓ : Loc nD τ sig) → Buf (Elt Ideal) ℓ) (c : Dev nD)

/-- The projection array as the lines after the region find it. -/
theorem tail_arr : Pipeline.withArrays spec0 c (V0 m c) (fun w => (dats m 0 c).arrAt w cfg0.N) (Proc.devRef .tc main_v21)
    = (dats m 0 c).arrAt 5 cfg0.N :=
  Pipeline.withArrays_arr spec0 (by decide) c (V0 m c) (fun w => (dats m 0 c).arrAt w cfg0.N) 5

/-- The first result is a slice of the projection array. -/
theorem tail22 (b : Fin 32) (n : Fin 1024) :
    Pipeline.afterTail₀ cfgs (dats m) 0 (V0 m) [hostOps1] c main_v22 (ix2 b n)
      = (dats m 0 c).arrAt 5 cfg0.N (ix2 b ⟨1024 * (0 : Fin 4).val + n.val, by omega⟩) := by
  unfold Pipeline.afterTail₀
  simp only [List.flatten_cons, List.flatten_nil, List.append_nil]
  after_reads_at
  exact (congrFun (tail_arr m c) _).trans (congrArg ((dats m 0 c).arrAt 5 cfg0.N)
    (congrArg (ix2 b) (Fin.ext rfl)))

/-- The second result is a slice of the projection array. -/
theorem tail23 (b : Fin 32) (n : Fin 1024) :
    Pipeline.afterTail₀ cfgs (dats m) 0 (V0 m) [hostOps1] c main_v23 (ix2 b n)
      = (dats m 0 c).arrAt 5 cfg0.N (ix2 b ⟨1024 * (1 : Fin 4).val + n.val, by omega⟩) := by
  unfold Pipeline.afterTail₀
  simp only [List.flatten_cons, List.flatten_nil, List.append_nil]
  after_reads_at
  exact (congrFun (tail_arr m c) _).trans (congrArg ((dats m 0 c).arrAt 5 cfg0.N)
    (congrArg (ix2 b) (Fin.ext (by show 1024 + n.val = 1024 * 1 + n.val; omega))))

/-- The third result is a slice of the projection array, cut into heads. -/
theorem tail26 (b : Fin 32) (k : Fin 8) (e : Fin 128) :
    Pipeline.afterTail₀ cfgs (dats m) 0 (V0 m) [hostOps1] c main_v26 (ix5 0 b 0 k e)
      = (dats m 0 c).arrAt 5 cfg0.N (ix2 b ⟨1024 * (2 : Fin 4).val + (hcol k e).val, by omega⟩) := by
  unfold Pipeline.afterTail₀
  simp only [List.flatten_cons, List.flatten_nil, List.append_nil]
  after_reads_at
  exact (congrFun (tail_arr m c) _).trans (congrArg ((dats m 0 c).arrAt 5 cfg0.N)
    (congrArg (ix2 b) (Fin.ext (by show 2048 + (k.val * 128 + e.val) = 1024 * 2 + (128 * k.val + e.val); omega))))

/-- The fourth result is a slice of the projection array, cut into heads. -/
theorem tail27 (b : Fin 32) (k : Fin 8) (e : Fin 128) :
    Pipeline.afterTail₀ cfgs (dats m) 0 (V0 m) [hostOps1] c main_v27 (ix5 0 b 0 k e)
      = (dats m 0 c).arrAt 5 cfg0.N (ix2 b ⟨1024 * (3 : Fin 4).val + (hcol k e).val, by omega⟩) := by
  unfold Pipeline.afterTail₀
  simp only [List.flatten_cons, List.flatten_nil, List.append_nil]
  after_reads_at
  exact (congrFun (tail_arr m c) _).trans (congrArg ((dats m 0 c).arrAt 5 cfg0.N)
    (congrArg (ix2 b) (Fin.ext (by show 3072 + (k.val * 128 + e.val) = 1024 * 3 + (128 * k.val + e.val); omega))))

/-- The projection array at a column of a section. -/
theorem arr_apply (b : Fin 32) (s : Fin 4) (n : Fin 1024) :
    (dats m 0 c).arrAt 5 cfg0.N (ix2 b ⟨1024 * s.val + n.val, by omega⟩)
      = entry (Row.xrow m c b) (Row.grow m c) (Row.wmat m c) Row.stepPos s (headOf n) (chanOf n) :=
  (congrFun (Row.final m c) _).trans (Row.projected_apply _ _ _ b s n)

/-- A column of a head lies in that head. -/
theorem headOf_hcol (k : Fin 8) (e : Fin 128) : headOf (hcol k e) = k := Fin.ext (by show (128 * k.val + e.val) / 128 = k.val; omega)

/-- A column of a head lies at its channel. -/
theorem chanOf_hcol (k : Fin 8) (e : Fin 128) : chanOf (hcol k e) = e := Fin.ext (by show (128 * k.val + e.val) % 128 = e.val; omega)

/-- The first argument at launch. -/
abbrev A0 := m ((c.tc : Thread nD τ).loc main_arg0)
/-- The second argument at launch. -/
abbrev A1 := m ((c.tc : Thread nD τ).loc main_arg1)
/-- The third argument at launch. -/
abbrev A2 := m ((c.tc : Thread nD τ).loc main_arg2)

/-- The kernel's first result is the reference's: the state input. -/
theorem result22 : Pipeline.afterTail₀ cfgs (dats m) 0 (V0 m) [hostOps1] c main_v22
    = Cert.MixSampleRefIdeal.Read.val_main_v81 (F := Ideal) (A0 m c) (A1 m c) (A2 m c) := by
  funext y
  idx_vars y
  exact (tail22 m c y0 y1).trans ((arr_apply m c y0 0 y1).trans (Cert.MixSampleRefIdeal.Row.v81_apply _ _ _ y0 y1).symm)

/-- The kernel's second result is the reference's: the queries. -/
theorem result23 : Pipeline.afterTail₀ cfgs (dats m) 0 (V0 m) [hostOps1] c main_v23
    = Cert.MixSampleRefIdeal.Read.val_main_v82 (F := Ideal) (A0 m c) (A1 m c) (A2 m c) := by
  funext y
  idx_vars y
  exact (tail23 m c y0 y1).trans ((arr_apply m c y0 1 y1).trans (Cert.MixSampleRefIdeal.Row.v82_apply _ _ _ y0 y1).symm)

/-- The kernel's third result is the reference's: the keys. -/
theorem result26 : Pipeline.afterTail₀ cfgs (dats m) 0 (V0 m) [hostOps1] c main_v26
    = Cert.MixSampleRefIdeal.Read.val_main_v83 (F := Ideal) (A0 m c) (A1 m c) (A2 m c) := by
  funext y
  idx_vars y
  obtain rfl : y0 = 0 := Subsingleton.elim _ _
  obtain rfl : y2 = 0 := Subsingleton.elim _ _
  refine (tail26 m c y1 y3 y4).trans ((arr_apply m c y1 2 (hcol y3 y4)).trans ?_)
  rw [headOf_hcol, chanOf_hcol]
  exact (Cert.MixSampleRefIdeal.Row.v83_apply _ _ _ y1 y3 y4).symm

/-- The kernel's fourth result is the reference's: the values. -/
theorem result27 : Pipeline.afterTail₀ cfgs (dats m) 0 (V0 m) [hostOps1] c main_v27
    = Cert.MixSampleRefIdeal.Read.val_main_v84 (F := Ideal) (A0 m c) (A1 m c) (A2 m c) := by
  funext y
  idx_vars y
  obtain rfl : y0 = 0 := Subsingleton.elim _ _
  obtain rfl : y2 = 0 := Subsingleton.elim _ _
  refine (tail27 m c y1 y3 y4).trans ((arr_apply m c y1 3 (hcol y3 y4)).trans ?_)
  rw [headOf_hcol, chanOf_hcol]
  exact (Cert.MixSampleRefIdeal.Row.v84_apply _ _ _ y1 y3 y4).symm

end Cert.MixSampleResult

end
-- ==== Proof.Mix.Strided.lean ====
/- Eight stores into every eighth row, one per head, read back as one function of the block's index. -/
module

public import proofs.«01_k».proof.Proof.Mix.Heads

@[expose] public section

set_option maxRecDepth 16384

noncomputable section

namespace Cert.MixMath

open Idealize.ShloMosaic

/-- A block of 4096 rows of one head each: 512 positions by 8 heads. -/
abbrev long : Shape := ⟨2, ![4096, 128]⟩

/-- The row of position `b` and head `k` in such a block. -/
def hrow (b : Fin 512) (k : Fin 8) : Fin 4096 := ⟨8 * b.val + k.val, by omega⟩

/-- The rectangle of every eighth row from row `o` on. -/
abbrev eighth (o : Nat)
    (h : ∀ a, (narrow 512).size a = 0 ∨ (![o, 0] : Fin 2 → Nat) a + (![8, 1] : Fin 2 → Nat) a * ((narrow 512).size a - 1) < long.size a)
    (hp : ∀ a, 0 < (![8, 1] : Fin 2 → Nat) a) : Rect long :=
  ⟨(⟨![o, 0], (narrow 512).size, ![8, 1], h⟩ : LoadRect long), hp⟩

/-- Where an index of one head's rows lies in the whole block. -/
theorem emb_eighth (o : Nat) (k : Fin 8) (ho : o = k.val) (h) (hp) (b : Fin 512) (e : Fin 128) :
    (eighth o h hp).emb (ix2 b e) = ix2 (hrow b k) e := by
  subst ho
  funext a
  apply Fin.ext
  rw [Rect.emb_apply]
  match a with
  | ⟨0, _⟩ => show k.val + 8 * b.val = 8 * b.val + k.val; omega
  | ⟨1, _⟩ => show 0 + 1 * e.val = e.val; omega

/-- Every index of the block lies among the rows of its head. -/
theorem mem_eighth (o : Nat) (h) (hp) (y : long.Idx) (hy : (y 0).val % 8 = o) : y ∈ (eighth o h hp).set := by
  have h0 : (y 0).val < 4096 := (y 0).isLt
  have h1 : (y 1).val < 128 := (y 1).isLt
  rw [LoadRect.mem_set]
  intro a
  match a with
  | ⟨0, _⟩ => exact ⟨(y 0).val / 8, by show (y 0).val / 8 < 512; omega, by show (y 0).val = o + 8 * ((y 0).val / 8); omega⟩
  | ⟨1, _⟩ => exact ⟨(y 1).val, by show (y 1).val < 128; omega, by show (y 1).val = 0 + 1 * (y 1).val; omega⟩

section

variable
    (h0 : ∀ a, (narrow 512).size a = 0 ∨ (![0, 0] : Fin 2 → Nat) a + (![8, 1] : Fin 2 → Nat) a * ((narrow 512).size a - 1) < long.size a)
    (h1 : ∀ a, (narrow 512).size a = 0 ∨ (![1, 0] : Fin 2 → Nat) a + (![8, 1] : Fin 2 → Nat) a * ((narrow 512).size a - 1) < long.size a)
    (h2 : ∀ a, (narrow 512).size a = 0 ∨ (![2, 0] : Fin 2 → Nat) a + (![8, 1] : Fin 2 → Nat) a * ((narrow 512).size a - 1) < long.size a)
    (h3 : ∀ a, (narrow 512).size a = 0 ∨ (![3, 0] : Fin 2 → Nat) a + (![8, 1] : Fin 2 → Nat) a * ((narrow 512).size a - 1) < long.size a)
    (h4 : ∀ a, (narrow 512).size a = 0 ∨ (![4, 0] : Fin 2 → Nat) a + (![8, 1] : Fin 2 → Nat) a * ((narrow 512).size a - 1) < long.size a)
    (h5 : ∀ a, (narrow 512).size a = 0 ∨ (![5, 0] : Fin 2 → Nat) a + (![8, 1] : Fin 2 → Nat) a * ((narrow 512).size a - 1) < long.size a)
    (h6 : ∀ a, (narrow 512).size a = 0 ∨ (![6, 0] : Fin 2 → Nat) a + (![8, 1] : Fin 2 → Nat) a * ((narrow 512).size a - 1) < long.size a)
    (h7 : ∀ a, (narrow 512).size a = 0 ∨ (![7, 0] : Fin 2 → Nat) a + (![8, 1] : Fin 2 → Nat) a * ((narrow 512).size a - 1) < long.size a)
    (hp : ∀ a, 0 < (![8, 1] : Fin 2 → Nat) a)

/-- The eight rectangles cover the block. -/
theorem cover_eighths {Val : EltTy → Type} {e : EltTy} (f0 f1 f2 f3 f4 f5 f6 f7 : (narrow 512).Idx → Val e) (y : long.Idx) :
    ∃ pc ∈ ([⟨eighth 7 h7 hp, f7⟩, ⟨eighth 6 h6 hp, f6⟩, ⟨eighth 5 h5 hp, f5⟩, ⟨eighth 4 h4 hp, f4⟩,
      ⟨eighth 3 h3 hp, f3⟩, ⟨eighth 2 h2 hp, f2⟩, ⟨eighth 1 h1 hp, f1⟩, ⟨eighth 0 h0 hp, f0⟩] : List (View.Piece Val long e)),
      y ∈ pc.1.set := by
  have h8 : (y 0).val % 8 < 8 := by omega
  interval_cases hq : (y 0).val % 8
  · exact ⟨_, .tail _ (.tail _ (.tail _ (.tail _ (.tail _ (.tail _ (.tail _ (.head _))))))), mem_eighth 0 h0 hp y hq⟩
  · exact ⟨_, .tail _ (.tail _ (.tail _ (.tail _ (.tail _ (.tail _ (.head _)))))), mem_eighth 1 h1 hp y hq⟩
  · exact ⟨_, .tail _ (.tail _ (.tail _ (.tail _ (.tail _ (.head _))))), mem_eighth 2 h2 hp y hq⟩
  · exact ⟨_, .tail _ (.tail _ (.tail _ (.tail _ (.head _)))), mem_eighth 3 h3 hp y hq⟩
  · exact ⟨_, .tail _ (.tail _ (.tail _ (.head _))), mem_eighth 4 h4 hp y hq⟩
  · exact ⟨_, .tail _ (.tail _ (.head _)), mem_eighth 5 h5 hp y hq⟩
  · exact ⟨_, .tail _ (.head _), mem_eighth 6 h6 hp y hq⟩
  · exact ⟨_, .head _, mem_eighth 7 h7 hp y hq⟩

/-- EIGHT STRIDED STORES, one per head: the block holds at each index what its head's store put there. -/
theorem canon_eighths (f : Fin 8 → (narrow 512).Idx → EReal) (G : long.Idx → EReal)
    (hf : ∀ k b e, f k (ix2 b e) = G (ix2 (hrow b k) e)) (y : long.Idx) :
    View.canon (Val := Elt Ideal) (e := .f32)
      [⟨eighth 7 h7 hp, f 7⟩, ⟨eighth 6 h6 hp, f 6⟩, ⟨eighth 5 h5 hp, f 5⟩, ⟨eighth 4 h4 hp, f 4⟩,
      ⟨eighth 3 h3 hp, f 3⟩, ⟨eighth 2 h2 hp, f 2⟩, ⟨eighth 1 h1 hp, f 1⟩, ⟨eighth 0 h0 hp, f 0⟩] y = G y := by
  refine View.canon_apply_of_pieces (Val := Elt Ideal) (e := .f32) G _ ?_ y ?_
  · intro p hp' x
    simp only [List.mem_cons, List.not_mem_nil, or_false] at hp'
    have key : ∀ (k : Fin 8) (o : Nat) (ho : o = k.val) (h) (x : (narrow 512).Idx),
        f k x = G ((eighth o h hp).emb x) := by
      intro k o ho h x
      have hx : x = ix2 (x 0 : Fin 512) (x 1 : Fin 128) := by
        funext a
        match a with
        | ⟨0, _⟩ => rfl
        | ⟨1, _⟩ => rfl
      have := emb_eighth o k ho h hp (x 0 : Fin 512) (x 1 : Fin 128)
      rw [hx]
      exact (hf k (x 0) (x 1)).trans (congrArg G this.symm)
    rcases hp' with rfl | rfl | rfl | rfl | rfl | rfl | rfl | rfl
    · exact key 7 7 rfl h7 x
    · exact key 6 6 rfl h6 x
    · exact key 5 5 rfl h5 x
    · exact key 4 4 rfl h4 x
    · exact key 3 3 rfl h3 x
    · exact key 2 2 rfl h2 x
    · exact key 1 1 rfl h1 x
    · exact key 0 0 rfl h0 x
  · exact cover_eighths h0 h1 h2 h3 h4 h5 h6 h7 hp (Val := Elt Ideal) (e := .f32) (f 0) (f 1) (f 2) (f 3) (f 4) (f 5) (f 6) (f 7) y

end

end Cert.MixMath

end
-- ==== Proof.MixPromptIdeal.Runs.lean ====
/- The conditions the kernel's body branches on, and a run of the body in each of the six cases they leave. -/
module

public import proofs.«01_k».proof.Proof.Gen.MixPromptIdeal.Frame
public import proofs.«01_k».proof.Proof.Gen.MixPromptIdeal.Skeleton

@[expose] public section

set_option maxRecDepth 16384

noncomputable section

namespace Cert.MixPromptIdeal.Run

open Cert.MixPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition that the column is the first (the norm). -/
abbrev condA (i : grid0.Coords) : Prop := (Scalar.cmpi .ne (Scalar.extui (Scalar.cmpi .eq (BitVec.ofNat 32 (i 1).val) 0#32)) 0#32) = 1#1
/-- It says of the point's number: `t.val % 4 = 0`. -/
theorem hcondA : ∀ t : Fin cfg0.N, condA (grid0.coords t) ↔ t.val % 4 = 0 :=
  (by decide +kernel : ∀ t : Fin grid0.N, condA (grid0.coords t) ↔ t.val % 4 = 0)
/-- The condition that the column is the first (the transposed projection). -/
abbrev condA2 (i : grid0.Coords) : Prop := k0_cond2 i = 1#1
/-- It says of the point's number: `t.val % 4 = 0`. -/
theorem hcondA2 : ∀ t : Fin cfg0.N, condA2 (grid0.coords t) ↔ t.val % 4 = 0 :=
  (by decide +kernel : ∀ t : Fin grid0.N, condA2 (grid0.coords t) ↔ t.val % 4 = 0)
/-- The condition that the column is the second. -/
abbrev condB (i : grid0.Coords) : Prop := k0_cond3 i = 1#1
/-- It says of the point's number: `t.val % 4 = 1`. -/
theorem hcondB : ∀ t : Fin cfg0.N, condB (grid0.coords t) ↔ t.val % 4 = 1 :=
  (by decide +kernel : ∀ t : Fin grid0.N, condB (grid0.coords t) ↔ t.val % 4 = 1)
/-- The condition that the column is the third. -/
abbrev condC (i : grid0.Coords) : Prop := k0_cond4 i = 1#1
/-- It says of the point's number: `t.val % 4 = 2`. -/
theorem hcondC : ∀ t : Fin cfg0.N, condC (grid0.coords t) ↔ t.val % 4 = 2 :=
  (by decide +kernel : ∀ t : Fin grid0.N, condC (grid0.coords t) ↔ t.val % 4 = 2)
/-- The condition that the rows are among the last four blocks of their sequence (keys). -/
abbrev condC1 (i : grid0.Coords) : Prop := k0_cond5 i = 1#1
/-- It says of the point's number: `4 ≤ t.val / 4 % 8`. -/
theorem hcondC1 : ∀ t : Fin cfg0.N, condC1 (grid0.coords t) ↔ 4 ≤ t.val / 4 % 8 :=
  (by decide +kernel : ∀ t : Fin grid0.N, condC1 (grid0.coords t) ↔ 4 ≤ t.val / 4 % 8)
/-- The condition that the column is the last. -/
abbrev condD (i : grid0.Coords) : Prop := k0_cond6 i = 1#1
/-- It says of the point's number: `t.val % 4 = 3`. -/
theorem hcondD : ∀ t : Fin cfg0.N, condD (grid0.coords t) ↔ t.val % 4 = 3 :=
  (by decide +kernel : ∀ t : Fin grid0.N, condD (grid0.coords t) ↔ t.val % 4 = 3)
/-- The condition that the rows are among the last four blocks of their sequence (values). -/
abbrev condD1 (i : grid0.Coords) : Prop := k0_cond7 i = 1#1
/-- It says of the point's number: `4 ≤ t.val / 4 % 8`. -/
theorem hcondD1 : ∀ t : Fin cfg0.N, condD1 (grid0.coords t) ↔ 4 ≤ t.val / 4 % 8 :=
  (by decide +kernel : ∀ t : Fin grid0.N, condD1 (grid0.coords t) ↔ 4 ≤ t.val / 4 % 8)

/-- Window 0's buffer at a point, and that it is whole. -/
abbrev mem0 (t : Fin cfg0.N) : Memref sig .tc .vmem S512x2048 .f32 := win0_0.stage (cfg0.slots t 0)
/-- It is whole. -/
abbrev whole0 (t : Fin cfg0.N) : (mem0 t).IsWhole := hstage0_0 ((cfg0.slots t 0).cast nbuf0_0)
/-- Window 1's buffer at a point, and that it is whole. -/
abbrev mem1 (t : Fin cfg0.N) : Memref sig .tc .vmem S512x128 .f32 := win0_1.stage (cfg0.slots t 1)
/-- It is whole. -/
abbrev whole1 (t : Fin cfg0.N) : (mem1 t).IsWhole := hstage0_1 ((cfg0.slots t 1).cast nbuf0_1)
/-- Window 2's buffer at a point, and that it is whole. -/
abbrev mem2 (t : Fin cfg0.N) : Memref sig .tc .vmem S512x128 .f32 := win0_2.stage (cfg0.slots t 2)
/-- It is whole. -/
abbrev whole2 (t : Fin cfg0.N) : (mem2 t).IsWhole := hstage0_2 ((cfg0.slots t 2).cast nbuf0_2)
/-- Window 3's buffer at a point, and that it is whole. -/
abbrev mem3 (t : Fin cfg0.N) : Memref sig .tc .vmem S1x2048 .f32 := win0_3.stage (cfg0.slots t 3)
/-- It is whole. -/
abbrev whole3 (t : Fin cfg0.N) : (mem3 t).IsWhole := hstage0_3 ((cfg0.slots t 3).cast nbuf0_3)
/-- Window 4's buffer at a point, and that it is whole. -/
abbrev mem4 (t : Fin cfg0.N) : Memref sig .tc .vmem S2048x4096 .bf16 := win0_4.stage (cfg0.slots t 4)
/-- It is whole. -/
abbrev whole4 (t : Fin cfg0.N) : (mem4 t).IsWhole := hstage0_4 ((cfg0.slots t 4).cast nbuf0_4)
/-- Window 5's buffer at a point, and that it is whole. -/
abbrev mem5 (t : Fin cfg0.N) : Memref sig .tc .vmem S512x1024 .f32 := win0_5.stage (cfg0.slots t 5)
/-- It is whole. -/
abbrev whole5 (t : Fin cfg0.N) : (mem5 t).IsWhole := hstage0_5 ((cfg0.slots t 5).cast nbuf0_5)
/-- Window 6's buffer at a point, and that it is whole. -/
abbrev mem6 (t : Fin cfg0.N) : Memref sig .tc .vmem S1024x512 .f32 := win0_6.stage (cfg0.slots t 6)
/-- It is whole. -/
abbrev whole6 (t : Fin cfg0.N) : (mem6 t).IsWhole := hstage0_6 ((cfg0.slots t 6).cast nbuf0_6)
/-- Window 7's buffer at a point, and that it is whole. -/
abbrev mem7 (t : Fin cfg0.N) : Memref sig .tc .vmem S4096x128 .f32 := win0_7.stage (cfg0.slots t 7)
/-- It is whole. -/
abbrev whole7 (t : Fin cfg0.N) : (mem7 t).IsWhole := hstage0_7 ((cfg0.slots t 7).cast nbuf0_7)
/-- Window 8's buffer at a point, and that it is whole. -/
abbrev mem8 (t : Fin cfg0.N) : Memref sig .tc .vmem S4096x128 .f32 := win0_8.stage (cfg0.slots t 8)
/-- It is whole. -/
abbrev whole8 (t : Fin cfg0.N) : (mem8 t).IsWhole := hstage0_8 ((cfg0.slots t 8).cast nbuf0_8)

section

variable (c : Dev nD) (i : grid0.Coords)
variable (arg2 : Memref sig .tc .vmem S512x2048 .f32) (harg2 : arg2.IsWhole)
  (arg3 : Memref sig .tc .vmem S512x128 .f32) (harg3 : arg3.IsWhole)
  (arg4 : Memref sig .tc .vmem S512x128 .f32) (harg4 : arg4.IsWhole)
  (arg5 : Memref sig .tc .vmem S1x2048 .f32) (harg5 : arg5.IsWhole)
  (arg6 : Memref sig .tc .vmem S2048x4096 .bf16) (harg6 : arg6.IsWhole)
  (arg7 : Memref sig .tc .vmem S512x1024 .f32) (harg7 : arg7.IsWhole)
  (arg8 : Memref sig .tc .vmem S1024x512 .f32) (harg8 : arg8.IsWhole)
  (arg9 : Memref sig .tc .vmem S4096x128 .f32) (harg9 : arg9.IsWhole)
  (arg10 : Memref sig .tc .vmem S4096x128 .f32) (harg10 : arg10.IsWhole)
  (arg11 : Memref sig .tc .vmem S512x2048 .bf16) (harg11 : arg11.IsWhole)

set_option maxHeartbeats 2000000 in
/-- A run of the body at the first column of the grid: the rows are normed into the scratch and the first 1024 columns are projected, transposed. It
    is given the blocks it reads and the buffers it fills, and hands back the former as they were and the latter with
    the listed stores made in them (the last one first). -/
noncomputable def runA (x0 : Vec F S512x2048 .f32) (x3 : Vec F S1x2048 .f32) (x4 : Vec F S2048x4096 .bf16) :
    Σ' (L8 : List (View.Piece (Elt F) S1024x512 .f32)), { LS : List (View.Piece (Elt F) S512x2048 .bf16) //
      ∀ (hc0 : condA i) (hc1 : condA2 i) (hc2 : ¬condB i) (hc3 : ¬condC i) (hc5 : ¬condD i) (E : Set ℕ) (K : PUnit → sProp 𝕄),
        iprop(owns (c : Thread nD τ) arg2 fullShare x0 ∗ owns (c : Thread nD τ) arg5 fullShare x3 ∗ owns (c : Thread nD τ) arg6 fullShare x4 ∗ (∃ d, owns (c : Thread nD τ) arg8 fullShare d) ∗ (∃ d, owns (c : Thread nD τ) arg11 fullShare d)
            ∗ (iprop(owns (c : Thread nD τ) arg2 fullShare x0 ∗ owns (c : Thread nD τ) arg5 fullShare x3 ∗ owns (c : Thread nD τ) arg6 fullShare x4 ∗ (∃ f, arg8.view.loc (c : Thread nD τ) ↦[arg8.view.set]{fullShare} arg8.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11) K } := by
  refine ⟨?_, ?_, fun hc0 hc1 hc2 hc3 hc5 E K => ?run⟩
  case run =>
    simp only [cc0_mixer_in_eq_skeleton]; unfold cc0_mixer_in_skel
    simp only [k0_part1_eq_skeleton, k0_part2_eq_skeleton, k0_part3_eq_skeleton, k0_part4_eq_skeleton]
    unfold owns
    iintro ⟨⟨%f2, %hf2, H2⟩, ⟨%f5, %hf5, H5⟩, ⟨%f6, %hf6, H6⟩, ⟨%d8, %f8, -, H8⟩, ⟨%d11, %f11, -, H11⟩, Hk⟩
    obtain rfl := harg2.eq_unread hf2; obtain rfl := harg5.eq_unread hf5; obtain rfl := harg6.eq_unread hf6
    sl_exec (disch := first | sl_exact hc0 | sl_exact hc1 | sl_exact hc2 | sl_exact hc3 | sl_exact hc5)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H8]
    · iexists _; iexact H8
    iexists _; iexact H11

set_option maxHeartbeats 2000000 in
/-- A run of the body at the second column of the grid: the queries. It
    is given the blocks it reads and the buffers it fills, and hands back the former as they were and the latter with
    the listed stores made in them (the last one first). -/
noncomputable def runB (x1 : Vec F S512x128 .f32) (x2 : Vec F S512x128 .f32) (x4 : Vec F S2048x4096 .bf16) (xs : Vec F S512x2048 .bf16) :
    { L7 : List (View.Piece (Elt F) S512x1024 .f32) //
      ∀ (hc0 : ¬condA i) (hc1 : ¬condA2 i) (hc2 : condB i) (hc3 : ¬condC i) (hc5 : ¬condD i) (E : Set ℕ) (K : PUnit → sProp 𝕄),
        iprop(owns (c : Thread nD τ) arg3 fullShare x1 ∗ owns (c : Thread nD τ) arg4 fullShare x2 ∗ owns (c : Thread nD τ) arg6 fullShare x4 ∗ (∃ d, owns (c : Thread nD τ) arg7 fullShare d) ∗ owns (c : Thread nD τ) arg11 fullShare xs
            ∗ (iprop(owns (c : Thread nD τ) arg3 fullShare x1 ∗ owns (c : Thread nD τ) arg4 fullShare x2 ∗ owns (c : Thread nD τ) arg6 fullShare x4 ∗ (∃ f, arg7.view.loc (c : Thread nD τ) ↦[arg7.view.set]{fullShare} arg7.view.writes (Elt F) f L7) ∗ owns (c : Thread nD τ) arg11 fullShare xs) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11) K } := by
  refine ⟨?_, fun hc0 hc1 hc2 hc3 hc5 E K => ?run⟩
  case run =>
    simp only [cc0_mixer_in_eq_skeleton]; unfold cc0_mixer_in_skel
    simp only [k0_part1_eq_skeleton, k0_part2_eq_skeleton, k0_part3_eq_skeleton, k0_part4_eq_skeleton]
    unfold owns
    iintro ⟨⟨%f3, %hf3, H3⟩, ⟨%f4, %hf4, H4⟩, ⟨%f6, %hf6, H6⟩, ⟨%d7, %f7, -, H7⟩, ⟨%f11, %hf11, H11⟩, Hk⟩
    obtain rfl := harg3.eq_unread hf3; obtain rfl := harg4.eq_unread hf4; obtain rfl := harg6.eq_unread hf6; obtain rfl := harg11.eq_unread hf11
    sl_exec (disch := first | sl_exact hc0 | sl_exact hc1 | sl_exact hc2 | sl_exact hc3 | sl_exact hc5)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; iexact H7
    iexists _; isplitr; · ipureintro; exact harg11.read_unread _
    iexact H11

set_option maxHeartbeats 2000000 in
/-- A run of the body at the third column of the grid, outside the window of positions that is kept: the keys. It
    is given the blocks it reads and the buffers it fills, and hands back the former as they were and the latter with
    the listed stores made in them (the last one first). -/
noncomputable def runC0 (x1 : Vec F S512x128 .f32) (x2 : Vec F S512x128 .f32) (x4 : Vec F S2048x4096 .bf16) (xs : Vec F S512x2048 .bf16) :
    { L7 : List (View.Piece (Elt F) S512x1024 .f32) //
      ∀ (hc0 : ¬condA i) (hc1 : ¬condA2 i) (hc2 : ¬condB i) (hc3 : condC i) (hc4 : ¬condC1 i) (hc5 : ¬condD i) (E : Set ℕ) (K : PUnit → sProp 𝕄),
        iprop(owns (c : Thread nD τ) arg3 fullShare x1 ∗ owns (c : Thread nD τ) arg4 fullShare x2 ∗ owns (c : Thread nD τ) arg6 fullShare x4 ∗ (∃ d, owns (c : Thread nD τ) arg7 fullShare d) ∗ owns (c : Thread nD τ) arg11 fullShare xs
            ∗ (iprop(owns (c : Thread nD τ) arg3 fullShare x1 ∗ owns (c : Thread nD τ) arg4 fullShare x2 ∗ owns (c : Thread nD τ) arg6 fullShare x4 ∗ (∃ f, arg7.view.loc (c : Thread nD τ) ↦[arg7.view.set]{fullShare} arg7.view.writes (Elt F) f L7) ∗ owns (c : Thread nD τ) arg11 fullShare xs) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11) K } := by
  refine ⟨?_, fun hc0 hc1 hc2 hc3 hc4 hc5 E K => ?run⟩
  case run =>
    simp only [cc0_mixer_in_eq_skeleton]; unfold cc0_mixer_in_skel
    simp only [k0_part1_eq_skeleton, k0_part2_eq_skeleton, k0_part3_eq_skeleton, k0_part4_eq_skeleton]
    unfold owns
    iintro ⟨⟨%f3, %hf3, H3⟩, ⟨%f4, %hf4, H4⟩, ⟨%f6, %hf6, H6⟩, ⟨%d7, %f7, -, H7⟩, ⟨%f11, %hf11, H11⟩, Hk⟩
    obtain rfl := harg3.eq_unread hf3; obtain rfl := harg4.eq_unread hf4; obtain rfl := harg6.eq_unread hf6; obtain rfl := harg11.eq_unread hf11
    sl_exec (disch := first | sl_exact hc0 | sl_exact hc1 | sl_exact hc2 | sl_exact hc3 | sl_exact hc4 | sl_exact hc5)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; iexact H7
    iexists _; isplitr; · ipureintro; exact harg11.read_unread _
    iexact H11

set_option maxHeartbeats 2000000 in
/-- A run of the body at the third column of the grid, inside the window of positions that is kept: the keys, and the same keys into the cache. It
    is given the blocks it reads and the buffers it fills, and hands back the former as they were and the latter with
    the listed stores made in them (the last one first). -/
noncomputable def runC1 (x1 : Vec F S512x128 .f32) (x2 : Vec F S512x128 .f32) (x4 : Vec F S2048x4096 .bf16) (xs : Vec F S512x2048 .bf16) :
    Σ' (L7 : List (View.Piece (Elt F) S512x1024 .f32)), { L9 : List (View.Piece (Elt F) S4096x128 .f32) //
      ∀ (hc0 : ¬condA i) (hc1 : ¬condA2 i) (hc2 : ¬condB i) (hc3 : condC i) (hc4 : condC1 i) (hc5 : ¬condD i) (E : Set ℕ) (K : PUnit → sProp 𝕄),
        iprop(owns (c : Thread nD τ) arg3 fullShare x1 ∗ owns (c : Thread nD τ) arg4 fullShare x2 ∗ owns (c : Thread nD τ) arg6 fullShare x4 ∗ (∃ d, owns (c : Thread nD τ) arg7 fullShare d) ∗ (∃ d, owns (c : Thread nD τ) arg9 fullShare d) ∗ owns (c : Thread nD τ) arg11 fullShare xs
            ∗ (iprop(owns (c : Thread nD τ) arg3 fullShare x1 ∗ owns (c : Thread nD τ) arg4 fullShare x2 ∗ owns (c : Thread nD τ) arg6 fullShare x4 ∗ (∃ f, arg7.view.loc (c : Thread nD τ) ↦[arg7.view.set]{fullShare} arg7.view.writes (Elt F) f L7) ∗ (∃ f, arg9.view.loc (c : Thread nD τ) ↦[arg9.view.set]{fullShare} arg9.view.writes (Elt F) f L9) ∗ owns (c : Thread nD τ) arg11 fullShare xs) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11) K } := by
  refine ⟨?_, ?_, fun hc0 hc1 hc2 hc3 hc4 hc5 E K => ?run⟩
  case run =>
    simp only [cc0_mixer_in_eq_skeleton]; unfold cc0_mixer_in_skel
    simp only [k0_part1_eq_skeleton, k0_part2_eq_skeleton, k0_part3_eq_skeleton, k0_part4_eq_skeleton]
    unfold owns
    iintro ⟨⟨%f3, %hf3, H3⟩, ⟨%f4, %hf4, H4⟩, ⟨%f6, %hf6, H6⟩, ⟨%d7, %f7, -, H7⟩, ⟨%d9, %f9, -, H9⟩, ⟨%f11, %hf11, H11⟩, Hk⟩
    obtain rfl := harg3.eq_unread hf3; obtain rfl := harg4.eq_unread hf4; obtain rfl := harg6.eq_unread hf6; obtain rfl := harg11.eq_unread hf11
    sl_exec (disch := first | sl_exact hc0 | sl_exact hc1 | sl_exact hc2 | sl_exact hc3 | sl_exact hc4 | sl_exact hc5)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; iexact H7
    isplitl [H9]
    · iexists _; iexact H9
    iexists _; isplitr; · ipureintro; exact harg11.read_unread _
    iexact H11

set_option maxHeartbeats 2000000 in
/-- A run of the body at the last column of the grid, outside the window of positions that is kept: the values. It
    is given the blocks it reads and the buffers it fills, and hands back the former as they were and the latter with
    the listed stores made in them (the last one first). -/
noncomputable def runD0 (x4 : Vec F S2048x4096 .bf16) (xs : Vec F S512x2048 .bf16) :
    { L7 : List (View.Piece (Elt F) S512x1024 .f32) //
      ∀ (hc0 : ¬condA i) (hc1 : ¬condA2 i) (hc2 : ¬condB i) (hc3 : ¬condC i) (hc5 : condD i) (hc6 : ¬condD1 i) (E : Set ℕ) (K : PUnit → sProp 𝕄),
        iprop(owns (c : Thread nD τ) arg6 fullShare x4 ∗ (∃ d, owns (c : Thread nD τ) arg7 fullShare d) ∗ owns (c : Thread nD τ) arg11 fullShare xs
            ∗ (iprop(owns (c : Thread nD τ) arg6 fullShare x4 ∗ (∃ f, arg7.view.loc (c : Thread nD τ) ↦[arg7.view.set]{fullShare} arg7.view.writes (Elt F) f L7) ∗ owns (c : Thread nD τ) arg11 fullShare xs) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11) K } := by
  refine ⟨?_, fun hc0 hc1 hc2 hc3 hc5 hc6 E K => ?run⟩
  case run =>
    simp only [cc0_mixer_in_eq_skeleton]; unfold cc0_mixer_in_skel
    simp only [k0_part1_eq_skeleton, k0_part2_eq_skeleton, k0_part3_eq_skeleton, k0_part4_eq_skeleton]
    unfold owns
    iintro ⟨⟨%f6, %hf6, H6⟩, ⟨%d7, %f7, -, H7⟩, ⟨%f11, %hf11, H11⟩, Hk⟩
    obtain rfl := harg6.eq_unread hf6; obtain rfl := harg11.eq_unread hf11
    sl_exec (disch := first | sl_exact hc0 | sl_exact hc1 | sl_exact hc2 | sl_exact hc3 | sl_exact hc5 | sl_exact hc6)
    sl_step
    iapply Hk
    isplitl [H6]
    · iexists _; isplitr; · ipureintro; exact harg6.read_unread _
      iexact H6
    isplitl [H7]
    · iexists _; iexact H7
    iexists _; isplitr; · ipureintro; exact harg11.read_unread _
    iexact H11

set_option maxHeartbeats 2000000 in
/-- A run of the body at the last column of the grid, inside the window of positions that is kept: the values, and the same values into the cache. It
    is given the blocks it reads and the buffers it fills, and hands back the former as they were and the latter with
    the listed stores made in them (the last one first). -/
noncomputable def runD1 (x4 : Vec F S2048x4096 .bf16) (xs : Vec F S512x2048 .bf16) :
    Σ' (L7 : List (View.Piece (Elt F) S512x1024 .f32)), { L10 : List (View.Piece (Elt F) S4096x128 .f32) //
      ∀ (hc0 : ¬condA i) (hc1 : ¬condA2 i) (hc2 : ¬condB i) (hc3 : ¬condC i) (hc5 : condD i) (hc6 : condD1 i) (E : Set ℕ) (K : PUnit → sProp 𝕄),
        iprop(owns (c : Thread nD τ) arg6 fullShare x4 ∗ (∃ d, owns (c : Thread nD τ) arg7 fullShare d) ∗ (∃ d, owns (c : Thread nD τ) arg10 fullShare d) ∗ owns (c : Thread nD τ) arg11 fullShare xs
            ∗ (iprop(owns (c : Thread nD τ) arg6 fullShare x4 ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ owns (c : Thread nD τ) arg11 fullShare xs) -∗ K ⟨⟩))
          ⊢ wp frame (wpE (defs₀ (F := F)) Variants.none c none) E (cc0_mixer_in i arg2 harg2 arg3 harg3 arg4 harg4 arg5 harg5 arg6 harg6 arg7 harg7 arg8 harg8 arg9 harg9 arg10 harg10 arg11 harg11) K } := by
  refine ⟨?_, ?_, fun hc0 hc1 hc2 hc3 hc5 hc6 E K => ?run⟩
  case run =>
    simp only [cc0_mixer_in_eq_skeleton]; unfold cc0_mixer_in_skel
    simp only [k0_part1_eq_skeleton, k0_part2_eq_skeleton, k0_part3_eq_skeleton, k0_part4_eq_skeleton]
    unfold owns
    iintro ⟨⟨%f6, %hf6, H6⟩, ⟨%d7, %f7, -, H7⟩, ⟨%d10, %f10, -, H10⟩, ⟨%f11, %hf11, H11⟩, Hk⟩
    obtain rfl := harg6.eq_unread hf6; obtain rfl := harg11.eq_unread hf11
    sl_exec (disch := first | sl_exact hc0 | sl_exact hc1 | sl_exact hc2 | sl_exact hc3 | sl_exact hc5 | sl_exact hc6)
    sl_step
    iapply Hk
    isplitl [H6]
    · iexists _; isplitr; · ipureintro; exact harg6.read_unread _
      iexact H6
    isplitl [H7]
    · iexists _; iexact H7
    isplitl [H10]
    · iexists _; iexact H10
    iexists _; isplitr; · ipureintro; exact harg11.read_unread _
    iexact H11

end

end Cert.MixPromptIdeal.Run

end
-- ==== Proof.MixPromptIdeal.Data.lean ====
/- What each output's buffer holds after the body at each point of the grid. -/
module

public import proofs.«01_k».proof.Proof.MixPromptIdeal.Runs
public import proofs.«01_k».proof.Proof.Mix.Strided
public import Idealize.ShloMosaic.Lib.Pipeline.TableIdle

@[expose] public section

set_option maxRecDepth 16384

noncomputable section

namespace Cert.MixPromptIdeal.Run

open Cert.MixPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that carries the normed rows from the first column of the grid to the others. -/
abbrev scr : Memref sig .tc .vmem S512x2048 .bf16 := Memref.whole cc0_scratch0

/-- What the launch hands over besides the windows: the scratch at some contents and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The first point of a point's row of the grid. -/
def first (t : Fin cfg0.N) : Fin cfg0.N := ⟨t.val / 4 * 4, by have := t.isLt; omega⟩
/-- The third point of a point's row of the grid. -/
def third (t : Fin cfg0.N) : Fin cfg0.N := ⟨t.val / 4 * 4 + 2, by have h : t.val < 64 := t.isLt.trans_eq N_0; exact (by omega : t.val / 4 * 4 + 2 < 64).trans_eq N_0.symm⟩

/-! ## What each case leaves -/

/-- The rows normed at a point of the first column. -/
def norm0 (c : Dev nD) (t : Fin cfg0.N) : Vec F S512x2048 .bf16 := View.canon (runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 0 t) (iblk m c 3 t) (iblk m c 4 t)).2.1
/-- The transposed projection made at a point of the first column. -/
def trans0 (c : Dev nD) (t : Fin cfg0.N) : Vec F S1024x512 .f32 := View.canon (runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 0 t) (iblk m c 3 t) (iblk m c 4 t)).1
/-- The normed rows the scratch carries through a row of the grid. -/
def normed (c : Dev nD) (t : Fin cfg0.N) : Vec F S512x2048 .bf16 := norm0 m c (first t)
/-- The queries made at a point of the second column. -/
def queries (c : Dev nD) (t : Fin cfg0.N) : Vec F S512x1024 .f32 := View.canon (runB c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1
/-- The keys made at a point of the third column that keeps none of them. -/
def keysOut (c : Dev nD) (t : Fin cfg0.N) : Vec F S512x1024 .f32 := View.canon (runC0 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1
/-- The keys made at a point of the third column that keeps them. -/
def keysIn (c : Dev nD) (t : Fin cfg0.N) : Vec F S512x1024 .f32 := View.canon (runC1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1
/-- The kept keys. -/
def keyCache (c : Dev nD) (t : Fin cfg0.N) : Vec F S4096x128 .f32 := View.canon (runC1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).2.1
/-- The values made at a point of the last column that keeps none of them. -/
def valuesOut (c : Dev nD) (t : Fin cfg0.N) : Vec F S512x1024 .f32 := View.canon (runD0 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).1
/-- The values made at a point of the last column that keeps them. -/
def valuesIn (c : Dev nD) (t : Fin cfg0.N) : Vec F S512x1024 .f32 := View.canon (runD1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).1
/-- The kept values. -/
def valueCache (c : Dev nD) (t : Fin cfg0.N) : Vec F S4096x128 .f32 := View.canon (runD1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).2.1

/-- The store of the normed rows fills the scratch. -/
theorem cover_norm0 (c : Dev nD) (t : Fin cfg0.N) (y : S512x2048.Idx) :
    ∃ pc ∈ (runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 0 t) (iblk m c 3 t) (iblk m c 4 t)).2.1, y ∈ pc.1.set :=
  View.cover_of_tiledL (runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 0 t) (iblk m c 3 t) (iblk m c 4 t)).2.1 S512x2048.size (by sl_kernel_rfl) y
/-- The store of the transposed projection fills its block. -/
theorem cover_trans0 (c : Dev nD) (t : Fin cfg0.N) (y : S1024x512.Idx) :
    ∃ pc ∈ (runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 0 t) (iblk m c 3 t) (iblk m c 4 t)).1, y ∈ pc.1.set :=
  View.cover_of_tiledL (runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 0 t) (iblk m c 3 t) (iblk m c 4 t)).1 S1024x512.size (by sl_kernel_rfl) y
/-- The eight stores of the queries fill their block. -/
theorem cover_queries (c : Dev nD) (t : Fin cfg0.N) (y : S512x1024.Idx) :
    ∃ pc ∈ (runB c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1, y ∈ pc.1.set :=
  View.cover_of_tiledL (runB c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1 S512x128.size (by sl_kernel_rfl) y
/-- The eight stores, one per head, fill the block. -/
theorem cover_keysOut (c : Dev nD) (t : Fin cfg0.N) (y : S512x1024.Idx) :
    ∃ pc ∈ (runC0 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1, y ∈ pc.1.set :=
  View.cover_of_tiledL (runC0 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1 S512x128.size (by sl_kernel_rfl) y
/-- The eight stores, one per head, fill the block. -/
theorem cover_keysIn (c : Dev nD) (t : Fin cfg0.N) (y : S512x1024.Idx) :
    ∃ pc ∈ (runC1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1, y ∈ pc.1.set :=
  View.cover_of_tiledL (runC1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).1 S512x128.size (by sl_kernel_rfl) y
/-- The eight stores, one per head, fill the block. -/
theorem cover_valuesOut (c : Dev nD) (t : Fin cfg0.N) (y : S512x1024.Idx) :
    ∃ pc ∈ (runD0 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).1, y ∈ pc.1.set :=
  View.cover_of_tiledL (runD0 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).1 S512x128.size (by sl_kernel_rfl) y
/-- The eight stores, one per head, fill the block. -/
theorem cover_valuesIn (c : Dev nD) (t : Fin cfg0.N) (y : S512x1024.Idx) :
    ∃ pc ∈ (runD1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).1, y ∈ pc.1.set :=
  View.cover_of_tiledL (runD1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).1 S512x128.size (by sl_kernel_rfl) y
/-- The eight strided stores of the kept keys fill their block. -/
theorem cover_keyCache (c : Dev nD) (t : Fin cfg0.N) (y : S4096x128.Idx) :
    ∃ pc ∈ (runC1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).2.1, y ∈ pc.1.set :=
  Cert.MixMath.cover_eighths inb_S4096x128_S512x128_0_0_s_8_1 inb_S4096x128_S512x128_1_0_s_8_1 inb_S4096x128_S512x128_2_0_s_8_1 inb_S4096x128_S512x128_3_0_s_8_1
    inb_S4096x128_S512x128_4_0_s_8_1 inb_S4096x128_S512x128_5_0_s_8_1 inb_S4096x128_S512x128_6_0_s_8_1 inb_S4096x128_S512x128_7_0_s_8_1 spos_8_1 (Val := Elt F) (e := .f32) _ _ _ _ _ _ _ _ y
/-- The eight strided stores of the kept values fill their block. -/
theorem cover_valueCache (c : Dev nD) (t : Fin cfg0.N) (y : S4096x128.Idx) :
    ∃ pc ∈ (runD1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).2.1, y ∈ pc.1.set :=
  Cert.MixMath.cover_eighths inb_S4096x128_S512x128_0_0_s_8_1 inb_S4096x128_S512x128_1_0_s_8_1 inb_S4096x128_S512x128_2_0_s_8_1 inb_S4096x128_S512x128_3_0_s_8_1
    inb_S4096x128_S512x128_4_0_s_8_1 inb_S4096x128_S512x128_5_0_s_8_1 inb_S4096x128_S512x128_6_0_s_8_1 inb_S4096x128_S512x128_7_0_s_8_1 spos_8_1 (Val := Elt F) (e := .f32) _ _ _ _ _ _ _ _ y

/-- Through whichever buffer: stores that fill it leave the canonical contents. -/
theorem read_filled {S : Shape} {e : EltTy} (v : View sig .tc .vmem S e) (f : v.ty.Contents (Elt F)) (L : List (View.Piece (Elt F) S e))
    (h : ∀ y, ∃ pc ∈ L, y ∈ pc.1.set) : v.read (Elt F) (v.writes (Elt F) f L) = View.canon L :=
  (View.read_writes_of_cover v f v v.junk L h).trans (View.read_writes_junk_eq_canon v L)

/-! ## The proof data -/

/-- What the projections' block holds after the body at a point. -/
def blockAfter (c : Dev nD) (t : Fin cfg0.N) : Vec F S512x1024 .f32 :=
  if t.val % 4 = 1 then queries m c t
  else if t.val % 4 = 2 then (if 4 ≤ t.val / 4 % 8 then keysIn m c t else keysOut m c t)
  else if 4 ≤ t.val / 4 % 8 then valuesIn m c t else valuesOut m c t

/-- What is owned besides the windows before position `n`: after the first point the scratch holds the normed rows. -/
def PhiS (c : Dev nD) : (n : ℕ) → n ≤ cfg0.N → sProp 𝕄
  | 0, _ => Pipeline.ΦA spec0 c
  | n + 1, hn => iprop(iprop(owns (c : Thread nD τ) scr fullShare (normed m c ⟨n, hn⟩)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scr fullShare (normed m c ⟨n, hn⟩)) ∗ (∃ r, prngReg c r)) := rfl

/-- Before any later point. -/
theorem PhiS_pos (c : Dev nD) (n : ℕ) (h : n ≤ cfg0.N) (hz : n ≠ 0) :
    PhiS m c n h = iprop(iprop(owns (c : Thread nD τ) scr fullShare (normed m c ⟨n - 1, by omega⟩)) ∗ (∃ r, prngReg c r)) := by
  cases n with
  | zero => exact absurd rfl hz
  | succ n => rfl

/-- The proof data of the pipeline: the arrays as the region finds them, and what each window's buffer holds after the
    body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockAfter m c t
    | ⟨6, _⟩ => trans0 m c (first t)
    | ⟨7, _⟩ => keyCache m c (third t)
    | ⟨8, _⟩ => valueCache m c t
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- What is owned at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Input 0 stays in place. -/
theorem after_0 (c : Dev nD) (t : Fin cfg0.N) : (dats m 0 c).after 0 t = iblk m c 0 t := by dsimp only [dats]
/-- Input 0's buffer holds its block at every point. -/
theorem before_0 (c : Dev nD) (t : Fin cfg0.N) (d) : (dats m 0 c).before 0 t d = iblk m c 0 t :=
  before0_0_of m (dats m 0 c) (A_eq m c 0) (after_0 m c) t d
/-- Input 1 stays in place. -/
theorem after_1 (c : Dev nD) (t : Fin cfg0.N) : (dats m 0 c).after 1 t = iblk m c 1 t := by dsimp only [dats]
/-- Input 1's buffer holds its block at every point. -/
theorem before_1 (c : Dev nD) (t : Fin cfg0.N) (d) : (dats m 0 c).before 1 t d = iblk m c 1 t :=
  before0_1_of m (dats m 0 c) (A_eq m c 1) (after_1 m c) t d
/-- Input 2 stays in place. -/
theorem after_2 (c : Dev nD) (t : Fin cfg0.N) : (dats m 0 c).after 2 t = iblk m c 2 t := by dsimp only [dats]
/-- Input 2's buffer holds its block at every point. -/
theorem before_2 (c : Dev nD) (t : Fin cfg0.N) (d) : (dats m 0 c).before 2 t d = iblk m c 2 t :=
  before0_2_of m (dats m 0 c) (A_eq m c 2) (after_2 m c) t d
/-- Input 3 stays in place. -/
theorem after_3 (c : Dev nD) (t : Fin cfg0.N) : (dats m 0 c).after 3 t = iblk m c 3 t := by dsimp only [dats]
/-- Input 3's buffer holds its block at every point. -/
theorem before_3 (c : Dev nD) (t : Fin cfg0.N) (d) : (dats m 0 c).before 3 t d = iblk m c 3 t :=
  before0_3_of m (dats m 0 c) (A_eq m c 3) (after_3 m c) t d
/-- Input 4 stays in place. -/
theorem after_4 (c : Dev nD) (t : Fin cfg0.N) : (dats m 0 c).after 4 t = iblk m c 4 t := by dsimp only [dats]
/-- Input 4's buffer holds its block at every point. -/
theorem before_4 (c : Dev nD) (t : Fin cfg0.N) (d) : (dats m 0 c).before 4 t d = iblk m c 4 t :=
  before0_4_of m (dats m 0 c) (A_eq m c 4) (after_4 m c) t d
/-- What output 5's buffer holds after a point. -/
theorem after_5 (c : Dev nD) (t : Fin cfg0.N) : (dats m 0 c).after 5 t = blockAfter m c t := by dsimp only [dats]
/-- What output 6's buffer holds after a point. -/
theorem after_6 (c : Dev nD) (t : Fin cfg0.N) : (dats m 0 c).after 6 t = trans0 m c (first t) := by dsimp only [dats]
/-- What output 7's buffer holds after a point. -/
theorem after_7 (c : Dev nD) (t : Fin cfg0.N) : (dats m 0 c).after 7 t = keyCache m c (third t) := by dsimp only [dats]
/-- What output 8's buffer holds after a point. -/
theorem after_8 (c : Dev nD) (t : Fin cfg0.N) : (dats m 0 c).after 8 t = valueCache m c t := by dsimp only [dats]

/-! ## Where the outputs are left alone, and where they are written back -/

/-- Output 5 is left alone in the first column. -/
theorem idle_5 : ∀ t : Fin cfg0.N, cfg0.idle 5 (grid0.coords t) = decide (t.val % 4 = 0) := by decide +kernel
/-- Output 6 is left alone in the other columns. -/
theorem idle_6 : ∀ t : Fin cfg0.N, cfg0.idle 6 (grid0.coords t) = decide (t.val % 4 ≠ 0) := by decide +kernel
/-- Output 7 is filled in the third column, for the rows that are kept. -/
theorem idle_7 : ∀ t : Fin cfg0.N, cfg0.idle 7 (grid0.coords t) = decide (¬(t.val % 4 = 2 ∧ 4 ≤ t.val / 4 % 8)) := by decide +kernel
/-- Output 8 is filled in the last column, for the rows that are kept. -/
theorem idle_8 : ∀ t : Fin cfg0.N, cfg0.idle 8 (grid0.coords t) = decide (¬(t.val % 4 = 3 ∧ 4 ≤ t.val / 4 % 8)) := by decide +kernel
/-- Output 5 is written back after every column but the first. -/
theorem flush_5 : ∀ t : Fin cfg0.N, (cfg0.win 5).flush t = decide (t.val % 4 ≠ 0) :=
  (by simp only [Pipeline.Window.flush_eq_flushF]; decide +kernel : ∀ t : Fin grid0.N, win0_5.flush t = decide (t.val % 4 ≠ 0))
/-- Output 6 is written back after the last column. -/
theorem flush_6 : ∀ t : Fin cfg0.N, (cfg0.win 6).flush t = decide (t.val % 4 = 3) :=
  (by simp only [Pipeline.Window.flush_eq_flushF]; decide +kernel : ∀ t : Fin grid0.N, win0_6.flush t = decide (t.val % 4 = 3))
/-- Output 7 is written back after the last column, for the rows that are kept. -/
theorem flush_7 : ∀ t : Fin cfg0.N, (cfg0.win 7).flush t = decide (t.val % 4 = 3 ∧ 4 ≤ t.val / 4 % 8) :=
  (by simp only [Pipeline.Window.flush_eq_flushF]; decide +kernel : ∀ t : Fin grid0.N, win0_7.flush t = decide (t.val % 4 = 3 ∧ 4 ≤ t.val / 4 % 8))
/-- Output 8 is written back after the last column, for the rows that are kept. -/
theorem flush_8 : ∀ t : Fin cfg0.N, (cfg0.win 8).flush t = decide (t.val % 4 = 3 ∧ 4 ≤ t.val / 4 % 8) :=
  (by simp only [Pipeline.Window.flush_eq_flushF]; decide +kernel : ∀ t : Fin grid0.N, win0_8.flush t = decide (t.val % 4 = 3 ∧ 4 ≤ t.val / 4 % 8))

/-- Output 6's buffer holds nothing of use exactly before the first column. -/
theorem fresh_6 (n : ℕ) (h : n ≤ cfg0.N) : cfg0.fresh 6 n = decide (n % 4 = 0) :=
  Pipeline.Cfg.fresh_tab cfg0 6 (fun n => decide (n % 4 = 0)) rfl (fun t => by
    rw [flush_6, idle_6]
    have h : t.val < 64 := t.isLt.trans_eq N_0
    simp only [← Bool.decide_or, ← Bool.decide_and, decide_eq_decide]; omega) n h
/-- Output 7's buffer holds the kept keys exactly before the last column, for the rows that are kept. -/
theorem fresh_7 (n : ℕ) (h : n ≤ cfg0.N) : cfg0.fresh 7 n = decide (¬(n % 4 = 3 ∧ 4 ≤ n / 4 % 8)) :=
  Pipeline.Cfg.fresh_tab cfg0 7 (fun n => decide (¬(n % 4 = 3 ∧ 4 ≤ n / 4 % 8))) rfl (fun t => by
    rw [flush_7, idle_7]
    have h : t.val < 64 := t.isLt.trans_eq N_0
    simp only [← Bool.decide_or, ← Bool.decide_and, decide_eq_decide]; omega) n h

/-- In the last column output 6's buffer still holds the transposed projection. -/
theorem before_6 (c : Dev nD) (t : Fin cfg0.N) (ht : t.val % 4 = 3) (d) : (dats m 0 c).before 6 t d = (dats m 0 c).after 6 t := by
  have hN : t.val < 64 := t.isLt.trans_eq N_0
  have same : ∀ (s : Fin cfg0.N) (hs : s.val % 4 ≠ 0), (dats m 0 c).after 6 s = (dats m 0 c).after 6 ⟨s.val - 1, by have := s.isLt; omega⟩ := by
    intro s hs
    rw [after_6, after_6]
    exact congrArg (trans0 m c) (Fin.ext (by show s.val / 4 * 4 = (s.val - 1) / 4 * 4; omega))
  rw [Pipeline.Dat.before_out_traj (dats m 0 c) 6 rfl (fun _ _ => rfl) (fun s _ hi hf => same s (by
    rw [idle_6] at hi; exact of_decide_eq_true hi)) t.val t rfl d]
  rw [fresh_6 t.val (Nat.le_of_lt t.isLt), if_neg (by simp [ht])]
  exact (same t (by omega)).symm

/-- In the last column output 7's buffer still holds the kept keys, for the rows that are kept. -/
theorem before_7 (c : Dev nD) (t : Fin cfg0.N) (ht : t.val % 4 = 3) (hk : 4 ≤ t.val / 4 % 8) (d) :
    (dats m 0 c).before 7 t d = (dats m 0 c).after 7 t := by
  have hN : t.val < 64 := t.isLt.trans_eq N_0
  have same : ∀ (s : Fin cfg0.N) (hs : s.val % 4 = 3), (dats m 0 c).after 7 s = (dats m 0 c).after 7 ⟨s.val - 1, by have := s.isLt; omega⟩ := by
    intro s hs
    rw [after_7, after_7]
    exact congrArg (keyCache m c) (Fin.ext (by show s.val / 4 * 4 + 2 = (s.val - 1) / 4 * 4 + 2; omega))
  rw [Pipeline.Dat.before_out_traj (dats m 0 c) 7 rfl (fun _ _ => rfl) (fun s _ hi hf => same s (by
    rw [fresh_7 s.val (Nat.le_of_lt s.isLt)] at hf
    have := of_decide_eq_false hf; omega)) t.val t rfl d]
  rw [fresh_7 t.val (Nat.le_of_lt t.isLt), if_neg (by simp [ht, hk])]
  exact (same t ht).symm

end Cert.MixPromptIdeal.Run

end
-- ==== Proof.MixPromptIdeal.Body.lean ====
/- The body at each point of the grid, the run of the whole program, and its frame. -/
module

public import proofs.«01_k».proof.Proof.MixPromptIdeal.Data

@[expose] public section

set_option maxRecDepth 16384

noncomputable section

namespace Cert.MixPromptIdeal.Run

open Cert.MixPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Input 0 is left as it was. -/
theorem leaves_0 (c : Dev nD) (t : Fin cfg0.N) : (dats m 0 c).leavesExact 0 t = owns (c : Thread nD τ) (mem0 t) fullShare (iblk m c 0 t) := by
  unfold Dat.leavesExact; rw [show cfg0.idle 0 (cfg0.grid.coords t) = false from rfl, after_0]
/-- Input 1 is left as it was. -/
theorem leaves_1 (c : Dev nD) (t : Fin cfg0.N) : (dats m 0 c).leavesExact 1 t = owns (c : Thread nD τ) (mem1 t) fullShare (iblk m c 1 t) := by
  unfold Dat.leavesExact; rw [show cfg0.idle 1 (cfg0.grid.coords t) = false from rfl, after_1]
/-- Input 2 is left as it was. -/
theorem leaves_2 (c : Dev nD) (t : Fin cfg0.N) : (dats m 0 c).leavesExact 2 t = owns (c : Thread nD τ) (mem2 t) fullShare (iblk m c 2 t) := by
  unfold Dat.leavesExact; rw [show cfg0.idle 2 (cfg0.grid.coords t) = false from rfl, after_2]
/-- Input 3 is left as it was. -/
theorem leaves_3 (c : Dev nD) (t : Fin cfg0.N) : (dats m 0 c).leavesExact 3 t = owns (c : Thread nD τ) (mem3 t) fullShare (iblk m c 3 t) := by
  unfold Dat.leavesExact; rw [show cfg0.idle 3 (cfg0.grid.coords t) = false from rfl, after_3]
/-- Input 4 is left as it was. -/
theorem leaves_4 (c : Dev nD) (t : Fin cfg0.N) : (dats m 0 c).leavesExact 4 t = owns (c : Thread nD τ) (mem4 t) fullShare (iblk m c 4 t) := by
  unfold Dat.leavesExact; rw [show cfg0.idle 4 (cfg0.grid.coords t) = false from rfl, after_4]
/-- Output 5 where the body stores into it. -/
theorem live_5 (c : Dev nD) (t : Fin cfg0.N) (hi : cfg0.idle 5 (grid0.coords t) = false) :
    (dats m 0 c).leavesExact 5 t = owns (c : Thread nD τ) (mem5 t) fullShare ((dats m 0 c).after 5 t) := by
  unfold Dat.leavesExact; rw [show cfg0.idle 5 (cfg0.grid.coords t) = false from hi]
/-- Output 5 where the body leaves it alone and it isn't written back. -/
theorem kept_5 (c : Dev nD) (t : Fin cfg0.N) (hi : cfg0.idle 5 (grid0.coords t) = true) (hf : (cfg0.win 5).flush t = false) :
    (dats m 0 c).leavesExact 5 t = iprop(∃ d, owns (c : Thread nD τ) (mem5 t) fullShare ((dats m 0 c).before 5 t d)) :=
  Pipeline.Dat.leavesExact_idle (dats m 0 c) 5 t hi hf
/-- Output 6 where the body stores into it. -/
theorem live_6 (c : Dev nD) (t : Fin cfg0.N) (hi : cfg0.idle 6 (grid0.coords t) = false) :
    (dats m 0 c).leavesExact 6 t = owns (c : Thread nD τ) (mem6 t) fullShare ((dats m 0 c).after 6 t) := by
  unfold Dat.leavesExact; rw [show cfg0.idle 6 (cfg0.grid.coords t) = false from hi]
/-- Output 6 where the body leaves it alone and it isn't written back. -/
theorem kept_6 (c : Dev nD) (t : Fin cfg0.N) (hi : cfg0.idle 6 (grid0.coords t) = true) (hf : (cfg0.win 6).flush t = false) :
    (dats m 0 c).leavesExact 6 t = iprop(∃ d, owns (c : Thread nD τ) (mem6 t) fullShare ((dats m 0 c).before 6 t d)) :=
  Pipeline.Dat.leavesExact_idle (dats m 0 c) 6 t hi hf
/-- Output 7 where the body stores into it. -/
theorem live_7 (c : Dev nD) (t : Fin cfg0.N) (hi : cfg0.idle 7 (grid0.coords t) = false) :
    (dats m 0 c).leavesExact 7 t = owns (c : Thread nD τ) (mem7 t) fullShare ((dats m 0 c).after 7 t) := by
  unfold Dat.leavesExact; rw [show cfg0.idle 7 (cfg0.grid.coords t) = false from hi]
/-- Output 7 where the body leaves it alone and it isn't written back. -/
theorem kept_7 (c : Dev nD) (t : Fin cfg0.N) (hi : cfg0.idle 7 (grid0.coords t) = true) (hf : (cfg0.win 7).flush t = false) :
    (dats m 0 c).leavesExact 7 t = iprop(∃ d, owns (c : Thread nD τ) (mem7 t) fullShare ((dats m 0 c).before 7 t d)) :=
  Pipeline.Dat.leavesExact_idle (dats m 0 c) 7 t hi hf
/-- Output 8 where the body stores into it. -/
theorem live_8 (c : Dev nD) (t : Fin cfg0.N) (hi : cfg0.idle 8 (grid0.coords t) = false) :
    (dats m 0 c).leavesExact 8 t = owns (c : Thread nD τ) (mem8 t) fullShare ((dats m 0 c).after 8 t) := by
  unfold Dat.leavesExact; rw [show cfg0.idle 8 (cfg0.grid.coords t) = false from hi]
/-- Output 8 where the body leaves it alone and it isn't written back. -/
theorem kept_8 (c : Dev nD) (t : Fin cfg0.N) (hi : cfg0.idle 8 (grid0.coords t) = true) (hf : (cfg0.win 8).flush t = false) :
    (dats m 0 c).leavesExact 8 t = iprop(∃ d, owns (c : Thread nD τ) (mem8 t) fullShare ((dats m 0 c).before 8 t d)) :=
  Pipeline.Dat.leavesExact_idle (dats m 0 c) 8 t hi hf
/-- Output 6 where the body leaves it alone and it is written back. -/
theorem sent_6 (c : Dev nD) (t : Fin cfg0.N) (hi : cfg0.idle 6 (grid0.coords t) = true) (hf : (cfg0.win 6).flush t = true) :
    (dats m 0 c).leavesExact 6 t = owns (c : Thread nD τ) (mem6 t) fullShare ((dats m 0 c).after 6 t) := by
  unfold Dat.leavesExact; rw [show cfg0.idle 6 (cfg0.grid.coords t) = true from hi, hf]
/-- Output 7 where the body leaves it alone and it is written back. -/
theorem sent_7 (c : Dev nD) (t : Fin cfg0.N) (hi : cfg0.idle 7 (grid0.coords t) = true) (hf : (cfg0.win 7).flush t = true) :
    (dats m 0 c).leavesExact 7 t = owns (c : Thread nD τ) (mem7 t) fullShare ((dats m 0 c).after 7 t) := by
  unfold Dat.leavesExact; rw [show cfg0.idle 7 (cfg0.grid.coords t) = true from hi, hf]

set_option maxHeartbeats 3200000 in
/-- The body at a point of the first column of the grid. -/
theorem sound_A (c : Dev nD) (t : Fin cfg0.N) (ht : t.val % 4 = 0) :
    bodyPre m c t ⊢ wp frame (wpE (defs₀ (F := F)) Variants.none c none) Set.univ (bodyAt0 t) (fun _ => bodyPost m c t) := by
  have hN : t.val < 64 := t.isLt.trans_eq N_0
  unfold bodyPre bodyPost bodyAt0
  simp only [before_0, before_1, before_2, before_3, before_4]
  rw [leaves_0, leaves_1, leaves_2, leaves_3, leaves_4]
  rw [kept_5 m c t (by rw [idle_5]; exact decide_eq_true (by omega)) (by rw [flush_5]; exact decide_eq_false (by omega))]
  rw [live_6 m c t (by rw [idle_6]; exact decide_eq_false (by omega))]
  rw [kept_7 m c t (by rw [idle_7]; exact decide_eq_true (by omega)) (by rw [flush_7]; exact decide_eq_false (by omega))]
  rw [kept_8 m c t (by rw [idle_8]; exact decide_eq_true (by omega)) (by rw [flush_8]; exact decide_eq_false (by omega))]
  have hfirst : first t = t := Fin.ext (by show t.val / 4 * 4 = t.val; omega)
  rw [after_6, hfirst]
  rw [show (dats m 0 c).Φ t.succ = iprop(iprop(owns (c : Thread nD τ) scr fullShare (normed m c t)) ∗ (∃ r, prngReg c r)) from PhiS_succ m c t.val t.isLt,
    show (dats m 0 c).owesAt () t.succ = (dats m 0 c).owesAt () t.castSucc from rfl]
  by_cases hz : t.val = 0
  · rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 0 t) (iblk m c 3 t) (iblk m c 4 t)).2.2 ((hcondA t).mpr (by omega)) ((hcondA2 t).mpr (by omega)) (fun h => absurd ((hcondB t).mp h) (by omega)) (fun h => absurd ((hcondC t).mp h) (by omega)) (fun h => absurd ((hcondD t).mp h) (by omega)) Set.univ _)
    isplitl [H0]; · iexact H0
    isplitl [H3]; · iexact H3
    isplitl [H4]; · iexact H4
    isplitl [H6]; · iexists _; iexact H6
    isplitl [HS]; · iexact HS
    iintro ⟨H0, H3, H4, ⟨%e8, H6⟩, ⟨%es, HS⟩⟩
    isplitl [HS Hg]
    · isplitl [HS]
      · unfold owns; iexists _; isplitr
        swap; · iexact HS
        ipureintro
        exact (read_filled _ _ _ (cover_norm0 m c t)).trans (congrArg (norm0 m c) hfirst).symm
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexists _; iexact H5
    isplitl [H6]
    · unfold owns; iexists _; isplitr
      swap; · iexact H6
      ipureintro; exact read_filled _ _ _ (cover_trans0 m c t)
    isplitl [H7]
    · iexists _; iexact H7
    iexists _; iexact H8
  · rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 0 t) (iblk m c 3 t) (iblk m c 4 t)).2.2 ((hcondA t).mpr (by omega)) ((hcondA2 t).mpr (by omega)) (fun h => absurd ((hcondB t).mp h) (by omega)) (fun h => absurd ((hcondC t).mp h) (by omega)) (fun h => absurd ((hcondD t).mp h) (by omega)) Set.univ _)
    isplitl [H0]; · iexact H0
    isplitl [H3]; · iexact H3
    isplitl [H4]; · iexact H4
    isplitl [H6]; · iexists _; iexact H6
    isplitl [HS]; · iexists _; iexact HS
    iintro ⟨H0, H3, H4, ⟨%e8, H6⟩, ⟨%es, HS⟩⟩
    isplitl [HS Hg]
    · isplitl [HS]
      · unfold owns; iexists _; isplitr
        swap; · iexact HS
        ipureintro
        exact (read_filled _ _ _ (cover_norm0 m c t)).trans (congrArg (norm0 m c) hfirst).symm
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexists _; iexact H5
    isplitl [H6]
    · unfold owns; iexists _; isplitr
      swap; · iexact H6
      ipureintro; exact read_filled _ _ _ (cover_trans0 m c t)
    isplitl [H7]
    · iexists _; iexact H7
    iexists _; iexact H8

set_option maxHeartbeats 3200000 in
/-- The body at a point of the second column of the grid. -/
theorem sound_B (c : Dev nD) (t : Fin cfg0.N) (ht : t.val % 4 = 1) :
    bodyPre m c t ⊢ wp frame (wpE (defs₀ (F := F)) Variants.none c none) Set.univ (bodyAt0 t) (fun _ => bodyPost m c t) := by
  have hN : t.val < 64 := t.isLt.trans_eq N_0
  unfold bodyPre bodyPost bodyAt0
  simp only [before_0, before_1, before_2, before_3, before_4]
  rw [leaves_0, leaves_1, leaves_2, leaves_3, leaves_4]
  rw [live_5 m c t (by rw [idle_5]; exact decide_eq_false (by omega))]
  rw [kept_6 m c t (by rw [idle_6]; exact decide_eq_true (by omega)) (by rw [flush_6]; exact decide_eq_false (by omega))]
  rw [kept_7 m c t (by rw [idle_7]; exact decide_eq_true (by omega)) (by rw [flush_7]; exact decide_eq_false (by omega))]
  rw [kept_8 m c t (by rw [idle_8]; exact decide_eq_true (by omega)) (by rw [flush_8]; exact decide_eq_false (by omega))]
  rw [after_5, show blockAfter m c t = queries m c t from by
    unfold blockAfter; rw [if_pos ht]]
  rw [show (dats m 0 c).Φ t.succ = iprop(iprop(owns (c : Thread nD τ) scr fullShare (normed m c t)) ∗ (∃ r, prngReg c r)) from PhiS_succ m c t.val t.isLt,
    show (dats m 0 c).owesAt () t.succ = (dats m 0 c).owesAt () t.castSucc from rfl]
  rw [PhiS_castSucc m c t, PhiS_pos m c _ _ (by omega),
    show normed m c ⟨t.val - 1, by omega⟩ = normed m c t from congrArg (norm0 m c) (Fin.ext (by show (t.val - 1) / 4 * 4 = t.val / 4 * 4; omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).2 (fun h => absurd ((hcondA t).mp h) (by omega)) (fun h => absurd ((hcondA2 t).mp h) (by omega)) ((hcondB t).mpr (by omega)) (fun h => absurd ((hcondC t).mp h) (by omega)) (fun h => absurd ((hcondD t).mp h) (by omega)) Set.univ _)
  isplitl [H1]; · iexact H1
  isplitl [H2]; · iexact H2
  isplitl [H4]; · iexact H4
  isplitl [H5]; · iexists _; iexact H5
  isplitl [HS]; · iexact HS
  iintro ⟨H1, H2, H4, ⟨%e7, H5⟩, HS⟩
  isplitl [HS Hg]
  · isplitl [HS]; · iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; exact read_filled _ _ _ (cover_queries m c t)
  isplitl [H6]
  · iexists _; iexact H6
  isplitl [H7]
  · iexists _; iexact H7
  iexists _; iexact H8

set_option maxHeartbeats 3200000 in
/-- The body at a point of the third column of the grid, outside the window of positions that is kept. -/
theorem sound_C0 (c : Dev nD) (t : Fin cfg0.N) (ht : t.val % 4 = 2) (hk : ¬4 ≤ t.val / 4 % 8) :
    bodyPre m c t ⊢ wp frame (wpE (defs₀ (F := F)) Variants.none c none) Set.univ (bodyAt0 t) (fun _ => bodyPost m c t) := by
  have hN : t.val < 64 := t.isLt.trans_eq N_0
  unfold bodyPre bodyPost bodyAt0
  simp only [before_0, before_1, before_2, before_3, before_4]
  rw [leaves_0, leaves_1, leaves_2, leaves_3, leaves_4]
  rw [live_5 m c t (by rw [idle_5]; exact decide_eq_false (by omega))]
  rw [kept_6 m c t (by rw [idle_6]; exact decide_eq_true (by omega)) (by rw [flush_6]; exact decide_eq_false (by omega))]
  rw [kept_7 m c t (by rw [idle_7]; exact decide_eq_true (by omega)) (by rw [flush_7]; exact decide_eq_false (by omega))]
  rw [kept_8 m c t (by rw [idle_8]; exact decide_eq_true (by omega)) (by rw [flush_8]; exact decide_eq_false (by omega))]
  rw [after_5, show blockAfter m c t = keysOut m c t from by
    unfold blockAfter; rw [if_neg (by omega), if_pos ht, if_neg hk]]
  rw [show (dats m 0 c).Φ t.succ = iprop(iprop(owns (c : Thread nD τ) scr fullShare (normed m c t)) ∗ (∃ r, prngReg c r)) from PhiS_succ m c t.val t.isLt,
    show (dats m 0 c).owesAt () t.succ = (dats m 0 c).owesAt () t.castSucc from rfl]
  rw [PhiS_castSucc m c t, PhiS_pos m c _ _ (by omega),
    show normed m c ⟨t.val - 1, by omega⟩ = normed m c t from congrArg (norm0 m c) (Fin.ext (by show (t.val - 1) / 4 * 4 = t.val / 4 * 4; omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC0 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).2 (fun h => absurd ((hcondA t).mp h) (by omega)) (fun h => absurd ((hcondA2 t).mp h) (by omega)) (fun h => absurd ((hcondB t).mp h) (by omega)) ((hcondC t).mpr (by omega)) (fun h => absurd ((hcondC1 t).mp h) (by omega)) (fun h => absurd ((hcondD t).mp h) (by omega)) Set.univ _)
  isplitl [H1]; · iexact H1
  isplitl [H2]; · iexact H2
  isplitl [H4]; · iexact H4
  isplitl [H5]; · iexists _; iexact H5
  isplitl [HS]; · iexact HS
  iintro ⟨H1, H2, H4, ⟨%e7, H5⟩, HS⟩
  isplitl [HS Hg]
  · isplitl [HS]; · iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; exact read_filled _ _ _ (cover_keysOut m c t)
  isplitl [H6]
  · iexists _; iexact H6
  isplitl [H7]
  · iexists _; iexact H7
  iexists _; iexact H8

set_option maxHeartbeats 3200000 in
/-- The body at a point of the third column of the grid, inside the window of positions that is kept. -/
theorem sound_C1 (c : Dev nD) (t : Fin cfg0.N) (ht : t.val % 4 = 2) (hk : 4 ≤ t.val / 4 % 8) :
    bodyPre m c t ⊢ wp frame (wpE (defs₀ (F := F)) Variants.none c none) Set.univ (bodyAt0 t) (fun _ => bodyPost m c t) := by
  have hN : t.val < 64 := t.isLt.trans_eq N_0
  unfold bodyPre bodyPost bodyAt0
  simp only [before_0, before_1, before_2, before_3, before_4]
  rw [leaves_0, leaves_1, leaves_2, leaves_3, leaves_4]
  rw [live_5 m c t (by rw [idle_5]; exact decide_eq_false (by omega))]
  rw [kept_6 m c t (by rw [idle_6]; exact decide_eq_true (by omega)) (by rw [flush_6]; exact decide_eq_false (by omega))]
  rw [live_7 m c t (by rw [idle_7]; exact decide_eq_false (by omega))]
  rw [kept_8 m c t (by rw [idle_8]; exact decide_eq_true (by omega)) (by rw [flush_8]; exact decide_eq_false (by omega))]
  rw [after_5, show blockAfter m c t = keysIn m c t from by
    unfold blockAfter; rw [if_neg (by omega), if_pos ht, if_pos hk]]
  rw [after_7, show third t = t from Fin.ext (by show t.val / 4 * 4 + 2 = t.val; omega)]
  rw [show (dats m 0 c).Φ t.succ = iprop(iprop(owns (c : Thread nD τ) scr fullShare (normed m c t)) ∗ (∃ r, prngReg c r)) from PhiS_succ m c t.val t.isLt,
    show (dats m 0 c).owesAt () t.succ = (dats m 0 c).owesAt () t.castSucc from rfl]
  rw [PhiS_castSucc m c t, PhiS_pos m c _ _ (by omega),
    show normed m c ⟨t.val - 1, by omega⟩ = normed m c t from congrArg (norm0 m c) (Fin.ext (by show (t.val - 1) / 4 * 4 = t.val / 4 * 4; omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 1 t) (iblk m c 2 t) (iblk m c 4 t) (normed m c t)).2.2 (fun h => absurd ((hcondA t).mp h) (by omega)) (fun h => absurd ((hcondA2 t).mp h) (by omega)) (fun h => absurd ((hcondB t).mp h) (by omega)) ((hcondC t).mpr (by omega)) ((hcondC1 t).mpr (by omega)) (fun h => absurd ((hcondD t).mp h) (by omega)) Set.univ _)
  isplitl [H1]; · iexact H1
  isplitl [H2]; · iexact H2
  isplitl [H4]; · iexact H4
  isplitl [H5]; · iexists _; iexact H5
  isplitl [H7]; · iexists _; iexact H7
  isplitl [HS]; · iexact HS
  iintro ⟨H1, H2, H4, ⟨%e7, H5⟩, ⟨%e9, H7⟩, HS⟩
  isplitl [HS Hg]
  · isplitl [HS]; · iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; exact read_filled _ _ _ (cover_keysIn m c t)
  isplitl [H6]
  · iexists _; iexact H6
  isplitl [H7]
  · unfold owns; iexists _; isplitr
    swap; · iexact H7
    ipureintro; exact read_filled _ _ _ (cover_keyCache m c t)
  iexists _; iexact H8

set_option maxHeartbeats 3200000 in
/-- The body at a point of the last column of the grid, outside the window of positions that is kept. -/
theorem sound_D0 (c : Dev nD) (t : Fin cfg0.N) (ht : t.val % 4 = 3) (hk : ¬4 ≤ t.val / 4 % 8) :
    bodyPre m c t ⊢ wp frame (wpE (defs₀ (F := F)) Variants.none c none) Set.univ (bodyAt0 t) (fun _ => bodyPost m c t) := by
  have hN : t.val < 64 := t.isLt.trans_eq N_0
  unfold bodyPre bodyPost bodyAt0
  simp only [before_0, before_1, before_2, before_3, before_4]
  rw [leaves_0, leaves_1, leaves_2, leaves_3, leaves_4]
  rw [live_5 m c t (by rw [idle_5]; exact decide_eq_false (by omega))]
  rw [sent_6 m c t (by rw [idle_6]; exact decide_eq_true (by omega)) (by rw [flush_6]; exact decide_eq_true (by omega))]
  rw [kept_7 m c t (by rw [idle_7]; exact decide_eq_true (by omega)) (by rw [flush_7]; exact decide_eq_false (by omega))]
  rw [kept_8 m c t (by rw [idle_8]; exact decide_eq_true (by omega)) (by rw [flush_8]; exact decide_eq_false (by omega))]
  rw [after_5, show blockAfter m c t = valuesOut m c t from by
    unfold blockAfter; rw [if_neg (by omega), if_neg (by omega), if_neg hk]]
  simp only [before_6 m c t ht]
  rw [show (dats m 0 c).Φ t.succ = iprop(iprop(owns (c : Thread nD τ) scr fullShare (normed m c t)) ∗ (∃ r, prngReg c r)) from PhiS_succ m c t.val t.isLt,
    show (dats m 0 c).owesAt () t.succ = (dats m 0 c).owesAt () t.castSucc from rfl]
  rw [PhiS_castSucc m c t, PhiS_pos m c _ _ (by omega),
    show normed m c ⟨t.val - 1, by omega⟩ = normed m c t from congrArg (norm0 m c) (Fin.ext (by show (t.val - 1) / 4 * 4 = t.val / 4 * 4; omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD0 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).2 (fun h => absurd ((hcondA t).mp h) (by omega)) (fun h => absurd ((hcondA2 t).mp h) (by omega)) (fun h => absurd ((hcondB t).mp h) (by omega)) (fun h => absurd ((hcondC t).mp h) (by omega)) ((hcondD t).mpr (by omega)) (fun h => absurd ((hcondD1 t).mp h) (by omega)) Set.univ _)
  isplitl [H4]; · iexact H4
  isplitl [H5]; · iexists _; iexact H5
  isplitl [HS]; · iexact HS
  iintro ⟨H4, ⟨%e7, H5⟩, HS⟩
  isplitl [HS Hg]
  · isplitl [HS]; · iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; exact read_filled _ _ _ (cover_valuesOut m c t)
  isplitl [H6]
  · iexact H6
  isplitl [H7]
  · iexists _; iexact H7
  iexists _; iexact H8

set_option maxHeartbeats 3200000 in
/-- The body at a point of the last column of the grid, inside the window of positions that is kept. -/
theorem sound_D1 (c : Dev nD) (t : Fin cfg0.N) (ht : t.val % 4 = 3) (hk : 4 ≤ t.val / 4 % 8) :
    bodyPre m c t ⊢ wp frame (wpE (defs₀ (F := F)) Variants.none c none) Set.univ (bodyAt0 t) (fun _ => bodyPost m c t) := by
  have hN : t.val < 64 := t.isLt.trans_eq N_0
  unfold bodyPre bodyPost bodyAt0
  simp only [before_0, before_1, before_2, before_3, before_4]
  rw [leaves_0, leaves_1, leaves_2, leaves_3, leaves_4]
  rw [live_5 m c t (by rw [idle_5]; exact decide_eq_false (by omega))]
  rw [sent_6 m c t (by rw [idle_6]; exact decide_eq_true (by omega)) (by rw [flush_6]; exact decide_eq_true (by omega))]
  rw [sent_7 m c t (by rw [idle_7]; exact decide_eq_true (by omega)) (by rw [flush_7]; exact decide_eq_true (by omega))]
  rw [live_8 m c t (by rw [idle_8]; exact decide_eq_false (by omega))]
  rw [after_5, show blockAfter m c t = valuesIn m c t from by
    unfold blockAfter; rw [if_neg (by omega), if_neg (by omega), if_pos hk]]
  rw [after_8]
  simp only [before_6 m c t ht]
  simp only [before_7 m c t ht hk]
  rw [show (dats m 0 c).Φ t.succ = iprop(iprop(owns (c : Thread nD τ) scr fullShare (normed m c t)) ∗ (∃ r, prngReg c r)) from PhiS_succ m c t.val t.isLt,
    show (dats m 0 c).owesAt () t.succ = (dats m 0 c).owesAt () t.castSucc from rfl]
  rw [PhiS_castSucc m c t, PhiS_pos m c _ _ (by omega),
    show normed m c ⟨t.val - 1, by omega⟩ = normed m c t from congrArg (norm0 m c) (Fin.ext (by show (t.val - 1) / 4 * 4 = t.val / 4 * 4; omega))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD1 c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr (Memref.isWhole_whole _) (iblk m c 4 t) (normed m c t)).2.2 (fun h => absurd ((hcondA t).mp h) (by omega)) (fun h => absurd ((hcondA2 t).mp h) (by omega)) (fun h => absurd ((hcondB t).mp h) (by omega)) (fun h => absurd ((hcondC t).mp h) (by omega)) ((hcondD t).mpr (by omega)) ((hcondD1 t).mpr (by omega)) Set.univ _)
  isplitl [H4]; · iexact H4
  isplitl [H5]; · iexists _; iexact H5
  isplitl [H8]; · iexists _; iexact H8
  isplitl [HS]; · iexact HS
  iintro ⟨H4, ⟨%e7, H5⟩, ⟨%e10, H8⟩, HS⟩
  isplitl [HS Hg]
  · isplitl [HS]; · iexact HS
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; exact read_filled _ _ _ (cover_valuesIn m c t)
  isplitl [H6]
  · iexact H6
  isplitl [H7]
  · iexact H7
  unfold owns; iexists _; isplitr
  swap; · iexact H8
  ipureintro; exact read_filled _ _ _ (cover_valueCache m c t)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0
  by_cases h1 : t.val % 4 = 1
  · exact sound_B m c t h1
  by_cases hk : 4 ≤ t.val / 4 % 8
  · by_cases h2 : t.val % 4 = 2
    · exact sound_C1 m c t h2 hk
    · exact sound_D1 m c t (by omega) hk
  · by_cases h2 : t.val % 4 = 2
    · exact sound_C0 m c t h2 hk
    · exact sound_D0 m c t (by omega) hk

/-- The body as the pipeline calls it at a point. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over what is owned before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- What is owned after the last point gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
set_option maxHeartbeats 800000 in
/-- Every execution terminates with the arrays at what the proof data say and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.MixPromptIdeal.Run

end
-- ==== Proof.Mix.Place.lean ====
/- The positions of the prompt: which row of the 8192 stands for which sequence and position. -/
module

public import proofs.«01_k».proof.Proof.Mix.Math

@[expose] public section

noncomputable section

namespace Cert.MixMath

open Idealize.ShloMosaic

/-- The position `p` as a number. -/
def place (p : Nat) : EReal := FloatOps.sitofp (F := Ideal) .f32 (BitVec.ofNat 32 p)

/-- The sequence of a row. -/
abbrev seqOf (r : Fin 8192) : Fin 2 := ⟨r.val / 4096, by omega⟩
/-- The position of a row in its sequence. -/
abbrev posOf (r : Fin 8192) : Fin 4096 := ⟨r.val % 4096, by omega⟩

/-- The last 2048 positions: the position of place `q` among them. -/
abbrev late (q : Fin 2048) : Fin 4096 := ⟨2048 + q.val, by omega⟩

end Cert.MixMath

end
-- ==== Proof.MixPromptIdeal.Stores.lean ====
/- The prompt's input projection: what each of the body's stores holds. -/
module

public import proofs.«01_k».proof.Proof.MixPromptIdeal.Data
public import proofs.«01_k».proof.Proof.Mix.Place
public import Idealize.ShloMosaic.Lib.Pipeline.ValueKit
public import Idealize.ShloMosaic.Lib.Pipeline.ReadBack

@[expose] public section

set_option maxRecDepth 16384

noncomputable section

namespace Cert.MixPromptIdeal.Row

open Cert.MixPromptIdeal Cert.MixPromptIdeal.Gen Idealize.ShloMosaic Idealize.ShloMosaic.TcCoe Idealize.SL.Sem Cert.MixMath

variable (m : (ℓ : Loc nD τ sig) → Buf (Elt Ideal) ℓ) (c : Dev nD)

/-- The normalised rows from the row block and the scale row. -/
theorem pay1_apply (x : Vec Ideal S512x2048 .f32) (g : Vec Ideal S1x2048 .f32) (b : Fin 512) (d : Fin 2048) :
    k0_pay1 (F := Ideal) x g (ix2 b d) = normed (fun d => x (ix2 b d)) (fun d => g (ix2 0 d)) d := by
  unfold normed
  pointwise [k0_pay1]

/-- The product block of two arrays. -/
def plainOf (w : Vec Ideal S2048x1024 .bf16) (h : Vec Ideal S512x2048 .bf16) : Vec Ideal S512x1024 .f32 := fun y =>
  plainBlk (fun b d => h (ix2 b d)) (fun d n => w (ix2 d n)) (y 0) (y 1)

/-- The product block of two arrays with its heads turned. -/
def turnOf (w : Vec Ideal S2048x1024 .bf16) (h : Vec Ideal S512x2048 .bf16) (cs sn : Vec Ideal S512x128 .f32) : Vec Ideal S512x1024 .f32 := fun y =>
  turnBlk (fun b d => h (ix2 b d)) (fun d n => w (ix2 d n)) (fun b e => cs (ix2 b e)) (fun b e => sn (ix2 b e)) (y 0) (y 1)

/-- The product block at a column of a head. -/
theorem plainOf_apply (w : Vec Ideal S2048x1024 .bf16) (h : Vec Ideal S512x2048 .bf16) (b : Fin 512) (k : Fin 8) (e : Fin 128) :
    plainOf w h (ix2 b (hcol k e)) = ∑ d : Fin 2048, h (ix2 b d) * w (ix2 d (hcol k e)) := rfl

/-- The turned product block at a column of a head. -/
theorem turnOf_apply (w : Vec Ideal S2048x1024 .bf16) (h : Vec Ideal S512x2048 .bf16) (cs sn : Vec Ideal S512x128 .f32) (b : Fin 512) (k : Fin 8) (e : Fin 128) :
    turnOf w h cs sn (ix2 b (hcol k e))
      = turn (fun e' => ∑ d : Fin 2048, h (ix2 b d) * w (ix2 d (hcol k e'))) (fun e' => cs (ix2 b e')) (fun e' => sn (ix2 b e')) e := by
  have h1 : headOf (hcol k e) = k := Fin.ext (by show (128 * k.val + e.val) / 128 = k.val; omega)
  have h2 : chanOf (hcol k e) = e := Fin.ext (by show (128 * k.val + e.val) % 128 = e.val; omega)
  show turn (fun e' => ∑ d : Fin 2048, h (ix2 b d) * w (ix2 d (hcol (headOf (hcol k e)) e'))) (fun e' => cs (ix2 b e'))
    (fun e' => sn (ix2 b e')) (chanOf (hcol k e)) = _
  rw [h1, h2]

/-- The transposed product of the first column. -/
theorem pay2_apply (w : Vec Ideal S2048x1024 .bf16) (h : Vec Ideal S512x2048 .bf16) (n : Fin 1024) (b : Fin 512) :
    k0_pay2 (F := Ideal) w h (ix2 n b) = ∑ d : Fin 2048, h (ix2 b d) * w (ix2 d n) := by
  pointwise [k0_pay2]

/-- The eight stores of the queries. -/
def st1 (w : Vec Ideal S2048x1024 .bf16) (h : Vec Ideal S512x2048 .bf16) (cs sn : Vec Ideal S512x128 .f32) : Fin 8 → FVec Ideal S512x128 .f32 :=
  ![k0_pay17 w h cs sn, k0_pay18 w h cs sn, k0_pay19 w h cs sn, k0_pay20 (k0_pay16 w h) cs sn, k0_pay21 (k0_pay16 w h) cs sn, k0_pay22 (k0_pay16 w h) cs sn, k0_pay3 (k0_pay23 (k0_pay16 w h)) cs sn, k0_pay4 (k0_pay16 w h) cs sn]

/-- A store of the queries holds its head's columns of the product, turned. -/
theorem st1_apply (w : Vec Ideal S2048x1024 .bf16) (h : Vec Ideal S512x2048 .bf16) (cs sn : Vec Ideal S512x128 .f32) (k : Fin 8) (b : Fin 512)
    (e : Fin 128) : st1 w h cs sn k (ix2 b e) = turnOf w h cs sn (ix2 b (hcol k e)) := by
  rw [turnOf_apply]
  fin_cases k
  · show k0_pay17 (F := Ideal) w h cs sn (ix2 b e) = _
    pointwise [k0_pay17, k0_pay16]
    simp [turn, hcol]
  · show k0_pay18 (F := Ideal) w h cs sn (ix2 b e) = _
    pointwise [k0_pay18, k0_pay16]
    rfl
  · show k0_pay19 (F := Ideal) w h cs sn (ix2 b e) = _
    pointwise [k0_pay19, k0_pay16]
    rfl
  · show k0_pay20 (F := Ideal) (k0_pay16 w h) cs sn (ix2 b e) = _
    pointwise [k0_pay20, k0_pay16]
    rfl
  · show k0_pay21 (F := Ideal) (k0_pay16 w h) cs sn (ix2 b e) = _
    pointwise [k0_pay21, k0_pay16]
    rfl
  · show k0_pay22 (F := Ideal) (k0_pay16 w h) cs sn (ix2 b e) = _
    pointwise [k0_pay22, k0_pay16]
    rfl
  · show k0_pay3 (F := Ideal) (k0_pay23 (k0_pay16 w h)) cs sn (ix2 b e) = _
    pointwise [k0_pay3, k0_pay23, k0_pay16]
    rfl
  · show k0_pay4 (F := Ideal) (k0_pay16 w h) cs sn (ix2 b e) = _
    pointwise [k0_pay4, k0_pay16]
    rfl

/-- The eight stores of the keys. -/
def st2 (w : Vec Ideal S2048x1024 .bf16) (h : Vec Ideal S512x2048 .bf16) (cs sn : Vec Ideal S512x128 .f32) : Fin 8 → FVec Ideal S512x128 .f32 :=
  ![k0_pay25 w h cs sn, k0_pay26 w h cs sn, k0_pay27 w h cs sn, k0_pay28 (k0_pay24 w h) cs sn, k0_pay29 (k0_pay24 w h) cs sn, k0_pay30 (k0_pay24 w h) cs sn, k0_pay5 (k0_pay31 (k0_pay24 w h)) cs sn, k0_pay6 (k0_pay24 w h) cs sn]

/-- A store of the keys holds its head's columns of the product, turned. -/
theorem st2_apply (w : Vec Ideal S2048x1024 .bf16) (h : Vec Ideal S512x2048 .bf16) (cs sn : Vec Ideal S512x128 .f32) (k : Fin 8) (b : Fin 512)
    (e : Fin 128) : st2 w h cs sn k (ix2 b e) = turnOf w h cs sn (ix2 b (hcol k e)) := by
  rw [turnOf_apply]
  fin_cases k
  · show k0_pay25 (F := Ideal) w h cs sn (ix2 b e) = _
    pointwise [k0_pay25, k0_pay24]
    simp [turn, hcol]
  · show k0_pay26 (F := Ideal) w h cs sn (ix2 b e) = _
    pointwise [k0_pay26, k0_pay24]
    rfl
  · show k0_pay27 (F := Ideal) w h cs sn (ix2 b e) = _
    pointwise [k0_pay27, k0_pay24]
    rfl
  · show k0_pay28 (F := Ideal) (k0_pay24 w h) cs sn (ix2 b e) = _
    pointwise [k0_pay28, k0_pay24]
    rfl
  · show k0_pay29 (F := Ideal) (k0_pay24 w h) cs sn (ix2 b e) = _
    pointwise [k0_pay29, k0_pay24]
    rfl
  · show k0_pay30 (F := Ideal) (k0_pay24 w h) cs sn (ix2 b e) = _
    pointwise [k0_pay30, k0_pay24]
    rfl
  · show k0_pay5 (F := Ideal) (k0_pay31 (k0_pay24 w h)) cs sn (ix2 b e) = _
    pointwise [k0_pay5, k0_pay31, k0_pay24]
    rfl
  · show k0_pay6 (F := Ideal) (k0_pay24 w h) cs sn (ix2 b e) = _
    pointwise [k0_pay6, k0_pay24]
    rfl

/-- The eight stores of the values. -/
def st3 (w : Vec Ideal S2048x1024 .bf16) (h : Vec Ideal S512x2048 .bf16) : Fin 8 → FVec Ideal S512x128 .f32 :=
  ![k0_pay8 w h, k0_pay9 w h, k0_pay10 w h, k0_pay11 w h, k0_pay12 w h, k0_pay13 w h, k0_pay14 w h, k0_pay15 w h]

/-- A store of the values holds its head's columns of the product. -/
theorem st3_apply (w : Vec Ideal S2048x1024 .bf16) (h : Vec Ideal S512x2048 .bf16) (k : Fin 8) (b : Fin 512) (e : Fin 128) :
    st3 w h k (ix2 b e) = plainOf w h (ix2 b (hcol k e)) := by
  rw [plainOf_apply]
  fin_cases k
  · show k0_pay8 (F := Ideal) w h (ix2 b e) = _
    pointwise [k0_pay8, k0_pay7]
    simp [hcol]
  · show k0_pay9 (F := Ideal) w h (ix2 b e) = _
    pointwise [k0_pay9, k0_pay7]
    rfl
  · show k0_pay10 (F := Ideal) w h (ix2 b e) = _
    pointwise [k0_pay10, k0_pay7]
    rfl
  · show k0_pay11 (F := Ideal) w h (ix2 b e) = _
    pointwise [k0_pay11, k0_pay7]
    rfl
  · show k0_pay12 (F := Ideal) w h (ix2 b e) = _
    pointwise [k0_pay12, k0_pay7]
    rfl
  · show k0_pay13 (F := Ideal) w h (ix2 b e) = _
    pointwise [k0_pay13, k0_pay7]
    rfl
  · show k0_pay14 (F := Ideal) w h (ix2 b e) = _
    pointwise [k0_pay14, k0_pay7]
    rfl
  · show k0_pay15 (F := Ideal) w h (ix2 b e) = _
    pointwise [k0_pay15, k0_pay7]
    rfl

/-- Section `s` of the weight array. -/
def part (s : Fin 4) (w : Vec Ideal S2048x4096 .bf16) : Vec Ideal S2048x1024 .bf16 := fun y =>
  w (ix2 (y 0 : Fin 2048) ⟨1024 * s.val + (y 1 : Fin 1024).val, by have : (y 1 : Fin 1024).val < 1024 := (y 1).isLt; omega⟩)

/-- The part of the weight array that a column of the grid reads is its section. -/
theorem ld_part (s : Fin 4) (o : Nat) (ho : o = 1024 * s.val) (w : Vec Ideal S2048x4096 .bf16)
    (inb : ∀ d, ![0, o] d + S2048x1024.size d ≤ S2048x4096.size d) :
    View.ld w (Rect.unit (s := S2048x4096) ![0, o] S2048x1024.size inb) = part s w := by
  subst ho
  funext y
  refine congrArg w ?_
  funext a
  apply Fin.ext
  match a with
  | ⟨0, _⟩ => show 0 + 1 * (y 0).val = (y 0).val; omega
  | ⟨1, _⟩ => show 1024 * s.val + 1 * (y 1).val = 1024 * s.val + (y 1).val; omega

/-- The rows that a point of the first column leaves in the carried buffer. -/
theorem norm0_eq (t : Fin cfg0.N) : Run.norm0 m c t = k0_pay1 (F := Ideal) (iblk m c 0 t) (iblk m c 3 t) := by
  frame_out

/-- The first column's block: the state input, transposed. -/
theorem trans0_eq (t : Fin cfg0.N) :
    Run.trans0 m c t = k0_pay2 (F := Ideal) (part 0 (iblk m c 4 t)) (k0_pay1 (F := Ideal) (iblk m c 0 t) (iblk m c 3 t)) := by
  rw [← ld_part 0 0 rfl (iblk m c 4 t) inb_S2048x4096_S2048x1024_0_0]
  frame_out

/-- The second column's block: the queries. -/
theorem queries_eq (t : Fin cfg0.N) :
    Run.queries m c t = turnOf (part 1 (iblk m c 4 t)) (Run.normed m c t) (iblk m c 1 t) (iblk m c 2 t) := by
  rw [← ld_part 1 1024 rfl (iblk m c 4 t) inb_S2048x4096_S2048x1024_0_1024]
  frame_out
  simp only [read_unread_whole]
  rw [ld_part 1 1024 rfl (iblk m c 4 t) inb_S2048x4096_S2048x1024_0_1024]
  funext y
  exact canon_heads (st1 (part 1 (iblk m c 4 t)) (Run.normed m c t) (iblk m c 1 t) (iblk m c 2 t)) _ (st1_apply _ _ _ _) _ _ _ _ _ _ _ _ y

/-- The third column's block where no keys are kept. -/
theorem keysOut_eq (t : Fin cfg0.N) :
    Run.keysOut m c t = turnOf (part 2 (iblk m c 4 t)) (Run.normed m c t) (iblk m c 1 t) (iblk m c 2 t) := by
  rw [← ld_part 2 2048 rfl (iblk m c 4 t) inb_S2048x4096_S2048x1024_0_2048]
  frame_out
  simp only [read_unread_whole]
  rw [ld_part 2 2048 rfl (iblk m c 4 t) inb_S2048x4096_S2048x1024_0_2048]
  funext y
  exact canon_heads (st2 (part 2 (iblk m c 4 t)) (Run.normed m c t) (iblk m c 1 t) (iblk m c 2 t)) _ (st2_apply _ _ _ _) _ _ _ _ _ _ _ _ y

/-- The third column's block where the keys are kept. -/
theorem keysIn_eq (t : Fin cfg0.N) :
    Run.keysIn m c t = turnOf (part 2 (iblk m c 4 t)) (Run.normed m c t) (iblk m c 1 t) (iblk m c 2 t) := by
  rw [← ld_part 2 2048 rfl (iblk m c 4 t) inb_S2048x4096_S2048x1024_0_2048]
  frame_out
  simp only [read_unread_whole]
  rw [ld_part 2 2048 rfl (iblk m c 4 t) inb_S2048x4096_S2048x1024_0_2048]
  funext y
  exact canon_heads (st2 (part 2 (iblk m c 4 t)) (Run.normed m c t) (iblk m c 1 t) (iblk m c 2 t)) _ (st2_apply _ _ _ _) _ _ _ _ _ _ _ _ y

/-- The last column's block where no values are kept. -/
theorem valuesOut_eq (t : Fin cfg0.N) :
    Run.valuesOut m c t = plainOf (part 3 (iblk m c 4 t)) (Run.normed m c t) := by
  rw [← ld_part 3 3072 rfl (iblk m c 4 t) inb_S2048x4096_S2048x1024_0_3072]
  frame_out
  simp only [read_unread_whole]
  rw [ld_part 3 3072 rfl (iblk m c 4 t) inb_S2048x4096_S2048x1024_0_3072]
  funext y
  exact canon_heads (st3 (part 3 (iblk m c 4 t)) (Run.normed m c t)) _ (st3_apply _ _) _ _ _ _ _ _ _ _ y

/-- The last column's block where the values are kept. -/
theorem valuesIn_eq (t : Fin cfg0.N) :
    Run.valuesIn m c t = plainOf (part 3 (iblk m c 4 t)) (Run.normed m c t) := by
  rw [← ld_part 3 3072 rfl (iblk m c 4 t) inb_S2048x4096_S2048x1024_0_3072]
  frame_out
  simp only [read_unread_whole]
  rw [ld_part 3 3072 rfl (iblk m c 4 t) inb_S2048x4096_S2048x1024_0_3072]
  funext y
  exact canon_heads (st3 (part 3 (iblk m c 4 t)) (Run.normed m c t)) _ (st3_apply _ _) _ _ _ _ _ _ _ _ y

/-- The kept keys, at the row of a position and a head. -/
theorem keyCache_eq (t : Fin cfg0.N) (b : Fin 512) (k : Fin 8) (e : Fin 128) :
    Run.keyCache m c t (ix2 (hrow b k) e) = turnOf (part 2 (iblk m c 4 t)) (Run.normed m c t) (iblk m c 1 t) (iblk m c 2 t) (ix2 b (hcol k e)) := by
  have key : Run.keyCache m c t = fun y : long.Idx => turnOf (part 2 (iblk m c 4 t)) (Run.normed m c t) (iblk m c 1 t) (iblk m c 2 t)
      (ix2 (⟨(y 0).val / 8, by have : (y 0).val < 4096 := (y 0).isLt; omega⟩ : Fin 512) (hcol ⟨(y 0).val % 8, by omega⟩ (y 1))) := by
    rw [← ld_part 2 2048 rfl (iblk m c 4 t) inb_S2048x4096_S2048x1024_0_2048]
    frame_out
    simp only [read_unread_whole]
    rw [ld_part 2 2048 rfl (iblk m c 4 t) inb_S2048x4096_S2048x1024_0_2048]
    funext y
    refine canon_eighths _ _ _ _ _ _ _ _ _ (st2 (part 2 (iblk m c 4 t)) (Run.normed m c t) (iblk m c 1 t) (iblk m c 2 t))
      (fun y : long.Idx => turnOf (part 2 (iblk m c 4 t)) (Run.normed m c t) (iblk m c 1 t) (iblk m c 2 t)
        (ix2 (⟨(y 0).val / 8, by have : (y 0).val < 4096 := (y 0).isLt; omega⟩ : Fin 512) (hcol ⟨(y 0).val % 8, by omega⟩ (y 1)))) ?_ y
    intro k b e
    have h1 : (⟨(hrow b k).val / 8, by omega⟩ : Fin 512) = b := Fin.ext (by show (8 * b.val + k.val) / 8 = b.val; omega)
    have h2 : (⟨(hrow b k).val % 8, by omega⟩ : Fin 8) = k := Fin.ext (by show (8 * b.val + k.val) % 8 = k.val; omega)
    refine (st2_apply _ _ _ _ k b e).trans ?_
    show _ = turnOf (part 2 (iblk m c 4 t)) (Run.normed m c t) (iblk m c 1 t) (iblk m c 2 t) (ix2 (⟨(hrow b k).val / 8, _⟩ : Fin 512) (hcol ⟨(hrow b k).val % 8, _⟩ e))
    rw [h1, h2]
  have h1 : (⟨(hrow b k).val / 8, by omega⟩ : Fin 512) = b := Fin.ext (by show (8 * b.val + k.val) / 8 = b.val; omega)
  have h2 : (⟨(hrow b k).val % 8, by omega⟩ : Fin 8) = k := Fin.ext (by show (8 * b.val + k.val) % 8 = k.val; omega)
  rw [key]
  show turnOf (part 2 (iblk m c 4 t)) (Run.normed m c t) (iblk m c 1 t) (iblk m c 2 t) (ix2 (⟨(hrow b k).val / 8, _⟩ : Fin 512) (hcol ⟨(hrow b k).val % 8, _⟩ e)) = _
  rw [h1, h2]

/-- The kept values, at the row of a position and a head. -/
theorem valueCache_eq (t : Fin cfg0.N) (b : Fin 512) (k : Fin 8) (e : Fin 128) :
    Run.valueCache m c t (ix2 (hrow b k) e) = plainOf (part 3 (iblk m c 4 t)) (Run.normed m c t) (ix2 b (hcol k e)) := by
  have key : Run.valueCache m c t = fun y : long.Idx => plainOf (part 3 (iblk m c 4 t)) (Run.normed m c t)
      (ix2 (⟨(y 0).val / 8, by have : (y 0).val < 4096 := (y 0).isLt; omega⟩ : Fin 512) (hcol ⟨(y 0).val % 8, by omega⟩ (y 1))) := by
    rw [← ld_part 3 3072 rfl (iblk m c 4 t) inb_S2048x4096_S2048x1024_0_3072]
    frame_out
    simp only [read_unread_whole]
    rw [ld_part 3 3072 rfl (iblk m c 4 t) inb_S2048x4096_S2048x1024_0_3072]
    funext y
    refine canon_eighths _ _ _ _ _ _ _ _ _ (st3 (part 3 (iblk m c 4 t)) (Run.normed m c t))
      (fun y : long.Idx => plainOf (part 3 (iblk m c 4 t)) (Run.normed m c t)
        (ix2 (⟨(y 0).val / 8, by have : (y 0).val < 4096 := (y 0).isLt; omega⟩ : Fin 512) (hcol ⟨(y 0).val % 8, by omega⟩ (y 1)))) ?_ y
    intro k b e
    have h1 : (⟨(hrow b k).val / 8, by omega⟩ : Fin 512) = b := Fin.ext (by show (8 * b.val + k.val) / 8 = b.val; omega)
    have h2 : (⟨(hrow b k).val % 8, by omega⟩ : Fin 8) = k := Fin.ext (by show (8 * b.val + k.val) % 8 = k.val; omega)
    refine (st3_apply _ _ k b e).trans ?_
    show _ = plainOf (part 3 (iblk m c 4 t)) (Run.normed m c t) (ix2 (⟨(hrow b k).val / 8, _⟩ : Fin 512) (hcol ⟨(hrow b k).val % 8, _⟩ e))
    rw [h1, h2]
  have h1 : (⟨(hrow b k).val / 8, by omega⟩ : Fin 512) = b := Fin.ext (by show (8 * b.val + k.val) / 8 = b.val; omega)
  have h2 : (⟨(hrow b k).val % 8, by omega⟩ : Fin 8) = k := Fin.ext (by show (8 * b.val + k.val) % 8 = k.val; omega)
  rw [key]
  show plainOf (part 3 (iblk m c 4 t)) (Run.normed m c t) (ix2 (⟨(hrow b k).val / 8, _⟩ : Fin 512) (hcol ⟨(hrow b k).val % 8, _⟩ e)) = _
  rw [h1, h2]

end Cert.MixPromptIdeal.Row

end
-- ==== Proof.MixPromptIdeal.Kernel.lean ====
/- The prompt's input projection: the four arrays after the kernel's run. -/
module

public import proofs.«01_k».proof.Proof.MixPromptIdeal.Stores
public import Idealize.ShloMosaic.Lib.StableHlo.ReadAt

@[expose] public section

set_option maxRecDepth 16384

noncomputable section

namespace Cert.MixPromptIdeal.Row

open Cert.MixPromptIdeal Cert.MixPromptIdeal.Gen Idealize.ShloMosaic Idealize.ShloMosaic.TcCoe Idealize.SL.Sem Cert.MixMath

variable (m : (ℓ : Loc nD τ sig) → Buf (Elt Ideal) ℓ) (c : Dev nD)

/-- There are 64 grid points. -/
theorem lt64 (t : Fin cfg0.N) : t.val < 64 := t.isLt.trans_eq N_0

/-- Where the windows that are read stand at grid point `t`. -/
theorem idx : ∀ t : Fin cfg0.N, win0_0.index t = ![t.val / 4, 0] ∧ win0_1.index t = ![t.val / 4 % 8, 0] ∧ win0_2.index t = ![t.val / 4 % 8, 0]
    ∧ win0_3.index t = ![0, 0] ∧ win0_4.index t = ![0, 0] :=
  (by decide +kernel : ∀ t : Fin grid0.N, _)

/-- Where the windows that are written stand at grid point `t`. -/
theorem idxOut : ∀ t : Fin cfg0.N, win0_5.index t = ![t.val / 4, t.val % 4 - 1] ∧ win0_6.index t = ![0, t.val / 4]
    ∧ win0_7.index t = ![t.val / 32 * 4 + (t.val / 4 % 8 - 4), 0] ∧ win0_8.index t = ![t.val / 32 * 4 + (t.val / 4 % 8 - 4), 0] :=
  (by decide +kernel : ∀ t : Fin grid0.N, _)

/-- The row array before the region is the first argument, one sequence after the other. -/
theorem entry17 (r : Fin 8192) (d : Fin 2048) :
    V m c main_v17 (ix2 r d) = m ((c : Thread nD τ).loc main_arg0) (ix3 (seqOf r) (posOf r) d) := by
  unfold V
  after_reads_at

/-- The scale array before the region is the second argument. -/
theorem entry19 (d : Fin 2048) : V m c main_v19 (ix2 0 d) = m ((c : Thread nD τ).loc main_arg1) (ix2 0 d) := by
  unfold V
  after_reads_at

/-- The weight array before the region is the third argument. -/
theorem entry21 (d : Fin 2048) (n : Fin 4096) : V m c main_v21 (ix2 d n) = m ((c : Thread nD τ).loc main_arg2) (ix3 0 d n) := by
  unfold V
  after_reads_at

/-- The cosine array before the region is the cosine table, one row per position. -/
theorem entry14 (p : Fin 4096) (e : Fin 128) : V m c main_v14 (ix2 p e) = cosTab (place p.val) e := by
  unfold V
  after_reads_at
  rfl

/-- The sine array before the region is the sine table, one row per position. -/
theorem entry16 (p : Fin 4096) (e : Fin 128) : V m c main_v16 (ix2 p e) = sinTab (place p.val) e := by
  unfold V
  after_reads_at
  rfl

/-- Row `b` of the block of rows at point `t`. -/
abbrev row (t : Fin cfg0.N) (b : Fin 512) : Fin 8192 := ⟨512 * (t.val / 4) + b.val, by have := lt64 t; omega⟩

/-- The row block is a block of the first argument's rows. -/
theorem read0 (t : Fin cfg0.N) (b : Fin 512) (d : Fin 2048) :
    iblk m c 0 t (ix2 b d) = m ((c : Thread nD τ).loc main_arg0) (ix3 (seqOf (row t b)) (posOf (row t b)) d) := by
  have ht := lt64 t
  have h : (win0_0.blk t).view.emb (ix2 b d) = ix2 (row t b) d := by
    blk_ext [idx t]
  exact (congrArg (V m c main_v17) h).trans (entry17 m c _ d)

/-- The scale row is the second argument. -/
theorem read3 (t : Fin cfg0.N) (d : Fin 2048) : iblk m c 3 t (ix2 0 d) = m ((c : Thread nD τ).loc main_arg1) (ix2 0 d) := by
  have h : (win0_3.blk t).view.emb (ix2 0 d) = ix2 0 d := by
    blk_ext [idx t]
  exact (congrArg (V m c main_v19) h).trans (entry19 m c d)

/-- The weight block is the whole third argument. -/
theorem read4 (t : Fin cfg0.N) (d : Fin 2048) (n : Fin 4096) :
    iblk m c 4 t (ix2 d n) = m ((c : Thread nD τ).loc main_arg2) (ix3 0 d n) := by
  have h : (win0_4.blk t).view.emb (ix2 d n) = ix2 d n := by
    blk_ext [idx t]
  exact (congrArg (V m c main_v21) h).trans (entry21 m c d n)

/-- The cosine block is the cosine table at the positions of the block's rows. -/
theorem read1 (t : Fin cfg0.N) (b : Fin 512) (e : Fin 128) : iblk m c 1 t (ix2 b e) = cosTab (place (posOf (row t b)).val) e := by
  have ht := lt64 t
  have h : (win0_1.blk t).view.emb (ix2 b e) = ix2 (posOf (row t b)) e := by
    blk_ext [idx t]
  exact (congrArg (V m c main_v14) h).trans (entry14 m c _ e)

/-- The sine block is the sine table at the positions of the block's rows. -/
theorem read2 (t : Fin cfg0.N) (b : Fin 512) (e : Fin 128) : iblk m c 2 t (ix2 b e) = sinTab (place (posOf (row t b)).val) e := by
  have ht := lt64 t
  have h : (win0_2.blk t).view.emb (ix2 b e) = ix2 (posOf (row t b)) e := by
    blk_ext [idx t]
  exact (congrArg (V m c main_v16) h).trans (entry16 m c _ e)

/-- The row of the first argument that row `r` of 8192 is. -/
abbrev xrow (r : Fin 8192) (d : Fin 2048) : EReal := m ((c : Thread nD τ).loc main_arg0) (ix3 (seqOf r) (posOf r) d)
/-- The second argument's row. -/
abbrev grow (d : Fin 2048) : EReal := m ((c : Thread nD τ).loc main_arg1) (ix2 0 d)
/-- The third argument's matrix. -/
abbrev wmat (d : Fin 2048) (n : Fin 4096) : EReal := m ((c : Thread nD τ).loc main_arg2) (ix3 0 d n)

/-- The rows normalised at a point of the first column are those of the arguments. -/
theorem rows_eq (t : Fin cfg0.N) (b : Fin 512) (d : Fin 2048) :
    k0_pay1 (F := Ideal) (iblk m c 0 t) (iblk m c 3 t) (ix2 b d) = normed (xrow m c (row t b)) (grow m c) d := by
  rw [pay1_apply]
  exact congrArg₂ (fun x g => normed x g d) (funext fun d => read0 m c t b d) (funext fun d => read3 m c t d)

/-- A point and the first one of its row of the grid have the same block of rows. -/
theorem row_first (t : Fin cfg0.N) (b : Fin 512) : row (Run.first t) b = row t b :=
  Fin.ext (by show 512 * (t.val / 4 * 4 / 4) + b.val = 512 * (t.val / 4) + b.val; omega)

/-- A point and the third one of its row of the grid have the same block of rows. -/
theorem row_third (t : Fin cfg0.N) (b : Fin 512) : row (Run.third t) b = row t b :=
  Fin.ext (by show 512 * ((t.val / 4 * 4 + 2) / 4) + b.val = 512 * (t.val / 4) + b.val; omega)

/-- The carried rows are the normalised rows of the point's block. -/
theorem carried_eq (t : Fin cfg0.N) (b : Fin 512) (d : Fin 2048) :
    Run.normed m c t (ix2 b d) = normed (xrow m c (row t b)) (grow m c) d := by
  refine (congrFun (norm0_eq m c (Run.first t)) _).trans ((rows_eq m c (Run.first t) b d).trans ?_)
  rw [row_first]

/-- Section `s` of the weight block at a column of a head is the third argument's column. -/
theorem part_read (t : Fin cfg0.N) (s : Fin 4) (d : Fin 2048) (k : Fin 8) (e : Fin 128) :
    part s (iblk m c 4 t) (ix2 d (hcol k e)) = wmat m c d (col s k e) :=
  (read4 m c t d _).trans (congrArg (wmat m c d)
    (Fin.ext (by show 1024 * s.val + (128 * k.val + e.val) = 1024 * s.val + 128 * k.val + e.val; omega)))

/-- A product block of the carried rows. -/
theorem plain_eq (t : Fin cfg0.N) (s : Fin 4) (b : Fin 512) (k : Fin 8) (e : Fin 128) :
    plainOf (part s (iblk m c 4 t)) (Run.normed m c t) (ix2 b (hcol k e)) = plain (xrow m c (row t b)) (grow m c) (wmat m c) s k e := by
  rw [plainOf_apply]
  unfold plain proj
  exact Finset.sum_congr rfl fun d _ => congrArg₂ (· * ·) (carried_eq m c t b d) (part_read m c t s d k e)

/-- A turned product block of the carried rows. -/
theorem turned_eq (t : Fin cfg0.N) (s : Fin 4) (b : Fin 512) (k : Fin 8) (e : Fin 128) :
    turnOf (part s (iblk m c 4 t)) (Run.normed m c t) (iblk m c 1 t) (iblk m c 2 t) (ix2 b (hcol k e))
      = turned (xrow m c (row t b)) (grow m c) (wmat m c) (place (posOf (row t b)).val) s k e := by
  rw [turnOf_apply]
  have h1 : (fun e' => ∑ d : Fin 2048, Run.normed m c t (ix2 b d) * part s (iblk m c 4 t) (ix2 d (hcol k e')))
      = fun e' => proj (xrow m c (row t b)) (grow m c) fun d => wmat m c d (col s k e') := funext fun e' => plain_eq m c t s b k e'
  have h2 : (fun e' => iblk m c 1 t (ix2 b e')) = cosTab (place (posOf (row t b)).val) := funext fun e' => read1 m c t b e'
  have h3 : (fun e' => iblk m c 2 t (ix2 b e')) = sinTab (place (posOf (row t b)).val) := funext fun e' => read2 m c t b e'
  exact (congrArg₂ (fun f q => turn f (Prod.fst q) (Prod.snd q) e) h1 (congrArg₂ Prod.mk h2 h3)).trans (turn_eq _ _ _)

/-! ## The four arrays -/

/-- The queries, keys and values of every row, side by side. -/
def qkvArr : Vec Ideal S8192x3072 .f32 := fun i =>
  entry (xrow m c (i 0)) (grow m c) (wmat m c) (place (posOf (i 0)).val)
    ⟨(i 1).val / 1024 + 1, by have : (i 1).val < 3072 := (i 1).isLt; omega⟩ ⟨(i 1).val % 1024 / 128, by omega⟩ ⟨(i 1).val % 128, by omega⟩

/-- The state input of every row, transposed. -/
def stateArr : Vec Ideal S1024x8192 .f32 := fun i =>
  plain (xrow m c (i 1)) (grow m c) (wmat m c) 0 (headOf (i 0)) (chanOf (i 0))

/-- The row of the 8192 whose keys and values lie in row `n` of the kept arrays. -/
abbrev keptRow (n : Fin 32768) : Fin 8192 := ⟨4096 * (n.val / 16384) + 2048 + n.val % 16384 / 8, by omega⟩

/-- The kept keys: one row per kept position and head. -/
def keyArr : Vec Ideal S32768x128 .f32 := fun i =>
  turned (xrow m c (keptRow (i 0))) (grow m c) (wmat m c) (place (posOf (keptRow (i 0))).val) 2 ⟨(i 0).val % 8, by omega⟩ (i 1)

/-- The kept values: one row per kept position and head. -/
def valueArr : Vec Ideal S32768x128 .f32 := fun i =>
  plain (xrow m c (keptRow (i 0))) (grow m c) (wmat m c) 3 ⟨(i 0).val % 8, by omega⟩ (i 1)

/-- The queries, keys and values at a column of a section. -/
theorem qkvArr_apply (r : Fin 8192) (s : Fin 3) (n : Fin 1024) :
    qkvArr m c (ix2 r ⟨1024 * s.val + n.val, by omega⟩)
      = entry (xrow m c r) (grow m c) (wmat m c) (place (posOf r).val) ⟨s.val + 1, by omega⟩ (headOf n) (chanOf n) := by
  have h1 : (⟨(1024 * s.val + n.val) / 1024 + 1, by omega⟩ : Fin 4) = ⟨s.val + 1, by omega⟩ :=
    Fin.ext (by show (1024 * s.val + n.val) / 1024 + 1 = s.val + 1; omega)
  have h2 : (⟨(1024 * s.val + n.val) % 1024 / 128, by omega⟩ : Fin 8) = headOf n :=
    Fin.ext (by show (1024 * s.val + n.val) % 1024 / 128 = n.val / 128; omega)
  have h3 : (⟨(1024 * s.val + n.val) % 128, by omega⟩ : Fin 128) = chanOf n :=
    Fin.ext (by show (1024 * s.val + n.val) % 128 = n.val % 128; omega)
  show entry (xrow m c r) _ _ (place (posOf r).val) ⟨(1024 * s.val + n.val) / 1024 + 1, _⟩ ⟨(1024 * s.val + n.val) % 1024 / 128, _⟩
    ⟨(1024 * s.val + n.val) % 128, _⟩ = _
  rw [h1, h2, h3]

/-- What the projections' block holds after a point that is not in the first column, at a column of a head. -/
theorem block_eq (t : Fin cfg0.N) (h0 : t.val % 4 ≠ 0) (b : Fin 512) (k : Fin 8) (e : Fin 128) :
    Run.blockAfter m c t (ix2 b (hcol k e))
      = entry (xrow m c (row t b)) (grow m c) (wmat m c) (place (posOf (row t b)).val) ⟨t.val % 4, by omega⟩ k e := by
  have fin : ∀ j : Fin 4, (⟨t.val % 4, by omega⟩ : Fin 4) = j ↔ t.val % 4 = j.val := fun j => Fin.ext_iff
  unfold Run.blockAfter
  by_cases h1 : t.val % 4 = 1
  · rw [if_pos h1, queries_eq, (fin 1).mpr h1]
    exact (turned_eq m c t 1 b k e).trans (if_pos (by decide)).symm
  by_cases h2 : t.val % 4 = 2
  · rw [if_neg h1, if_pos h2, keysIn_eq, keysOut_eq, ite_self, (fin 2).mpr h2]
    exact (turned_eq m c t 2 b k e).trans (if_pos (by decide)).symm
  · rw [if_neg h1, if_neg h2, valuesIn_eq, valuesOut_eq, ite_self, (fin 3).mpr (by show t.val % 4 = 3; omega)]
    exact (plain_eq m c t 3 b k e).trans (if_neg (by decide)).symm

/-- THE QUERIES, KEYS AND VALUES after the kernel's run. -/
theorem final5 : (Run.dats m 0 c).arrAt 5 cfg0.N = qkvArr m c := by
  refine (Run.dats m 0 c).arrAt_eq_of_covers 5 _ (by decide +kernel) fun t hf y => ?_
  have h0 : t.val % 4 ≠ 0 := of_decide_eq_true ((Run.flush_5 t).symm.trans hf)
  have ht := lt64 t
  blk_simp
  rw [Run.after_5]
  idx_vars y
  have hy : (win0_5.blk t).view.emb (ix2 y0 y1) = ix2 (row t y0) ⟨1024 * (t.val % 4 - 1) + y1.val, by omega⟩ := by
    blk_ext [idxOut t]
  have hh : y1 = hcol (headOf y1) (chanOf y1) := Fin.ext (by show y1.val = 128 * (y1.val / 128) + y1.val % 128; omega)
  have hs : (⟨t.val % 4 - 1 + 1, by omega⟩ : Fin 4) = ⟨t.val % 4, by omega⟩ := Fin.ext (by show t.val % 4 - 1 + 1 = t.val % 4; omega)
  refine Eq.trans ?_ ((congrArg (qkvArr m c) hy).trans (qkvArr_apply m c (row t y0) ⟨t.val % 4 - 1, by omega⟩ y1)).symm
  refine Eq.trans ?_ (congrArg (fun s => entry (xrow m c (row t y0)) (grow m c) (wmat m c) _ s (headOf y1) (chanOf y1)) hs).symm
  exact (congrArg (fun n => Run.blockAfter m c t (ix2 y0 n)) hh).trans (block_eq m c t h0 y0 (headOf y1) (chanOf y1))

/-- The transposed product of a block of rows. -/
theorem trans_eq (t : Fin cfg0.N) (n : Fin 1024) (b : Fin 512) :
    Run.trans0 m c (Run.first t) (ix2 n b) = plain (xrow m c (row t b)) (grow m c) (wmat m c) 0 (headOf n) (chanOf n) := by
  have hh : n = hcol (headOf n) (chanOf n) := Fin.ext (by show n.val = 128 * (n.val / 128) + n.val % 128; omega)
  rw [trans0_eq, pay2_apply]
  unfold plain proj
  refine Finset.sum_congr rfl fun d _ => congrArg₂ (· * ·) ?_ ?_
  · refine (rows_eq m c (Run.first t) b d).trans ?_
    rw [row_first]
  · exact (congrArg (fun n => part 0 (iblk m c 4 (Run.first t)) (ix2 d n)) hh).trans (part_read m c (Run.first t) 0 d _ _)

/-- THE STATE INPUT after the kernel's run. -/
theorem final6 : (Run.dats m 0 c).arrAt 6 cfg0.N = stateArr m c := by
  refine (Run.dats m 0 c).arrAt_eq_of_covers 6 _ (by decide +kernel) fun t hf y => ?_
  have ht := lt64 t
  blk_simp
  rw [Run.after_6]
  idx_vars y
  have hy : (win0_6.blk t).view.emb (ix2 y0 y1) = ix2 y0 (row t y1) := by
    blk_ext [idxOut t]
  exact (trans_eq m c t y0 y1).trans (congrArg (stateArr m c) hy).symm

/-- The row of the kept arrays where row `n` of the block at point `t` lies. -/
theorem kept_lt (t : Fin cfg0.N) (n : Fin 4096) : 4096 * (t.val / 32 * 4 + (t.val / 4 % 8 - 4)) + n.val < 32768 := by
  have := lt64 t
  omega

/-- A row of a kept block belongs to the row of its position. -/
theorem keptRow_eq (t : Fin cfg0.N) (h : 4 ≤ t.val / 4 % 8) (n : Fin 4096) :
    keptRow ⟨4096 * (t.val / 32 * 4 + (t.val / 4 % 8 - 4)) + n.val, kept_lt t n⟩ = row t ⟨n.val / 8, by omega⟩ := by
  have := lt64 t
  apply Fin.ext
  show 4096 * ((4096 * (t.val / 32 * 4 + (t.val / 4 % 8 - 4)) + n.val) / 16384) + 2048
    + (4096 * (t.val / 32 * 4 + (t.val / 4 % 8 - 4)) + n.val) % 16384 / 8 = 512 * (t.val / 4) + n.val / 8
  omega

/-- THE KEPT KEYS after the kernel's run. -/
theorem final7 : (Run.dats m 0 c).arrAt 7 cfg0.N = keyArr m c := by
  refine (Run.dats m 0 c).arrAt_eq_of_covers 7 _ (by decide +kernel) fun t hf y => ?_
  have h0 : t.val % 4 = 3 ∧ 4 ≤ t.val / 4 % 8 := of_decide_eq_true ((Run.flush_7 t).symm.trans hf)
  have ht := lt64 t
  blk_simp
  rw [Run.after_7]
  idx_vars y
  have hy : (win0_7.blk t).view.emb (ix2 y0 y1)
      = ix2 (⟨4096 * (t.val / 32 * 4 + (t.val / 4 % 8 - 4)) + y0.val, kept_lt t y0⟩ : Fin 32768) y1 := by
    blk_ext [idxOut t]
  have hr : y0 = hrow ⟨y0.val / 8, by omega⟩ ⟨y0.val % 8, by omega⟩ := Fin.ext (by show y0.val = 8 * (y0.val / 8) + y0.val % 8; omega)
  have hk : (⟨(4096 * (t.val / 32 * 4 + (t.val / 4 % 8 - 4)) + y0.val) % 8, by omega⟩ : Fin 8) = ⟨y0.val % 8, by omega⟩ :=
    Fin.ext (by show (4096 * (t.val / 32 * 4 + (t.val / 4 % 8 - 4)) + y0.val) % 8 = y0.val % 8; omega)
  refine Eq.trans ?_ (congrArg (keyArr m c) hy).symm
  show _ = turned (xrow m c (keptRow ⟨4096 * (t.val / 32 * 4 + (t.val / 4 % 8 - 4)) + y0.val, _⟩)) _ _
    (place (posOf (keptRow ⟨4096 * (t.val / 32 * 4 + (t.val / 4 % 8 - 4)) + y0.val, kept_lt t y0⟩)).val) 2
    ⟨(4096 * (t.val / 32 * 4 + (t.val / 4 % 8 - 4)) + y0.val) % 8, _⟩ y1
  rw [keptRow_eq t h0.2 y0, hk]
  refine (congrArg (fun n => Run.keyCache m c (Run.third t) (ix2 n y1)) hr).trans ((keyCache_eq m c (Run.third t) _ _ y1).trans ?_)
  refine (turned_eq m c (Run.third t) 2 _ _ y1).trans ?_
  rw [row_third]

/-- THE KEPT VALUES after the kernel's run. -/
theorem final8 : (Run.dats m 0 c).arrAt 8 cfg0.N = valueArr m c := by
  refine (Run.dats m 0 c).arrAt_eq_of_covers 8 _ (by decide +kernel) fun t hf y => ?_
  have h0 : t.val % 4 = 3 ∧ 4 ≤ t.val / 4 % 8 := of_decide_eq_true ((Run.flush_8 t).symm.trans hf)
  have ht := lt64 t
  blk_simp
  rw [Run.after_8]
  idx_vars y
  have hy : (win0_8.blk t).view.emb (ix2 y0 y1)
      = ix2 (⟨4096 * (t.val / 32 * 4 + (t.val / 4 % 8 - 4)) + y0.val, kept_lt t y0⟩ : Fin 32768) y1 := by
    blk_ext [idxOut t]
  have hr : y0 = hrow ⟨y0.val / 8, by omega⟩ ⟨y0.val % 8, by omega⟩ := Fin.ext (by show y0.val = 8 * (y0.val / 8) + y0.val % 8; omega)
  have hk : (⟨(4096 * (t.val / 32 * 4 + (t.val / 4 % 8 - 4)) + y0.val) % 8, by omega⟩ : Fin 8) = ⟨y0.val % 8, by omega⟩ :=
    Fin.ext (by show (4096 * (t.val / 32 * 4 + (t.val / 4 % 8 - 4)) + y0.val) % 8 = y0.val % 8; omega)
  refine Eq.trans ?_ (congrArg (valueArr m c) hy).symm
  show _ = plain (xrow m c (keptRow ⟨4096 * (t.val / 32 * 4 + (t.val / 4 % 8 - 4)) + y0.val, _⟩)) _ _ 3
    ⟨(4096 * (t.val / 32 * 4 + (t.val / 4 % 8 - 4)) + y0.val) % 8, _⟩ y1
  rw [keptRow_eq t h0.2 y0, hk]
  refine (congrArg (fun n => Run.valueCache m c t (ix2 n y1)) hr).trans ((valueCache_eq m c t _ _ y1).trans ?_)
  exact plain_eq m c t 3 _ _ y1

end Cert.MixPromptIdeal.Row

end
-- ==== Proof.MixPrompt.Ref.lean ====
/- The reference's input projection of the prompt, read at an index. -/
module

public import proofs.«01_k».proof.Proof.Gen.MixPromptRefIdeal.Read
public import proofs.«01_k».proof.Proof.Mix.Place

@[expose] public section

set_option maxRecDepth 16384

noncomputable section

namespace Cert.MixPromptRefIdeal.Row

open Cert.MixPromptRefIdeal Cert.MixPromptRefIdeal.Gen Cert.MixPromptRefIdeal.Read Idealize.ShloMosaic Cert.MixMath

variable (x : (⟨S2x4096x2048, .f32⟩ : BufTy).Contents (Elt Ideal)) (g : (⟨S1x2048, .f32⟩ : BufTy).Contents (Elt Ideal))
  (w : (⟨S1x2048x4096, .f32⟩ : BufTy).Contents (Elt Ideal))

/-- The row of sequence `a` at position `p`. -/
abbrev xrow (a : Fin 2) (p : Fin 4096) (d : Fin 2048) : EReal := x (ix3 a p d)
/-- The scale row. -/
abbrev grow (d : Fin 2048) : EReal := g (ix2 0 d)
/-- The weight matrix. -/
abbrev wmat (d : Fin 2048) (n : Fin 4096) : EReal := w (ix3 0 d n)

/-- The normalised rows. -/
theorem v15_apply (a : Fin 2) (p : Fin 4096) (d : Fin 2048) :
    val_main_v15 (F := Ideal) x g (ix3 a p d) = normed (xrow x a p) (grow g) d := by
  unfold normed
  pointwise [val_main_v15, val_main_v14, val_main_v13, val_main_v12, val_main_v11, val_main_v10, val_main_v9,
    val_main_v8, val_main_v7, val_main_v6, val_main_v5, val_main_v4, val_main_v3, val_main_v1, val_main_cst, val_main_cst_0, val_main_cst_1]

/-- The product with the weights. -/
theorem v16_apply (a : Fin 2) (p : Fin 4096) (n : Fin 4096) :
    val_main_v16 (F := Ideal) x g w (ix3 a p n) = proj (xrow x a p) (grow g) (fun d => wmat w d n) := by
  unfold proj
  simp only [← v15_apply]
  pointwise [val_main_v16, val_main_v2]

/-- Equal rows and columns of the product have equal entries. -/
theorem v16_col (a a' : Fin 2) (p p' : Fin 4096) (i j : Fin 4096) (ha : a.val = a'.val) (hp : p.val = p'.val) (h : i.val = j.val) :
    val_main_v16 (F := Ideal) x g w (ix3 a p i) = val_main_v16 (F := Ideal) x g w (ix3 a' p' j) := by
  rw [Fin.ext ha, Fin.ext hp, Fin.ext h]

/-- The angles of the queries. -/
theorem v33_apply (p : Fin 4096) (d : Fin 64) : val_main_v33 (F := Ideal) (ix2 p d) = angle (place p.val) d := by
  unfold angle place
  pointwise [val_main_v33, val_main_v32, val_main_v31, val_main_v30, val_main_v29, val_main_v28, val_main_v27, val_main_v26,
    val_main_v25, val_main_v24, val_main_v23, val_main_v0, val_main_cst_2, val_main_cst_3]

/-- The angles of the keys. -/
theorem v62_apply (p : Fin 4096) (d : Fin 64) : val_main_v62 (F := Ideal) (ix2 p d) = angle (place p.val) d := v33_apply p d

/-- The queries at a head and a channel. -/
theorem v50_apply (a : Fin 2) (p : Fin 4096) (k : Fin 8) (e : Fin 128) :
    val_main_v50 (F := Ideal) x g w (ix4 a p k e) = turned (xrow x a p) (grow g) (wmat w) (place p.val) 1 k e := by
  unfold turned rope
  simp only [← v16_apply, ← v33_apply]
  pointwise [val_main_v50, val_main_v49, val_main_v48, val_main_v47, val_main_v46, val_main_v45, val_main_v44,
    val_main_v43, val_main_v42, val_main_v41, val_main_v40, val_main_v39, val_main_v38, val_main_v37, val_main_v36, val_main_v35,
    val_main_v34, val_main_v22, val_main_v18]
  by_cases hl : e.val < 64
  · simp only [dif_pos hl]
    exact congrArg₂ (· - ·) (congrArg (· * _) (v16_col x g w _ _ _ _ _ _ rfl rfl (by show 1024 + (k.val * 128 + e.val) = 1024 * 1 + 128 * k.val + e.val; omega)))
      (congrArg (· * _) (v16_col x g w _ _ _ _ _ _ rfl rfl (by show 1024 + (k.val * 128 + (64 + e.val)) = 1024 * 1 + 128 * k.val + (64 + e.val); omega)))
  · simp only [dif_neg hl]
    exact congrArg₂ (· + ·) (congrArg (· * _) (v16_col x g w _ _ _ _ _ _ rfl rfl (by show 1024 + (k.val * 128 + (64 + (e.val - 64))) = 1024 * 1 + 128 * k.val + e.val; omega)))
      (congrArg (· * _) (v16_col x g w _ _ _ _ _ _ rfl rfl (by show 1024 + (k.val * 128 + (e.val - 64)) = 1024 * 1 + 128 * k.val + (e.val - 64); omega)))

/-- The keys at a head and a channel. -/
theorem v79_apply (a : Fin 2) (p : Fin 4096) (k : Fin 8) (e : Fin 128) :
    val_main_v79 (F := Ideal) x g w (ix4 a p k e) = turned (xrow x a p) (grow g) (wmat w) (place p.val) 2 k e := by
  unfold turned rope
  simp only [← v16_apply, ← v62_apply]
  pointwise [val_main_v79, val_main_v78, val_main_v77, val_main_v76, val_main_v75, val_main_v74, val_main_v73,
    val_main_v72, val_main_v71, val_main_v70, val_main_v69, val_main_v68, val_main_v67, val_main_v66, val_main_v65, val_main_v64,
    val_main_v63, val_main_v51, val_main_v19]
  by_cases hl : e.val < 64
  · simp only [dif_pos hl]
    exact congrArg₂ (· - ·) (congrArg (· * _) (v16_col x g w _ _ _ _ _ _ rfl rfl (by show 2048 + (k.val * 128 + e.val) = 1024 * 2 + 128 * k.val + e.val; omega)))
      (congrArg (· * _) (v16_col x g w _ _ _ _ _ _ rfl rfl (by show 2048 + (k.val * 128 + (64 + e.val)) = 1024 * 2 + 128 * k.val + (64 + e.val); omega)))
  · simp only [dif_neg hl]
    exact congrArg₂ (· + ·) (congrArg (· * _) (v16_col x g w _ _ _ _ _ _ rfl rfl (by show 2048 + (k.val * 128 + (64 + (e.val - 64))) = 1024 * 2 + 128 * k.val + e.val; omega)))
      (congrArg (· * _) (v16_col x g w _ _ _ _ _ _ rfl rfl (by show 2048 + (k.val * 128 + (e.val - 64)) = 1024 * 2 + 128 * k.val + (e.val - 64); omega)))

/-- The values at a head and a channel. -/
theorem v80_apply (a : Fin 2) (p : Fin 4096) (k : Fin 8) (e : Fin 128) :
    val_main_v80 (F := Ideal) x g w (ix4 a p k e) = plain (xrow x a p) (grow g) (wmat w) 3 k e := by
  unfold plain
  simp only [← v16_apply]
  pointwise [val_main_v80, val_main_v20]
  exact v16_col x g w _ _ _ _ _ _ rfl rfl (by show 3072 + (k.val * 128 + e.val) = 1024 * 3 + 128 * k.val + e.val; omega)

/-- The second result: the state input, transposed. -/
theorem v86_apply (n : Fin 1024) (r : Fin 8192) :
    val_main_v86 (F := Ideal) x g w (ix2 n r)
      = plain (xrow x (seqOf r) (posOf r)) (grow g) (wmat w) 0 (headOf n) (chanOf n) := by
  unfold plain
  simp only [← v16_apply]
  pointwise [val_main_v86, val_main_v85, val_main_v21, val_main_v17]
  refine v16_col x g w _ _ _ _ _ _ ?_ ?_ ?_ <;> simp <;> omega

/-- The third result: the late keys. -/
theorem v88_apply (a : Fin 2) (q : Fin 2048) (k : Fin 8) (e : Fin 128) :
    val_main_v88 (F := Ideal) x g w (ix5 0 a q k e)
      = turned (xrow x a (late q)) (grow g) (wmat w) (place (2048 + q.val)) 2 k e := by
  refine Eq.trans ?_ (v79_apply x g w a (late q) k e)
  pointwise [val_main_v88, val_main_v87]

/-- The fourth result: the late values. -/
theorem v90_apply (a : Fin 2) (q : Fin 2048) (k : Fin 8) (e : Fin 128) :
    val_main_v90 (F := Ideal) x g w (ix5 0 a q k e) = plain (xrow x a (late q)) (grow g) (wmat w) 3 k e := by
  refine Eq.trans ?_ (v80_apply x g w a (late q) k e)
  pointwise [val_main_v90, val_main_v89]

/-- The first result: queries, keys and values side by side. -/
theorem v84_apply (r : Fin 8192) (s : Fin 3) (n : Fin 1024) :
    val_main_v84 (F := Ideal) x g w (ix2 r ⟨1024 * s.val + n.val, by omega⟩)
      = entry (xrow x (seqOf r) (posOf r)) (grow g) (wmat w) (place (r.val % 4096)) ⟨s.val + 1, by omega⟩ (headOf n) (chanOf n) := by
  have h1 : val_main_v81 (F := Ideal) x g w (ix2 r n) = val_main_v50 (F := Ideal) x g w (ix4 (seqOf r) (posOf r) (headOf n) (chanOf n)) := by
    pointwise [val_main_v81]
  have h2 : val_main_v82 (F := Ideal) x g w (ix2 r n) = val_main_v79 (F := Ideal) x g w (ix4 (seqOf r) (posOf r) (headOf n) (chanOf n)) := by
    pointwise [val_main_v82]
  have h3 : val_main_v83 (F := Ideal) x g w (ix2 r n) = val_main_v80 (F := Ideal) x g w (ix4 (seqOf r) (posOf r) (headOf n) (chanOf n)) := by
    pointwise [val_main_v83]
  rw [v50_apply] at h1
  rw [v79_apply] at h2
  rw [v80_apply] at h3
  unfold entry
  pointwise [val_main_v84]
  fin_cases s
  · refine Eq.trans ?_ (if_pos (by decide)).symm
    exact (dif_pos (show 1024 * 0 + n.val < 1024 by omega)).trans
      ((congrArg (fun i => val_main_v81 (F := Ideal) x g w (ix2 r i)) (Fin.ext (by show 1024 * 0 + n.val = n.val; omega))).trans h1)
  · refine Eq.trans ?_ (if_pos (by decide)).symm
    exact (dif_neg (show ¬1024 * 1 + n.val < 1024 by omega)).trans ((dif_pos (show 1024 * 1 + n.val - 1024 < 1024 by omega)).trans
      ((congrArg (fun i => val_main_v82 (F := Ideal) x g w (ix2 r i)) (Fin.ext (by show 1024 * 1 + n.val - 1024 = n.val; omega))).trans h2))
  · refine Eq.trans ?_ (if_neg (by decide)).symm
    exact (dif_neg (show ¬1024 * 2 + n.val < 1024 by omega)).trans ((dif_neg (show ¬1024 * 2 + n.val - 1024 < 1024 by omega)).trans
      ((congrArg (fun i => val_main_v83 (F := Ideal) x g w (ix2 r i)) (Fin.ext (by show 1024 * 2 + n.val - 1024 - 1024 = n.val; omega))).trans h3))

end Cert.MixPromptRefIdeal.Row

end
-- ==== Proof.MixPrompt.Result.lean ====
/- The prompt's input projection: the kernel's four results are the reference's. -/
module

public import proofs.«01_k».proof.Proof.Gen.MixPromptIdeal
public import proofs.«01_k».proof.Proof.Gen.MixPromptRefIdeal
public import proofs.«01_k».proof.Proof.MixPromptIdeal.Kernel
public import proofs.«01_k».proof.Proof.MixPrompt.Ref
public import Idealize.ShloMosaic.Lib.Claim
public import Idealize.ShloMosaic.Lib.StableHlo.ReadAt
public import Idealize.ShloMosaic.Lib.Pointwise

@[expose] public section

set_option maxRecDepth 16384

noncomputable section

namespace Cert.MixPromptResult

open Idealize.ShloMosaic Idealize.ShloMosaic.TcCoe Idealize.SL.Sem Cert.MixMath

open Cert.MixPromptIdeal Cert.MixPromptIdeal.Gen

variable (m : (ℓ : Loc nD τ sig) → Buf (Elt Ideal) ℓ) (c : Dev nD)

/-- The kept keys as the lines after the region find them. -/
theorem tail_arr7 : Pipeline.withArrays spec0 c (V0 m c) (fun w => (Run.dats m 0 c).arrAt w cfg0.N) (Proc.devRef .tc main_v22_2)
    = (Run.dats m 0 c).arrAt 7 cfg0.N :=
  Pipeline.withArrays_arr spec0 (by decide) c (V0 m c) (fun w => (Run.dats m 0 c).arrAt w cfg0.N) 7

/-- The kept values as the lines after the region find them. -/
theorem tail_arr8 : Pipeline.withArrays spec0 c (V0 m c) (fun w => (Run.dats m 0 c).arrAt w cfg0.N) (Proc.devRef .tc main_v22_3)
    = (Run.dats m 0 c).arrAt 8 cfg0.N :=
  Pipeline.withArrays_arr spec0 (by decide) c (V0 m c) (fun w => (Run.dats m 0 c).arrAt w cfg0.N) 8

/-- The row of the kept arrays that belongs to a sequence, a kept position and a head. -/
abbrev keptAt (a : Fin 2) (q : Fin 2048) (k : Fin 8) : Fin 32768 := ⟨16384 * a.val + 8 * q.val + k.val, by omega⟩

/-- The third result is the array of kept keys, cut into sequences, positions and heads. -/
theorem tail23 (a : Fin 2) (q : Fin 2048) (k : Fin 8) (e : Fin 128) :
    Pipeline.afterTail₀ cfgs (Run.dats m) 0 (V0 m) [hostOps1] c main_v23 (ix5 0 a q k e)
      = (Run.dats m 0 c).arrAt 7 cfg0.N (ix2 (keptAt a q k) e) := by
  unfold Pipeline.afterTail₀
  simp only [List.flatten_cons, List.flatten_nil, List.append_nil]
  after_reads_at
  exact (congrFun (tail_arr7 m c) _).trans (congrArg (fun i => (Run.dats m 0 c).arrAt 7 cfg0.N (ix2 i e))
    (Fin.ext (by show a.val * 16384 + q.val * 8 + k.val = 16384 * a.val + 8 * q.val + k.val; omega)))

/-- The fourth result is the array of kept values, cut into sequences, positions and heads. -/
theorem tail24 (a : Fin 2) (q : Fin 2048) (k : Fin 8) (e : Fin 128) :
    Pipeline.afterTail₀ cfgs (Run.dats m) 0 (V0 m) [hostOps1] c main_v24 (ix5 0 a q k e)
      = (Run.dats m 0 c).arrAt 8 cfg0.N (ix2 (keptAt a q k) e) := by
  unfold Pipeline.afterTail₀
  simp only [List.flatten_cons, List.flatten_nil, List.append_nil]
  after_reads_at
  exact (congrFun (tail_arr8 m c) _).trans (congrArg (fun i => (Run.dats m 0 c).arrAt 8 cfg0.N (ix2 i e))
    (Fin.ext (by show a.val * 16384 + q.val * 8 + k.val = 16384 * a.val + 8 * q.val + k.val; omega)))

/-- The first argument at launch. -/
abbrev A0 := m ((c.tc : Thread nD τ).loc main_arg0)
/-- The second argument at launch. -/
abbrev A1 := m ((c.tc : Thread nD τ).loc main_arg1)
/-- The third argument at launch. -/
abbrev A2 := m ((c.tc : Thread nD τ).loc main_arg2)

/-- The kernel's first result is the reference's: queries, keys and values. -/
theorem result0 : (Run.dats m 0 c).arrAt 5 cfg0.N
    = Cert.MixPromptRefIdeal.Read.val_main_v84 (F := Ideal) (A0 m c) (A1 m c) (A2 m c) := by
  refine (Row.final5 m c).trans ?_
  funext y
  idx_vars y
  have hy : y1 = ⟨1024 * (⟨y1.val / 1024, by omega⟩ : Fin 3).val + (⟨y1.val % 1024, by omega⟩ : Fin 1024).val, by
      show 1024 * (y1.val / 1024) + y1.val % 1024 < 3072; omega⟩ :=
    Fin.ext (by show y1.val = 1024 * (y1.val / 1024) + y1.val % 1024; omega)
  rw [hy]
  exact (Row.qkvArr_apply m c y0 ⟨y1.val / 1024, by omega⟩ ⟨y1.val % 1024, by omega⟩).trans
    (Cert.MixPromptRefIdeal.Row.v84_apply _ _ _ y0 ⟨y1.val / 1024, by omega⟩ ⟨y1.val % 1024, by omega⟩).symm

/-- The kernel's second result is the reference's: the state input. -/
theorem result1 : (Run.dats m 0 c).arrAt 6 cfg0.N
    = Cert.MixPromptRefIdeal.Read.val_main_v86 (F := Ideal) (A0 m c) (A1 m c) (A2 m c) := by
  refine (Row.final6 m c).trans ?_
  funext y
  idx_vars y
  exact (Cert.MixPromptRefIdeal.Row.v86_apply _ _ _ y0 y1).symm

/-- The row of a kept position is that of its late position. -/
theorem seq_kept (a : Fin 2) (q : Fin 2048) (k : Fin 8) : seqOf (Row.keptRow (keptAt a q k)) = a :=
  Fin.ext (by
    show (4096 * ((16384 * a.val + 8 * q.val + k.val) / 16384) + 2048 + (16384 * a.val + 8 * q.val + k.val) % 16384 / 8) / 4096 = a.val
    omega)

/-- The position of a kept row is the late position. -/
theorem pos_kept (a : Fin 2) (q : Fin 2048) (k : Fin 8) : posOf (Row.keptRow (keptAt a q k)) = late q :=
  Fin.ext (by
    show (4096 * ((16384 * a.val + 8 * q.val + k.val) / 16384) + 2048 + (16384 * a.val + 8 * q.val + k.val) % 16384 / 8) % 4096 = 2048 + q.val
    omega)

/-- The head of a kept row. -/
theorem head_kept (a : Fin 2) (q : Fin 2048) (k : Fin 8) : (⟨(keptAt a q k).val % 8, by omega⟩ : Fin 8) = k :=
  Fin.ext (by show (16384 * a.val + 8 * q.val + k.val) % 8 = k.val; omega)

/-- The kernel's third result is the reference's: the kept keys. -/
theorem result2 : Pipeline.afterTail₀ cfgs (Run.dats m) 0 (V0 m) [hostOps1] c main_v23
    = Cert.MixPromptRefIdeal.Read.val_main_v88 (F := Ideal) (A0 m c) (A1 m c) (A2 m c) := by
  funext y
  idx_vars y
  obtain rfl : y0 = 0 := Subsingleton.elim _ _
  refine (tail23 m c y1 y2 y3 y4).trans ((congrFun (Row.final7 m c) _).trans ?_)
  refine Eq.trans ?_ (Cert.MixPromptRefIdeal.Row.v88_apply _ _ _ y1 y2 y3 y4).symm
  show turned (fun d => A0 m c (ix3 (seqOf (Row.keptRow (keptAt y1 y2 y3))) (posOf (Row.keptRow (keptAt y1 y2 y3))) d)) _ _
    (place (posOf (Row.keptRow (keptAt y1 y2 y3))).val) 2 ⟨(keptAt y1 y2 y3).val % 8, _⟩ y4 = _
  rw [seq_kept, pos_kept, head_kept]

/-- The kernel's fourth result is the reference's: the kept values. -/
theorem result3 : Pipeline.afterTail₀ cfgs (Run.dats m) 0 (V0 m) [hostOps1] c main_v24
    = Cert.MixPromptRefIdeal.Read.val_main_v90 (F := Ideal) (A0 m c) (A1 m c) (A2 m c) := by
  funext y
  idx_vars y
  obtain rfl : y0 = 0 := Subsingleton.elim _ _
  refine (tail24 m c y1 y2 y3 y4).trans ((congrFun (Row.final8 m c) _).trans ?_)
  refine Eq.trans ?_ (Cert.MixPromptRefIdeal.Row.v90_apply _ _ _ y1 y2 y3 y4).symm
  show plain (fun d => A0 m c (ix3 (seqOf (Row.keptRow (keptAt y1 y2 y3))) (posOf (Row.keptRow (keptAt y1 y2 y3))) d)) _ _ 3
    ⟨(keptAt y1 y2 y3).val % 8, _⟩ y4 = _
  rw [seq_kept, pos_kept, head_kept]

end Cert.MixPromptResult

end
-- ==== Proof.MixOutIdeal.Runs.lean ====
/- The two conditions the body of the output projection branches on, and a run of the body in each case. -/
module

public import proofs.«01_k».proof.Proof.Gen.MixOutIdeal.Frame
public import proofs.«01_k».proof.Proof.Gen.MixOutIdeal.Skeleton

@[expose] public section

set_option maxRecDepth 16384

noncomputable section

namespace Cert.MixOutIdeal.Run

open Cert.MixOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition that the point has rows of its own. -/
abbrev condW (i : grid0.Coords) : Prop := k0_cond1 i = 1#1
/-- It says of the point's number: `t.val < 32`. -/
theorem hcondW : ∀ t : Fin cfg0.N, condW (grid0.coords t) ↔ t.val < 32 :=
  (by decide +kernel : ∀ t : Fin grid0.N, condW (grid0.coords t) ↔ t.val < 32)
/-- The condition that the point is the one past the rows. -/
abbrev condZ (i : grid0.Coords) : Prop := k0_cond2 i = 1#1
/-- It says of the point's number: `32 ≤ t.val`. -/
theorem hcondZ : ∀ t : Fin cfg0.N, condZ (grid0.coords t) ↔ 32 ≤ t.val :=
  (by decide +kernel : ∀ t : Fin grid0.N, condZ (grid0.coords t) ↔ 32 ≤ t.val)

/-- Window 0's buffer at a point. -/
abbrev mem0 (t : Fin cfg0.N) : Memref sig .tc .vmem S256x1024 .f32 := win0_0.stage (cfg0.slots t 0)
/-- It is whole. -/
abbrev whole0 (t : Fin cfg0.N) : (mem0 t).IsWhole := hstage0_0 ((cfg0.slots t 0).cast nbuf0_0)
/-- Window 1's buffer at a point. -/
abbrev mem1 (t : Fin cfg0.N) : Memref sig .tc .vmem S256x1024 .f32 := win0_1.stage (cfg0.slots t 1)
/-- It is whole. -/
abbrev whole1 (t : Fin cfg0.N) : (mem1 t).IsWhole := hstage0_1 ((cfg0.slots t 1).cast nbuf0_1)
/-- Window 2's buffer at a point. -/
abbrev mem2 (t : Fin cfg0.N) : Memref sig .tc .vmem S256x2048 .f32 := win0_2.stage (cfg0.slots t 2)
/-- It is whole. -/
abbrev whole2 (t : Fin cfg0.N) : (mem2 t).IsWhole := hstage0_2 ((cfg0.slots t 2).cast nbuf0_2)
/-- Window 3's buffer at a point. -/
abbrev mem3 (t : Fin cfg0.N) : Memref sig .tc .vmem S1x1024 .f32 := win0_3.stage (cfg0.slots t 3)
/-- It is whole. -/
abbrev whole3 (t : Fin cfg0.N) : (mem3 t).IsWhole := hstage0_3 ((cfg0.slots t 3).cast nbuf0_3)
/-- Window 4's buffer at a point. -/
abbrev mem4 (t : Fin cfg0.N) : Memref sig .tc .vmem S1x1024 .f32 := win0_4.stage (cfg0.slots t 4)
/-- It is whole. -/
abbrev whole4 (t : Fin cfg0.N) : (mem4 t).IsWhole := hstage0_4 ((cfg0.slots t 4).cast nbuf0_4)
/-- Window 5's buffer at a point. -/
abbrev mem5 (t : Fin cfg0.N) : Memref sig .tc .vmem S1x2048 .f32 := win0_5.stage (cfg0.slots t 5)
/-- It is whole. -/
abbrev whole5 (t : Fin cfg0.N) : (mem5 t).IsWhole := hstage0_5 ((cfg0.slots t 5).cast nbuf0_5)
/-- Window 6's buffer at a point. -/
abbrev mem6 (t : Fin cfg0.N) : Memref sig .tc .vmem S1024x1024 .bf16 := win0_6.stage (cfg0.slots t 6)
/-- It is whole. -/
abbrev whole6 (t : Fin cfg0.N) : (mem6 t).IsWhole := hstage0_6 ((cfg0.slots t 6).cast nbuf0_6)
/-- Window 7's buffer at a point. -/
abbrev mem7 (t : Fin cfg0.N) : Memref sig .tc .vmem S2048x2048 .bf16 := win0_7.stage (cfg0.slots t 7)
/-- It is whole. -/
abbrev whole7 (t : Fin cfg0.N) : (mem7 t).IsWhole := hstage0_7 ((cfg0.slots t 7).cast nbuf0_7)
/-- Window 8's buffer at a point. -/
abbrev mem8 (t : Fin cfg0.N) : Memref sig .tc .vmem S2048x128 .bf16 := win0_8.stage (cfg0.slots t 8)
/-- It is whole. -/
abbrev whole8 (t : Fin cfg0.N) : (mem8 t).IsWhole := hstage0_8 ((cfg0.slots t 8).cast nbuf0_8)
/-- Window 9's buffer at a point. -/
abbrev mem9 (t : Fin cfg0.N) : Memref sig .tc .vmem S1x128 .f32 := win0_9.stage (cfg0.slots t 9)
/-- It is whole. -/
abbrev whole9 (t : Fin cfg0.N) : (mem9 t).IsWhole := hstage0_9 ((cfg0.slots t 9).cast nbuf0_9)
/-- Window 10's buffer at a point. -/
abbrev mem10 (t : Fin cfg0.N) : Memref sig .tc .vmem S256x2048 .f32 := win0_10.stage (cfg0.slots t 10)
/-- It is whole. -/
abbrev whole10 (t : Fin cfg0.N) : (mem10 t).IsWhole := hstage0_10 ((cfg0.slots t 10).cast nbuf0_10)
/-- Window 11's buffer at a point. -/
abbrev mem11 (t : Fin cfg0.N) : Memref sig .tc .vmem S256x2048 .f32 := win0_11.stage (cfg0.slots t 11)
/-- It is whole. -/
abbrev whole11 (t : Fin cfg0.N) : (mem11 t).IsWhole := hstage0_11 ((cfg0.slots t 11).cast nbuf0_11)
/-- Window 12's buffer at a point. -/
abbrev mem12 (t : Fin cfg0.N) : Memref sig .tc .vmem S256x128 .f32 := win0_12.stage (cfg0.slots t 12)
/-- It is whole. -/
abbrev whole12 (t : Fin cfg0.N) : (mem12 t).IsWhole := hstage0_12 ((cfg0.slots t 12).cast nbuf0_12)

section

variable (c : Dev nD) (i : grid0.Coords)
variable (arg1 : Memref sig .tc .vmem S256x1024 .f32) (harg1 : arg1.IsWhole)
  (arg2 : Memref sig .tc .vmem S256x1024 .f32) (harg2 : arg2.IsWhole)
  (arg3 : Memref sig .tc .vmem S256x2048 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x2048 .f32) (harg6 : arg6.IsWhole)
  (arg7 : Memref sig .tc .vmem S1024x1024 .bf16) (harg7 : arg7.IsWhole)
  (arg8 : Memref sig .tc .vmem S2048x2048 .bf16) (harg8 : arg8.IsWhole)
  (arg9 : Memref sig .tc .vmem S2048x128 .bf16) (harg9 : arg9.IsWhole)
  (arg10 : Memref sig .tc .vmem S1x128 .f32) (harg10 : arg10.IsWhole)
  (arg11 : Memref sig .tc .vmem S256x2048 .f32) (harg11 : arg11.IsWhole)
  (arg12 : Memref sig .tc .vmem S256x2048 .f32) (harg12 : arg12.IsWhole)
  (arg13 : Memref sig .tc .vmem S256x128 .f32) (harg13 : arg13.IsWhole)

set_option maxHeartbeats 4000000 in
/-- A run of the body at a point that has rows: it is given the blocks it reads and the three buffers it fills, and hands back the former as
    they were and the latter with the listed stores made in them (the last one first). -/
noncomputable def runW (x0 : Vec F S256x1024 .f32) (x1 : Vec F S256x1024 .f32) (x2 : Vec F S256x2048 .f32) (x3 : Vec F S1x1024 .f32) (x4 : Vec F S1x1024 .f32) (x5 : Vec F S1x2048 .f32) (x6 : Vec F S1024x1024 .bf16) (x7 : Vec F S2048x2048 .bf16) (x8 : Vec F S2048x128 .bf16) (x9 : Vec F S1x128 .f32) :
    Σ' (L10 : List (View.Piece (Elt F) S256x2048 .f32)) (L11 : List (View.Piece (Elt F) S256x2048 .f32)), { L12 : List (View.Piece (Elt F) S256x128 .f32) //
      ∀ (hc0 : condW i) (hc1 : ¬condZ i) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12)) -∗ K ⟨⟩))
          ⊢ wp frame (wpE (defs₀ (F := F)) Variants.none c none) E (cc0_mixer_out i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun hc0 hc1 E K => ?run⟩
  case run =>
    simp only [cc0_mixer_out_eq_skeleton]; unfold cc0_mixer_out_skel
    simp only [k0_part1_eq_skeleton, k0_part2_eq_skeleton, k0_part3_eq_skeleton, k0_part4_eq_skeleton]
    unfold owns
    iintro ⟨⟨%f1, %hf1, H0⟩, ⟨%f2, %hf2, H1⟩, ⟨%f3, %hf3, H2⟩, ⟨%f4, %hf4, H3⟩, ⟨%f5, %hf5, H4⟩, ⟨%f6, %hf6, H5⟩, ⟨%f7, %hf7, H6⟩, ⟨%f8, %hf8, H7⟩, ⟨%f9, %hf9, H8⟩, ⟨%f10, %hf10, H9⟩, ⟨%d10, %g10, -, H10⟩, ⟨%d11, %g11, -, H11⟩, ⟨%d12, %g12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; iexact H10
    isplitl [H11]
    · iexists _; iexact H11
    iexists _; iexact H12

set_option maxHeartbeats 2000000 in
/-- A run of the body at the point past the rows: it fills the second output's buffer with zeros. -/
noncomputable def runZ :
    { L11 : List (View.Piece (Elt F) S256x2048 .f32) //
      ∀ (hc0 : ¬condW i) (hc1 : condZ i) (E : Set ℕ) (K : PUnit → sProp 𝕄),
        iprop((∃ d, owns (c : Thread nD τ) arg12 fullShare d) ∗ ((∃ f, arg12.view.loc (c : Thread nD τ) ↦[arg12.view.set]{fullShare} arg12.view.writes (Elt F) f L11) -∗ K ⟨⟩))
          ⊢ wp frame (wpE (defs₀ (F := F)) Variants.none c none) E (cc0_mixer_out i arg1 harg1 arg2 harg2 arg3 harg3 arg4 harg4 arg5 harg5 arg6 harg6 arg7 harg7 arg8 harg8 arg9 harg9 arg10 harg10 arg11 harg11 arg12 harg12 arg13 harg13) K } := by
  refine ⟨?_, fun hc0 hc1 E K => ?run⟩
  case run =>
    simp only [cc0_mixer_out_eq_skeleton]; unfold cc0_mixer_out_skel
    unfold owns
    iintro ⟨⟨%d11, %g11, -, H11⟩, Hk⟩
    sl_exec (disch := first | sl_exact hc0 | sl_exact hc1)
    sl_step
    iapply Hk
    iexists _; iexact H11

end

end Cert.MixOutIdeal.Run

end
-- ==== Proof.MixOutIdeal.Data.lean ====
/- What each output's buffer holds after the body at each point of the output projection's grid. -/
module

public import proofs.«01_k».proof.Proof.MixOutIdeal.Runs
public import Idealize.ShloMosaic.Lib.Pipeline.TableIdle

@[expose] public section

set_option maxRecDepth 16384

noncomputable section

namespace Cert.MixOutIdeal.Run

open Cert.MixOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point that has rows, of those up to a point. -/
def rowPt (t : Fin cfg0.N) : Fin cfg0.N := ⟨min t.val 31, by have := t.isLt; omega⟩

/-! ## What each case leaves -/

/-- The mixed rows made at a point. -/
def mixed (c : Dev nD) (t : Fin cfg0.N) : Vec F S256x2048 .f32 := View.canon (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).1
/-- Those rows normed. -/
def normed (c : Dev nD) (t : Fin cfg0.N) : Vec F S256x2048 .f32 := View.canon (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).2.1
/-- The routing made at a point. -/
def routed (c : Dev nD) (t : Fin cfg0.N) : Vec F S256x128 .f32 := View.canon (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).2.2.1
/-- The zeros made past the rows. -/
def zeros (c : Dev nD) (t : Fin cfg0.N) : Vec F S256x2048 .f32 := View.canon (runZ (F := F) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t)).1

/-- The store of the mixed rows fills its block. -/
theorem cover_mixed (c : Dev nD) (t : Fin cfg0.N) (y : S256x2048.Idx) :
    ∃ pc ∈ (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).1, y ∈ pc.1.set :=
  View.cover_of_tiledL (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).1 S256x2048.size (by sl_kernel_rfl) y
/-- The store of the normed rows fills its block. -/
theorem cover_normed (c : Dev nD) (t : Fin cfg0.N) (y : S256x2048.Idx) :
    ∃ pc ∈ (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).2.1, y ∈ pc.1.set :=
  View.cover_of_tiledL (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).2.1 S256x2048.size (by sl_kernel_rfl) y
/-- The store of the routing fills its block. -/
theorem cover_routed (c : Dev nD) (t : Fin cfg0.N) (y : S256x128.Idx) :
    ∃ pc ∈ (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).2.2.1, y ∈ pc.1.set :=
  View.cover_of_tiledL (runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).2.2.1 S256x128.size (by sl_kernel_rfl) y
/-- The store of the zeros fills its block. -/
theorem cover_zeros (c : Dev nD) (t : Fin cfg0.N) (y : S256x2048.Idx) :
    ∃ pc ∈ (runZ (F := F) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t)).1, y ∈ pc.1.set :=
  View.cover_of_tiledL (runZ (F := F) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t)).1 S256x2048.size (by sl_kernel_rfl) y

/-- Through whichever buffer: stores that fill it leave the canonical contents. -/
theorem read_filled {S : Shape} {e : EltTy} (v : View sig .tc .vmem S e) (f : v.ty.Contents (Elt F)) (L : List (View.Piece (Elt F) S e))
    (h : ∀ y, ∃ pc ∈ L, y ∈ pc.1.set) : v.read (Elt F) (v.writes (Elt F) f L) = View.canon L :=
  (View.read_writes_of_cover v f v v.junk L h).trans (View.read_writes_junk_eq_canon v L)

/-! ## The proof data -/

/-- What the second output's block holds after the body at a point. -/
def normedAfter (c : Dev nD) (t : Fin cfg0.N) : Vec F S256x2048 .f32 := if t.val < 32 then normed m c t else zeros c t

/-- The proof data of the pipeline: the arrays as the region finds them, and what each window's buffer holds after the
    body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => mixed m c (rowPt t)
    | ⟨11, _⟩ => normedAfter m c t
    | ⟨12, _⟩ => routed m c (rowPt t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- Input 0 stays in place. -/
theorem after_0 (c : Dev nD) (t : Fin cfg0.N) : (dats m 0 c).after 0 t = iblk m c 0 t := by dsimp only [dats]
/-- Input 0's buffer holds its block at every point. -/
theorem before_0 (c : Dev nD) (t : Fin cfg0.N) (d) : (dats m 0 c).before 0 t d = iblk m c 0 t :=
  before0_0_of m (dats m 0 c) (A_eq m c 0) (after_0 m c) t d
/-- Input 1 stays in place. -/
theorem after_1 (c : Dev nD) (t : Fin cfg0.N) : (dats m 0 c).after 1 t = iblk m c 1 t := by dsimp only [dats]
/-- Input 1's buffer holds its block at every point. -/
theorem before_1 (c : Dev nD) (t : Fin cfg0.N) (d) : (dats m 0 c).before 1 t d = iblk m c 1 t :=
  before0_1_of m (dats m 0 c) (A_eq m c 1) (after_1 m c) t d
/-- Input 2 stays in place. -/
theorem after_2 (c : Dev nD) (t : Fin cfg0.N) : (dats m 0 c).after 2 t = iblk m c 2 t := by dsimp only [dats]
/-- Input 2's buffer holds its block at every point. -/
theorem before_2 (c : Dev nD) (t : Fin cfg0.N) (d) : (dats m 0 c).before 2 t d = iblk m c 2 t :=
  before0_2_of m (dats m 0 c) (A_eq m c 2) (after_2 m c) t d
/-- Input 3 stays in place. -/
theorem after_3 (c : Dev nD) (t : Fin cfg0.N) : (dats m 0 c).after 3 t = iblk m c 3 t := by dsimp only [dats]
/-- Input 3's buffer holds its block at every point. -/
theorem before_3 (c : Dev nD) (t : Fin cfg0.N) (d) : (dats m 0 c).before 3 t d = iblk m c 3 t :=
  before0_3_of m (dats m 0 c) (A_eq m c 3) (after_3 m c) t d
/-- Input 4 stays in place. -/
theorem after_4 (c : Dev nD) (t : Fin cfg0.N) : (dats m 0 c).after 4 t = iblk m c 4 t := by dsimp only [dats]
/-- Input 4's buffer holds its block at every point. -/
theorem before_4 (c : Dev nD) (t : Fin cfg0.N) (d) : (dats m 0 c).before 4 t d = iblk m c 4 t :=
  before0_4_of m (dats m 0 c) (A_eq m c 4) (after_4 m c) t d
/-- Input 5 stays in place. -/
theorem after_5 (c : Dev nD) (t : Fin cfg0.N) : (dats m 0 c).after 5 t = iblk m c 5 t := by dsimp only [dats]
/-- Input 5's buffer holds its block at every point. -/
theorem before_5 (c : Dev nD) (t : Fin cfg0.N) (d) : (dats m 0 c).before 5 t d = iblk m c 5 t :=
  before0_5_of m (dats m 0 c) (A_eq m c 5) (after_5 m c) t d
/-- Input 6 stays in place. -/
theorem after_6 (c : Dev nD) (t : Fin cfg0.N) : (dats m 0 c).after 6 t = iblk m c 6 t := by dsimp only [dats]
/-- Input 6's buffer holds its block at every point. -/
theorem before_6 (c : Dev nD) (t : Fin cfg0.N) (d) : (dats m 0 c).before 6 t d = iblk m c 6 t :=
  before0_6_of m (dats m 0 c) (A_eq m c 6) (after_6 m c) t d
/-- Input 7 stays in place. -/
theorem after_7 (c : Dev nD) (t : Fin cfg0.N) : (dats m 0 c).after 7 t = iblk m c 7 t := by dsimp only [dats]
/-- Input 7's buffer holds its block at every point. -/
theorem before_7 (c : Dev nD) (t : Fin cfg0.N) (d) : (dats m 0 c).before 7 t d = iblk m c 7 t :=
  before0_7_of m (dats m 0 c) (A_eq m c 7) (after_7 m c) t d
/-- Input 8 stays in place. -/
theorem after_8 (c : Dev nD) (t : Fin cfg0.N) : (dats m 0 c).after 8 t = iblk m c 8 t := by dsimp only [dats]
/-- Input 8's buffer holds its block at every point. -/
theorem before_8 (c : Dev nD) (t : Fin cfg0.N) (d) : (dats m 0 c).before 8 t d = iblk m c 8 t :=
  before0_8_of m (dats m 0 c) (A_eq m c 8) (after_8 m c) t d
/-- Input 9 stays in place. -/
theorem after_9 (c : Dev nD) (t : Fin cfg0.N) : (dats m 0 c).after 9 t = iblk m c 9 t := by dsimp only [dats]
/-- Input 9's buffer holds its block at every point. -/
theorem before_9 (c : Dev nD) (t : Fin cfg0.N) (d) : (dats m 0 c).before 9 t d = iblk m c 9 t :=
  before0_9_of m (dats m 0 c) (A_eq m c 9) (after_9 m c) t d
/-- What output 10's buffer holds after a point. -/
theorem after_10 (c : Dev nD) (t : Fin cfg0.N) : (dats m 0 c).after 10 t = mixed m c (rowPt t) := by dsimp only [dats]
/-- What output 11's buffer holds after a point. -/
theorem after_11 (c : Dev nD) (t : Fin cfg0.N) : (dats m 0 c).after 11 t = normedAfter m c t := by dsimp only [dats]
/-- What output 12's buffer holds after a point. -/
theorem after_12 (c : Dev nD) (t : Fin cfg0.N) : (dats m 0 c).after 12 t = routed m c (rowPt t) := by dsimp only [dats]

/-! ## Where the outputs are left alone, and where they are written back -/

/-- Output 11 is filled at every point. -/
theorem idle_11 : ∀ t : Fin cfg0.N, cfg0.idle 11 (grid0.coords t) = false := by decide +kernel
/-- Output 10 is left alone past the rows. -/
theorem idle_10 : ∀ t : Fin cfg0.N, cfg0.idle 10 (grid0.coords t) = decide (t.val = 32) := by decide +kernel
/-- Output 10 is written back after every point but the last that has rows. -/
theorem flush_10 : ∀ t : Fin cfg0.N, (cfg0.win 10).flush t = decide (t.val ≠ 31) :=
  (by simp only [Pipeline.Window.flush_eq_flushF]; decide +kernel : ∀ t : Fin grid0.N, win0_10.flush t = decide (t.val ≠ 31))
/-- Output 10's buffer holds something of use exactly before the point past the rows. -/
theorem fresh_10 (n : ℕ) (h : n ≤ cfg0.N) : cfg0.fresh 10 n = decide (n ≠ 32) :=
  Pipeline.Cfg.fresh_tab cfg0 10 (fun n => decide (n ≠ 32)) rfl (fun t => by
    rw [flush_10, idle_10]
    have h : t.val < 33 := t.isLt.trans_eq N_0
    simp only [← Bool.decide_or, ← Bool.decide_and, decide_eq_decide]; omega) n h
/-- At the point past the rows output 10's buffer still holds the last rows' block. -/
theorem before_10 (c : Dev nD) (t : Fin cfg0.N) (ht : t.val = 32) (d) : (dats m 0 c).before 10 t d = (dats m 0 c).after 10 t := by
  have same : ∀ (s : Fin cfg0.N) (hs : s.val = 32), (dats m 0 c).after 10 s = (dats m 0 c).after 10 ⟨s.val - 1, by have := s.isLt; omega⟩ := by
    intro s hs
    rw [after_10, after_10]
    exact congrArg (mixed m c) (Fin.ext (by show min s.val 31 = min (s.val - 1) 31; omega))
  rw [Pipeline.Dat.before_out_traj (dats m 0 c) 10 rfl (fun _ _ => rfl) (fun s _ hi hf => same s (by
    rw [idle_10] at hi; exact of_decide_eq_true hi)) t.val t rfl d]
  rw [fresh_10 t.val (Nat.le_of_lt t.isLt), if_neg (by simp [ht])]
  exact (same t ht).symm
/-- Output 12 is left alone past the rows. -/
theorem idle_12 : ∀ t : Fin cfg0.N, cfg0.idle 12 (grid0.coords t) = decide (t.val = 32) := by decide +kernel
/-- Output 12 is written back after every point but the last that has rows. -/
theorem flush_12 : ∀ t : Fin cfg0.N, (cfg0.win 12).flush t = decide (t.val ≠ 31) :=
  (by simp only [Pipeline.Window.flush_eq_flushF]; decide +kernel : ∀ t : Fin grid0.N, win0_12.flush t = decide (t.val ≠ 31))
/-- Output 12's buffer holds something of use exactly before the point past the rows. -/
theorem fresh_12 (n : ℕ) (h : n ≤ cfg0.N) : cfg0.fresh 12 n = decide (n ≠ 32) :=
  Pipeline.Cfg.fresh_tab cfg0 12 (fun n => decide (n ≠ 32)) rfl (fun t => by
    rw [flush_12, idle_12]
    have h : t.val < 33 := t.isLt.trans_eq N_0
    simp only [← Bool.decide_or, ← Bool.decide_and, decide_eq_decide]; omega) n h
/-- At the point past the rows output 12's buffer still holds the last rows' block. -/
theorem before_12 (c : Dev nD) (t : Fin cfg0.N) (ht : t.val = 32) (d) : (dats m 0 c).before 12 t d = (dats m 0 c).after 12 t := by
  have same : ∀ (s : Fin cfg0.N) (hs : s.val = 32), (dats m 0 c).after 12 s = (dats m 0 c).after 12 ⟨s.val - 1, by have := s.isLt; omega⟩ := by
    intro s hs
    rw [after_12, after_12]
    exact congrArg (routed m c) (Fin.ext (by show min s.val 31 = min (s.val - 1) 31; omega))
  rw [Pipeline.Dat.before_out_traj (dats m 0 c) 12 rfl (fun _ _ => rfl) (fun s _ hi hf => same s (by
    rw [idle_12] at hi; exact of_decide_eq_true hi)) t.val t rfl d]
  rw [fresh_12 t.val (Nat.le_of_lt t.isLt), if_neg (by simp [ht])]
  exact (same t ht).symm
/-- Output 11 is written back after every point. -/
theorem flush_11 : ∀ t : Fin cfg0.N, (cfg0.win 11).flush t = true :=
  (by simp only [Pipeline.Window.flush_eq_flushF]; decide +kernel : ∀ t : Fin grid0.N, win0_11.flush t = true)

end Cert.MixOutIdeal.Run

end
-- ==== Proof.MixOutIdeal.Body.lean ====
/- The body at each point of the grid of the output projection, the run of the whole program, and its frame. -/
module

public import proofs.«01_k».proof.Proof.MixOutIdeal.Data
public import Idealize.ShloMosaic.Lib.Claim

@[expose] public section

set_option maxRecDepth 16384

noncomputable section

namespace Cert.MixOutIdeal.Run

open Cert.MixOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d))
    ∗ (∃ d, owns (c : Thread nD τ) (mem10 t) fullShare ((dats m 0 c).before 10 t d))
    ∗ (∃ d, owns (c : Thread nD τ) (mem11 t) fullShare ((dats m 0 c).before 11 t d))
    ∗ (∃ d, owns (c : Thread nD τ) (mem12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- Input 0 is left as it was. -/
theorem leaves_0 (c : Dev nD) (t : Fin cfg0.N) : (dats m 0 c).leavesExact 0 t = owns (c : Thread nD τ) (mem0 t) fullShare (iblk m c 0 t) := by
  unfold Dat.leavesExact; rw [show cfg0.idle 0 (cfg0.grid.coords t) = false from rfl, after_0]
/-- Input 1 is left as it was. -/
theorem leaves_1 (c : Dev nD) (t : Fin cfg0.N) : (dats m 0 c).leavesExact 1 t = owns (c : Thread nD τ) (mem1 t) fullShare (iblk m c 1 t) := by
  unfold Dat.leavesExact; rw [show cfg0.idle 1 (cfg0.grid.coords t) = false from rfl, after_1]
/-- Input 2 is left as it was. -/
theorem leaves_2 (c : Dev nD) (t : Fin cfg0.N) : (dats m 0 c).leavesExact 2 t = owns (c : Thread nD τ) (mem2 t) fullShare (iblk m c 2 t) := by
  unfold Dat.leavesExact; rw [show cfg0.idle 2 (cfg0.grid.coords t) = false from rfl, after_2]
/-- Input 3 is left as it was. -/
theorem leaves_3 (c : Dev nD) (t : Fin cfg0.N) : (dats m 0 c).leavesExact 3 t = owns (c : Thread nD τ) (mem3 t) fullShare (iblk m c 3 t) := by
  unfold Dat.leavesExact; rw [show cfg0.idle 3 (cfg0.grid.coords t) = false from rfl, after_3]
/-- Input 4 is left as it was. -/
theorem leaves_4 (c : Dev nD) (t : Fin cfg0.N) : (dats m 0 c).leavesExact 4 t = owns (c : Thread nD τ) (mem4 t) fullShare (iblk m c 4 t) := by
  unfold Dat.leavesExact; rw [show cfg0.idle 4 (cfg0.grid.coords t) = false from rfl, after_4]
/-- Input 5 is left as it was. -/
theorem leaves_5 (c : Dev nD) (t : Fin cfg0.N) : (dats m 0 c).leavesExact 5 t = owns (c : Thread nD τ) (mem5 t) fullShare (iblk m c 5 t) := by
  unfold Dat.leavesExact; rw [show cfg0.idle 5 (cfg0.grid.coords t) = false from rfl, after_5]
/-- Input 6 is left as it was. -/
theorem leaves_6 (c : Dev nD) (t : Fin cfg0.N) : (dats m 0 c).leavesExact 6 t = owns (c : Thread nD τ) (mem6 t) fullShare (iblk m c 6 t) := by
  unfold Dat.leavesExact; rw [show cfg0.idle 6 (cfg0.grid.coords t) = false from rfl, after_6]
/-- Input 7 is left as it was. -/
theorem leaves_7 (c : Dev nD) (t : Fin cfg0.N) : (dats m 0 c).leavesExact 7 t = owns (c : Thread nD τ) (mem7 t) fullShare (iblk m c 7 t) := by
  unfold Dat.leavesExact; rw [show cfg0.idle 7 (cfg0.grid.coords t) = false from rfl, after_7]
/-- Input 8 is left as it was. -/
theorem leaves_8 (c : Dev nD) (t : Fin cfg0.N) : (dats m 0 c).leavesExact 8 t = owns (c : Thread nD τ) (mem8 t) fullShare (iblk m c 8 t) := by
  unfold Dat.leavesExact; rw [show cfg0.idle 8 (cfg0.grid.coords t) = false from rfl, after_8]
/-- Input 9 is left as it was. -/
theorem leaves_9 (c : Dev nD) (t : Fin cfg0.N) : (dats m 0 c).leavesExact 9 t = owns (c : Thread nD τ) (mem9 t) fullShare (iblk m c 9 t) := by
  unfold Dat.leavesExact; rw [show cfg0.idle 9 (cfg0.grid.coords t) = false from rfl, after_9]
/-- Output 10 where the body stores into it. -/
theorem live_10 (c : Dev nD) (t : Fin cfg0.N) (hi : cfg0.idle 10 (grid0.coords t) = false) :
    (dats m 0 c).leavesExact 10 t = owns (c : Thread nD τ) (mem10 t) fullShare ((dats m 0 c).after 10 t) := by
  unfold Dat.leavesExact; rw [show cfg0.idle 10 (cfg0.grid.coords t) = false from hi]
/-- Output 11 where the body stores into it. -/
theorem live_11 (c : Dev nD) (t : Fin cfg0.N) (hi : cfg0.idle 11 (grid0.coords t) = false) :
    (dats m 0 c).leavesExact 11 t = owns (c : Thread nD τ) (mem11 t) fullShare ((dats m 0 c).after 11 t) := by
  unfold Dat.leavesExact; rw [show cfg0.idle 11 (cfg0.grid.coords t) = false from hi]
/-- Output 12 where the body stores into it. -/
theorem live_12 (c : Dev nD) (t : Fin cfg0.N) (hi : cfg0.idle 12 (grid0.coords t) = false) :
    (dats m 0 c).leavesExact 12 t = owns (c : Thread nD τ) (mem12 t) fullShare ((dats m 0 c).after 12 t) := by
  unfold Dat.leavesExact; rw [show cfg0.idle 12 (cfg0.grid.coords t) = false from hi]
/-- Output 10 where the body leaves it alone and it is written back. -/
theorem sent_10 (c : Dev nD) (t : Fin cfg0.N) (hi : cfg0.idle 10 (grid0.coords t) = true) (hf : (cfg0.win 10).flush t = true) :
    (dats m 0 c).leavesExact 10 t = owns (c : Thread nD τ) (mem10 t) fullShare ((dats m 0 c).after 10 t) := by
  unfold Dat.leavesExact; rw [show cfg0.idle 10 (cfg0.grid.coords t) = true from hi, hf]
/-- Output 12 where the body leaves it alone and it is written back. -/
theorem sent_12 (c : Dev nD) (t : Fin cfg0.N) (hi : cfg0.idle 12 (grid0.coords t) = true) (hf : (cfg0.win 12).flush t = true) :
    (dats m 0 c).leavesExact 12 t = owns (c : Thread nD τ) (mem12 t) fullShare ((dats m 0 c).after 12 t) := by
  unfold Dat.leavesExact; rw [show cfg0.idle 12 (cfg0.grid.coords t) = true from hi, hf]

set_option maxHeartbeats 3200000 in
/-- The body at a point that has rows. -/
theorem sound_W (c : Dev nD) (t : Fin cfg0.N) (ht : t.val < 32) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [leaves_0, leaves_1, leaves_2, leaves_3, leaves_4, leaves_5, leaves_6, leaves_7, leaves_8, leaves_9]
  rw [live_10 m c t (by rw [idle_10]; exact decide_eq_false (by omega)), live_11 m c t (idle_11 t),
    live_12 m c t (by rw [idle_12]; exact decide_eq_false (by omega))]
  have hrow : rowPt t = t := Fin.ext (by show min t.val 31 = t.val; omega)
  rw [after_10, after_11, after_12, hrow, show normedAfter m c t = normed m c t from if_pos ht]
  rw [show (dats m 0 c).Φ t.succ = (dats m 0 c).Φ t.castSucc from rfl,
    show (dats m 0 c).owesAt () t.succ = (dats m 0 c).owesAt () t.castSucc from rfl]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runW c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t) (iblk m c 0 t) (iblk m c 1 t) (iblk m c 2 t) (iblk m c 3 t) (iblk m c 4 t) (iblk m c 5 t) (iblk m c 6 t) (iblk m c 7 t) (iblk m c 8 t) (iblk m c 9 t)).2.2.2 ((hcondW t).mpr ht) (fun h => absurd ((hcondZ t).mp h) (by omega)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, ⟨%e10, H10⟩, ⟨%e11, H11⟩, ⟨%e12, H12⟩⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact read_filled _ _ _ (cover_mixed m c t)
  isplitl [H11]
  · unfold owns; iexists _; isplitr
    swap; · iexact H11
    ipureintro; exact read_filled _ _ _ (cover_normed m c t)
  unfold owns; iexists _; isplitr
  swap; · iexact H12
  ipureintro; exact read_filled _ _ _ (cover_routed m c t)

set_option maxHeartbeats 3200000 in
/-- The body at the point past the rows. -/
theorem sound_Z (c : Dev nD) (t : Fin cfg0.N) (ht : t.val = 32) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10 m c t ht, before_12 m c t ht]
  rw [leaves_0, leaves_1, leaves_2, leaves_3, leaves_4, leaves_5, leaves_6, leaves_7, leaves_8, leaves_9]
  rw [sent_10 m c t (by rw [idle_10]; exact decide_eq_true ht) (by rw [flush_10]; exact decide_eq_true (by omega)), live_11 m c t (idle_11 t),
    sent_12 m c t (by rw [idle_12]; exact decide_eq_true ht) (by rw [flush_12]; exact decide_eq_true (by omega))]
  rw [after_11, show normedAfter m c t = zeros c t from if_neg (by omega)]
  rw [show (dats m 0 c).Φ t.succ = (dats m 0 c).Φ t.castSucc from rfl,
    show (dats m 0 c).owesAt () t.succ = (dats m 0 c).owesAt () t.castSucc from rfl]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runZ (F := F) c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) (mem9 t) (whole9 t) (mem10 t) (whole10 t) (mem11 t) (whole11 t) (mem12 t) (whole12 t)).2 (fun h => absurd ((hcondW t).mp h) (by omega)) ((hcondZ t).mpr (by omega)))
  isplitl [H11]; · iexists _; iexact H11
  iintro ⟨%e11, H11⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact read_filled _ _ _ (cover_zeros c t)
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 33 := t.isLt.trans_eq N_0
  by_cases h : t.val < 32
  · exact sound_W m c t h
  · exact sound_Z m c t (by omega)

/-- The body as the pipeline calls it at a point. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution terminates with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.MixOutIdeal.Run

end
-- ==== Proof.Mix.Out.lean ====
/- The layer's output projection on extended reals, one row at a time: the gated state output, the two normalised halves, their product with
   the weights added to the residual stream, and the row normalised once more. Both programs are read into these functions. -/
module

public import proofs.«01_k».proof.Proof.Mix.Math

@[expose] public section

noncomputable section

namespace Cert.MixMath

open Idealize.ShloMosaic

/-- Entry `d` of a half row divided by its root mean square (with the small constant added) and scaled by `g`. -/
def normedHalf (x g : Fin 1024 → EReal) (d : Fin 1024) : EReal :=
  x d * Ideal.rsqrt (Ideal.div (∑ e : Fin 1024, x e * x e) (Ideal.ofBits .f32 0x44800000#32) + Ideal.ofBits .f32 0x358637BD#32) * g d

/-- The activation in its form with the hyperbolic tangent. -/
def gelu (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * v * v)))))

/-- The logistic function. -/
def squash (v : EReal) : EReal :=
  Ideal.div (Ideal.ofBits .f32 0x3F800000#32) (Ideal.ofBits .f32 0x3F800000#32 + Ideal.exp (-v))

/-- The state output activated and multiplied by its gate. -/
def gated (y : Fin 1024 → EReal) (w : Fin 1024 → Fin 1024 → EReal) (n : Fin 1024) : EReal :=
  gelu (y n) * squash (∑ d : Fin 1024, gelu (y d) * w d n)

/-- The two halves side by side. -/
def sideBySide (a b : Fin 1024 → EReal) (d : Fin 2048) : EReal :=
  if h : d.val < 1024 then a ⟨d.val, h⟩ else b ⟨d.val - 1024, by omega⟩

/-- The residual row with the product of the two halves and the weights added. -/
def mixedRow (x : Fin 2048 → EReal) (a b : Fin 1024 → EReal) (w : Fin 2048 → Fin 2048 → EReal) (e : Fin 2048) : EReal :=
  x e + ∑ d : Fin 2048, sideBySide a b d * w d e

/-- A sum over a whole row is the sum over its first half and the sum over its second half. -/
theorem sum_halves (f : Fin 2048 → EReal) :
    ∑ d : Fin 2048, f d = ∑ d : Fin 1024, f ⟨d.val, by omega⟩ + ∑ d : Fin 1024, f ⟨1024 + d.val, by omega⟩ :=
  Fin.sum_univ_add (a := 1024) (b := 1024) f

/-- The first half of two halves side by side. -/
theorem sideBySide_left (a b : Fin 1024 → EReal) (d : Fin 1024) : sideBySide a b ⟨d.val, by omega⟩ = a d := by
  unfold sideBySide
  exact dif_pos d.isLt

/-- The second half of two halves side by side. -/
theorem sideBySide_right (a b : Fin 1024 → EReal) (d : Fin 1024) : sideBySide a b ⟨1024 + d.val, by omega⟩ = b d := by
  unfold sideBySide
  exact (dif_neg (show ¬1024 + d.val < 1024 by omega)).trans (congrArg b (Fin.ext (by show 1024 + d.val - 1024 = d.val; omega)))

/-- The product may be added half by half. -/
theorem mixedRow_halves (x : Fin 2048 → EReal) (a b : Fin 1024 → EReal) (w : Fin 2048 → Fin 2048 → EReal) (e : Fin 2048) :
    x e + ∑ d : Fin 1024, a d * w ⟨d.val, by omega⟩ e + ∑ d : Fin 1024, b d * w ⟨1024 + d.val, by omega⟩ e = mixedRow x a b w e := by
  unfold mixedRow
  rw [sum_halves, add_assoc]
  refine congrArg (x e + ·) (congrArg₂ (· + ·) (Finset.sum_congr rfl fun d _ => ?_) (Finset.sum_congr rfl fun d _ => ?_))
  · exact congrArg (· * _) (sideBySide_left a b d).symm
  · exact congrArg (· * _) (sideBySide_right a b d).symm

end Cert.MixMath

end
-- ==== Proof.MixOutIdeal.Kernel.lean ====
/- The output projection of the prompt: what each of the body's stores holds, and the two arrays after the kernel's run. -/
module

public import proofs.«01_k».proof.Proof.MixOutIdeal.Data
public import proofs.«01_k».proof.Proof.Mix.Place
public import proofs.«01_k».proof.Proof.Mix.Out
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.MixOutIdeal.Row

open Cert.MixOutIdeal Cert.MixOutIdeal.Gen Idealize.ShloMosaic Idealize.ShloMosaic.TcCoe Idealize.SL.Sem Cert.MixMath

/-! ## The stores -/

/-- The gated state output, normalised. -/
theorem pay3_apply (y : Vec Ideal S256x1024 .f32) (w : Vec Ideal S1024x1024 .bf16) (g : Vec Ideal S1x1024 .f32) (b : Fin 256) (n : Fin 1024) :
    k0_pay3 (F := Ideal) y w g (ix2 b n)
      = normedHalf (gated (fun d => y (ix2 b d)) (fun d n => w (ix2 d n))) (fun d => g (ix2 0 d)) n := by
  unfold normedHalf gated squash gelu
  pointwise [k0_pay3]
  simp only [sub_eq_add_neg, zero_add]

/-- The residual rows with the products of the two halves added. -/
theorem pay4_apply (a o : Vec Ideal S256x1024 .f32) (g : Vec Ideal S1x1024 .f32) (x : Vec Ideal S256x2048 .f32) (w1 w2 : Vec Ideal S1024x2048 .bf16)
    (b : Fin 256) (e : Fin 2048) :
    k0_pay4 (F := Ideal) a o g x w1 w2 (ix2 b e)
      = x (ix2 b e) + ∑ d : Fin 1024, a (ix2 b d) * w1 (ix2 d e)
        + ∑ d : Fin 1024, normedHalf (fun d => o (ix2 b d)) (fun d => g (ix2 0 d)) d * w2 (ix2 d e) := by
  unfold normedHalf
  pointwise [k0_pay4]

/-- The rows of a block, normalised and scaled. -/
theorem pay7_apply (a o : Vec Ideal S256x1024 .f32) (g : Vec Ideal S1x1024 .f32) (x : Vec Ideal S256x2048 .f32) (w1 w2 : Vec Ideal S1024x2048 .bf16)
    (gf : Vec Ideal S1x2048 .f32) (b : Fin 256) (e : Fin 2048) :
    k0_pay7 (F := Ideal) (k0_pay5 gf) (k0_pay6 a o g x w1 w2) (ix2 b e)
      = normed (fun e => k0_pay4 (F := Ideal) a o g x w1 w2 (ix2 b e)) (fun e => gf (ix2 0 e)) e := by
  unfold normed
  pointwise [k0_pay7, k0_pay6, k0_pay5]

/-- The zeros. -/
theorem pay2_apply (y : S256x2048.Idx) : k0_pay2 (F := Ideal) y = 0 := by
  pointwise [k0_pay2]

/-- The half of the weights that starts at row `1024 * s`. -/
def half (s : Fin 2) (w : Vec Ideal S2048x2048 .bf16) : Vec Ideal S1024x2048 .bf16 := fun y =>
  w (ix2 ⟨1024 * s.val + (y 0 : Fin 1024).val, by have : (y 0 : Fin 1024).val < 1024 := (y 0).isLt; omega⟩ (y 1 : Fin 2048))

/-- The part of the weight array that the body reads is its half. -/
theorem ld_half (s : Fin 2) (o : Nat) (ho : o = 1024 * s.val) (w : Vec Ideal S2048x2048 .bf16)
    (inb : ∀ d, ![o, 0] d + S1024x2048.size d ≤ S2048x2048.size d) :
    View.ld w (Rect.unit (s := S2048x2048) ![o, 0] S1024x2048.size inb) = half s w := by
  subst ho
  funext y
  refine congrArg w ?_
  funext a
  apply Fin.ext
  match a with
  | ⟨0, _⟩ => show 1024 * s.val + 1 * (y 0).val = 1024 * s.val + (y 0).val; omega
  | ⟨1, _⟩ => show 0 + 1 * (y 1).val = (y 1).val; omega

variable (m : (ℓ : Loc nD τ sig) → Buf (Elt Ideal) ℓ) (c : Dev nD)

/-- The mixed rows of a point. -/
theorem mixed_eq (t : Fin cfg0.N) :
    Run.mixed m c t = k0_pay4 (F := Ideal) (k0_pay3 (iblk m c 0 t) (iblk m c 6 t) (iblk m c 3 t)) (iblk m c 1 t) (iblk m c 4 t) (iblk m c 2 t)
      (half 0 (iblk m c 7 t)) (half 1 (iblk m c 7 t)) := by
  rw [← ld_half 0 0 rfl (iblk m c 7 t) inb_S2048x2048_S1024x2048_0_0, ← ld_half 1 1024 rfl (iblk m c 7 t) inb_S2048x2048_S1024x2048_1024_0]
  frame_out

/-- The normalised rows of a point. -/
theorem normed_eq (t : Fin cfg0.N) :
    Run.normed m c t = k0_pay7 (F := Ideal) (k0_pay5 (iblk m c 5 t)) (k0_pay6 (k0_pay3 (iblk m c 0 t) (iblk m c 6 t) (iblk m c 3 t)) (iblk m c 1 t)
      (iblk m c 4 t) (iblk m c 2 t) (half 0 (iblk m c 7 t)) (half 1 (iblk m c 7 t))) := by
  rw [← ld_half 0 0 rfl (iblk m c 7 t) inb_S2048x2048_S1024x2048_0_0, ← ld_half 1 1024 rfl (iblk m c 7 t) inb_S2048x2048_S1024x2048_1024_0]
  frame_out

/-- The zeros of the point past the rows. -/
theorem zeros_eq (t : Fin cfg0.N) : Run.zeros (F := Ideal) c t = k0_pay2 (F := Ideal) := by
  frame_out

/-! ## The blocks -/

/-- There are 33 grid points. -/
theorem lt33 (t : Fin cfg0.N) : t.val < 33 := t.isLt.trans_eq N_0

/-- Where the windows that are read stand at grid point `t`. -/
theorem idx : ∀ t : Fin cfg0.N, win0_0.index t = ![min t.val 31, 0] ∧ win0_1.index t = ![min t.val 31, 0] ∧ win0_2.index t = ![min t.val 31, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- Where the windows that are written stand at grid point `t`. -/
theorem idxOut : ∀ t : Fin cfg0.N, win0_10.index t = ![min t.val 31, 0] ∧ win0_11.index t = ![t.val, 0] :=
  (by decide +kernel : ∀ t : Fin grid0.N, _)

/-- The state output before the region is the first argument. -/
theorem entryY (r : Fin 8192) (d : Fin 1024) : V m c main_arg0 (ix2 r d) = m ((c : Thread nD τ).loc main_arg0) (ix2 r d) := by
  unfold V
  after_reads_at

/-- The attention's output before the region is the second argument. -/
theorem entryO (r : Fin 8192) (d : Fin 1024) : V m c main_arg1 (ix2 r d) = m ((c : Thread nD τ).loc main_arg1) (ix2 r d) := by
  unfold V
  after_reads_at

/-- The residual rows before the region are the third argument, one sequence after the other. -/
theorem entryX (r : Fin 8192) (e : Fin 2048) :
    V m c main_v17 (ix2 r e) = m ((c : Thread nD τ).loc main_arg2) (ix3 (seqOf r) (posOf r) e) := by
  unfold V
  after_reads_at

/-- The scale row of the state output before the region is the fourth argument. -/
theorem entryGs (d : Fin 1024) : V m c main_v12 (ix2 0 d) = m ((c : Thread nD τ).loc main_arg3) (ix2 0 d) := by
  unfold V
  after_reads_at

/-- The scale row of the attention's output before the region is the fifth argument. -/
theorem entryGa (d : Fin 1024) : V m c main_v14 (ix2 0 d) = m ((c : Thread nD τ).loc main_arg4) (ix2 0 d) := by
  unfold V
  after_reads_at

/-- The scale row of the last normalisation before the region is the sixth argument. -/
theorem entryGf (e : Fin 2048) : V m c main_v16 (ix2 0 e) = m ((c : Thread nD τ).loc main_arg5) (ix2 0 e) := by
  unfold V
  after_reads_at

/-- The weights of the gate before the region are the seventh argument. -/
theorem entryWg (d n : Fin 1024) : V m c main_v19 (ix2 d n) = m ((c : Thread nD τ).loc main_arg6) (ix3 0 d n) := by
  unfold V
  after_reads_at

/-- The weights of the projection before the region are the eighth argument. -/
theorem entryWo (d e : Fin 2048) : V m c main_v21 (ix2 d e) = m ((c : Thread nD τ).loc main_arg7) (ix3 0 d e) := by
  unfold V
  after_reads_at

/-- Row `b` of the block of rows at point `t`. -/
abbrev row (t : Fin cfg0.N) (b : Fin 256) : Fin 8192 := ⟨256 * min t.val 31 + b.val, by omega⟩

/-- A row of the state output. -/
abbrev yrow (r : Fin 8192) (d : Fin 1024) : EReal := m ((c : Thread nD τ).loc main_arg0) (ix2 r d)
/-- A row of the attention's output. -/
abbrev orow (r : Fin 8192) (d : Fin 1024) : EReal := m ((c : Thread nD τ).loc main_arg1) (ix2 r d)
/-- A row of the residual stream. -/
abbrev xrow (r : Fin 8192) (e : Fin 2048) : EReal := m ((c : Thread nD τ).loc main_arg2) (ix3 (seqOf r) (posOf r) e)
/-- The scale row of the state output. -/
abbrev gsrow (d : Fin 1024) : EReal := m ((c : Thread nD τ).loc main_arg3) (ix2 0 d)
/-- The scale row of the attention's output. -/
abbrev garow (d : Fin 1024) : EReal := m ((c : Thread nD τ).loc main_arg4) (ix2 0 d)
/-- The scale row of the last normalisation. -/
abbrev gfrow (e : Fin 2048) : EReal := m ((c : Thread nD τ).loc main_arg5) (ix2 0 e)
/-- The weights of the gate. -/
abbrev wgmat (d n : Fin 1024) : EReal := m ((c : Thread nD τ).loc main_arg6) (ix3 0 d n)
/-- The weights of the projection. -/
abbrev womat (d e : Fin 2048) : EReal := m ((c : Thread nD τ).loc main_arg7) (ix3 0 d e)

/-- The state block is a block of rows of the first argument. -/
theorem read0 (t : Fin cfg0.N) (b : Fin 256) (d : Fin 1024) : iblk m c 0 t (ix2 b d) = yrow m c (row t b) d := by
  have ht := lt33 t
  have h : (win0_0.blk t).view.emb (ix2 b d) = ix2 (row t b) d := by
    blk_ext [idx t]
  exact (congrArg (V m c main_arg0) h).trans (entryY m c _ d)

/-- The attention's block is a block of rows of the second argument. -/
theorem read1 (t : Fin cfg0.N) (b : Fin 256) (d : Fin 1024) : iblk m c 1 t (ix2 b d) = orow m c (row t b) d := by
  have ht := lt33 t
  have h : (win0_1.blk t).view.emb (ix2 b d) = ix2 (row t b) d := by
    blk_ext [idx t]
  exact (congrArg (V m c main_arg1) h).trans (entryO m c _ d)

/-- The residual block is a block of rows of the third argument. -/
theorem read2 (t : Fin cfg0.N) (b : Fin 256) (e : Fin 2048) : iblk m c 2 t (ix2 b e) = xrow m c (row t b) e := by
  have ht := lt33 t
  have h : (win0_2.blk t).view.emb (ix2 b e) = ix2 (row t b) e := by
    blk_ext [idx t]
  exact (congrArg (V m c main_v17) h).trans (entryX m c _ e)

/-- The first scale row is the fourth argument. -/
theorem read3 (t : Fin cfg0.N) (d : Fin 1024) : iblk m c 3 t (ix2 0 d) = gsrow m c d := by
  have h : (win0_3.blk t).view.emb (ix2 0 d) = ix2 0 d := by
    blk_ext [idx t]
  exact (congrArg (V m c main_v12) h).trans (entryGs m c d)

/-- The second scale row is the fifth argument. -/
theorem read4 (t : Fin cfg0.N) (d : Fin 1024) : iblk m c 4 t (ix2 0 d) = garow m c d := by
  have h : (win0_4.blk t).view.emb (ix2 0 d) = ix2 0 d := by
    blk_ext [idx t]
  exact (congrArg (V m c main_v14) h).trans (entryGa m c d)

/-- The third scale row is the sixth argument. -/
theorem read5 (t : Fin cfg0.N) (e : Fin 2048) : iblk m c 5 t (ix2 0 e) = gfrow m c e := by
  have h : (win0_5.blk t).view.emb (ix2 0 e) = ix2 0 e := by
    blk_ext [idx t]
  exact (congrArg (V m c main_v16) h).trans (entryGf m c e)

/-- The gate's weight block is the whole seventh argument. -/
theorem read6 (t : Fin cfg0.N) (d n : Fin 1024) : iblk m c 6 t (ix2 d n) = wgmat m c d n := by
  have h : (win0_6.blk t).view.emb (ix2 d n) = ix2 d n := by
    blk_ext [idx t]
  exact (congrArg (V m c main_v19) h).trans (entryWg m c d n)

/-- The projection's weight block is the whole eighth argument. -/
theorem read7 (t : Fin cfg0.N) (d e : Fin 2048) : iblk m c 7 t (ix2 d e) = womat m c d e := by
  have h : (win0_7.blk t).view.emb (ix2 d e) = ix2 d e := by
    blk_ext [idx t]
  exact (congrArg (V m c main_v21) h).trans (entryWo m c d e)

/-! ## The rows -/

/-- The gated state output of a row, normalised. -/
abbrev left (r : Fin 8192) : Fin 1024 → EReal := normedHalf (gated (yrow m c r) (wgmat m c)) (gsrow m c)
/-- The attention's output of a row, normalised. -/
abbrev right (r : Fin 8192) : Fin 1024 → EReal := normedHalf (orow m c r) (garow m c)
/-- The mixed row of a row. -/
abbrev mixedOf (r : Fin 8192) : Fin 2048 → EReal := mixedRow (xrow m c r) (left m c r) (right m c r) (womat m c)

/-- Equal rows, weights and scales give equal gated and normalised rows. -/
theorem left_congr {y y' : Fin 1024 → EReal} {w w' : Fin 1024 → Fin 1024 → EReal} {g g' : Fin 1024 → EReal} (hy : y = y') (hw : w = w') (hg : g = g')
    (n : Fin 1024) : normedHalf (gated y w) g n = normedHalf (gated y' w') g' n := by
  rw [hy, hw, hg]

/-- The first half of the rows made at a point. -/
theorem left_eq (t : Fin cfg0.N) (b : Fin 256) (n : Fin 1024) :
    k0_pay3 (F := Ideal) (iblk m c 0 t) (iblk m c 6 t) (iblk m c 3 t) (ix2 b n) = left m c (row t b) n := by
  rw [pay3_apply]
  have h0 : (fun d => iblk m c 0 t (ix2 b d)) = yrow m c (row t b) := funext fun d => read0 m c t b d
  have h6 : (fun d n => iblk m c 6 t (ix2 d n)) = wgmat m c := funext fun d => funext fun n => read6 m c t d n
  have h3 : (fun d => iblk m c 3 t (ix2 0 d)) = gsrow m c := funext fun d => read3 m c t d
  exact left_congr h0 h6 h3 n

/-- The second half of the rows made at a point. -/
theorem right_eq (t : Fin cfg0.N) (b : Fin 256) (n : Fin 1024) :
    normedHalf (fun d => iblk m c 1 t (ix2 b d)) (fun d => iblk m c 4 t (ix2 0 d)) n = right m c (row t b) n :=
  congrArg₂ (fun o g => normedHalf o g n) (funext fun d => read1 m c t b d) (funext fun d => read4 m c t d)

/-- The mixed rows made at a point. -/
theorem rows_eq (t : Fin cfg0.N) (b : Fin 256) (e : Fin 2048) :
    k0_pay4 (F := Ideal) (k0_pay3 (iblk m c 0 t) (iblk m c 6 t) (iblk m c 3 t)) (iblk m c 1 t) (iblk m c 4 t) (iblk m c 2 t)
      (half 0 (iblk m c 7 t)) (half 1 (iblk m c 7 t)) (ix2 b e) = mixedOf m c (row t b) e := by
  rw [pay4_apply]
  refine Eq.trans ?_ (mixedRow_halves (xrow m c (row t b)) (left m c (row t b)) (right m c (row t b)) (womat m c) e)
  refine congrArg₂ (· + ·) (congrArg₂ (· + ·) (read2 m c t b e) (Finset.sum_congr rfl fun d _ => ?_)) (Finset.sum_congr rfl fun d _ => ?_)
  · refine congrArg₂ (· * ·) (left_eq m c t b d) ((read7 m c t _ e).trans ?_)
    exact congrArg (fun d => womat m c d e) (Fin.ext (by show 1024 * 0 + d.val = d.val; omega))
  · refine congrArg₂ (· * ·) (right_eq m c t b d) ((read7 m c t _ e).trans ?_)
    exact congrArg (fun d => womat m c d e) (Fin.ext (by show 1024 * 1 + d.val = 1024 + d.val; omega))

/-- The mixed rows a point leaves. -/
theorem mixed_apply (t : Fin cfg0.N) (b : Fin 256) (e : Fin 2048) : Run.mixed m c t (ix2 b e) = mixedOf m c (row t b) e := by
  rw [mixed_eq]
  exact rows_eq m c t b e

/-- The normalised rows a point leaves. -/
theorem normed_apply (t : Fin cfg0.N) (b : Fin 256) (e : Fin 2048) :
    Run.normed m c t (ix2 b e) = normed (mixedOf m c (row t b)) (gfrow m c) e := by
  rw [normed_eq, pay7_apply]
  exact congrArg₂ (fun x g => normed x g e) (funext fun e => rows_eq m c t b e) (funext fun e => read5 m c t e)

/-! ## The two arrays -/

/-- The mixed rows of the prompt. -/
def mixedArr : Vec Ideal S8192x2048 .f32 := fun i => mixedOf m c (i 0) (i 1)

/-- The normalised rows of the prompt, with zeros past them. -/
def normedArr : Vec Ideal S8224x2048 .f32 := fun i =>
  if h : (i 0).val < 8192 then normed (mixedOf m c ⟨(i 0).val, h⟩) (gfrow m c) (i 1) else 0

/-- A point and the last one that has rows have the same block of rows. -/
theorem row_rowPt (t : Fin cfg0.N) (b : Fin 256) : row (Run.rowPt t) b = row t b :=
  Fin.ext (by show 256 * min (min t.val 31) 31 + b.val = 256 * min t.val 31 + b.val; omega)

set_option maxHeartbeats 1600000 in
/-- THE MIXED ROWS after the kernel's run. -/
theorem final10 : (Run.dats m 0 c).arrAt 10 cfg0.N = mixedArr m c := by
  refine (Run.dats m 0 c).arrAt_eq_of_covers 10 _ (by decide +kernel) fun t hf y => ?_
  have ht := lt33 t
  blk_simp
  rw [Run.after_10]
  idx_vars y
  have hy : (win0_10.blk t).view.emb (ix2 y0 y1) = ix2 (row t y0) y1 := by
    blk_ext [idxOut t]
  refine Eq.trans ?_ (congrArg (mixedArr m c) hy).symm
  refine (mixed_apply m c (Run.rowPt t) y0 y1).trans ?_
  rw [row_rowPt]
  rfl

/-- The normalised rows at a row of the prompt. -/
theorem normedArr_rows (r : Fin 8224) (hr : r.val < 8192) (e : Fin 2048) :
    normedArr m c (ix2 r e) = normed (mixedOf m c ⟨r.val, hr⟩) (gfrow m c) e := dif_pos hr

/-- The normalised rows past the prompt. -/
theorem normedArr_zeros (r : Fin 8224) (hr : ¬r.val < 8192) (e : Fin 2048) : normedArr m c (ix2 r e) = 0 := dif_neg hr

set_option maxHeartbeats 1600000 in
/-- THE NORMALISED ROWS after the kernel's run. -/
theorem final11 : (Run.dats m 0 c).arrAt 11 cfg0.N = normedArr m c := by
  refine (Run.dats m 0 c).arrAt_eq_of_covers 11 _ (by decide +kernel) fun t hf y => ?_
  have ht := lt33 t
  blk_simp
  rw [Run.after_11]
  have l0 : (y 0).val < 256 := (y 0).isLt.trans_le (win0_11.xsize_le (grid0.coords t) 0)
  have l1 : (y 1).val < 2048 := (y 1).isLt.trans_le (win0_11.xsize_le (grid0.coords t) 1)
  have i0 : win0_11.index t 0 = t.val := congrFun (idxOut t).2 0
  have i1 : win0_11.index t 1 = 0 := congrFun (idxOut t).2 1
  have e0 : ((win0_11.blk t).view.emb y 0).val = t.val * 256 + (y 0).val :=
    (win0_11.rect_emb_val t y 0).trans (by rw [i0]; rfl)
  have e1 : ((win0_11.blk t).view.emb y 1).val = (y 1).val :=
    (win0_11.rect_emb_val t y 1).trans (by rw [i1]; show 0 * 2048 + (y 1).val = (y 1).val; omega)
  have lr : t.val * 256 + (y 0).val < 8224 := e0 ▸ ((win0_11.blk t).view.emb y 0).isLt
  have hi : (win0_11.blk t).view.emb y = ix2 (⟨t.val * 256 + (y 0).val, lr⟩ : Fin 8224) ⟨(y 1).val, l1⟩ := by
    funext a
    apply Fin.ext
    match a with
    | ⟨0, _⟩ => exact e0
    | ⟨1, _⟩ => exact e1
  have hx : win0_11.xinj (grid0.coords t) y = ix2 (⟨(y 0).val, l0⟩ : Fin 256) ⟨(y 1).val, l1⟩ := by
    funext a
    apply Fin.ext
    match a with
    | ⟨0, _⟩ => rfl
    | ⟨1, _⟩ => rfl
  refine (congrArg (Run.normedAfter m c t) hx).trans (Eq.trans ?_ (congrArg (normedArr m c) hi).symm)
  unfold Run.normedAfter
  by_cases h : t.val < 32
  · rw [if_pos h, normed_apply, normedArr_rows m c _ (by show t.val * 256 + (y 0).val < 8192; omega)]
    refine congrArg (fun r => normed (mixedOf m c r) (gfrow m c) _) (Fin.ext ?_)
    show 256 * min t.val 31 + (y 0).val = t.val * 256 + (y 0).val
    omega
  · rw [if_neg h, zeros_eq, pay2_apply, normedArr_zeros m c _ (by show ¬t.val * 256 + (y 0).val < 8192; omega)]

end Cert.MixOutIdeal.Row

end
-- ==== Proof.MixOut.Ref.lean ====
/- The reference's output projection of the prompt, read at an index. -/
module

public import proofs.«01_k».proof.Proof.Gen.MixOutRefIdeal.Read
public import proofs.«01_k».proof.Proof.Mix.Place
public import proofs.«01_k».proof.Proof.Mix.Out

@[expose] public section

set_option maxRecDepth 16384

noncomputable section

namespace Cert.MixOutRefIdeal.Row

open Cert.MixOutRefIdeal Cert.MixOutRefIdeal.Gen Cert.MixOutRefIdeal.Read Idealize.ShloMosaic Cert.MixMath

variable (y o : (⟨S8192x1024, .f32⟩ : BufTy).Contents (Elt Ideal)) (x : (⟨S2x4096x2048, .f32⟩ : BufTy).Contents (Elt Ideal))
  (gs ga : (⟨S1x1024, .f32⟩ : BufTy).Contents (Elt Ideal)) (gf : (⟨S1x2048, .f32⟩ : BufTy).Contents (Elt Ideal))
  (wg : (⟨S1x1024x1024, .f32⟩ : BufTy).Contents (Elt Ideal)) (wo : (⟨S1x2048x2048, .f32⟩ : BufTy).Contents (Elt Ideal))

/-- The row of the 8192 that position `p` of sequence `a` is. -/
abbrev rowAt (a : Fin 2) (p : Fin 4096) : Fin 8192 := ⟨4096 * a.val + p.val, by omega⟩
/-- A row of the state output. -/
abbrev yrow (r : Fin 8192) (d : Fin 1024) : EReal := y (ix2 r d)
/-- A row of the attention's output. -/
abbrev orow (r : Fin 8192) (d : Fin 1024) : EReal := o (ix2 r d)
/-- The row of the residual stream of sequence `a` at position `p`. -/
abbrev xrow (a : Fin 2) (p : Fin 4096) (d : Fin 2048) : EReal := x (ix3 a p d)
/-- The scale row of the state output. -/
abbrev gsrow (d : Fin 1024) : EReal := gs (ix2 0 d)
/-- The scale row of the last normalisation. -/
abbrev gfrow (d : Fin 2048) : EReal := gf (ix2 0 d)
/-- The weights of the gate. -/
abbrev wgmat (d n : Fin 1024) : EReal := wg (ix3 0 d n)
/-- The weights of the projection. -/
abbrev womat (d e : Fin 2048) : EReal := wo (ix3 0 d e)

/-- Equal rows of an array of 8192 half rows have equal entries. -/
theorem half_congr (v : (⟨S8192x1024, .f32⟩ : BufTy).Contents (Elt Ideal)) (r r' : Fin 8192) (d d' : Fin 1024) (hr : r.val = r'.val) (hd : d.val = d'.val) :
    v (ix2 r d) = v (ix2 r' d') := by
  rw [Fin.ext hr, Fin.ext hd]

/-- The state output as it is cut into sequences and positions. -/
theorem v0_apply (a : Fin 2) (p : Fin 4096) (n : Fin 1024) : val_main_v0 (F := Ideal) y (ix3 a p n) = yrow y (rowAt a p) n := by
  pointwise [val_main_v0]
  exact half_congr y _ _ _ _ (by show a.val * 4096 + p.val = 4096 * a.val + p.val; omega) rfl

/-- The attention's output as it is cut into sequences and positions. -/
theorem v37_apply (a : Fin 2) (p : Fin 4096) (n : Fin 1024) : val_main_v37 (F := Ideal) o (ix3 a p n) = orow o (rowAt a p) n := v0_apply o a p n

/-- The state output activated. -/
theorem v13_apply (a : Fin 2) (p : Fin 4096) (n : Fin 1024) : val_main_v13 (F := Ideal) y (ix3 a p n) = gelu (yrow y (rowAt a p) n) := by
  unfold gelu
  pointwise [val_main_v13, val_main_v12, val_main_v11, val_main_cst_2, val_main_v10, val_main_v9, val_main_cst_1, val_main_v8, val_main_v7,
    val_main_v6, val_main_cst_0, val_main_v5, val_main_v4, val_main_v3, val_main_cst, val_main_v2, val_main_v1]
  simp only [v0_apply]

/-- The product with the weights of the gate. -/
theorem v15_apply (a : Fin 2) (p : Fin 4096) (n : Fin 1024) :
    val_main_v15 (F := Ideal) y wg (ix3 a p n) = ∑ d : Fin 1024, gelu (yrow y (rowAt a p) d) * wgmat wg d n := by
  simp only [← v13_apply]
  pointwise [val_main_v15, val_main_v14]

/-- The gated state output. -/
theorem v22_apply (a : Fin 2) (p : Fin 4096) (n : Fin 1024) :
    val_main_v22 (F := Ideal) y wg (ix3 a p n) = gated (yrow y (rowAt a p)) (wgmat wg) n := by
  unfold gated squash
  rw [← v15_apply, ← v13_apply]
  pointwise [val_main_v22, val_main_v21, val_main_v20, val_main_cst_4, val_main_v19, val_main_v18, val_main_cst_3, val_main_v17, val_main_v16]

/-- The gated state output, normalised. -/
theorem v36_apply (a : Fin 2) (p : Fin 4096) (n : Fin 1024) :
    val_main_v36 (F := Ideal) y gs wg (ix3 a p n) = normedHalf (gated (yrow y (rowAt a p)) (wgmat wg)) (gsrow gs) n := by
  unfold normedHalf
  simp only [← v22_apply]
  pointwise [val_main_v36, val_main_v35, val_main_v34, val_main_v33, val_main_v32, val_main_v31, val_main_v30, val_main_v29, val_main_cst_7,
    val_main_v28, val_main_v27, val_main_cst_6, val_main_v26, val_main_v25, val_main_cst_5, val_main_v24, val_main_v23]

/-- The attention's output, normalised. -/
theorem v51_apply (a : Fin 2) (p : Fin 4096) (n : Fin 1024) :
    val_main_v51 (F := Ideal) o ga (ix3 a p n) = normedHalf (orow o (rowAt a p)) (gsrow ga) n := by
  unfold normedHalf
  pointwise [val_main_v51, val_main_v50, val_main_v49, val_main_v48, val_main_v47, val_main_v46, val_main_v45, val_main_v44, val_main_cst_10,
    val_main_v43, val_main_v42, val_main_cst_9, val_main_v41, val_main_v40, val_main_cst_8, val_main_v39, val_main_v38]
  simp only [v37_apply]

/-- The two halves side by side. -/
theorem v52_apply (a : Fin 2) (p : Fin 4096) (d : Fin 2048) :
    val_main_v52 (F := Ideal) y o gs ga wg (ix3 a p d)
      = sideBySide (normedHalf (gated (yrow y (rowAt a p)) (wgmat wg)) (gsrow gs)) (normedHalf (orow o (rowAt a p)) (gsrow ga)) d := by
  unfold sideBySide
  simp only [← v36_apply, ← v51_apply]
  pointwise [val_main_v52]

/-- The mixed row of sequence `a` at position `p`. -/
abbrev mixed (a : Fin 2) (p : Fin 4096) : Fin 2048 → EReal :=
  mixedRow (xrow x a p) (normedHalf (gated (yrow y (rowAt a p)) (wgmat wg)) (gsrow gs)) (normedHalf (orow o (rowAt a p)) (gsrow ga)) (womat wo)

/-- The residual stream with the projection added. -/
theorem v55_apply (a : Fin 2) (p : Fin 4096) (e : Fin 2048) :
    val_main_v55 (F := Ideal) y o x gs ga wg wo (ix3 a p e) = mixed y o x gs ga wg wo a p e := by
  unfold mixed mixedRow
  simp only [← v52_apply]
  pointwise [val_main_v55, val_main_v54, val_main_v53]

/-- The mixed rows, normalised. -/
theorem v69_apply (a : Fin 2) (p : Fin 4096) (e : Fin 2048) :
    val_main_v69 (F := Ideal) y o x gs ga gf wg wo (ix3 a p e) = normed (mixed y o x gs ga wg wo a p) (gfrow gf) e := by
  unfold normed
  simp only [← v55_apply]
  pointwise [val_main_v69, val_main_v68, val_main_v67, val_main_v66, val_main_v65, val_main_v64, val_main_v63, val_main_v62, val_main_cst_13,
    val_main_v61, val_main_v60, val_main_cst_12, val_main_v59, val_main_v58, val_main_cst_11, val_main_v57, val_main_v56]

/-- The first result: the mixed rows, one sequence after the other. -/
theorem v71_apply (r : Fin 8192) (e : Fin 2048) :
    val_main_v71 (F := Ideal) y o x gs ga wg wo (ix2 r e) = mixed y o x gs ga wg wo (seqOf r) (posOf r) e := by
  refine Eq.trans ?_ (v55_apply y o x gs ga wg wo (seqOf r) (posOf r) e)
  pointwise [val_main_v71]

/-- The normalised rows, one sequence after the other. -/
theorem v70_apply (r : Fin 8192) (e : Fin 2048) :
    val_main_v70 (F := Ideal) y o x gs ga gf wg wo (ix2 r e) = normed (mixed y o x gs ga wg wo (seqOf r) (posOf r)) (gfrow gf) e := by
  refine Eq.trans ?_ (v69_apply y o x gs ga gf wg wo (seqOf r) (posOf r) e)
  pointwise [val_main_v70]

/-- The second result in the prompt's rows: the normalised rows. -/
theorem v73_rows (r : Fin 8224) (hr : r.val < 8192) (e : Fin 2048) :
    val_main_v73 (F := Ideal) y o x gs ga gf wg wo (ix2 r e)
      = normed (mixed y o x gs ga wg wo (seqOf ⟨r.val, hr⟩) (posOf ⟨r.val, hr⟩)) (gfrow gf) e := by
  refine Eq.trans ?_ (v70_apply y o x gs ga gf wg wo ⟨r.val, hr⟩ e)
  pointwise [val_main_v73]
  exact dif_pos hr

/-- The second result past the prompt's rows: zeros. -/
theorem v73_zeros (r : Fin 8224) (hr : ¬r.val < 8192) (e : Fin 2048) :
    val_main_v73 (F := Ideal) y o x gs ga gf wg wo (ix2 r e) = 0 := by
  have h : ∀ i, val_main_v72 (F := Ideal) i = 0 := fun i => by
    rw [val_main_v72_apply, val_main_cst_14_apply]
    exact Ideal.ofBits_zero_f32
  pointwise [val_main_v73]
  refine (dif_neg hr).trans ?_
  exact h _

end Cert.MixOutRefIdeal.Row

end
-- ==== Proof.MixOut.Result.lean ====
/- The output projection of the prompt: the kernel's two results are the reference's. -/
module

public import proofs.«01_k».proof.Proof.Gen.MixOutIdeal
public import proofs.«01_k».proof.Proof.Gen.MixOutRefIdeal
public import proofs.«01_k».proof.Proof.MixOutIdeal.Kernel
public import proofs.«01_k».proof.Proof.MixOut.Ref
public import Idealize.ShloMosaic.Lib.Claim
public import Idealize.ShloMosaic.Lib.Pointwise

@[expose] public section

set_option maxRecDepth 16384

noncomputable section

namespace Cert.MixOutResult

open Idealize.ShloMosaic Idealize.ShloMosaic.TcCoe Idealize.SL.Sem Cert.MixMath

open Cert.MixOutIdeal Cert.MixOutIdeal.Gen

variable (m : (ℓ : Loc nD τ sig) → Buf (Elt Ideal) ℓ) (c : Dev nD)

/-- The kernel's mixed row is the reference's. -/
theorem mixed_same (r : Fin 8192) :
    Row.mixedOf m c r = MixOutRefIdeal.Row.mixed (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg6)) (m ((c : Thread nD τ).loc main_arg7)) (seqOf r) (posOf r) := by
  have hr : MixOutRefIdeal.Row.rowAt (seqOf r) (posOf r) = r :=
    Fin.ext (by show 4096 * (r.val / 4096) + r.val % 4096 = r.val; omega)
  unfold MixOutRefIdeal.Row.mixed
  rw [hr]

/-- The first result. -/
theorem result0 : (Run.dats m 0 c).arrAt 10 cfg0.N
    = MixOutRefIdeal.Read.val_main_v71 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg6)) (m ((c : Thread nD τ).loc main_arg7)) := by
  rw [Row.final10]
  funext i
  idx_vars i
  exact (congrFun (mixed_same m c i0) i1).trans (MixOutRefIdeal.Row.v71_apply _ _ _ _ _ _ _ i0 i1).symm

/-- The second result. -/
theorem result1 : (Run.dats m 0 c).arrAt 11 cfg0.N
    = MixOutRefIdeal.Read.val_main_v73 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [Row.final11]
  funext i
  idx_vars i
  by_cases h : i0.val < 8192
  · refine (Row.normedArr_rows m c i0 h i1).trans (Eq.trans ?_ (MixOutRefIdeal.Row.v73_rows _ _ _ _ _ _ _ _ i0 h i1).symm)
    exact congrArg (fun x => normed x (Row.gfrow m c) i1) (mixed_same m c ⟨i0.val, h⟩)
  · exact (Row.normedArr_zeros m c i0 h i1).trans (MixOutRefIdeal.Row.v73_zeros _ _ _ _ _ _ _ _ i0 h i1).symm

end Cert.MixOutResult

end
-- ==== Proof.Mix.Last.lean ====
/- The layer's last row on extended reals: the residual row, the two experts' rows with their weights added, and the row normalised. Both
   programs are read into this function. -/
module

public import proofs.«01_k».proof.Proof.Mix.Math

@[expose] public section

noncomputable section

namespace Cert.MixMath

open Idealize.ShloMosaic

/-- The residual row with the two experts' rows added, each with its weight. -/
def withExperts (x : Fin 2048 → EReal) (p q : EReal) (a b : Fin 2048 → EReal) (e : Fin 2048) : EReal := x e + (p * a e + q * b e)

/-- That row normalised. -/
def lastRow (x : Fin 2048 → EReal) (p q : EReal) (a b g : Fin 2048 → EReal) (e : Fin 2048) : EReal := normed (withExperts x p q a b) g e

/-- The last row depends on its parts only through their values. -/
theorem lastRow_congr {x x' : Fin 2048 → EReal} {p p' q q' : EReal} {a a' b b' g g' : Fin 2048 → EReal} (hx : ∀ d, x d = x' d) (hp : p = p')
    (hq : q = q') (ha : ∀ d, a d = a' d) (hb : ∀ d, b d = b' d) (hg : ∀ d, g d = g' d) (e : Fin 2048) :
    lastRow x p q a b g e = lastRow x' p' q' a' b' g' e := by
  rw [funext hx, hp, hq, funext ha, funext hb, funext hg]

end Cert.MixMath

end
-- ==== Proof.Final.Kernel.lean ====
/- The layer's output for the prompt: what each grid point leaves in its block, and the result array. -/
module

public import proofs.«01_k».proof.Proof.Gen.FinalIdeal.Frame
public import proofs.«01_k».proof.Proof.Mix.Last
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

namespace Cert.FinalIdeal.Row

open Cert.FinalIdeal Cert.FinalIdeal.Gen Idealize.ShloMosaic Idealize.ShloMosaic.TcCoe Idealize.SL.Sem Cert.MixMath

variable (m : (ℓ : Loc nD τ sig) → Buf (Elt Ideal) ℓ) (c : Dev nD)

/-- The block's rows from the blocks it reads: each is the last row of its residual row and its experts' rows. -/
theorem pay1_apply (r : Vec Ideal S256x128 .f32) (x a b : Vec Ideal S256x2048 .f32) (g : Vec Ideal S1x2048 .f32) (i : Fin 256)
    (e : Fin 2048) : k0_pay1 (F := Ideal) r x a b g (ix2 i e)
      = lastRow (fun d => x (ix2 i d)) (r (ix2 i 2)) (r (ix2 i 3)) (fun d => a (ix2 i d)) (fun d => b (ix2 i d)) (fun d => g (ix2 0 d)) e := by
  unfold lastRow normed withExperts
  pointwise [k0_pay1]

/-- The block a grid point leaves, at an entry. -/
theorem out_apply (t : Fin cfg0.N) (i : Fin 256) (e : Fin 2048) :
    (dats m 0 c).after 5 t (ix2 i e)
      = lastRow (fun d => iblk m c 0 t (ix2 i d)) (iblk m c 1 t (ix2 i 2)) (iblk m c 1 t (ix2 i 3)) (fun d => iblk m c 3 t (ix2 i d))
          (fun d => iblk m c 4 t (ix2 i d)) (fun d => iblk m c 2 t (ix2 0 d)) e := by
  rw [after0_5]
  unfold out0_5
  frame_out
  exact pay1_apply _ _ _ _ _ i e

/-- Where the windows stand at grid point `t`. -/
theorem idx : ∀ t : Fin cfg0.N, win0_0.index t = ![t.val, 0] ∧ win0_1.index t = ![t.val, 0] ∧ win0_2.index t = ![0, 0]
    ∧ win0_3.index t = ![0 + t.val, 0] ∧ win0_4.index t = ![33 + t.val, 0] ∧ win0_5.index t = ![t.val, 0] :=
  (by decide +kernel : ∀ t : Fin grid0.N, _)

/-- The scale array before the region is the fourth argument. -/
theorem entry0 (d : Fin 2048) : V m c main_v0 (ix2 0 d) = m ((c : Thread nD τ).loc main_arg3) (ix1 d) := by
  unfold V
  after_reads_at

/-- The row of the arrays that row `i` of the blocks at point `t` is. -/
abbrev rowAt (t : Fin cfg0.N) (i : Fin 256) : Fin 8192 :=
  ⟨256 * t.val + i.val, by have : t.val < 32 := lt_of_lt_of_eq t.isLt (show cfg0.N = 32 from N_0); omega⟩

/-- The row of the first experts' plane that belongs to row `r`. -/
abbrev plane0 (r : Fin 8192) : Fin 16896 := ⟨0 + r.val, by omega⟩
/-- The row of the second experts' plane that belongs to row `r`. -/
abbrev plane1 (r : Fin 8192) : Fin 16896 := ⟨8448 + r.val, by omega⟩

/-- The residual block. -/
theorem read0 (t : Fin cfg0.N) (i : Fin 256) (d : Fin 2048) :
    iblk m c 0 t (ix2 i d) = m ((c : Thread nD τ).loc main_arg0) (ix2 (rowAt t i) d) := by
  have h : (win0_0.blk t).view.emb (ix2 i d) = ix2 (rowAt t i) d := by
    blk_ext [idx t]
  exact (congrArg (V m c main_arg0) h).trans (congrFun (V_main_arg0 m c) _)

/-- The routing block. -/
theorem read1 (t : Fin cfg0.N) (i : Fin 256) (d : Fin 128) :
    iblk m c 1 t (ix2 i d) = m ((c : Thread nD τ).loc main_arg1) (ix2 (rowAt t i) d) := by
  have h : (win0_1.blk t).view.emb (ix2 i d) = ix2 (rowAt t i) d := by
    blk_ext [idx t]
  exact (congrArg (V m c main_arg1) h).trans (congrFun (V_main_arg1 m c) _)

/-- The scale row. -/
theorem read2 (t : Fin cfg0.N) (d : Fin 2048) : iblk m c 2 t (ix2 0 d) = m ((c : Thread nD τ).loc main_arg3) (ix1 d) := by
  have h : (win0_2.blk t).view.emb (ix2 0 d) = ix2 0 d := by
    blk_ext [idx t]
  exact (congrArg (V m c main_v0) h).trans (entry0 m c d)

/-- The block of the first experts' plane. -/
theorem read3 (t : Fin cfg0.N) (i : Fin 256) (d : Fin 2048) :
    iblk m c 3 t (ix2 i d) = m ((c : Thread nD τ).loc main_arg2) (ix2 (plane0 (rowAt t i)) d) := by
  have h : (win0_3.blk t).view.emb (ix2 i d) = ix2 (plane0 (rowAt t i)) d := by
    blk_ext [idx t]
  exact (congrArg (V m c main_arg2) h).trans (congrFun (V_main_arg2 m c) _)

/-- The block of the second experts' plane. -/
theorem read4 (t : Fin cfg0.N) (i : Fin 256) (d : Fin 2048) :
    iblk m c 4 t (ix2 i d) = m ((c : Thread nD τ).loc main_arg2) (ix2 (plane1 (rowAt t i)) d) := by
  have h : (win0_4.blk t).view.emb (ix2 i d) = ix2 (plane1 (rowAt t i)) d := by
    blk_ext [idx t]
  exact (congrArg (V m c main_arg2) h).trans (congrFun (V_main_arg2 m c) _)

/-- The layer's output rows from the argument arrays. -/
def output (x : Vec Ideal S8192x2048 .f32) (r : Vec Ideal S8192x128 .f32) (y : Vec Ideal S16896x2048 .f32) (g : Vec Ideal S2048 .f32) :
    Vec Ideal S8192x2048 .f32 := fun i =>
  lastRow (fun d => x (ix2 (i 0) d)) (r (ix2 (i 0) 2)) (r (ix2 (i 0) 3)) (fun d => y (ix2 (plane0 (i 0)) d))
    (fun d => y (ix2 (plane1 (i 0)) d)) (fun d => g (ix1 d)) (i 1)

/-- What grid point `t` writes back is the output where its block lies. -/
theorem point_at (t : Fin cfg0.N) (y : S256x2048.Idx) :
    (dats m 0 c).after 5 t y
      = output (m ((c : Thread nD τ).loc main_arg0)) (m ((c : Thread nD τ).loc main_arg1)) (m ((c : Thread nD τ).loc main_arg2))
          (m ((c : Thread nD τ).loc main_arg3)) ((win0_5.blk t).view.emb y) := by
  idx_vars y
  have hy : (win0_5.blk t).view.emb (ix2 y0 y1) = ix2 (rowAt t y0) y1 := by
    blk_ext [idx t]
  refine (out_apply m c t y0 y1).trans (Eq.trans ?_ (congrArg _ hy.symm))
  exact lastRow_congr (read0 m c t y0) (read1 m c t y0 2) (read1 m c t y0 3) (read3 m c t y0) (read4 m c t y0) (read2 m c t) y1

/-- THE OUTPUT ARRAY after the kernel's run. -/
theorem final : (dats m 0 c).arrAt 5 cfg0.N
    = output (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  exact point_at m c t y

end Cert.FinalIdeal.Row

end
-- ==== Proof.Final.Ref.lean ====
/- The layer's output for the prompt: the reference's result, read at an index. -/
module

public import proofs.«01_k».proof.Proof.Gen.FinalRefIdeal.Read
public import proofs.«01_k».proof.Proof.Mix.Last
public import Idealize.ShloMosaic.Lib.Pointwise

@[expose] public section

set_option maxRecDepth 16384

noncomputable section

namespace Cert.FinalRefIdeal.Row

open Cert.FinalRefIdeal Cert.FinalRefIdeal.Gen Cert.FinalRefIdeal.Read Idealize.ShloMosaic Cert.MixMath

variable (x : (⟨S8192x2048, .f32⟩ : BufTy).Contents (Elt Ideal)) (r : (⟨S8192x128, .f32⟩ : BufTy).Contents (Elt Ideal))
  (y : (⟨S16896x2048, .f32⟩ : BufTy).Contents (Elt Ideal)) (g : (⟨S2048, .f32⟩ : BufTy).Contents (Elt Ideal))

/-- The row of the flat arrays that position `s` of sequence `b` is. -/
abbrev rowOf (b : Fin 2) (s : Fin 4096) : Fin 8192 := ⟨b.val * 4096 + s.val, by omega⟩

/-- The experts' rows side by side, the first. -/
theorem v8_first (i : Fin 8192) (e : Fin 2048) :
    val_main_v8 (F := Ideal) r y (ix3 i 0 e) = y (ix2 ⟨0 + i.val, by omega⟩ e) * r (ix2 i 2) := by
  pointwise [val_main_v8, val_main_v5, val_main_v3, val_main_v1, val_main_v7, val_main_v6, val_main_v0]

/-- The experts' rows side by side, the second. -/
theorem v8_second (i : Fin 8192) (e : Fin 2048) :
    val_main_v8 (F := Ideal) r y (ix3 i 1 e) = y (ix2 ⟨8448 + i.val, by omega⟩ e) * r (ix2 i 3) := by
  pointwise [val_main_v8, val_main_v5, val_main_v4, val_main_v2, val_main_v7, val_main_v6, val_main_v0]

/-- The weighted sum of the experts' rows. -/
theorem v9_apply (i : Fin 8192) (e : Fin 2048) :
    val_main_v9 (F := Ideal) r y (ix2 i e)
      = r (ix2 i 2) * y (ix2 ⟨0 + i.val, by omega⟩ e) + r (ix2 i 3) * y (ix2 ⟨8448 + i.val, by omega⟩ e) := by
  have h : val_main_v9 (F := Ideal) r y (ix2 i e) = ∑ k : Fin 2, val_main_v8 (F := Ideal) r y (ix3 i k e) := by
    pointwise [val_main_v9, val_main_cst]
  rw [h, Fin.sum_univ_two, v8_first, v8_second, mul_comm, mul_comm (r (ix2 i 3))]

/-- The residual row with the experts' rows added. -/
theorem v12_apply (b : Fin 2) (s : Fin 4096) (e : Fin 2048) :
    val_main_v12 (F := Ideal) x r y (ix3 b s e)
      = withExperts (fun d => x (ix2 (rowOf b s) d)) (r (ix2 (rowOf b s) 2)) (r (ix2 (rowOf b s) 3)) (fun d => y (ix2 ⟨0 + ((rowOf b s)).val, by omega⟩ d))
          (fun d => y (ix2 ⟨8448 + ((rowOf b s)).val, by omega⟩ d)) e := by
  have h : val_main_v12 (F := Ideal) x r y (ix3 b s e) = x (ix2 (rowOf b s) e) + val_main_v9 (F := Ideal) r y (ix2 (rowOf b s) e) := by
    pointwise [val_main_v12, val_main_v11, val_main_v10]
  exact h.trans (congrArg (x (ix2 (rowOf b s) e) + ·) (v9_apply r y (rowOf b s) e))

/-- The result: the position's last row. -/
theorem v25_apply (b : Fin 2) (s : Fin 4096) (e : Fin 2048) :
    val_main_v25 (F := Ideal) x r y g (ix3 b s e)
      = lastRow (fun d => x (ix2 (rowOf b s) d)) (r (ix2 (rowOf b s) 2)) (r (ix2 (rowOf b s) 3)) (fun d => y (ix2 ⟨0 + ((rowOf b s)).val, by omega⟩ d))
          (fun d => y (ix2 ⟨8448 + ((rowOf b s)).val, by omega⟩ d)) (fun d => g (ix1 d)) e := by
  have h : val_main_v25 (F := Ideal) x r y g (ix3 b s e)
      = normed (fun d => val_main_v12 (F := Ideal) x r y (ix3 b s d)) (fun d => g (ix1 d)) e := by
    unfold normed
    pointwise [val_main_v25, val_main_v24, val_main_v23, val_main_v22, val_main_v21, val_main_v20, val_main_v19, val_main_v18, val_main_v17,
      val_main_v16, val_main_v15, val_main_v14, val_main_v13, val_main_cst_0, val_main_cst_1, val_main_cst_2]
  exact h.trans (congrArg (fun f => normed f (fun d => g (ix1 d)) e) (funext fun d => v12_apply x r y b s d))

end Cert.FinalRefIdeal.Row

end
-- ==== Proof.Final.Result.lean ====
/- The layer's output for the prompt: the kernel's result is the reference's. -/
module

public import proofs.«01_k».proof.Proof.Final.Kernel
public import proofs.«01_k».proof.Proof.Final.Ref
public import Idealize.ShloMosaic.Lib.Claim
public import Idealize.ShloMosaic.Lib.StableHlo.ReadAt
public import Idealize.ShloMosaic.Lib.Pointwise

@[expose] public section

set_option maxRecDepth 16384

noncomputable section

namespace Cert.FinalResult

open Idealize.ShloMosaic Idealize.ShloMosaic.TcCoe Idealize.SL.Sem Cert.MixMath

open Cert.FinalIdeal Cert.FinalIdeal.Gen

variable (m : (ℓ : Loc nD τ sig) → Buf (Elt Ideal) ℓ) (c : Dev nD)

/-- The output array as the line after the region finds it. -/
theorem tail_arr : Pipeline.withArrays spec0 c (V0 m c) (fun w => (dats m 0 c).arrAt w cfg0.N) (Proc.devRef .tc main_v1)
    = (dats m 0 c).arrAt 5 cfg0.N :=
  (dats m 0 c).withArrays_arrAt sharedIn0 (V0 m c) (A_eq m c) 5

/-- The result is the output array cut into sequences. -/
theorem tail2 (b : Fin 2) (s : Fin 4096) (e : Fin 2048) :
    Pipeline.afterTail₀ cfgs (dats m) 0 (V0 m) [hostOps1] c main_v2 (ix3 b s e)
      = (dats m 0 c).arrAt 5 cfg0.N (ix2 (Cert.FinalRefIdeal.Row.rowOf b s) e) := by
  unfold Pipeline.afterTail₀
  simp only [List.flatten_cons, List.flatten_nil, List.append_nil]
  after_reads_at
  exact congrFun (tail_arr m c) _

/-- The kernel's result is the reference's: the layer's output. -/
theorem result2 : Pipeline.afterTail₀ cfgs (dats m) 0 (V0 m) [hostOps1] c main_v2
    = Cert.FinalRefIdeal.Read.val_main_v25 (F := Ideal) (m ((c.tc : Thread nD τ).loc main_arg0)) (m ((c.tc : Thread nD τ).loc main_arg1))
        (m ((c.tc : Thread nD τ).loc main_arg2)) (m ((c.tc : Thread nD τ).loc main_arg3)) := by
  funext y
  idx_vars y
  exact (tail2 m c y0 y1 y2).trans ((congrFun (Cert.FinalIdeal.Row.final m c) _).trans
    (Cert.FinalRefIdeal.Row.v25_apply _ _ _ _ y0 y1 y2).symm)

end Cert.FinalResult

end
-- ==== Proof.FinalSample.Kernel.lean ====
/- The layer's output for the decoding step: what each grid point leaves in its block, and the result array. -/
module

public import proofs.«01_k».proof.Proof.Gen.FinalSampleIdeal.Frame
public import proofs.«01_k».proof.Proof.Mix.Last
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

namespace Cert.FinalSampleIdeal.Row

open Cert.FinalSampleIdeal Cert.FinalSampleIdeal.Gen Idealize.ShloMosaic Idealize.ShloMosaic.TcCoe Idealize.SL.Sem Cert.MixMath

variable (m : (ℓ : Loc nD τ sig) → Buf (Elt Ideal) ℓ) (c : Dev nD)

/-- The block's rows from the blocks it reads: each is the last row of its residual row and its experts' rows. -/
theorem pay1_apply (r : Vec Ideal S32x128 .f32) (x a b : Vec Ideal S32x2048 .f32) (g : Vec Ideal S1x2048 .f32) (i : Fin 32)
    (e : Fin 2048) : k0_pay1 (F := Ideal) r x a b g (ix2 i e)
      = lastRow (fun d => x (ix2 i d)) (r (ix2 i 2)) (r (ix2 i 3)) (fun d => a (ix2 i d)) (fun d => b (ix2 i d)) (fun d => g (ix2 0 d)) e := by
  unfold lastRow normed withExperts
  pointwise [k0_pay1]

/-- The block a grid point leaves, at an entry. -/
theorem out_apply (t : Fin cfg0.N) (i : Fin 32) (e : Fin 2048) :
    (dats m 0 c).after 5 t (ix2 i e)
      = lastRow (fun d => iblk m c 0 t (ix2 i d)) (iblk m c 1 t (ix2 i 2)) (iblk m c 1 t (ix2 i 3)) (fun d => iblk m c 3 t (ix2 i d))
          (fun d => iblk m c 4 t (ix2 i d)) (fun d => iblk m c 2 t (ix2 0 d)) e := by
  rw [after0_5]
  unfold out0_5
  frame_out
  exact pay1_apply _ _ _ _ _ i e

/-- Where the windows stand at grid point `t`. -/
theorem idx : ∀ t : Fin cfg0.N, win0_0.index t = ![t.val, 0] ∧ win0_1.index t = ![t.val, 0] ∧ win0_2.index t = ![0, 0]
    ∧ win0_3.index t = ![256 + t.val, 0] ∧ win0_4.index t = ![520 + t.val, 0] ∧ win0_5.index t = ![t.val, 0] :=
  (by decide +kernel : ∀ t : Fin grid0.N, _)

/-- The scale array before the region is the fourth argument. -/
theorem entry0 (d : Fin 2048) : V m c main_v0 (ix2 0 d) = m ((c : Thread nD τ).loc main_arg3) (ix1 d) := by
  unfold V
  after_reads_at

/-- The row of the arrays that row `i` of the blocks at point `t` is. -/
abbrev rowAt (t : Fin cfg0.N) (i : Fin 32) : Fin 32 :=
  ⟨32 * t.val + i.val, by have : t.val < 1 := lt_of_lt_of_eq t.isLt (show cfg0.N = 1 from N_0); omega⟩

/-- The row of the first experts' plane that belongs to row `r`. -/
abbrev plane0 (r : Fin 32) : Fin 16896 := ⟨8192 + r.val, by omega⟩
/-- The row of the second experts' plane that belongs to row `r`. -/
abbrev plane1 (r : Fin 32) : Fin 16896 := ⟨16640 + r.val, by omega⟩

/-- The residual block. -/
theorem read0 (t : Fin cfg0.N) (i : Fin 32) (d : Fin 2048) :
    iblk m c 0 t (ix2 i d) = m ((c : Thread nD τ).loc main_arg0) (ix2 (rowAt t i) d) := by
  have h : (win0_0.blk t).view.emb (ix2 i d) = ix2 (rowAt t i) d := by
    blk_ext [idx t]
  exact (congrArg (V m c main_arg0) h).trans (congrFun (V_main_arg0 m c) _)

/-- The routing block. -/
theorem read1 (t : Fin cfg0.N) (i : Fin 32) (d : Fin 128) :
    iblk m c 1 t (ix2 i d) = m ((c : Thread nD τ).loc main_arg1) (ix2 (rowAt t i) d) := by
  have h : (win0_1.blk t).view.emb (ix2 i d) = ix2 (rowAt t i) d := by
    blk_ext [idx t]
  exact (congrArg (V m c main_arg1) h).trans (congrFun (V_main_arg1 m c) _)

/-- The scale row. -/
theorem read2 (t : Fin cfg0.N) (d : Fin 2048) : iblk m c 2 t (ix2 0 d) = m ((c : Thread nD τ).loc main_arg3) (ix1 d) := by
  have h : (win0_2.blk t).view.emb (ix2 0 d) = ix2 0 d := by
    blk_ext [idx t]
  exact (congrArg (V m c main_v0) h).trans (entry0 m c d)

/-- The block of the first experts' plane. -/
theorem read3 (t : Fin cfg0.N) (i : Fin 32) (d : Fin 2048) :
    iblk m c 3 t (ix2 i d) = m ((c : Thread nD τ).loc main_arg2) (ix2 (plane0 (rowAt t i)) d) := by
  have h : (win0_3.blk t).view.emb (ix2 i d) = ix2 (plane0 (rowAt t i)) d := by
    blk_ext [idx t]
  exact (congrArg (V m c main_arg2) h).trans (congrFun (V_main_arg2 m c) _)

/-- The block of the second experts' plane. -/
theorem read4 (t : Fin cfg0.N) (i : Fin 32) (d : Fin 2048) :
    iblk m c 4 t (ix2 i d) = m ((c : Thread nD τ).loc main_arg2) (ix2 (plane1 (rowAt t i)) d) := by
  have h : (win0_4.blk t).view.emb (ix2 i d) = ix2 (plane1 (rowAt t i)) d := by
    blk_ext [idx t]
  exact (congrArg (V m c main_arg2) h).trans (congrFun (V_main_arg2 m c) _)

/-- The layer's output rows from the argument arrays. -/
def output (x : Vec Ideal S32x2048 .f32) (r : Vec Ideal S32x128 .f32) (y : Vec Ideal S16896x2048 .f32) (g : Vec Ideal S2048 .f32) :
    Vec Ideal S32x2048 .f32 := fun i =>
  lastRow (fun d => x (ix2 (i 0) d)) (r (ix2 (i 0) 2)) (r (ix2 (i 0) 3)) (fun d => y (ix2 (plane0 (i 0)) d))
    (fun d => y (ix2 (plane1 (i 0)) d)) (fun d => g (ix1 d)) (i 1)

/-- What grid point `t` writes back is the output where its block lies. -/
theorem point_at (t : Fin cfg0.N) (y : S32x2048.Idx) :
    (dats m 0 c).after 5 t y
      = output (m ((c : Thread nD τ).loc main_arg0)) (m ((c : Thread nD τ).loc main_arg1)) (m ((c : Thread nD τ).loc main_arg2))
          (m ((c : Thread nD τ).loc main_arg3)) ((win0_5.blk t).view.emb y) := by
  idx_vars y
  have hy : (win0_5.blk t).view.emb (ix2 y0 y1) = ix2 (rowAt t y0) y1 := by
    blk_ext [idx t]
  refine (out_apply m c t y0 y1).trans (Eq.trans ?_ (congrArg _ hy.symm))
  exact lastRow_congr (read0 m c t y0) (read1 m c t y0 2) (read1 m c t y0 3) (read3 m c t y0) (read4 m c t y0) (read2 m c t) y1

/-- THE OUTPUT ARRAY after the kernel's run. -/
theorem final : (dats m 0 c).arrAt 5 cfg0.N
    = output (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  exact point_at m c t y

end Cert.FinalSampleIdeal.Row

end
-- ==== Proof.FinalSample.Ref.lean ====
/- The layer's output for the decoding step: the reference's result, read at an index. -/
module

public import proofs.«01_k».proof.Proof.Gen.FinalSampleRefIdeal.Read
public import proofs.«01_k».proof.Proof.Mix.Last
public import Idealize.ShloMosaic.Lib.Pointwise

@[expose] public section

set_option maxRecDepth 16384

noncomputable section

namespace Cert.FinalSampleRefIdeal.Row

open Cert.FinalSampleRefIdeal Cert.FinalSampleRefIdeal.Gen Cert.FinalSampleRefIdeal.Read Idealize.ShloMosaic Cert.MixMath

variable (x : (⟨S32x2048, .f32⟩ : BufTy).Contents (Elt Ideal)) (r : (⟨S32x128, .f32⟩ : BufTy).Contents (Elt Ideal))
  (y : (⟨S16896x2048, .f32⟩ : BufTy).Contents (Elt Ideal)) (g : (⟨S2048, .f32⟩ : BufTy).Contents (Elt Ideal))

/-- The experts' rows side by side, the first. -/
theorem v8_first (i : Fin 32) (e : Fin 2048) :
    val_main_v8 (F := Ideal) r y (ix3 i 0 e) = y (ix2 ⟨8192 + i.val, by omega⟩ e) * r (ix2 i 2) := by
  pointwise [val_main_v8, val_main_v5, val_main_v3, val_main_v1, val_main_v7, val_main_v6, val_main_v0]

/-- The experts' rows side by side, the second. -/
theorem v8_second (i : Fin 32) (e : Fin 2048) :
    val_main_v8 (F := Ideal) r y (ix3 i 1 e) = y (ix2 ⟨16640 + i.val, by omega⟩ e) * r (ix2 i 3) := by
  pointwise [val_main_v8, val_main_v5, val_main_v4, val_main_v2, val_main_v7, val_main_v6, val_main_v0]

/-- The weighted sum of the experts' rows. -/
theorem v9_apply (i : Fin 32) (e : Fin 2048) :
    val_main_v9 (F := Ideal) r y (ix2 i e)
      = r (ix2 i 2) * y (ix2 ⟨8192 + i.val, by omega⟩ e) + r (ix2 i 3) * y (ix2 ⟨16640 + i.val, by omega⟩ e) := by
  have h : val_main_v9 (F := Ideal) r y (ix2 i e) = ∑ k : Fin 2, val_main_v8 (F := Ideal) r y (ix3 i k e) := by
    pointwise [val_main_v9, val_main_cst]
  rw [h, Fin.sum_univ_two, v8_first, v8_second, mul_comm, mul_comm (r (ix2 i 3))]

/-- The residual row with the experts' rows added. -/
theorem v12_apply (b : Fin 32) (e : Fin 2048) :
    val_main_v12 (F := Ideal) x r y (ix3 b 0 e)
      = withExperts (fun d => x (ix2 b d)) (r (ix2 b 2)) (r (ix2 b 3)) (fun d => y (ix2 ⟨8192 + (b).val, by omega⟩ d))
          (fun d => y (ix2 ⟨16640 + (b).val, by omega⟩ d)) e := by
  have h : val_main_v12 (F := Ideal) x r y (ix3 b 0 e) = x (ix2 b e) + val_main_v9 (F := Ideal) r y (ix2 b e) := by
    pointwise [val_main_v12, val_main_v11, val_main_v10]
  exact h.trans (congrArg (x (ix2 b e) + ·) (v9_apply r y b e))

/-- The result: the sequence's last row. -/
theorem v25_apply (b : Fin 32) (e : Fin 2048) :
    val_main_v25 (F := Ideal) x r y g (ix3 b 0 e)
      = lastRow (fun d => x (ix2 b d)) (r (ix2 b 2)) (r (ix2 b 3)) (fun d => y (ix2 ⟨8192 + (b).val, by omega⟩ d))
          (fun d => y (ix2 ⟨16640 + (b).val, by omega⟩ d)) (fun d => g (ix1 d)) e := by
  have h : val_main_v25 (F := Ideal) x r y g (ix3 b 0 e)
      = normed (fun d => val_main_v12 (F := Ideal) x r y (ix3 b 0 d)) (fun d => g (ix1 d)) e := by
    unfold normed
    pointwise [val_main_v25, val_main_v24, val_main_v23, val_main_v22, val_main_v21, val_main_v20, val_main_v19, val_main_v18, val_main_v17,
      val_main_v16, val_main_v15, val_main_v14, val_main_v13, val_main_cst_0, val_main_cst_1, val_main_cst_2]
  exact h.trans (congrArg (fun f => normed f (fun d => g (ix1 d)) e) (funext fun d => v12_apply x r y b d))

end Cert.FinalSampleRefIdeal.Row

end
-- ==== Proof.FinalSample.Result.lean ====
/- The layer's output for the decoding step: the kernel's result is the reference's. -/
module

public import proofs.«01_k».proof.Proof.FinalSample.Kernel
public import proofs.«01_k».proof.Proof.FinalSample.Ref
public import Idealize.ShloMosaic.Lib.Claim
public import Idealize.ShloMosaic.Lib.StableHlo.ReadAt
public import Idealize.ShloMosaic.Lib.Pointwise

@[expose] public section

set_option maxRecDepth 16384

noncomputable section

namespace Cert.FinalSampleResult

open Idealize.ShloMosaic Idealize.ShloMosaic.TcCoe Idealize.SL.Sem Cert.MixMath

open Cert.FinalSampleIdeal Cert.FinalSampleIdeal.Gen

variable (m : (ℓ : Loc nD τ sig) → Buf (Elt Ideal) ℓ) (c : Dev nD)

/-- The output array as the line after the region finds it. -/
theorem tail_arr : Pipeline.withArrays spec0 c (V0 m c) (fun w => (dats m 0 c).arrAt w cfg0.N) (Proc.devRef .tc main_v1)
    = (dats m 0 c).arrAt 5 cfg0.N :=
  (dats m 0 c).withArrays_arrAt sharedIn0 (V0 m c) (A_eq m c) 5

/-- The result is the output array cut into sequences. -/
theorem tail2 (b : Fin 32) (e : Fin 2048) :
    Pipeline.afterTail₀ cfgs (dats m) 0 (V0 m) [hostOps1] c main_v2 (ix3 b 0 e)
      = (dats m 0 c).arrAt 5 cfg0.N (ix2 b e) := by
  unfold Pipeline.afterTail₀
  simp only [List.flatten_cons, List.flatten_nil, List.append_nil]
  after_reads_at
  exact congrFun (tail_arr m c) _

/-- The kernel's result is the reference's: the layer's output. -/
theorem result2 : Pipeline.afterTail₀ cfgs (dats m) 0 (V0 m) [hostOps1] c main_v2
    = Cert.FinalSampleRefIdeal.Read.val_main_v25 (F := Ideal) (m ((c.tc : Thread nD τ).loc main_arg0)) (m ((c.tc : Thread nD τ).loc main_arg1))
        (m ((c.tc : Thread nD τ).loc main_arg2)) (m ((c.tc : Thread nD τ).loc main_arg3)) := by
  funext y
  idx_vars y
  obtain rfl : y1 = 0 := Subsingleton.elim _ _
  exact (tail2 m c y0 y2).trans ((congrFun (Cert.FinalSampleIdeal.Row.final m c) _).trans
    (Cert.FinalSampleRefIdeal.Row.v25_apply _ _ _ _ y0 y2).symm)

end Cert.FinalSampleResult

end
-- ==== Proof.Ssm.Math.lean ====
/- The state-space step of one group of channels: the numbers the reference and the kernel both compute. -/
module

public import Idealize.ShloMosaic.Lib.Pointwise

@[expose] public section

noncomputable section

namespace Cert.SsmMath

open Idealize.ShloMosaic

/-- The real part of a state's factor `exp ((a + ib) dt)` over a step of length `dt = exp l`. -/
def lamRe (a b l : EReal) : EReal := Ideal.exp (a * Ideal.exp l) * Ideal.cos (b * Ideal.exp l)

/-- The imaginary part of a state's factor. -/
def lamIm (a b l : EReal) : EReal := Ideal.exp (a * Ideal.exp l) * Ideal.sin (b * Ideal.exp l)

/-- The real part of the factor less one, divided by `a + ib`. -/
def quoRe (a b l : EReal) : EReal := Ideal.div ((lamRe a b l - 1) * a + lamIm a b l * b) (a * a + b * b)

/-- The imaginary part of the factor less one, divided by `a + ib`. -/
def quoIm (a b l : EReal) : EReal := Ideal.div (lamIm a b l * a - (lamRe a b l - 1) * b) (a * a + b * b)

/-- The real part of the weight with which a channel enters a state. -/
def inRe (a b l br bi : EReal) : EReal := quoRe a b l * br - quoIm a b l * bi

/-- The imaginary part of the weight with which a channel enters a state. -/
def inIm (a b l br bi : EReal) : EReal := quoRe a b l * bi + quoIm a b l * br

/-- The real part of a state after the step, from the state `x + iy` before it and the group's channels `u`. -/
def stateRe (a b l x y : EReal) (br bi u : Fin 16 → EReal) : EReal :=
  lamRe a b l * x - lamIm a b l * y + ∑ p, u p * inRe a b l (br p) (bi p)

/-- The imaginary part of a state after the step. -/
def stateIm (a b l x y : EReal) (br bi u : Fin 16 → EReal) : EReal :=
  lamRe a b l * y + lamIm a b l * x + ∑ p, u p * inIm a b l (br p) (bi p)

/-- A channel's output: the real part of the states against the channel's row, and the input once more, scaled. -/
def outOf (xr xi cr ci : Fin 64 → EReal) (d u : EReal) : EReal := ∑ n, xr n * cr n - ∑ n, xi n * ci n + d * u

/-- The column of channel `p` of group `g`. -/
abbrev colOf (g : Fin 64) (p : Fin 16) : Fin 1024 := ⟨g.val * 16 + p.val, by omega⟩

/-- The group a column lies in. -/
abbrev groupOf (n : Fin 1024) : Fin 64 := ⟨n.val / 16, by omega⟩

/-- The channel of its group a column is. -/
abbrev chanOf (n : Fin 1024) : Fin 16 := ⟨n.val % 16, by omega⟩

end Cert.SsmMath

end
-- ==== Proof.Ssm.Kernel.lean ====
/- The kernel's state-space step of the decoding step: what each grid point leaves in its blocks, and the arrays. -/
module

public import proofs.«01_k».proof.Proof.Gen.SsmIdeal.Frame
public import proofs.«01_k».proof.Proof.Ssm.Math
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

namespace Cert.SsmIdeal.Row

open Cert.SsmIdeal Cert.SsmIdeal.Gen Idealize.ShloMosaic Idealize.ShloMosaic.TcCoe Idealize.SL.Sem Cert.SsmMath

variable (m : (ℓ : Loc nD τ sig) → Buf (Elt Ideal) ℓ) (c : Dev nD)

/-- The real part of the states' factors, along the lanes. -/
theorem pay104_apply (x y z : Vec Ideal S1x1x1x64 .f32) (e : Fin 64) : k0_pay104 (F := Ideal) x y z (ix2 0 e)
    = lamRe (x (ix4 0 0 0 e)) (y (ix4 0 0 0 e)) (z (ix4 0 0 0 e)) := by
  unfold lamRe
  pointwise [k0_pay104, k0_pay103, k0_pay102, k0_pay101]

/-- The imaginary part of the states' factors, along the lanes. -/
theorem pay105_apply (x y z : Vec Ideal S1x1x1x64 .f32) (e : Fin 64) : k0_pay105 (F := Ideal) x y z (ix2 0 e)
    = lamIm (x (ix4 0 0 0 e)) (y (ix4 0 0 0 e)) (z (ix4 0 0 0 e)) := by
  unfold lamIm
  pointwise [k0_pay105, k0_pay103, k0_pay102, k0_pay101]

/-- The real part of the quotients, down the rows. -/
theorem pay9_apply (x y z : Vec Ideal S1x1x64x128 .f32) (n : Fin 64) (e : Fin 128) : k0_pay9 (F := Ideal) x y z (ix2 n e)
    = quoRe (x (ix4 0 0 n e)) (y (ix4 0 0 n e)) (z (ix4 0 0 n e)) := by
  unfold quoRe lamRe lamIm
  pointwise [k0_pay9, k0_pay8, k0_pay7, k0_pay6, k0_pay5, k0_pay4, k0_pay3, k0_pay2]

/-- The imaginary part of the quotients, down the rows. -/
theorem pay10_apply (x y z : Vec Ideal S1x1x64x128 .f32) (n : Fin 64) (e : Fin 128) : k0_pay10 (F := Ideal) x y z (ix2 n e)
    = quoIm (x (ix4 0 0 n e)) (y (ix4 0 0 n e)) (z (ix4 0 0 n e)) := by
  unfold quoIm lamRe lamIm
  pointwise [k0_pay10, k0_pay8, k0_pay7, k0_pay6, k0_pay5, k0_pay4, k0_pay3, k0_pay2]

/-- The lane of a quotient that stands for channel `p`. -/
abbrev laneOf (p : Fin 16) : Fin 128 := ⟨p.val, by omega⟩

/-- The real part of the input weights. -/
theorem pay110_apply (x y z : Vec Ideal S1x1x64x128 .f32) (br bi : Vec Ideal S1x64x16 .f32) (n : Fin 64) (p : Fin 16) :
    k0_pay110 (F := Ideal) (k0_pay106 (k0_pay9 x y z)) (k0_pay107 (k0_pay10 x y z)) br bi (ix2 n p)
      = inRe (x (ix4 0 0 n (laneOf p))) (y (ix4 0 0 n (laneOf p))) (z (ix4 0 0 n (laneOf p))) (br (ix3 0 n p)) (bi (ix3 0 n p)) := by
  unfold inRe
  simp only [← pay9_apply, ← pay10_apply]
  pointwise [k0_pay110, k0_pay109, k0_pay108, k0_pay107, k0_pay106]

/-- The imaginary part of the input weights. -/
theorem pay111_apply (x y z : Vec Ideal S1x1x64x128 .f32) (br bi : Vec Ideal S1x64x16 .f32) (n : Fin 64) (p : Fin 16) :
    k0_pay111 (F := Ideal) (k0_pay106 (k0_pay9 x y z)) (k0_pay107 (k0_pay10 x y z)) br bi (ix2 n p)
      = inIm (x (ix4 0 0 n (laneOf p))) (y (ix4 0 0 n (laneOf p))) (z (ix4 0 0 n (laneOf p))) (br (ix3 0 n p)) (bi (ix3 0 n p)) := by
  unfold inIm
  simp only [← pay9_apply, ← pay10_apply]
  pointwise [k0_pay111, k0_pay109, k0_pay108, k0_pay107, k0_pay106]

/-- The states' real part from the factors and the input weights. -/
theorem pay389_apply (lr li : FVec Ideal S1x64 .f32) (w : FVec Ideal S64x16 .f32) (u : Vec Ideal S1x32x16 .f32) (x y : Vec Ideal S1x32x64 .f32)
    (i : Fin 32) (e : Fin 64) : k0_pay389 (F := Ideal) lr li w u x y (ix2 i e)
      = lr (ix2 0 e) * x (ix3 0 i e) - li (ix2 0 e) * y (ix3 0 i e) + ∑ p, u (ix3 0 i p) * w (ix2 e p) := by
  pointwise [k0_pay389, k0_pay388, k0_pay387, k0_pay386]

/-- The states' imaginary part from the factors and the input weights. -/
theorem pay390_apply (lr li : FVec Ideal S1x64 .f32) (w : FVec Ideal S64x16 .f32) (u : Vec Ideal S1x32x16 .f32) (x y : Vec Ideal S1x32x64 .f32)
    (i : Fin 32) (e : Fin 64) : k0_pay390 (F := Ideal) lr li w u x y (ix2 i e)
      = lr (ix2 0 e) * y (ix3 0 i e) + li (ix2 0 e) * x (ix3 0 i e) + ∑ p, u (ix3 0 i p) * w (ix2 e p) := by
  pointwise [k0_pay390, k0_pay388, k0_pay387, k0_pay386]

/-- The stored real part is the states' real part. -/
theorem pay391_apply (lr li : FVec Ideal S1x64 .f32) (w : FVec Ideal S64x16 .f32) (u : Vec Ideal S1x32x16 .f32) (x y : Vec Ideal S1x32x64 .f32)
    (i : Fin 32) (e : Fin 64) : k0_pay391 (F := Ideal) lr li w u x y (ix3 0 i e) = k0_pay389 (F := Ideal) lr li w u x y (ix2 i e) := by
  pointwise [k0_pay391]

/-- The stored imaginary part is the states' imaginary part. -/
theorem pay392_apply (lr li : FVec Ideal S1x64 .f32) (w : FVec Ideal S64x16 .f32) (u : Vec Ideal S1x32x16 .f32) (x y : Vec Ideal S1x32x64 .f32)
    (i : Fin 32) (e : Fin 64) : k0_pay392 (F := Ideal) lr li w u x y (ix3 0 i e) = k0_pay390 (F := Ideal) lr li w u x y (ix2 i e) := by
  pointwise [k0_pay392]

/-- The stored outputs from the states. -/
theorem pay1_apply (u : Vec Ideal S1x32x16 .f32) (xr xi : FVec Ideal S32x64 .f32) (cr ci : Vec Ideal S1x16x64 .f32) (d : Vec Ideal S1x1x16 .f32)
    (i : Fin 32) (p : Fin 16) : k0_pay1 (F := Ideal) (k0_pay386 u) xi (k0_pay393 xr cr) ci d (ix3 0 i p)
      = outOf (fun n => xr (ix2 i n)) (fun n => xi (ix2 i n)) (fun n => cr (ix3 0 p n)) (fun n => ci (ix3 0 p n)) (d (ix3 0 0 p)) (u (ix3 0 i p)) := by
  unfold outOf
  pointwise [k0_pay1, k0_pay393, k0_pay386]

/-- The three rows of a block, each read along its lanes. -/
theorem ldRow (b : Vec Ideal S1x3x1x64 .f32) (e : Fin 64) :
    View.ld b (Rect.unit ![0, 0, 0, 0] ![1, 1, 1, 64] inb_S1x3x1x64_S1x1x1x64_0_0_0_0) (ix4 0 0 0 e) = b (ix4 0 0 0 e)
    ∧ View.ld b (Rect.unit ![0, 1, 0, 0] ![1, 1, 1, 64] inb_S1x3x1x64_S1x1x1x64_0_1_0_0) (ix4 0 0 0 e) = b (ix4 0 1 0 e)
    ∧ View.ld b (Rect.unit ![0, 2, 0, 0] ![1, 1, 1, 64] inb_S1x3x1x64_S1x1x1x64_0_2_0_0) (ix4 0 0 0 e) = b (ix4 0 2 0 e) := by
  refine ⟨?_, ?_, ?_⟩ <;> pointwise []

/-- The three planes of a block, each read at a row and a lane. -/
theorem ldCol (b : Vec Ideal S1x3x64x128 .f32) (n : Fin 64) (e : Fin 128) :
    View.ld b (Rect.unit ![0, 0, 0, 0] ![1, 1, 64, 128] inb_S1x3x64x128_S1x1x64x128_0_0_0_0) (ix4 0 0 n e) = b (ix4 0 0 n e)
    ∧ View.ld b (Rect.unit ![0, 1, 0, 0] ![1, 1, 64, 128] inb_S1x3x64x128_S1x1x64x128_0_1_0_0) (ix4 0 0 n e) = b (ix4 0 1 n e)
    ∧ View.ld b (Rect.unit ![0, 2, 0, 0] ![1, 1, 64, 128] inb_S1x3x64x128_S1x1x64x128_0_2_0_0) (ix4 0 0 n e) = b (ix4 0 2 n e) := by
  refine ⟨?_, ?_, ?_⟩ <;> pointwise []

/-- The states' real part from the blocks a grid point reads. -/
def blkRe (pc : Vec Ideal S1x3x64x128 .f32) (pr : Vec Ideal S1x3x1x64 .f32) (br bi : Vec Ideal S1x64x16 .f32) (u : Vec Ideal S1x32x16 .f32)
    (x y : Vec Ideal S1x32x64 .f32) : FVec Ideal S32x64 .f32 :=
  k0_pay389
    (k0_pay104 (View.ld pr (Rect.unit ![0, 0, 0, 0] ![1, 1, 1, 64] inb_S1x3x1x64_S1x1x1x64_0_0_0_0))
      (View.ld pr (Rect.unit ![0, 1, 0, 0] ![1, 1, 1, 64] inb_S1x3x1x64_S1x1x1x64_0_1_0_0))
      (View.ld pr (Rect.unit ![0, 2, 0, 0] ![1, 1, 1, 64] inb_S1x3x1x64_S1x1x1x64_0_2_0_0)))
    (k0_pay105 (View.ld pr (Rect.unit ![0, 0, 0, 0] ![1, 1, 1, 64] inb_S1x3x1x64_S1x1x1x64_0_0_0_0))
      (View.ld pr (Rect.unit ![0, 1, 0, 0] ![1, 1, 1, 64] inb_S1x3x1x64_S1x1x1x64_0_1_0_0))
      (View.ld pr (Rect.unit ![0, 2, 0, 0] ![1, 1, 1, 64] inb_S1x3x1x64_S1x1x1x64_0_2_0_0)))
    (k0_pay110
      (k0_pay106 (k0_pay9 (View.ld pc (Rect.unit ![0, 0, 0, 0] ![1, 1, 64, 128] inb_S1x3x64x128_S1x1x64x128_0_0_0_0))
        (View.ld pc (Rect.unit ![0, 1, 0, 0] ![1, 1, 64, 128] inb_S1x3x64x128_S1x1x64x128_0_1_0_0))
        (View.ld pc (Rect.unit ![0, 2, 0, 0] ![1, 1, 64, 128] inb_S1x3x64x128_S1x1x64x128_0_2_0_0))))
      (k0_pay107 (k0_pay10 (View.ld pc (Rect.unit ![0, 0, 0, 0] ![1, 1, 64, 128] inb_S1x3x64x128_S1x1x64x128_0_0_0_0))
        (View.ld pc (Rect.unit ![0, 1, 0, 0] ![1, 1, 64, 128] inb_S1x3x64x128_S1x1x64x128_0_1_0_0))
        (View.ld pc (Rect.unit ![0, 2, 0, 0] ![1, 1, 64, 128] inb_S1x3x64x128_S1x1x64x128_0_2_0_0))))
      br bi) u x y

/-- The states' imaginary part from the blocks a grid point reads. -/
def blkIm (pc : Vec Ideal S1x3x64x128 .f32) (pr : Vec Ideal S1x3x1x64 .f32) (br bi : Vec Ideal S1x64x16 .f32) (u : Vec Ideal S1x32x16 .f32)
    (x y : Vec Ideal S1x32x64 .f32) : FVec Ideal S32x64 .f32 :=
  k0_pay390
    (k0_pay104 (View.ld pr (Rect.unit ![0, 0, 0, 0] ![1, 1, 1, 64] inb_S1x3x1x64_S1x1x1x64_0_0_0_0))
      (View.ld pr (Rect.unit ![0, 1, 0, 0] ![1, 1, 1, 64] inb_S1x3x1x64_S1x1x1x64_0_1_0_0))
      (View.ld pr (Rect.unit ![0, 2, 0, 0] ![1, 1, 1, 64] inb_S1x3x1x64_S1x1x1x64_0_2_0_0)))
    (k0_pay105 (View.ld pr (Rect.unit ![0, 0, 0, 0] ![1, 1, 1, 64] inb_S1x3x1x64_S1x1x1x64_0_0_0_0))
      (View.ld pr (Rect.unit ![0, 1, 0, 0] ![1, 1, 1, 64] inb_S1x3x1x64_S1x1x1x64_0_1_0_0))
      (View.ld pr (Rect.unit ![0, 2, 0, 0] ![1, 1, 1, 64] inb_S1x3x1x64_S1x1x1x64_0_2_0_0)))
    (k0_pay111
      (k0_pay106 (k0_pay9 (View.ld pc (Rect.unit ![0, 0, 0, 0] ![1, 1, 64, 128] inb_S1x3x64x128_S1x1x64x128_0_0_0_0))
        (View.ld pc (Rect.unit ![0, 1, 0, 0] ![1, 1, 64, 128] inb_S1x3x64x128_S1x1x64x128_0_1_0_0))
        (View.ld pc (Rect.unit ![0, 2, 0, 0] ![1, 1, 64, 128] inb_S1x3x64x128_S1x1x64x128_0_2_0_0))))
      (k0_pay107 (k0_pay10 (View.ld pc (Rect.unit ![0, 0, 0, 0] ![1, 1, 64, 128] inb_S1x3x64x128_S1x1x64x128_0_0_0_0))
        (View.ld pc (Rect.unit ![0, 1, 0, 0] ![1, 1, 64, 128] inb_S1x3x64x128_S1x1x64x128_0_1_0_0))
        (View.ld pc (Rect.unit ![0, 2, 0, 0] ![1, 1, 64, 128] inb_S1x3x64x128_S1x1x64x128_0_2_0_0))))
      br bi) u x y

/-- The parameters of a state stand alike in the two blocks that hold them: `a`, `b` and `l` at state `e`. -/
structure Agree (pc : Vec Ideal S1x3x64x128 .f32) (pr : Vec Ideal S1x3x1x64 .f32) (e : Fin 64) (a b l : EReal) : Prop where
  col : ∀ p : Fin 128, pc (ix4 0 0 e p) = a ∧ pc (ix4 0 1 e p) = b ∧ pc (ix4 0 2 e p) = l
  row : pr (ix4 0 0 0 e) = a ∧ pr (ix4 0 1 0 e) = b ∧ pr (ix4 0 2 0 e) = l

/-- The states' real part, at an entry. -/
theorem blkRe_apply {pc : Vec Ideal S1x3x64x128 .f32} {pr : Vec Ideal S1x3x1x64 .f32} {e : Fin 64} {a b l : EReal} (h : Agree pc pr e a b l)
    (br bi : Vec Ideal S1x64x16 .f32) (u : Vec Ideal S1x32x16 .f32) (x y : Vec Ideal S1x32x64 .f32) (i : Fin 32) :
    blkRe pc pr br bi u x y (ix2 i e)
      = stateRe a b l (x (ix3 0 i e)) (y (ix3 0 i e)) (fun p => br (ix3 0 e p)) (fun p => bi (ix3 0 e p)) (fun p => u (ix3 0 i p)) := by
  unfold blkRe stateRe
  obtain ⟨r0, r1, r2⟩ := ldRow pr e
  rw [pay389_apply, pay104_apply, pay105_apply, r0, r1, r2, h.row.1, h.row.2.1, h.row.2.2]
  refine congrArg _ (Finset.sum_congr rfl fun p _ => ?_)
  obtain ⟨c0, c1, c2⟩ := ldCol pc e (laneOf p)
  rw [pay110_apply, c0, c1, c2, (h.col _).1, (h.col _).2.1, (h.col _).2.2]

/-- The states' imaginary part, at an entry. -/
theorem blkIm_apply {pc : Vec Ideal S1x3x64x128 .f32} {pr : Vec Ideal S1x3x1x64 .f32} {e : Fin 64} {a b l : EReal} (h : Agree pc pr e a b l)
    (br bi : Vec Ideal S1x64x16 .f32) (u : Vec Ideal S1x32x16 .f32) (x y : Vec Ideal S1x32x64 .f32) (i : Fin 32) :
    blkIm pc pr br bi u x y (ix2 i e)
      = stateIm a b l (x (ix3 0 i e)) (y (ix3 0 i e)) (fun p => br (ix3 0 e p)) (fun p => bi (ix3 0 e p)) (fun p => u (ix3 0 i p)) := by
  unfold blkIm stateIm
  obtain ⟨r0, r1, r2⟩ := ldRow pr e
  rw [pay390_apply, pay104_apply, pay105_apply, r0, r1, r2, h.row.1, h.row.2.1, h.row.2.2]
  refine congrArg _ (Finset.sum_congr rfl fun p _ => ?_)
  obtain ⟨c0, c1, c2⟩ := ldCol pc e (laneOf p)
  rw [pay111_apply, c0, c1, c2, (h.col _).1, (h.col _).2.1, (h.col _).2.2]

/-- The block of the states' real part a grid point leaves. -/
theorem out15_apply (t : Fin cfg0.N) (i : Fin 32) (e : Fin 64) : (dats m 0 c).after 15 t (ix3 0 i e)
    = blkRe (iblk m c 0 t) (iblk m c 1 t) (iblk m c 2 t) (iblk m c 3 t) (iblk m c 9 t) (iblk m c 10 t) (iblk m c 11 t) (ix2 i e) := by
  rw [after0_15]
  unfold outsAt0 out0_A_15
  dsimp only
  frame_out
  exact pay391_apply _ _ _ _ _ _ i e

/-- The block of the states' imaginary part a grid point leaves. -/
theorem out16_apply (t : Fin cfg0.N) (i : Fin 32) (e : Fin 64) : (dats m 0 c).after 16 t (ix3 0 i e)
    = blkIm (iblk m c 0 t) (iblk m c 1 t) (iblk m c 2 t) (iblk m c 3 t) (iblk m c 9 t) (iblk m c 10 t) (iblk m c 11 t) (ix2 i e) := by
  rw [after0_16]
  unfold outsAt0 out0_A_16
  dsimp only
  frame_out
  exact pay392_apply _ _ _ _ _ _ i e

/-- The block of outputs a grid point leaves. -/
theorem out14_apply (t : Fin cfg0.N) (i : Fin 32) (p : Fin 16) : (dats m 0 c).after 14 t (ix3 0 i p)
    = outOf
        (fun n => blkRe (iblk m c 0 t) (iblk m c 1 t) (iblk m c 2 t) (iblk m c 3 t) (iblk m c 9 t) (iblk m c 10 t) (iblk m c 11 t) (ix2 i n))
        (fun n => blkIm (iblk m c 0 t) (iblk m c 1 t) (iblk m c 2 t) (iblk m c 3 t) (iblk m c 9 t) (iblk m c 10 t) (iblk m c 11 t) (ix2 i n))
        (fun n => iblk m c 4 t (ix3 0 p n)) (fun n => iblk m c 5 t (ix3 0 p n)) (iblk m c 7 t (ix3 0 0 p)) (iblk m c 9 t (ix3 0 i p)) := by
  rw [after0_14]
  unfold outsAt0 out0_A_14
  dsimp only
  frame_out
  exact pay1_apply _ _ _ _ _ _ i p

end Cert.SsmIdeal.Row

end
-- ==== Proof.Ssm.Arrays.lean ====
/- The kernel's state-space step of the decoding step: the blocks it reads, and the arrays it leaves. -/
module

public import proofs.«01_k».proof.Proof.Ssm.Kernel

@[expose] public section

set_option maxRecDepth 16384

noncomputable section

namespace Cert.SsmIdeal.Row

open Cert.SsmIdeal Cert.SsmIdeal.Gen Idealize.ShloMosaic Idealize.ShloMosaic.TcCoe Idealize.SL.Sem Cert.SsmMath

variable (m : (ℓ : Loc nD τ sig) → Buf (Elt Ideal) ℓ) (c : Dev nD)

/-- The group a grid point works on. -/
abbrev grp (t : Fin cfg0.N) : Fin 64 := ⟨t.val, lt_of_lt_of_eq t.isLt (show cfg0.N = 64 from N_0)⟩

/-- Where the windows stand at grid point `t`: each at its group. -/
theorem idx : ∀ t : Fin cfg0.N, win0_0.index t = ![t.val, 0, 0, 0] ∧ win0_1.index t = ![t.val, 0, 0, 0] ∧ win0_2.index t = ![t.val, 0, 0]
    ∧ win0_3.index t = ![t.val, 0, 0] ∧ win0_4.index t = ![t.val, 0, 0] ∧ win0_5.index t = ![t.val, 0, 0] ∧ win0_7.index t = ![t.val, 0, 0]
    ∧ win0_9.index t = ![t.val, 0, 0] ∧ win0_10.index t = ![t.val, 0, 0] ∧ win0_11.index t = ![t.val, 0, 0] ∧ win0_14.index t = ![t.val, 0, 0]
    ∧ win0_15.index t = ![t.val, 0, 0] ∧ win0_16.index t = ![t.val, 0, 0] :=
  (by decide +kernel : ∀ t : Fin grid0.N, _)

/-- Plane 0 of the parameters spread over the lanes: the states' real parts. -/
theorem col0 (g e : Fin 64) (p : Fin 128) : V m c main_v14 (ix4 g 0 e p) = m ((c : Thread nD τ).loc main_arg4) (ix3 0 g e) := by
  unfold V
  after_reads_at
  after_reads_at

/-- Row 0 of the parameters along the lanes: the states' real parts. -/
theorem row0 (g e : Fin 64) : V m c main_v21 (ix4 g 0 0 e) = m ((c : Thread nD τ).loc main_arg4) (ix3 0 g e) := by
  unfold V
  after_reads_at
  after_reads_at

/-- Plane 1 of the parameters spread over the lanes: the states' imaginary parts. -/
theorem col1 (g e : Fin 64) (p : Fin 128) : V m c main_v14 (ix4 g 1 e p) = m ((c : Thread nD τ).loc main_arg5) (ix3 0 g e) := by
  unfold V
  after_reads_at
  after_reads_at

/-- Row 1 of the parameters along the lanes: the states' imaginary parts. -/
theorem row1 (g e : Fin 64) : V m c main_v21 (ix4 g 1 0 e) = m ((c : Thread nD τ).loc main_arg5) (ix3 0 g e) := by
  unfold V
  after_reads_at
  after_reads_at

/-- Plane 2 of the parameters spread over the lanes: the states' step lengths' logarithms. -/
theorem col2 (g e : Fin 64) (p : Fin 128) : V m c main_v14 (ix4 g 2 e p) = m ((c : Thread nD τ).loc main_arg6) (ix2 0 g) := by
  unfold V
  after_reads_at
  after_reads_at

/-- Row 2 of the parameters along the lanes: the states' step lengths' logarithms. -/
theorem row2 (g e : Fin 64) : V m c main_v21 (ix4 g 2 0 e) = m ((c : Thread nD τ).loc main_arg6) (ix2 0 g) := by
  unfold V
  after_reads_at
  after_reads_at

/-- The input matrix, its real part. -/
theorem entry2 (g e : Fin 64) (p : Fin 16) : V m c main_v32 (ix3 g e p) = m ((c : Thread nD τ).loc main_arg7) (ix4 0 g e p) := by
  unfold V
  after_reads_at

/-- The input matrix, its real part. At a grid point's block. -/
theorem read2 (t : Fin cfg0.N) (e : Fin 64) (p : Fin 16) : iblk m c 2 t (ix3 0 e p) = m ((c : Thread nD τ).loc main_arg7) (ix4 0 (grp t) e p) := by
  have h : (win0_2.blk t).view.emb (ix3 0 e p) = ix3 (grp t) e p := by
    blk_ext [idx t]
  exact (congrArg (V m c main_v32) h).trans (entry2 m c (grp t) e p)

/-- The input matrix, its imaginary part. -/
theorem entry3 (g e : Fin 64) (p : Fin 16) : V m c main_v33 (ix3 g e p) = m ((c : Thread nD τ).loc main_arg8) (ix4 0 g e p) := by
  unfold V
  after_reads_at

/-- The input matrix, its imaginary part. At a grid point's block. -/
theorem read3 (t : Fin cfg0.N) (e : Fin 64) (p : Fin 16) : iblk m c 3 t (ix3 0 e p) = m ((c : Thread nD τ).loc main_arg8) (ix4 0 (grp t) e p) := by
  have h : (win0_3.blk t).view.emb (ix3 0 e p) = ix3 (grp t) e p := by
    blk_ext [idx t]
  exact (congrArg (V m c main_v33) h).trans (entry3 m c (grp t) e p)

/-- The output matrix, its real part. -/
theorem entry4 (g : Fin 64) (p : Fin 16) (e : Fin 64) : V m c main_v34 (ix3 g p e) = m ((c : Thread nD τ).loc main_arg9) (ix4 0 g p e) := by
  unfold V
  after_reads_at

/-- The output matrix, its real part. At a grid point's block. -/
theorem read4 (t : Fin cfg0.N) (p : Fin 16) (e : Fin 64) : iblk m c 4 t (ix3 0 p e) = m ((c : Thread nD τ).loc main_arg9) (ix4 0 (grp t) p e) := by
  have h : (win0_4.blk t).view.emb (ix3 0 p e) = ix3 (grp t) p e := by
    blk_ext [idx t]
  exact (congrArg (V m c main_v34) h).trans (entry4 m c (grp t) p e)

/-- The output matrix, its imaginary part. -/
theorem entry5 (g : Fin 64) (p : Fin 16) (e : Fin 64) : V m c main_v35 (ix3 g p e) = m ((c : Thread nD τ).loc main_arg10) (ix4 0 g p e) := by
  unfold V
  after_reads_at

/-- The output matrix, its imaginary part. At a grid point's block. -/
theorem read5 (t : Fin cfg0.N) (p : Fin 16) (e : Fin 64) : iblk m c 5 t (ix3 0 p e) = m ((c : Thread nD τ).loc main_arg10) (ix4 0 (grp t) p e) := by
  have h : (win0_5.blk t).view.emb (ix3 0 p e) = ix3 (grp t) p e := by
    blk_ext [idx t]
  exact (congrArg (V m c main_v35) h).trans (entry5 m c (grp t) p e)

/-- The scale of the input's own share. -/
theorem entry7 (g : Fin 64) (p : Fin 16) : V m c main_v37 (ix3 g 0 p) = m ((c : Thread nD τ).loc main_arg11) (ix3 0 g p) := by
  unfold V
  after_reads_at

/-- The scale of the input's own share. At a grid point's block. -/
theorem read7 (t : Fin cfg0.N) (p : Fin 16) : iblk m c 7 t (ix3 0 0 p) = m ((c : Thread nD τ).loc main_arg11) (ix3 0 (grp t) p) := by
  have h : (win0_7.blk t).view.emb (ix3 0 0 p) = ix3 (grp t) 0 p := by
    blk_ext [idx t]
  exact (congrArg (V m c main_v37) h).trans (entry7 m c (grp t) p)

/-- The input, group by group. -/
theorem entry9 (g : Fin 64) (i : Fin 32) (p : Fin 16) : V m c main_v24 (ix3 g i p) = m ((c : Thread nD τ).loc main_arg1) (ix2 i (colOf g p)) := by
  unfold V
  after_reads_at

/-- The input, group by group. At a grid point's block. -/
theorem read9 (t : Fin cfg0.N) (i : Fin 32) (p : Fin 16) : iblk m c 9 t (ix3 0 i p) = m ((c : Thread nD τ).loc main_arg1) (ix2 i (colOf (grp t) p)) := by
  have h : (win0_9.blk t).view.emb (ix3 0 i p) = ix3 (grp t) i p := by
    blk_ext [idx t]
  exact (congrArg (V m c main_v24) h).trans (entry9 m c (grp t) i p)

/-- The states' real part before the step, group by group. -/
theorem entry10 (g : Fin 64) (i : Fin 32) (e : Fin 64) : V m c main_v26 (ix3 g i e) = m ((c : Thread nD τ).loc main_arg2) (ix4 0 i g e) := by
  unfold V
  after_reads_at

/-- The states' real part before the step, group by group. At a grid point's block. -/
theorem read10 (t : Fin cfg0.N) (i : Fin 32) (e : Fin 64) : iblk m c 10 t (ix3 0 i e) = m ((c : Thread nD τ).loc main_arg2) (ix4 0 i (grp t) e) := by
  have h : (win0_10.blk t).view.emb (ix3 0 i e) = ix3 (grp t) i e := by
    blk_ext [idx t]
  exact (congrArg (V m c main_v26) h).trans (entry10 m c (grp t) i e)

/-- The states' imaginary part before the step, group by group. -/
theorem entry11 (g : Fin 64) (i : Fin 32) (e : Fin 64) : V m c main_v28 (ix3 g i e) = m ((c : Thread nD τ).loc main_arg3) (ix4 0 i g e) := by
  unfold V
  after_reads_at

/-- The states' imaginary part before the step, group by group. At a grid point's block. -/
theorem read11 (t : Fin cfg0.N) (i : Fin 32) (e : Fin 64) : iblk m c 11 t (ix3 0 i e) = m ((c : Thread nD τ).loc main_arg3) (ix4 0 i (grp t) e) := by
  have h : (win0_11.blk t).view.emb (ix3 0 i e) = ix3 (grp t) i e := by
    blk_ext [idx t]
  exact (congrArg (V m c main_v28) h).trans (entry11 m c (grp t) i e)

/-- The states' real parts in a grid point's first block. -/
theorem readCol0 (t : Fin cfg0.N) (e : Fin 64) (p : Fin 128) : iblk m c 0 t (ix4 0 0 e p) = m ((c : Thread nD τ).loc main_arg4) (ix3 0 (grp t) e) := by
  have h : (win0_0.blk t).view.emb (ix4 0 0 e p) = ix4 (grp t) 0 e p := by
    blk_ext [idx t]
  exact (congrArg (V m c main_v14) h).trans (col0 m c (grp t) e p)

/-- The states' real parts in a grid point's second block. -/
theorem readRow0 (t : Fin cfg0.N) (e : Fin 64) : iblk m c 1 t (ix4 0 0 0 e) = m ((c : Thread nD τ).loc main_arg4) (ix3 0 (grp t) e) := by
  have h : (win0_1.blk t).view.emb (ix4 0 0 0 e) = ix4 (grp t) 0 0 e := by
    blk_ext [idx t]
  exact (congrArg (V m c main_v21) h).trans (row0 m c (grp t) e)

/-- The states' imaginary parts in a grid point's first block. -/
theorem readCol1 (t : Fin cfg0.N) (e : Fin 64) (p : Fin 128) : iblk m c 0 t (ix4 0 1 e p) = m ((c : Thread nD τ).loc main_arg5) (ix3 0 (grp t) e) := by
  have h : (win0_0.blk t).view.emb (ix4 0 1 e p) = ix4 (grp t) 1 e p := by
    blk_ext [idx t]
  exact (congrArg (V m c main_v14) h).trans (col1 m c (grp t) e p)

/-- The states' imaginary parts in a grid point's second block. -/
theorem readRow1 (t : Fin cfg0.N) (e : Fin 64) : iblk m c 1 t (ix4 0 1 0 e) = m ((c : Thread nD τ).loc main_arg5) (ix3 0 (grp t) e) := by
  have h : (win0_1.blk t).view.emb (ix4 0 1 0 e) = ix4 (grp t) 1 0 e := by
    blk_ext [idx t]
  exact (congrArg (V m c main_v21) h).trans (row1 m c (grp t) e)

/-- The states' step lengths' logarithms in a grid point's first block. -/
theorem readCol2 (t : Fin cfg0.N) (e : Fin 64) (p : Fin 128) : iblk m c 0 t (ix4 0 2 e p) = m ((c : Thread nD τ).loc main_arg6) (ix2 0 (grp t)) := by
  have h : (win0_0.blk t).view.emb (ix4 0 2 e p) = ix4 (grp t) 2 e p := by
    blk_ext [idx t]
  exact (congrArg (V m c main_v14) h).trans (col2 m c (grp t) e p)

/-- The states' step lengths' logarithms in a grid point's second block. -/
theorem readRow2 (t : Fin cfg0.N) (e : Fin 64) : iblk m c 1 t (ix4 0 2 0 e) = m ((c : Thread nD τ).loc main_arg6) (ix2 0 (grp t)) := by
  have h : (win0_1.blk t).view.emb (ix4 0 2 0 e) = ix4 (grp t) 2 0 e := by
    blk_ext [idx t]
  exact (congrArg (V m c main_v21) h).trans (row2 m c (grp t) e)

/-- The two blocks of parameters agree. -/
theorem agree (t : Fin cfg0.N) (e : Fin 64) : Agree (iblk m c 0 t) (iblk m c 1 t) e (m ((c : Thread nD τ).loc main_arg4) (ix3 0 (grp t) e)) (m ((c : Thread nD τ).loc main_arg5) (ix3 0 (grp t) e))
    (m ((c : Thread nD τ).loc main_arg6) (ix2 0 (grp t))) :=
  ⟨fun p => ⟨readCol0 m c t e p, readCol1 m c t e p, readCol2 m c t e p⟩, readRow0 m c t e, readRow1 m c t e, readRow2 m c t e⟩

/-- The real part of a state after the step, in the argument arrays. -/
def argRe (i : Fin 32) (g n : Fin 64) : EReal :=
  stateRe (m ((c : Thread nD τ).loc main_arg4) (ix3 0 g n)) (m ((c : Thread nD τ).loc main_arg5) (ix3 0 g n)) (m ((c : Thread nD τ).loc main_arg6) (ix2 0 g)) (m ((c : Thread nD τ).loc main_arg2) (ix4 0 i g n)) (m ((c : Thread nD τ).loc main_arg3) (ix4 0 i g n))
    (fun p => m ((c : Thread nD τ).loc main_arg7) (ix4 0 g n p)) (fun p => m ((c : Thread nD τ).loc main_arg8) (ix4 0 g n p)) (fun p => m ((c : Thread nD τ).loc main_arg1) (ix2 i (colOf g p)))

/-- The real part of the states a grid point computes is its group's. -/
theorem stateRe_at (t : Fin cfg0.N) (i : Fin 32) (e : Fin 64) :
    blkRe (iblk m c 0 t) (iblk m c 1 t) (iblk m c 2 t) (iblk m c 3 t) (iblk m c 9 t) (iblk m c 10 t) (iblk m c 11 t) (ix2 i e)
      = argRe m c i (grp t) e := by
  rw [blkRe_apply (agree m c t e)]
  unfold argRe
  rw [read10, read11, funext (read2 m c t e), funext (read3 m c t e), funext (read9 m c t i)]

/-- The imaginary part of a state after the step, in the argument arrays. -/
def argIm (i : Fin 32) (g n : Fin 64) : EReal :=
  stateIm (m ((c : Thread nD τ).loc main_arg4) (ix3 0 g n)) (m ((c : Thread nD τ).loc main_arg5) (ix3 0 g n)) (m ((c : Thread nD τ).loc main_arg6) (ix2 0 g)) (m ((c : Thread nD τ).loc main_arg2) (ix4 0 i g n)) (m ((c : Thread nD τ).loc main_arg3) (ix4 0 i g n))
    (fun p => m ((c : Thread nD τ).loc main_arg7) (ix4 0 g n p)) (fun p => m ((c : Thread nD τ).loc main_arg8) (ix4 0 g n p)) (fun p => m ((c : Thread nD τ).loc main_arg1) (ix2 i (colOf g p)))

/-- The imaginary part of the states a grid point computes is its group's. -/
theorem stateIm_at (t : Fin cfg0.N) (i : Fin 32) (e : Fin 64) :
    blkIm (iblk m c 0 t) (iblk m c 1 t) (iblk m c 2 t) (iblk m c 3 t) (iblk m c 9 t) (iblk m c 10 t) (iblk m c 11 t) (ix2 i e)
      = argIm m c i (grp t) e := by
  rw [blkIm_apply (agree m c t e)]
  unfold argIm
  rw [read10, read11, funext (read2 m c t e), funext (read3 m c t e), funext (read9 m c t i)]

/-- The array of the states' real part after the step, group by group. -/
def statesRe : Vec Ideal S64x32x64 .f32 := fun y => argRe m c (y 1) (y 0) (y 2)

/-- The array of the states' real part, at an entry. -/
theorem statesRe_apply (g : Fin 64) (i : Fin 32) (p : Fin 64) : statesRe m c (ix3 g i p) = argRe m c i g p := rfl

/-- The array of the states' imaginary part after the step, group by group. -/
def statesIm : Vec Ideal S64x32x64 .f32 := fun y => argIm m c (y 1) (y 0) (y 2)

/-- The array of the states' imaginary part, at an entry. -/
theorem statesIm_apply (g : Fin 64) (i : Fin 32) (p : Fin 64) : statesIm m c (ix3 g i p) = argIm m c i g p := rfl

/-- A channel's output, in the argument arrays. -/
def argOut (i : Fin 32) (g : Fin 64) (p : Fin 16) : EReal :=
  outOf (fun n => argRe m c i g n) (fun n => argIm m c i g n) (fun n => m ((c : Thread nD τ).loc main_arg9) (ix4 0 g p n)) (fun n => m ((c : Thread nD τ).loc main_arg10) (ix4 0 g p n))
    (m ((c : Thread nD τ).loc main_arg11) (ix3 0 g p)) (m ((c : Thread nD τ).loc main_arg1) (ix2 i (colOf g p)))

/-- The array of outputs, group by group. -/
def outputs : Vec Ideal S64x32x16 .f32 := fun y => argOut m c (y 1) (y 0) (y 2)

/-- The array of outputs, at an entry. -/
theorem outputs_apply (g : Fin 64) (i : Fin 32) (p : Fin 16) : outputs m c (ix3 g i p) = argOut m c i g p := rfl

/-- What grid point `t` leaves of the outputs. -/
theorem out_at (t : Fin cfg0.N) (i : Fin 32) (p : Fin 16) : (dats m 0 c).after 14 t (ix3 0 i p) = argOut m c i (grp t) p := by
  rw [out14_apply]
  unfold argOut
  rw [funext (stateRe_at m c t i), funext (stateIm_at m c t i), funext (read4 m c t p), funext (read5 m c t p), read7, read9]

/-- What grid point `t` writes back of the outputs is the array's where its block lies. -/
theorem point14 (t : Fin cfg0.N) (i : Fin 32) (p : Fin 16) :
    (dats m 0 c).after 14 t (ix3 0 i p) = outputs m c ((win0_14.blk t).view.emb (ix3 0 i p)) := by
  have hy : (win0_14.blk t).view.emb (ix3 0 i p) = ix3 (grp t) i p := by
    blk_ext [idx t]
  exact (out_at m c t i p).trans ((outputs_apply m c (grp t) i p).symm.trans (congrArg (outputs m c) hy.symm))

/-- The array of the outputs after the kernel's run. -/
theorem final14 : (dats m 0 c).arrAt 14 cfg0.N = outputs m c := by
  refine (dats m 0 c).arrAt_eq_of_covers 14 _ (by decide +kernel) fun t hf y => ?_
  blk_simp
  idx_vars y
  rw [show y0 = 0 from Subsingleton.elim _ _]
  exact point14 m c t y1 y2

/-- What grid point `t` writes back of the states' real part is the array's where its block lies. -/
theorem point15 (t : Fin cfg0.N) (i : Fin 32) (p : Fin 64) :
    (dats m 0 c).after 15 t (ix3 0 i p) = statesRe m c ((win0_15.blk t).view.emb (ix3 0 i p)) := by
  have hy : (win0_15.blk t).view.emb (ix3 0 i p) = ix3 (grp t) i p := by
    blk_ext [idx t]
  exact ((out15_apply m c t i p).trans (stateRe_at m c t i p)).trans ((statesRe_apply m c (grp t) i p).symm.trans (congrArg (statesRe m c) hy.symm))

/-- The array of the states' real part after the kernel's run. -/
theorem final15 : (dats m 0 c).arrAt 15 cfg0.N = statesRe m c := by
  refine (dats m 0 c).arrAt_eq_of_covers 15 _ (by decide +kernel) fun t hf y => ?_
  blk_simp
  idx_vars y
  rw [show y0 = 0 from Subsingleton.elim _ _]
  exact point15 m c t y1 y2

/-- What grid point `t` writes back of the states' imaginary part is the array's where its block lies. -/
theorem point16 (t : Fin cfg0.N) (i : Fin 32) (p : Fin 64) :
    (dats m 0 c).after 16 t (ix3 0 i p) = statesIm m c ((win0_16.blk t).view.emb (ix3 0 i p)) := by
  have hy : (win0_16.blk t).view.emb (ix3 0 i p) = ix3 (grp t) i p := by
    blk_ext [idx t]
  exact ((out16_apply m c t i p).trans (stateIm_at m c t i p)).trans ((statesIm_apply m c (grp t) i p).symm.trans (congrArg (statesIm m c) hy.symm))

/-- The array of the states' imaginary part after the kernel's run. -/
theorem final16 : (dats m 0 c).arrAt 16 cfg0.N = statesIm m c := by
  refine (dats m 0 c).arrAt_eq_of_covers 16 _ (by decide +kernel) fun t hf y => ?_
  blk_simp
  idx_vars y
  rw [show y0 = 0 from Subsingleton.elim _ _]
  exact point16 m c t y1 y2

end Cert.SsmIdeal.Row

end
-- ==== Proof.Ssm.Ref.lean ====
/- The reference's state-space step, read at an index. -/
module

public import proofs.«01_k».proof.Proof.Gen.SsmRefIdeal.Read
public import proofs.«01_k».proof.Proof.Ssm.Math

@[expose] public section

set_option maxRecDepth 16384

noncomputable section

namespace Cert.SsmRefIdeal.Row

open Cert.SsmRefIdeal Cert.SsmRefIdeal.Gen Cert.SsmRefIdeal.Read Idealize.ShloMosaic Cert.SsmMath

variable (u : (⟨S32x1024, .f32⟩ : BufTy).Contents (Elt Ideal)) (x y : (⟨S1x32x64x64, .f32⟩ : BufTy).Contents (Elt Ideal))
  (a b : (⟨S1x64x64, .f32⟩ : BufTy).Contents (Elt Ideal)) (l : (⟨S1x64, .f32⟩ : BufTy).Contents (Elt Ideal))
  (br bi : (⟨S1x64x64x16, .f32⟩ : BufTy).Contents (Elt Ideal)) (cr ci : (⟨S1x64x16x64, .f32⟩ : BufTy).Contents (Elt Ideal))
  (d : (⟨S1x64x16, .f32⟩ : BufTy).Contents (Elt Ideal))

/-- The real part of the states' factors. -/
theorem v18_apply (g n : Fin 64) : val_main_v18 (F := Ideal) a b l (ix2 g n) = lamRe (a (ix3 0 g n)) (b (ix3 0 g n)) (l (ix2 0 g)) := by
  unfold lamRe
  pointwise [val_main_v18, val_main_v17, val_main_v16, val_main_v15, val_main_v14, val_main_v13, val_main_v12, val_main_v11, val_main_v10,
    val_main_v9, val_main_v1, val_main_v2]

/-- The imaginary part of the states' factors. -/
theorem v25_apply (g n : Fin 64) : val_main_v25 (F := Ideal) a b l (ix2 g n) = lamIm (a (ix3 0 g n)) (b (ix3 0 g n)) (l (ix2 0 g)) := by
  unfold lamIm
  pointwise [val_main_v25, val_main_v24, val_main_v23, val_main_v22, val_main_v21, val_main_v20, val_main_v19, val_main_v11, val_main_v10,
    val_main_v9, val_main_v1, val_main_v2]

/-- The real part of the quotients. -/
theorem v34_apply (g n : Fin 64) : val_main_v34 (F := Ideal) a b l (ix2 g n) = quoRe (a (ix3 0 g n)) (b (ix3 0 g n)) (l (ix2 0 g)) := by
  unfold quoRe
  simp only [← v18_apply, ← v25_apply]
  pointwise [val_main_v34, val_main_v33, val_main_v32, val_main_v31, val_main_v30, val_main_v29, val_main_v28, val_main_v27, val_main_v26,
    val_main_cst, val_main_v1, val_main_v2]

/-- The imaginary part of the quotients. -/
theorem v43_apply (g n : Fin 64) : val_main_v43 (F := Ideal) a b l (ix2 g n) = quoIm (a (ix3 0 g n)) (b (ix3 0 g n)) (l (ix2 0 g)) := by
  unfold quoIm
  simp only [← v18_apply, ← v25_apply]
  pointwise [val_main_v43, val_main_v42, val_main_v41, val_main_v40, val_main_v39, val_main_v38, val_main_v37, val_main_v36, val_main_v35,
    val_main_cst_0, val_main_v1, val_main_v2]

/-- The real part of the input weights. -/
theorem v50_apply (g n : Fin 64) (p : Fin 16) : val_main_v50 (F := Ideal) a b l br bi (ix3 g n p)
    = inRe (a (ix3 0 g n)) (b (ix3 0 g n)) (l (ix2 0 g)) (br (ix4 0 g n p)) (bi (ix4 0 g n p)) := by
  unfold inRe
  simp only [← v34_apply, ← v43_apply]
  pointwise [val_main_v50, val_main_v49, val_main_v48, val_main_v47, val_main_v46, val_main_v45, val_main_v44, val_main_v3, val_main_v4]

/-- The imaginary part of the input weights. -/
theorem v57_apply (g n : Fin 64) (p : Fin 16) : val_main_v57 (F := Ideal) a b l br bi (ix3 g n p)
    = inIm (a (ix3 0 g n)) (b (ix3 0 g n)) (l (ix2 0 g)) (br (ix4 0 g n p)) (bi (ix4 0 g n p)) := by
  unfold inIm
  simp only [← v34_apply, ← v43_apply]
  pointwise [val_main_v57, val_main_v56, val_main_v55, val_main_v54, val_main_v53, val_main_v52, val_main_v51, val_main_v3, val_main_v4]

/-- What the channels add to the states, the real part. -/
theorem v58_apply (i : Fin 32) (g n : Fin 64) : val_main_v58 (F := Ideal) u a b l br bi (ix4 g n i 0)
    = ∑ p, u (ix2 i (colOf g p)) * inRe (a (ix3 0 g n)) (b (ix3 0 g n)) (l (ix2 0 g)) (br (ix4 0 g n p)) (bi (ix4 0 g n p)) := by
  simp only [← v50_apply]
  pointwise [val_main_v58, val_main_v0]
  exact Finset.sum_congr rfl fun p _ => mul_comm _ _

/-- What the channels add to the states, the imaginary part. -/
theorem v60_apply (i : Fin 32) (g n : Fin 64) : val_main_v60 (F := Ideal) u a b l br bi (ix4 g n i 0)
    = ∑ p, u (ix2 i (colOf g p)) * inIm (a (ix3 0 g n)) (b (ix3 0 g n)) (l (ix2 0 g)) (br (ix4 0 g n p)) (bi (ix4 0 g n p)) := by
  simp only [← v57_apply]
  pointwise [val_main_v60, val_main_v0]
  exact Finset.sum_congr rfl fun p _ => mul_comm _ _

/-- The real part of a state after the step, in the reference's arrays. -/
abbrev refRe (i : Fin 32) (g n : Fin 64) : EReal :=
  stateRe (a (ix3 0 g n)) (b (ix3 0 g n)) (l (ix2 0 g)) (x (ix4 0 i g n)) (y (ix4 0 i g n)) (fun p => br (ix4 0 g n p)) (fun p => bi (ix4 0 g n p))
    (fun p => u (ix2 i (colOf g p)))

/-- The imaginary part of a state after the step, in the reference's arrays. -/
abbrev refIm (i : Fin 32) (g n : Fin 64) : EReal :=
  stateIm (a (ix3 0 g n)) (b (ix3 0 g n)) (l (ix2 0 g)) (x (ix4 0 i g n)) (y (ix4 0 i g n)) (fun p => br (ix4 0 g n p)) (fun p => bi (ix4 0 g n p))
    (fun p => u (ix2 i (colOf g p)))

/-- The real part of the states after the step. -/
theorem v70_apply (i : Fin 32) (g n : Fin 64) : val_main_v70 (F := Ideal) u x y a b l br bi (ix4 i 0 g n) = refRe u x y a b l br bi i g n := by
  unfold refRe stateRe
  rw [← v58_apply, ← v18_apply, ← v25_apply]
  pointwise [val_main_v70, val_main_v69, val_main_v68, val_main_v67, val_main_v66, val_main_v65, val_main_v64, val_main_v63, val_main_v62,
    val_main_v59, val_main_v7, val_main_v8]
  exact add_comm (G := EReal) _ _

/-- The imaginary part of the states after the step. -/
theorem v79_apply (i : Fin 32) (g n : Fin 64) : val_main_v79 (F := Ideal) u x y a b l br bi (ix4 i 0 g n) = refIm u x y a b l br bi i g n := by
  unfold refIm stateIm
  rw [← v60_apply, ← v18_apply, ← v25_apply]
  pointwise [val_main_v79, val_main_v78, val_main_v77, val_main_v76, val_main_v75, val_main_v74, val_main_v73, val_main_v72, val_main_v71,
    val_main_v61, val_main_v7, val_main_v8]
  exact add_comm (G := EReal) _ _

/-- The second result: the real part of the states after the step. -/
theorem v92_apply (i : Fin 32) (g n : Fin 64) : val_main_v92 (F := Ideal) u x y a b l br bi (ix4 0 i g n) = refRe u x y a b l br bi i g n := by
  rw [← v70_apply]
  pointwise [val_main_v92, val_main_v91]

/-- The third result: the imaginary part of the states after the step. -/
theorem v94_apply (i : Fin 32) (g n : Fin 64) : val_main_v94 (F := Ideal) u x y a b l br bi (ix4 0 i g n) = refIm u x y a b l br bi i g n := by
  rw [← v79_apply]
  pointwise [val_main_v94, val_main_v93]

/-- A channel's output. -/
theorem v89_apply (i : Fin 32) (g : Fin 64) (p : Fin 16) : val_main_v89 (F := Ideal) u x y a b l br bi cr ci d (ix4 i 0 g p)
    = outOf (fun n => refRe u x y a b l br bi i g n) (fun n => refIm u x y a b l br bi i g n) (fun n => cr (ix4 0 g p n)) (fun n => ci (ix4 0 g p n))
        (d (ix3 0 g p)) (u (ix2 i (colOf g p))) := by
  unfold outOf
  simp only [← v70_apply, ← v79_apply]
  pointwise [val_main_v89, val_main_v88, val_main_v87, val_main_v86, val_main_v85, val_main_v84, val_main_v83, val_main_v82, val_main_v81,
    val_main_v80, val_main_v5, val_main_v6, val_main_v0]

/-- The first result: the outputs, the groups side by side. -/
theorem v90_apply (i : Fin 32) (n : Fin 1024) : val_main_v90 (F := Ideal) u x y a b l br bi cr ci d (ix2 i n)
    = val_main_v89 (F := Ideal) u x y a b l br bi cr ci d (ix4 i 0 (groupOf n) (chanOf n)) := by
  pointwise [val_main_v90]

end Cert.SsmRefIdeal.Row

end
-- ==== Proof.Ssm.Result.lean ====
/- The state-space step of the decoding step: the kernel's three results are the reference's. -/
module

public import proofs.«01_k».proof.Proof.Ssm.Arrays
public import proofs.«01_k».proof.Proof.Ssm.Ref
public import Idealize.ShloMosaic.Lib.Claim
public import Idealize.ShloMosaic.Lib.StableHlo.ReadAt
public import Idealize.ShloMosaic.Lib.Pointwise

@[expose] public section

set_option maxRecDepth 16384

noncomputable section

namespace Cert.SsmResult

open Idealize.ShloMosaic Idealize.ShloMosaic.TcCoe Idealize.SL.Sem Cert.SsmMath

open Cert.SsmIdeal Cert.SsmIdeal.Gen

variable (m : (ℓ : Loc nD τ sig) → Buf (Elt Ideal) ℓ) (c : Dev nD)

/-- The array of the outputs as the lines after the region find it. -/
theorem arr14 : Pipeline.withArrays spec0 c (V0 m c) (fun w => (dats m 0 c).arrAt w cfg0.N) (Proc.devRef .tc main_v38_2)
    = (dats m 0 c).arrAt 14 cfg0.N :=
  Pipeline.withArrays_arr spec0 (by decide) c (V0 m c) (fun w => (dats m 0 c).arrAt w cfg0.N) 14

/-- The array of the states' real part as the lines after the region find it. -/
theorem arr15 : Pipeline.withArrays spec0 c (V0 m c) (fun w => (dats m 0 c).arrAt w cfg0.N) (Proc.devRef .tc main_v38_3)
    = (dats m 0 c).arrAt 15 cfg0.N :=
  Pipeline.withArrays_arr spec0 (by decide) c (V0 m c) (fun w => (dats m 0 c).arrAt w cfg0.N) 15

/-- The array of the states' imaginary part as the lines after the region find it. -/
theorem arr16 : Pipeline.withArrays spec0 c (V0 m c) (fun w => (dats m 0 c).arrAt w cfg0.N) (Proc.devRef .tc main_v38_4)
    = (dats m 0 c).arrAt 16 cfg0.N :=
  Pipeline.withArrays_arr spec0 (by decide) c (V0 m c) (fun w => (dats m 0 c).arrAt w cfg0.N) 16

/-- The first result is the array of the outputs, the groups side by side. -/
theorem tail40 (i : Fin 32) (n : Fin 1024) :
    Pipeline.afterTail₀ cfgs (dats m) 0 (V0 m) [hostOps1] c main_v40 (ix2 i n)
      = (dats m 0 c).arrAt 14 cfg0.N (ix3 (groupOf n) i (chanOf n)) := by
  unfold Pipeline.afterTail₀
  simp only [List.flatten_cons, List.flatten_nil, List.append_nil]
  after_reads_at
  exact congrFun (arr14 m c) _

/-- The second result is the array of the states' real part, row by row. -/
theorem tail42 (i : Fin 32) (g n : Fin 64) :
    Pipeline.afterTail₀ cfgs (dats m) 0 (V0 m) [hostOps1] c main_v42 (ix4 0 i g n) = (dats m 0 c).arrAt 15 cfg0.N (ix3 g i n) := by
  unfold Pipeline.afterTail₀
  simp only [List.flatten_cons, List.flatten_nil, List.append_nil]
  after_reads_at
  exact congrFun (arr15 m c) _

/-- The third result is the array of the states' imaginary part, row by row. -/
theorem tail44 (i : Fin 32) (g n : Fin 64) :
    Pipeline.afterTail₀ cfgs (dats m) 0 (V0 m) [hostOps1] c main_v44 (ix4 0 i g n) = (dats m 0 c).arrAt 16 cfg0.N (ix3 g i n) := by
  unfold Pipeline.afterTail₀
  simp only [List.flatten_cons, List.flatten_nil, List.append_nil]
  after_reads_at
  exact congrFun (arr16 m c) _

/-- The kernel's outputs are the reference's. -/
theorem result40 : Pipeline.afterTail₀ cfgs (dats m) 0 (V0 m) [hostOps1] c main_v40
    = Cert.SsmRefIdeal.Read.val_main_v90 (F := Ideal) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  funext y
  idx_vars y
  exact (tail40 m c y0 y1).trans ((congrFun (Cert.SsmIdeal.Row.final14 m c) _).trans
    ((Cert.SsmRefIdeal.Row.v90_apply _ _ _ _ _ _ _ _ _ _ _ y0 y1).trans
      (Cert.SsmRefIdeal.Row.v89_apply _ _ _ _ _ _ _ _ _ _ _ y0 (groupOf y1) (chanOf y1))).symm)

/-- The kernel's states, their real part, are the reference's. -/
theorem result42 : Pipeline.afterTail₀ cfgs (dats m) 0 (V0 m) [hostOps1] c main_v42
    = Cert.SsmRefIdeal.Read.val_main_v92 (F := Ideal) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) := by
  funext y
  idx_vars y
  obtain rfl : y0 = 0 := Subsingleton.elim _ _
  exact (tail42 m c y1 y2 y3).trans ((congrFun (Cert.SsmIdeal.Row.final15 m c) _).trans
    (Cert.SsmRefIdeal.Row.v92_apply _ _ _ _ _ _ _ _ y1 y2 y3).symm)

/-- The kernel's states, their imaginary part, are the reference's. -/
theorem result44 : Pipeline.afterTail₀ cfgs (dats m) 0 (V0 m) [hostOps1] c main_v44
    = Cert.SsmRefIdeal.Read.val_main_v94 (F := Ideal) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) := by
  funext y
  idx_vars y
  obtain rfl : y0 = 0 := Subsingleton.elim _ _
  exact (tail44 m c y1 y2 y3).trans ((congrFun (Cert.SsmIdeal.Row.final16 m c) _).trans
    (Cert.SsmRefIdeal.Row.v94_apply _ _ _ _ _ _ _ _ y1 y2 y3).symm)

end Cert.SsmResult

end
-- ==== Proof.lean ====
module

public import proofs.«01_k».proof.Defs
public import proofs.«01_k».proof.Proof.Gen.AttnSample
public import proofs.«01_k».proof.Proof.Gen.AttnSample.Skeleton
public import proofs.«01_k».proof.Proof.Gen.AttnSample.Launch
public import proofs.«01_k».proof.Proof.Gen.AttnSample.Points
public import proofs.«01_k».proof.Proof.Gen.AttnSample.Frame
public import proofs.«01_k».proof.Proof.Gen.AttnSampleIdeal
public import proofs.«01_k».proof.Proof.Gen.AttnSampleIdeal.Skeleton
public import proofs.«01_k».proof.Proof.Gen.AttnSampleIdeal.Launch
public import proofs.«01_k».proof.Proof.Gen.AttnSampleIdeal.Points
public import proofs.«01_k».proof.Proof.Gen.AttnSampleIdeal.Frame
public import proofs.«01_k».proof.Proof.Gen.AttnSampleRefIdeal
public import proofs.«01_k».proof.Proof.Gen.MixSample
public import proofs.«01_k».proof.Proof.Gen.MixSample.Skeleton
public import proofs.«01_k».proof.Proof.Gen.MixSample.Launch
public import proofs.«01_k».proof.Proof.Gen.MixSample.Points
public import proofs.«01_k».proof.Proof.Gen.MixSample.Frame
public import proofs.«01_k».proof.Proof.Gen.MixSampleIdeal
public import proofs.«01_k».proof.Proof.Gen.MixSampleIdeal.Skeleton
public import proofs.«01_k».proof.Proof.Gen.MixSampleIdeal.Launch
public import proofs.«01_k».proof.Proof.Gen.MixSampleIdeal.Points
public import proofs.«01_k».proof.Proof.Gen.MixSampleIdeal.Frame
public import proofs.«01_k».proof.Proof.Gen.MixSampleRefIdeal
public import proofs.«01_k».proof.Proof.Gen.MixPrompt
public import proofs.«01_k».proof.Proof.Gen.MixPrompt.Skeleton
public import proofs.«01_k».proof.Proof.Gen.MixPrompt.Launch
public import proofs.«01_k».proof.Proof.Gen.MixPrompt.Points
public import proofs.«01_k».proof.Proof.Gen.MixPrompt.Frame
public import proofs.«01_k».proof.Proof.Gen.MixPromptIdeal
public import proofs.«01_k».proof.Proof.Gen.MixPromptIdeal.Skeleton
public import proofs.«01_k».proof.Proof.Gen.MixPromptIdeal.Launch
public import proofs.«01_k».proof.Proof.Gen.MixPromptIdeal.Points
public import proofs.«01_k».proof.Proof.Gen.MixPromptIdeal.Frame
public import proofs.«01_k».proof.Proof.Gen.MixPromptRefIdeal
public import proofs.«01_k».proof.Proof.Gen.MixPromptRefIdeal.Run
public import proofs.«01_k».proof.Proof.Gen.MixPromptRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.FinalSample
public import proofs.«01_k».proof.Proof.Gen.FinalSample.Skeleton
public import proofs.«01_k».proof.Proof.Gen.FinalSample.Launch
public import proofs.«01_k».proof.Proof.Gen.FinalSample.Points
public import proofs.«01_k».proof.Proof.Gen.FinalSample.Frame
public import proofs.«01_k».proof.Proof.Gen.FinalSampleIdeal
public import proofs.«01_k».proof.Proof.Gen.FinalSampleIdeal.Skeleton
public import proofs.«01_k».proof.Proof.Gen.FinalSampleIdeal.Launch
public import proofs.«01_k».proof.Proof.Gen.FinalSampleIdeal.Points
public import proofs.«01_k».proof.Proof.Gen.FinalSampleIdeal.Frame
public import proofs.«01_k».proof.Proof.Gen.FinalSampleRefIdeal
public import proofs.«01_k».proof.Proof.Gen.FinalSampleRefIdeal.Run
public import proofs.«01_k».proof.Proof.Gen.FinalSampleRefIdeal.Read
public import proofs.«01_k».proof.Proof.Gen.Ssm
public import proofs.«01_k».proof.Proof.Gen.Ssm.Skeleton
public import proofs.«01_k».proof.Proof.Gen.Ssm.Launch
public import proofs.«01_k».proof.Proof.Gen.Ssm.Points
public import proofs.«01_k».proof.Proof.Gen.Ssm.Frame
public import proofs.«01_k».proof.Proof.Gen.SsmIdeal
public import proofs.«01_k».proof.Proof.Gen.SsmIdeal.Skeleton
public import proofs.«01_k».proof.Proof.Gen.SsmIdeal.Launch
public import proofs.«01_k».proof.Proof.Gen.SsmIdeal.Points
public import proofs.«01_k».proof.Proof.Gen.SsmIdeal.Frame
public import proofs.«01_k».proof.Proof.Gen.SsmRefIdeal
public import proofs.«01_k».proof.Proof.Gen.SsmRefIdeal.Run
public import proofs.«01_k».proof.Proof.Gen.SsmRefIdeal.Read
public import proofs.«01_k».proof.Proof.Gen.Pre_finite
public import Idealize.ShloMosaic.Adequacy
public import Idealize.ShloMosaic.Init
public import proofs.«01_k».proof.Proof.Gen.AttnSampleIdeal.Value
public import proofs.«01_k».proof.Proof.Gen.AttnSampleRefIdeal.Run
public import proofs.«01_k».proof.Proof.Gen.AttnSampleRefIdeal.Read
public import proofs.«01_k».proof.Proof.AttnSample.Result
public import proofs.«01_k».proof.Proof.MixSample.Result
public import proofs.«01_k».proof.Proof.MixPrompt.Body
public import proofs.«01_k».proof.Proof.MixPromptIdeal.Body
public import proofs.«01_k».proof.Proof.MixPrompt.Result
public import proofs.«01_k».proof.Proof.MixOut.Body
public import proofs.«01_k».proof.Proof.MixOutIdeal.Body
public import proofs.«01_k».proof.Proof.MixOut.Result
public import proofs.«01_k».proof.Proof.Final.Result
public import proofs.«01_k».proof.Proof.FinalSample.Result
public import proofs.«01_k».proof.Proof.Ssm.Result
public import Idealize.ShloMosaic.Lib.Claim
public import proofs.«01_k».proof.Proof.Gen.MixSampleRefIdeal.Run
public import proofs.«01_k».proof.Proof.Gen.MixSampleRefIdeal.Read

@[expose] public section

noncomputable section

namespace Cert.Proof

open Idealize.ShloMosaic Idealize.SL.Sem

/-- The reference's frame. -/
theorem frame_attnSampleRef : Cert.quiescent_AttnSampleRefIdeal := fun m g _ =>
  (θ_run Cert.AttnSampleRefIdeal.defs _ _).mono (fun r h => ⟨fun c => (h c).2, sem_eq_zero_of_no_sems (by decide) r.2⟩)
    (Cert.AttnSampleRefIdeal.Value.run (F := Ideal) m g)

/-- The decode attention and its reference end with the same result. -/
theorem algebraic_attnSample : Cert.algebraic_AttnSampleIdeal_AttnSampleRefIdeal_pre_finite := fun m g m' g' hpre hag =>
  ⟨fun c => Cert.AttnSampleIdeal.Row.attn (m ((c.tc : Thread Cert.AttnSampleIdeal.nD Cert.AttnSampleIdeal.τ).loc Cert.AttnSampleIdeal.main_arg0))
      (m ((c.tc : Thread Cert.AttnSampleIdeal.nD Cert.AttnSampleIdeal.τ).loc Cert.AttnSampleIdeal.main_arg1))
      (m ((c.tc : Thread Cert.AttnSampleIdeal.nD Cert.AttnSampleIdeal.τ).loc Cert.AttnSampleIdeal.main_arg2))
      (m ((c.tc : Thread Cert.AttnSampleIdeal.nD Cert.AttnSampleIdeal.τ).loc Cert.AttnSampleIdeal.main_arg3))
      (m ((c.tc : Thread Cert.AttnSampleIdeal.nD Cert.AttnSampleIdeal.τ).loc Cert.AttnSampleIdeal.main_arg4)),
    (θ_run Cert.AttnSampleIdeal.defs _ _).mono (fun r h c => ⟨(h c).1.trans (Cert.AttnSampleIdeal.Row.final m c), (h c).2⟩)
      (Cert.AttnSampleIdeal.Value.run_blocks (F := Ideal) m g),
    (θ_run Cert.AttnSampleRefIdeal.defs _ _).mono (fun r h c => by
      obtain ⟨h0, h1, h2, h3, h4⟩ := hag c
      obtain ⟨pq, pk, pc⟩ := Cert.Pre_finite.real _ _ _ _ _ (hpre c)
      refine ⟨(h c).1.trans ((Cert.AttnSampleRefIdeal.Read.val_main_v166_eq (StableHlo.launchContents m' c)).trans ?_), (h c).2⟩
      show Cert.AttnSampleRefIdeal.Read.val_main_v166 (F := Ideal) (m' ((c.tc : Thread Cert.AttnSampleRefIdeal.nD Cert.AttnSampleRefIdeal.τ).loc Cert.AttnSampleRefIdeal.main_arg0))
        (m' ((c.tc : Thread Cert.AttnSampleRefIdeal.nD Cert.AttnSampleRefIdeal.τ).loc Cert.AttnSampleRefIdeal.main_arg1))
        (m' ((c.tc : Thread Cert.AttnSampleRefIdeal.nD Cert.AttnSampleRefIdeal.τ).loc Cert.AttnSampleRefIdeal.main_arg2))
        (m' ((c.tc : Thread Cert.AttnSampleRefIdeal.nD Cert.AttnSampleRefIdeal.τ).loc Cert.AttnSampleRefIdeal.main_arg3))
        (m' ((c.tc : Thread Cert.AttnSampleRefIdeal.nD Cert.AttnSampleRefIdeal.τ).loc Cert.AttnSampleRefIdeal.main_arg4)) = _
      rw [h0, h1, h2, h3, h4]
      exact Cert.AttnSampleTie.result_eq _ _ _ _ _ pq pk pc)
      (Cert.AttnSampleRefIdeal.Value.run (F := Ideal) m' g')⟩

/-- The frame of the reference of the step's input projection. -/
theorem frame_mixSampleRef : Cert.quiescent_MixSampleRefIdeal := fun m g _ =>
  (θ_run Cert.MixSampleRefIdeal.defs _ _).mono (fun r h => ⟨fun c => (h c).2.2.2.2, sem_eq_zero_of_no_sems (by decide) r.2⟩)
    (Cert.MixSampleRefIdeal.Value.run (F := Ideal) m g)

/-- The step's input projection and its reference end with the same four results. -/
theorem algebraic_mixSample : Cert.algebraic_MixSampleIdeal_MixSampleRefIdeal := fun m g m' g' _ hag =>
  ⟨fun c => Cert.MixSampleRefIdeal.Read.val_main_v81 (F := Ideal) (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))
      (m ((c.tc : Thread Cert.MixSampleIdeal.nD Cert.MixSampleIdeal.τ).loc Cert.MixSampleIdeal.main_arg2)),
    fun c => Cert.MixSampleRefIdeal.Read.val_main_v82 (F := Ideal) (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))
      (m ((c.tc : Thread Cert.MixSampleIdeal.nD Cert.MixSampleIdeal.τ).loc Cert.MixSampleIdeal.main_arg2)),
    fun c => Cert.MixSampleRefIdeal.Read.val_main_v83 (F := Ideal) (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))
      (m ((c.tc : Thread Cert.MixSampleIdeal.nD Cert.MixSampleIdeal.τ).loc Cert.MixSampleIdeal.main_arg2)),
    fun c => Cert.MixSampleRefIdeal.Read.val_main_v84 (F := Ideal) (m ((c.tc : Thread Cert.MixSampleIdeal.nD Cert.MixSampleIdeal.τ).loc Cert.MixSampleIdeal.main_arg0)) (m ((c.tc : Thread Cert.MixSampleIdeal.nD Cert.MixSampleIdeal.τ).loc Cert.MixSampleIdeal.main_arg1))
      (m ((c.tc : Thread Cert.MixSampleIdeal.nD Cert.MixSampleIdeal.τ).loc Cert.MixSampleIdeal.main_arg2)),
    (θ_run Cert.MixSampleIdeal.defs _ _).mono (fun r h c =>
        ⟨(((h.1 c).2 Cert.MixSampleIdeal.main_v22 (Pipeline.mem_restRefs_of Cert.MixSampleIdeal.main_v22 (by decide) (by decide))).trans
            (Cert.MixSampleResult.result22 m c)),
          (((h.1 c).2 Cert.MixSampleIdeal.main_v23 (Pipeline.mem_restRefs_of Cert.MixSampleIdeal.main_v23 (by decide) (by decide))).trans
            (Cert.MixSampleResult.result23 m c)),
          (((h.1 c).2 Cert.MixSampleIdeal.main_v26 (Pipeline.mem_restRefs_of Cert.MixSampleIdeal.main_v26 (by decide) (by decide))).trans
            (Cert.MixSampleResult.result26 m c)),
          (((h.1 c).2 Cert.MixSampleIdeal.main_v27 (Pipeline.mem_restRefs_of Cert.MixSampleIdeal.main_v27 (by decide) (by decide))).trans
            (Cert.MixSampleResult.result27 m c)), h.2 c⟩)
      (θ_run_and (Cert.MixSampleIdeal.Gen.run_main (F := Ideal) m g) (Cert.MixSampleIdeal.Gen.unchanged (F := Ideal) m g)),
    (θ_run Cert.MixSampleRefIdeal.defs _ _).mono (fun r h c => by
      obtain ⟨h0, h1, h2⟩ := hag c
      obtain ⟨r1, r2, r3, r4, ra⟩ := h c
      simp only [← h0, ← h1, ← h2]
      exact ⟨r1.trans (Cert.MixSampleRefIdeal.Read.val_main_v81_eq _ _ _), r2.trans (Cert.MixSampleRefIdeal.Read.val_main_v82_eq m' c),
        r3.trans (Cert.MixSampleRefIdeal.Read.val_main_v83_eq m' c), r4.trans (Cert.MixSampleRefIdeal.Read.val_main_v84_eq _ _ _), ra⟩)
      (Cert.MixSampleRefIdeal.Value.run (F := Ideal) m' g')⟩

/-- The frame of the reference of the prompt's input projection. -/
theorem frame_mixPromptRef : Cert.quiescent_MixPromptRefIdeal := fun m g _ =>
  (θ_run Cert.MixPromptRefIdeal.defs _ _).mono (fun r h => ⟨fun c => (h c).2.2.2.2, sem_eq_zero_of_no_sems (by decide) r.2⟩)
    (Cert.MixPromptRefIdeal.Value.run (F := Ideal) m g)

/-- The prompt's input projection and its reference end with the same four results. -/
theorem algebraic_mixPrompt : Cert.algebraic_MixPromptIdeal_MixPromptRefIdeal := fun m g m' g' _ hag =>
  ⟨fun c => Cert.MixPromptRefIdeal.Read.val_main_v84 (F := Ideal) (m ((c.tc : Thread Cert.MixPromptIdeal.nD Cert.MixPromptIdeal.τ).loc Cert.MixPromptIdeal.main_arg0))
      (m ((c.tc : Thread Cert.MixPromptIdeal.nD Cert.MixPromptIdeal.τ).loc Cert.MixPromptIdeal.main_arg1))
      (m ((c.tc : Thread Cert.MixPromptIdeal.nD Cert.MixPromptIdeal.τ).loc Cert.MixPromptIdeal.main_arg2)),
    fun c => Cert.MixPromptRefIdeal.Read.val_main_v86 (F := Ideal) (m ((c.tc : Thread Cert.MixPromptIdeal.nD Cert.MixPromptIdeal.τ).loc Cert.MixPromptIdeal.main_arg0))
      (m ((c.tc : Thread Cert.MixPromptIdeal.nD Cert.MixPromptIdeal.τ).loc Cert.MixPromptIdeal.main_arg1))
      (m ((c.tc : Thread Cert.MixPromptIdeal.nD Cert.MixPromptIdeal.τ).loc Cert.MixPromptIdeal.main_arg2)),
    fun c => Cert.MixPromptRefIdeal.Read.val_main_v88 (F := Ideal) (m ((c.tc : Thread Cert.MixPromptIdeal.nD Cert.MixPromptIdeal.τ).loc Cert.MixPromptIdeal.main_arg0))
      (m ((c.tc : Thread Cert.MixPromptIdeal.nD Cert.MixPromptIdeal.τ).loc Cert.MixPromptIdeal.main_arg1))
      (m ((c.tc : Thread Cert.MixPromptIdeal.nD Cert.MixPromptIdeal.τ).loc Cert.MixPromptIdeal.main_arg2)),
    fun c => Cert.MixPromptRefIdeal.Read.val_main_v90 (F := Ideal) (m ((c.tc : Thread Cert.MixPromptIdeal.nD Cert.MixPromptIdeal.τ).loc Cert.MixPromptIdeal.main_arg0))
      (m ((c.tc : Thread Cert.MixPromptIdeal.nD Cert.MixPromptIdeal.τ).loc Cert.MixPromptIdeal.main_arg1))
      (m ((c.tc : Thread Cert.MixPromptIdeal.nD Cert.MixPromptIdeal.τ).loc Cert.MixPromptIdeal.main_arg2)),
    (θ_run Cert.MixPromptIdeal.defs _ _).mono (fun r h c =>
        ⟨((h.1 c).1 5).trans (Cert.MixPromptResult.result0 m c),
          ((h.1 c).1 6).trans (Cert.MixPromptResult.result1 m c),
          ((h.1 c).2 Cert.MixPromptIdeal.main_v23 (Pipeline.mem_restRefs_of Cert.MixPromptIdeal.main_v23 (by decide) (by decide))).trans
            (Cert.MixPromptResult.result2 m c),
          ((h.1 c).2 Cert.MixPromptIdeal.main_v24 (Pipeline.mem_restRefs_of Cert.MixPromptIdeal.main_v24 (by decide) (by decide))).trans
            (Cert.MixPromptResult.result3 m c), h.2 c⟩)
      (θ_run_and (Cert.MixPromptIdeal.Run.run_main (F := Ideal) m g) (Cert.MixPromptIdeal.Run.unchanged (F := Ideal) m g)),
    (θ_run Cert.MixPromptRefIdeal.defs _ _).mono (fun r h c => by
      obtain ⟨h0, h1, h2⟩ := hag c
      obtain ⟨r1, r2, r3, r4, ra⟩ := h c
      simp only [← h0, ← h1, ← h2]
      exact ⟨r1.trans (Cert.MixPromptRefIdeal.Read.val_main_v84_eq m' c), r2.trans (Cert.MixPromptRefIdeal.Read.val_main_v86_eq _ _ _),
        r3.trans (Cert.MixPromptRefIdeal.Read.val_main_v88_eq m' c), r4.trans (Cert.MixPromptRefIdeal.Read.val_main_v90_eq _ _ _), ra⟩)
      (Cert.MixPromptRefIdeal.Value.run (F := Ideal) m' g')⟩

/-- The frame of the reference of the prompt's output projection. -/
theorem frame_mixOutRef : Cert.quiescent_MixOutRefIdeal := fun m g _ =>
  (θ_run Cert.MixOutRefIdeal.defs _ _).mono (fun r h => ⟨fun c => (h c).2.2, sem_eq_zero_of_no_sems (by decide) r.2⟩)
    (Cert.MixOutRefIdeal.Value.run (F := Ideal) m g)

/-- The prompt's output projection and its reference end with the same two results. -/
theorem algebraic_mixOut : Cert.algebraic_MixOutIdeal_MixOutRefIdeal := fun m g m' g' _ hag =>
  ⟨fun c => Cert.MixOutRefIdeal.Read.val_main_v71 (F := Ideal) (m ((c.tc : Thread Cert.MixOutIdeal.nD Cert.MixOutIdeal.τ).loc Cert.MixOutIdeal.main_arg0))
      (m ((c.tc : Thread Cert.MixOutIdeal.nD Cert.MixOutIdeal.τ).loc Cert.MixOutIdeal.main_arg1))
      (m ((c.tc : Thread Cert.MixOutIdeal.nD Cert.MixOutIdeal.τ).loc Cert.MixOutIdeal.main_arg2))
      (m ((c.tc : Thread Cert.MixOutIdeal.nD Cert.MixOutIdeal.τ).loc Cert.MixOutIdeal.main_arg3))
      (m ((c.tc : Thread Cert.MixOutIdeal.nD Cert.MixOutIdeal.τ).loc Cert.MixOutIdeal.main_arg4))
      (m ((c.tc : Thread Cert.MixOutIdeal.nD Cert.MixOutIdeal.τ).loc Cert.MixOutIdeal.main_arg6))
      (m ((c.tc : Thread Cert.MixOutIdeal.nD Cert.MixOutIdeal.τ).loc Cert.MixOutIdeal.main_arg7)),
    fun c => Cert.MixOutRefIdeal.Read.val_main_v73 (F := Ideal) (m ((c.tc : Thread Cert.MixOutIdeal.nD Cert.MixOutIdeal.τ).loc Cert.MixOutIdeal.main_arg0))
      (m ((c.tc : Thread Cert.MixOutIdeal.nD Cert.MixOutIdeal.τ).loc Cert.MixOutIdeal.main_arg1))
      (m ((c.tc : Thread Cert.MixOutIdeal.nD Cert.MixOutIdeal.τ).loc Cert.MixOutIdeal.main_arg2))
      (m ((c.tc : Thread Cert.MixOutIdeal.nD Cert.MixOutIdeal.τ).loc Cert.MixOutIdeal.main_arg3))
      (m ((c.tc : Thread Cert.MixOutIdeal.nD Cert.MixOutIdeal.τ).loc Cert.MixOutIdeal.main_arg4))
      (m ((c.tc : Thread Cert.MixOutIdeal.nD Cert.MixOutIdeal.τ).loc Cert.MixOutIdeal.main_arg5))
      (m ((c.tc : Thread Cert.MixOutIdeal.nD Cert.MixOutIdeal.τ).loc Cert.MixOutIdeal.main_arg6))
      (m ((c.tc : Thread Cert.MixOutIdeal.nD Cert.MixOutIdeal.τ).loc Cert.MixOutIdeal.main_arg7)),
    (θ_run Cert.MixOutIdeal.defs _ _).mono (fun r h c =>
        ⟨((h.1 c).1 10).trans (Cert.MixOutResult.result0 m c), ((h.1 c).1 11).trans (Cert.MixOutResult.result1 m c), h.2 c⟩)
      (θ_run_and (Cert.MixOutIdeal.Run.run_main (F := Ideal) m g) (Cert.MixOutIdeal.Run.unchanged (F := Ideal) m g)),
    (θ_run Cert.MixOutRefIdeal.defs _ _).mono (fun r h c => by
      obtain ⟨h0, h1, h2, h3, h4, h5, h6, h7, -⟩ := hag c
      obtain ⟨r1, r2, ra⟩ := h c
      simp only [← h0, ← h1, ← h2, ← h3, ← h4, ← h5, ← h6, ← h7]
      exact ⟨r1.trans (Cert.MixOutRefIdeal.Read.val_main_v71_eq m' c), r2.trans (Cert.MixOutRefIdeal.Read.val_main_v73_eq m' c), ra⟩)
      (Cert.MixOutRefIdeal.Value.run (F := Ideal) m' g')⟩

/-- The frame of the reference of the prompt's output rows. -/
theorem frame_finalRef : Cert.quiescent_FinalRefIdeal := fun m g _ =>
  (θ_run Cert.FinalRefIdeal.defs _ _).mono (fun r h => ⟨fun c => (h c).2, sem_eq_zero_of_no_sems (by decide) r.2⟩)
    (Cert.FinalRefIdeal.Value.run (F := Ideal) m g)

/-- The kernel for the prompt's output rows and its reference end with the same result. -/
theorem algebraic_final : Cert.algebraic_FinalIdeal_FinalRefIdeal := fun m g m' g' _ hag =>
  ⟨fun c => Cert.FinalRefIdeal.Read.val_main_v25 (F := Ideal) (m ((c.tc : Thread Cert.FinalIdeal.nD Cert.FinalIdeal.τ).loc Cert.FinalIdeal.main_arg0))
      (m ((c.tc : Thread Cert.FinalIdeal.nD Cert.FinalIdeal.τ).loc Cert.FinalIdeal.main_arg1))
      (m ((c.tc : Thread Cert.FinalIdeal.nD Cert.FinalIdeal.τ).loc Cert.FinalIdeal.main_arg2))
      (m ((c.tc : Thread Cert.FinalIdeal.nD Cert.FinalIdeal.τ).loc Cert.FinalIdeal.main_arg3)),
    (θ_run Cert.FinalIdeal.defs _ _).mono (fun r h c =>
        ⟨((h.1 c).2 Cert.FinalIdeal.main_v2 (Pipeline.mem_restRefs_of Cert.FinalIdeal.main_v2 (by decide) (by decide))).trans
            (Cert.FinalResult.result2 m c), h.2 c⟩)
      (θ_run_and (Cert.FinalIdeal.Gen.run_main (F := Ideal) m g) (Cert.FinalIdeal.Gen.unchanged (F := Ideal) m g)),
    (θ_run Cert.FinalRefIdeal.defs _ _).mono (fun r h c => by
      obtain ⟨h0, h1, h2, h3⟩ := hag c
      obtain ⟨r1, ra⟩ := h c
      simp only [← h0, ← h1, ← h2, ← h3]
      exact ⟨r1.trans (Cert.FinalRefIdeal.Read.val_main_v25_eq _ _ _ _), ra⟩)
      (Cert.FinalRefIdeal.Value.run (F := Ideal) m' g')⟩

/-- The frame of the reference of the decoding step's output rows. -/
theorem frame_finalSampleRef : Cert.quiescent_FinalSampleRefIdeal := fun m g _ =>
  (θ_run Cert.FinalSampleRefIdeal.defs _ _).mono (fun r h => ⟨fun c => (h c).2, sem_eq_zero_of_no_sems (by decide) r.2⟩)
    (Cert.FinalSampleRefIdeal.Value.run (F := Ideal) m g)

/-- The kernel for the decoding step's output rows and its reference end with the same result. -/
theorem algebraic_finalSample : Cert.algebraic_FinalSampleIdeal_FinalSampleRefIdeal := fun m g m' g' _ hag =>
  ⟨fun c => Cert.FinalSampleRefIdeal.Read.val_main_v25 (F := Ideal) (m ((c.tc : Thread Cert.FinalSampleIdeal.nD Cert.FinalSampleIdeal.τ).loc Cert.FinalSampleIdeal.main_arg0))
      (m ((c.tc : Thread Cert.FinalSampleIdeal.nD Cert.FinalSampleIdeal.τ).loc Cert.FinalSampleIdeal.main_arg1))
      (m ((c.tc : Thread Cert.FinalSampleIdeal.nD Cert.FinalSampleIdeal.τ).loc Cert.FinalSampleIdeal.main_arg2))
      (m ((c.tc : Thread Cert.FinalSampleIdeal.nD Cert.FinalSampleIdeal.τ).loc Cert.FinalSampleIdeal.main_arg3)),
    (θ_run Cert.FinalSampleIdeal.defs _ _).mono (fun r h c =>
        ⟨((h.1 c).2 Cert.FinalSampleIdeal.main_v2 (Pipeline.mem_restRefs_of Cert.FinalSampleIdeal.main_v2 (by decide) (by decide))).trans
            (Cert.FinalSampleResult.result2 m c), h.2 c⟩)
      (θ_run_and (Cert.FinalSampleIdeal.Gen.run_main (F := Ideal) m g) (Cert.FinalSampleIdeal.Gen.unchanged (F := Ideal) m g)),
    (θ_run Cert.FinalSampleRefIdeal.defs _ _).mono (fun r h c => by
      obtain ⟨h0, h1, h2, h3⟩ := hag c
      obtain ⟨r1, ra⟩ := h c
      simp only [← h0, ← h1, ← h2, ← h3]
      exact ⟨r1.trans (Cert.FinalSampleRefIdeal.Read.val_main_v25_eq _ _ _ _), ra⟩)
      (Cert.FinalSampleRefIdeal.Value.run (F := Ideal) m' g')⟩

/-- The frame of the reference of the decoding step's state-space part. -/
theorem frame_ssmRef : Cert.quiescent_SsmRefIdeal := fun m g _ =>
  (θ_run Cert.SsmRefIdeal.defs _ _).mono (fun r h => ⟨fun c => (h c).2.2.2, sem_eq_zero_of_no_sems (by decide) r.2⟩)
    (Cert.SsmRefIdeal.Value.run (F := Ideal) m g)

/-- The kernel's state-space step of the decoding step and its reference end with the same three results. -/
theorem algebraic_ssm : Cert.algebraic_SsmIdeal_SsmRefIdeal := fun m g m' g' _ hag =>
  ⟨fun c => Cert.SsmRefIdeal.Read.val_main_v90 (F := Ideal) (m ((c.tc : Thread Cert.SsmIdeal.nD Cert.SsmIdeal.τ).loc Cert.SsmIdeal.main_arg1))
      (m ((c.tc : Thread Cert.SsmIdeal.nD Cert.SsmIdeal.τ).loc Cert.SsmIdeal.main_arg2))
      (m ((c.tc : Thread Cert.SsmIdeal.nD Cert.SsmIdeal.τ).loc Cert.SsmIdeal.main_arg3))
      (m ((c.tc : Thread Cert.SsmIdeal.nD Cert.SsmIdeal.τ).loc Cert.SsmIdeal.main_arg4))
      (m ((c.tc : Thread Cert.SsmIdeal.nD Cert.SsmIdeal.τ).loc Cert.SsmIdeal.main_arg5))
      (m ((c.tc : Thread Cert.SsmIdeal.nD Cert.SsmIdeal.τ).loc Cert.SsmIdeal.main_arg6))
      (m ((c.tc : Thread Cert.SsmIdeal.nD Cert.SsmIdeal.τ).loc Cert.SsmIdeal.main_arg7))
      (m ((c.tc : Thread Cert.SsmIdeal.nD Cert.SsmIdeal.τ).loc Cert.SsmIdeal.main_arg8))
      (m ((c.tc : Thread Cert.SsmIdeal.nD Cert.SsmIdeal.τ).loc Cert.SsmIdeal.main_arg9))
      (m ((c.tc : Thread Cert.SsmIdeal.nD Cert.SsmIdeal.τ).loc Cert.SsmIdeal.main_arg10))
      (m ((c.tc : Thread Cert.SsmIdeal.nD Cert.SsmIdeal.τ).loc Cert.SsmIdeal.main_arg11)),
    fun c => Cert.SsmRefIdeal.Read.val_main_v92 (F := Ideal) (m ((c.tc : Thread Cert.SsmIdeal.nD Cert.SsmIdeal.τ).loc Cert.SsmIdeal.main_arg1))
      (m ((c.tc : Thread Cert.SsmIdeal.nD Cert.SsmIdeal.τ).loc Cert.SsmIdeal.main_arg2))
      (m ((c.tc : Thread Cert.SsmIdeal.nD Cert.SsmIdeal.τ).loc Cert.SsmIdeal.main_arg3))
      (m ((c.tc : Thread Cert.SsmIdeal.nD Cert.SsmIdeal.τ).loc Cert.SsmIdeal.main_arg4))
      (m ((c.tc : Thread Cert.SsmIdeal.nD Cert.SsmIdeal.τ).loc Cert.SsmIdeal.main_arg5))
      (m ((c.tc : Thread Cert.SsmIdeal.nD Cert.SsmIdeal.τ).loc Cert.SsmIdeal.main_arg6))
      (m ((c.tc : Thread Cert.SsmIdeal.nD Cert.SsmIdeal.τ).loc Cert.SsmIdeal.main_arg7))
      (m ((c.tc : Thread Cert.SsmIdeal.nD Cert.SsmIdeal.τ).loc Cert.SsmIdeal.main_arg8)),
    fun c => Cert.SsmRefIdeal.Read.val_main_v94 (F := Ideal) (m ((c.tc : Thread Cert.SsmIdeal.nD Cert.SsmIdeal.τ).loc Cert.SsmIdeal.main_arg1))
      (m ((c.tc : Thread Cert.SsmIdeal.nD Cert.SsmIdeal.τ).loc Cert.SsmIdeal.main_arg2))
      (m ((c.tc : Thread Cert.SsmIdeal.nD Cert.SsmIdeal.τ).loc Cert.SsmIdeal.main_arg3))
      (m ((c.tc : Thread Cert.SsmIdeal.nD Cert.SsmIdeal.τ).loc Cert.SsmIdeal.main_arg4))
      (m ((c.tc : Thread Cert.SsmIdeal.nD Cert.SsmIdeal.τ).loc Cert.SsmIdeal.main_arg5))
      (m ((c.tc : Thread Cert.SsmIdeal.nD Cert.SsmIdeal.τ).loc Cert.SsmIdeal.main_arg6))
      (m ((c.tc : Thread Cert.SsmIdeal.nD Cert.SsmIdeal.τ).loc Cert.SsmIdeal.main_arg7))
      (m ((c.tc : Thread Cert.SsmIdeal.nD Cert.SsmIdeal.τ).loc Cert.SsmIdeal.main_arg8)),
    (θ_run Cert.SsmIdeal.defs _ _).mono (fun r h c =>
        ⟨((h.1 c).2 Cert.SsmIdeal.main_v40 (Pipeline.mem_restRefs_of Cert.SsmIdeal.main_v40 (by decide) (by decide))).trans
            (Cert.SsmResult.result40 m c),
          ((h.1 c).2 Cert.SsmIdeal.main_v42 (Pipeline.mem_restRefs_of Cert.SsmIdeal.main_v42 (by decide) (by decide))).trans
            (Cert.SsmResult.result42 m c),
          ((h.1 c).2 Cert.SsmIdeal.main_v44 (Pipeline.mem_restRefs_of Cert.SsmIdeal.main_v44 (by decide) (by decide))).trans
            (Cert.SsmResult.result44 m c), h.2 c⟩)
      (θ_run_and (Cert.SsmIdeal.Gen.run_main (F := Ideal) m g) (Cert.SsmIdeal.Gen.unchanged (F := Ideal) m g)),
    (θ_run Cert.SsmRefIdeal.defs _ _).mono (fun r h c => by
      obtain ⟨-, h1, h2, h3, h4, h5, h6, h7, h8, h9, h10, h11⟩ := hag c
      obtain ⟨r1, r2, r3, ra⟩ := h c
      simp only [← h1, ← h2, ← h3, ← h4, ← h5, ← h6, ← h7, ← h8, ← h9, ← h10, ← h11]
      exact ⟨r1.trans (Cert.SsmRefIdeal.Read.val_main_v90_eq m' c), r2.trans (Cert.SsmRefIdeal.Read.val_main_v92_eq m' c),
        r3.trans (Cert.SsmRefIdeal.Read.val_main_v94_eq m' c), ra⟩)
      (Cert.SsmRefIdeal.Value.run (F := Ideal) m' g')⟩

/-- Every claim. -/
theorem claim : Cert.Claim :=
  ⟨Cert.AttnSample.Gen.facts, Cert.AttnSampleIdeal.Gen.facts, Cert.AttnSampleRefIdeal.Gen.facts,
    Cert.MixSample.Gen.facts, Cert.MixSampleIdeal.Gen.facts, Cert.MixSampleRefIdeal.Gen.facts,
    Cert.MixPrompt.Gen.facts, Cert.MixPromptIdeal.Gen.facts, Cert.MixPromptRefIdeal.Gen.facts,
    Cert.MixOut.Gen.facts, Cert.MixOutIdeal.Gen.facts, Cert.MixOutRefIdeal.Gen.facts,
    Cert.Final.Gen.facts, Cert.FinalIdeal.Gen.facts, Cert.FinalRefIdeal.Gen.facts,
    Cert.FinalSample.Gen.facts, Cert.FinalSampleIdeal.Gen.facts, Cert.FinalSampleRefIdeal.Gen.facts,
    Cert.Ssm.Gen.facts, Cert.SsmIdeal.Gen.facts, Cert.SsmRefIdeal.Gen.facts, Cert.Pre_finite.Gen.facts,
    fun m g _ => Cert.AttnSample.Gen.frame m g,
    fun m g _ => Cert.AttnSampleIdeal.Gen.frame m g,
    fun m g _ => Cert.AttnSampleIdeal.Gen.frame m g,
    frame_attnSampleRef,
    fun m g _ => frame_attnSampleRef m g trivial,
    fun m g _ => Cert.MixSample.Gen.frame m g,
    fun m g _ => Cert.MixSampleIdeal.Gen.frame m g,
    frame_mixSampleRef,
    fun m g _ => Cert.MixPrompt.Run.frame m g,
    fun m g _ => Cert.MixPromptIdeal.Run.frame m g,
    frame_mixPromptRef,
    fun m g _ => Cert.MixOut.Run.frame m g,
    fun m g _ => Cert.MixOutIdeal.Run.frame m g,
    frame_mixOutRef,
    fun m g _ => Cert.Final.Gen.frame m g,
    fun m g _ => Cert.FinalIdeal.Gen.frame m g,
    frame_finalRef,
    fun m g _ => Cert.FinalSample.Gen.frame m g,
    fun m g _ => Cert.FinalSampleIdeal.Gen.frame m g,
    frame_finalSampleRef,
    fun m g _ => Cert.Ssm.Gen.frame m g,
    fun m g _ => Cert.SsmIdeal.Gen.frame m g,
    frame_ssmRef,
    trivial,
    algebraic_attnSample,
    trivial,
    algebraic_mixSample,
    trivial,
    algebraic_mixPrompt,
    trivial,
    algebraic_mixOut,
    trivial,
    algebraic_final,
    trivial,
    algebraic_finalSample,
    trivial,
    algebraic_ssm⟩

end Cert.Proof
